-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_finite_up_dx [hPre_finite_up_dx : Cert.Pre_finite_up_dx.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_finite_up_dx.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4)) (m ((c.tc : Thread Cert.UpDxIdeal.nD Cert.UpDxIdeal.τ).loc Cert.UpDxIdeal.main_arg5))) = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_finite_up_dx [hPre_finite_up_dx : Cert.Pre_finite_up_dx.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_finite_up_dx.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4)) (m ((c.tc : Thread Cert.UpDxRefIdeal.nD Cert.UpDxRefIdeal.τ).loc Cert.UpDxRefIdeal.main_arg5))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in_dx [hPre_finite_in_dx : Cert.Pre_finite_in_dx.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in_dx [hPre_finite_in_dx : Cert.Pre_finite_in_dx.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_CvFwd (m : (ℓ : Loc Cert.CvFwd.nD Cert.CvFwd.τ Cert.CvFwd.sig) → Buf (Elt Bits) ℓ) : Prop :=
  True

def Pre_CvFwdIdeal (m : (ℓ : Loc Cert.CvFwdIdeal.nD Cert.CvFwdIdeal.τ Cert.CvFwdIdeal.sig) → Buf (Elt Ideal) ℓ) : Prop :=
  True

def Pre_CvFwdIdeal_finite_cv_fwd [hPre_finite_cv_fwd : Cert.Pre_finite_cv_fwd.Facts] (m : (ℓ : Loc Cert.CvFwdIdeal.nD Cert.CvFwdIdeal.τ Cert.CvFwdIdeal.sig) → Buf (Elt Ideal) ℓ) : Prop :=
  ∀ c : Dev Cert.CvFwdIdeal.nD,
    (Cert.Pre_finite_cv_fwd.fn (F := Ideal) (m ((c.tc : Thread Cert.CvFwdIdeal.nD Cert.CvFwdIdeal.τ).loc Cert.CvFwdIdeal.main_arg0)) (m ((c.tc : Thread Cert.CvFwdIdeal.nD Cert.CvFwdIdeal.τ).loc Cert.CvFwdIdeal.main_arg1)) (m ((c.tc : Thread Cert.CvFwdIdeal.nD Cert.CvFwdIdeal.τ).loc Cert.CvFwdIdeal.main_arg2)) (m ((c.tc : Thread Cert.CvFwdIdeal.nD Cert.CvFwdIdeal.τ).loc Cert.CvFwdIdeal.main_arg3)) (m ((c.tc : Thread Cert.CvFwdIdeal.nD Cert.CvFwdIdeal.τ).loc Cert.CvFwdIdeal.main_arg4)) (m ((c.tc : Thread Cert.CvFwdIdeal.nD Cert.CvFwdIdeal.τ).loc Cert.CvFwdIdeal.main_arg5)) (m ((c.tc : Thread Cert.CvFwdIdeal.nD Cert.CvFwdIdeal.τ).loc Cert.CvFwdIdeal.main_arg6))) = (fun _ => 1#1)

def Pre_CvFwdRefIdeal (m : (ℓ : Loc Cert.CvFwdRefIdeal.nD Cert.CvFwdRefIdeal.τ Cert.CvFwdRefIdeal.sig) → Buf (Elt Ideal) ℓ) : Prop :=
  True

def Pre_CvFwdRefIdeal_finite_cv_fwd [hPre_finite_cv_fwd : Cert.Pre_finite_cv_fwd.Facts] (m : (ℓ : Loc Cert.CvFwdRefIdeal.nD Cert.CvFwdRefIdeal.τ Cert.CvFwdRefIdeal.sig) → Buf (Elt Ideal) ℓ) : Prop :=
  ∀ c : Dev Cert.CvFwdRefIdeal.nD,
    (Cert.Pre_finite_cv_fwd.fn (F := Ideal) (m ((c.tc : Thread Cert.CvFwdRefIdeal.nD Cert.CvFwdRefIdeal.τ).loc Cert.CvFwdRefIdeal.main_arg0)) (m ((c.tc : Thread Cert.CvFwdRefIdeal.nD Cert.CvFwdRefIdeal.τ).loc Cert.CvFwdRefIdeal.main_arg1)) (m ((c.tc : Thread Cert.CvFwdRefIdeal.nD Cert.CvFwdRefIdeal.τ).loc Cert.CvFwdRefIdeal.main_arg2)) (m ((c.tc : Thread Cert.CvFwdRefIdeal.nD Cert.CvFwdRefIdeal.τ).loc Cert.CvFwdRefIdeal.main_arg3)) (m ((c.tc : Thread Cert.CvFwdRefIdeal.nD Cert.CvFwdRefIdeal.τ).loc Cert.CvFwdRefIdeal.main_arg4)) (m ((c.tc : Thread Cert.CvFwdRefIdeal.nD Cert.CvFwdRefIdeal.τ).loc Cert.CvFwdRefIdeal.main_arg5)) (m ((c.tc : Thread Cert.CvFwdRefIdeal.nD Cert.CvFwdRefIdeal.τ).loc Cert.CvFwdRefIdeal.main_arg6))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGroup (m : (ℓ : Loc Cert.AdamGroup.nD Cert.AdamGroup.τ Cert.AdamGroup.sig) → Buf (Elt Bits) ℓ) : Prop :=
  True

def Pre_AdamGroupIdeal (m : (ℓ : Loc Cert.AdamGroupIdeal.nD Cert.AdamGroupIdeal.τ Cert.AdamGroupIdeal.sig) → Buf (Elt Ideal) ℓ) : Prop :=
  True

def Pre_AdamGroupRefIdeal (m : (ℓ : Loc Cert.AdamGroupRefIdeal.nD Cert.AdamGroupRefIdeal.τ Cert.AdamGroupRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_AddIn [hPre_core_number_in : Cert.Pre_core_number_in.Facts] (m : (ℓ : Loc Cert.AddIn.nD Cert.AddIn.τ Cert.AddIn.sig) → Buf (Elt Bits) ℓ) : Prop :=
  ∀ c : Dev Cert.AddIn.nD,
    (Cert.Pre_core_number_in.fn (F := Bits) (m ((c.tc : Thread Cert.AddIn.nD Cert.AddIn.τ).loc Cert.AddIn.main_arg0)) (m ((c.tc : Thread Cert.AddIn.nD Cert.AddIn.τ).loc Cert.AddIn.main_arg1)) (m ((c.tc : Thread Cert.AddIn.nD Cert.AddIn.τ).loc Cert.AddIn.main_arg2))) = (fun _ => 1#1)

def Pre_AddInIdeal [hPre_core_number_in : Cert.Pre_core_number_in.Facts] (m : (ℓ : Loc Cert.AddInIdeal.nD Cert.AddInIdeal.τ Cert.AddInIdeal.sig) → Buf (Elt Ideal) ℓ) : Prop :=
  ∀ c : Dev Cert.AddInIdeal.nD,
    (Cert.Pre_core_number_in.fn (F := Ideal) (m ((c.tc : Thread Cert.AddInIdeal.nD Cert.AddInIdeal.τ).loc Cert.AddInIdeal.main_arg0)) (m ((c.tc : Thread Cert.AddInIdeal.nD Cert.AddInIdeal.τ).loc Cert.AddInIdeal.main_arg1)) (m ((c.tc : Thread Cert.AddInIdeal.nD Cert.AddInIdeal.τ).loc Cert.AddInIdeal.main_arg2))) = (fun _ => 1#1)

def Pre_AddInRefIdeal (m : (ℓ : Loc Cert.AddInRefIdeal.nD Cert.AddInRefIdeal.τ Cert.AddInRefIdeal.sig) → Buf (Elt Ideal) ℓ) : Prop :=
  True

def Pre_AddInRefIdeal_core_number_in [hPre_core_number_in : Cert.Pre_core_number_in.Facts] (m : (ℓ : Loc Cert.AddInRefIdeal.nD Cert.AddInRefIdeal.τ Cert.AddInRefIdeal.sig) → Buf (Elt Ideal) ℓ) : Prop :=
  ∀ c : Dev Cert.AddInRefIdeal.nD,
    (Cert.Pre_core_number_in.fn (F := Ideal) (m ((c.tc : Thread Cert.AddInRefIdeal.nD Cert.AddInRefIdeal.τ).loc Cert.AddInRefIdeal.main_arg0)) (m ((c.tc : Thread Cert.AddInRefIdeal.nD Cert.AddInRefIdeal.τ).loc Cert.AddInRefIdeal.main_arg1)) (m ((c.tc : Thread Cert.AddInRefIdeal.nD Cert.AddInRefIdeal.τ).loc Cert.AddInRefIdeal.main_arg2))) = (fun _ => 1#1)

def Pre_AddKv [hPre_core_number_kv : Cert.Pre_core_number_kv.Facts] (m : (ℓ : Loc Cert.AddKv.nD Cert.AddKv.τ Cert.AddKv.sig) → Buf (Elt Bits) ℓ) : Prop :=
  ∀ c : Dev Cert.AddKv.nD,
    (Cert.Pre_core_number_kv.fn (F := Bits) (m ((c.tc : Thread Cert.AddKv.nD Cert.AddKv.τ).loc Cert.AddKv.main_arg0)) (m ((c.tc : Thread Cert.AddKv.nD Cert.AddKv.τ).loc Cert.AddKv.main_arg1)) (m ((c.tc : Thread Cert.AddKv.nD Cert.AddKv.τ).loc Cert.AddKv.main_arg2))) = (fun _ => 1#1)

def Pre_AddKvIdeal [hPre_core_number_kv : Cert.Pre_core_number_kv.Facts] (m : (ℓ : Loc Cert.AddKvIdeal.nD Cert.AddKvIdeal.τ Cert.AddKvIdeal.sig) → Buf (Elt Ideal) ℓ) : Prop :=
  ∀ c : Dev Cert.AddKvIdeal.nD,
    (Cert.Pre_core_number_kv.fn (F := Ideal) (m ((c.tc : Thread Cert.AddKvIdeal.nD Cert.AddKvIdeal.τ).loc Cert.AddKvIdeal.main_arg0)) (m ((c.tc : Thread Cert.AddKvIdeal.nD Cert.AddKvIdeal.τ).loc Cert.AddKvIdeal.main_arg1)) (m ((c.tc : Thread Cert.AddKvIdeal.nD Cert.AddKvIdeal.τ).loc Cert.AddKvIdeal.main_arg2))) = (fun _ => 1#1)

def Pre_AddKvRefIdeal (m : (ℓ : Loc Cert.AddKvRefIdeal.nD Cert.AddKvRefIdeal.τ Cert.AddKvRefIdeal.sig) → Buf (Elt Ideal) ℓ) : Prop :=
  True

def Pre_AddKvRefIdeal_core_number_kv [hPre_core_number_kv : Cert.Pre_core_number_kv.Facts] (m : (ℓ : Loc Cert.AddKvRefIdeal.nD Cert.AddKvRefIdeal.τ Cert.AddKvRefIdeal.sig) → Buf (Elt Ideal) ℓ) : Prop :=
  ∀ c : Dev Cert.AddKvRefIdeal.nD,
    (Cert.Pre_core_number_kv.fn (F := Ideal) (m ((c.tc : Thread Cert.AddKvRefIdeal.nD Cert.AddKvRefIdeal.τ).loc Cert.AddKvRefIdeal.main_arg0)) (m ((c.tc : Thread Cert.AddKvRefIdeal.nD Cert.AddKvRefIdeal.τ).loc Cert.AddKvRefIdeal.main_arg1)) (m ((c.tc : Thread Cert.AddKvRefIdeal.nD Cert.AddKvRefIdeal.τ).loc Cert.AddKvRefIdeal.main_arg2))) = (fun _ => 1#1)

def Pre_AddOut [hPre_core_number_out : Cert.Pre_core_number_out.Facts] (m : (ℓ : Loc Cert.AddOut.nD Cert.AddOut.τ Cert.AddOut.sig) → Buf (Elt Bits) ℓ) : Prop :=
  ∀ c : Dev Cert.AddOut.nD,
    (Cert.Pre_core_number_out.fn (F := Bits) (m ((c.tc : Thread Cert.AddOut.nD Cert.AddOut.τ).loc Cert.AddOut.main_arg0)) (m ((c.tc : Thread Cert.AddOut.nD Cert.AddOut.τ).loc Cert.AddOut.main_arg1)) (m ((c.tc : Thread Cert.AddOut.nD Cert.AddOut.τ).loc Cert.AddOut.main_arg2))) = (fun _ => 1#1)

def Pre_AddOutIdeal [hPre_core_number_out : Cert.Pre_core_number_out.Facts] (m : (ℓ : Loc Cert.AddOutIdeal.nD Cert.AddOutIdeal.τ Cert.AddOutIdeal.sig) → Buf (Elt Ideal) ℓ) : Prop :=
  ∀ c : Dev Cert.AddOutIdeal.nD,
    (Cert.Pre_core_number_out.fn (F := Ideal) (m ((c.tc : Thread Cert.AddOutIdeal.nD Cert.AddOutIdeal.τ).loc Cert.AddOutIdeal.main_arg0)) (m ((c.tc : Thread Cert.AddOutIdeal.nD Cert.AddOutIdeal.τ).loc Cert.AddOutIdeal.main_arg1)) (m ((c.tc : Thread Cert.AddOutIdeal.nD Cert.AddOutIdeal.τ).loc Cert.AddOutIdeal.main_arg2))) = (fun _ => 1#1)

def Pre_AddOutRefIdeal (m : (ℓ : Loc Cert.AddOutRefIdeal.nD Cert.AddOutRefIdeal.τ Cert.AddOutRefIdeal.sig) → Buf (Elt Ideal) ℓ) : Prop :=
  True

def Pre_AddOutRefIdeal_core_number_out [hPre_core_number_out : Cert.Pre_core_number_out.Facts] (m : (ℓ : Loc Cert.AddOutRefIdeal.nD Cert.AddOutRefIdeal.τ Cert.AddOutRefIdeal.sig) → Buf (Elt Ideal) ℓ) : Prop :=
  ∀ c : Dev Cert.AddOutRefIdeal.nD,
    (Cert.Pre_core_number_out.fn (F := Ideal) (m ((c.tc : Thread Cert.AddOutRefIdeal.nD Cert.AddOutRefIdeal.τ).loc Cert.AddOutRefIdeal.main_arg0)) (m ((c.tc : Thread Cert.AddOutRefIdeal.nD Cert.AddOutRefIdeal.τ).loc Cert.AddOutRefIdeal.main_arg1)) (m ((c.tc : Thread Cert.AddOutRefIdeal.nD Cert.AddOutRefIdeal.τ).loc Cert.AddOutRefIdeal.main_arg2))) = (fun _ => 1#1)

def Pre_AddUp [hPre_core_number_up : Cert.Pre_core_number_up.Facts] (m : (ℓ : Loc Cert.AddUp.nD Cert.AddUp.τ Cert.AddUp.sig) → Buf (Elt Bits) ℓ) : Prop :=
  ∀ c : Dev Cert.AddUp.nD,
    (Cert.Pre_core_number_up.fn (F := Bits) (m ((c.tc : Thread Cert.AddUp.nD Cert.AddUp.τ).loc Cert.AddUp.main_arg0)) (m ((c.tc : Thread Cert.AddUp.nD Cert.AddUp.τ).loc Cert.AddUp.main_arg1)) (m ((c.tc : Thread Cert.AddUp.nD Cert.AddUp.τ).loc Cert.AddUp.main_arg2))) = (fun _ => 1#1)

def Pre_AddUpIdeal [hPre_core_number_up : Cert.Pre_core_number_up.Facts] (m : (ℓ : Loc Cert.AddUpIdeal.nD Cert.AddUpIdeal.τ Cert.AddUpIdeal.sig) → Buf (Elt Ideal) ℓ) : Prop :=
  ∀ c : Dev Cert.AddUpIdeal.nD,
    (Cert.Pre_core_number_up.fn (F := Ideal) (m ((c.tc : Thread Cert.AddUpIdeal.nD Cert.AddUpIdeal.τ).loc Cert.AddUpIdeal.main_arg0)) (m ((c.tc : Thread Cert.AddUpIdeal.nD Cert.AddUpIdeal.τ).loc Cert.AddUpIdeal.main_arg1)) (m ((c.tc : Thread Cert.AddUpIdeal.nD Cert.AddUpIdeal.τ).loc Cert.AddUpIdeal.main_arg2))) = (fun _ => 1#1)

def Pre_AddUpRefIdeal (m : (ℓ : Loc Cert.AddUpRefIdeal.nD Cert.AddUpRefIdeal.τ Cert.AddUpRefIdeal.sig) → Buf (Elt Ideal) ℓ) : Prop :=
  True

def Pre_AddUpRefIdeal_core_number_up [hPre_core_number_up : Cert.Pre_core_number_up.Facts] (m : (ℓ : Loc Cert.AddUpRefIdeal.nD Cert.AddUpRefIdeal.τ Cert.AddUpRefIdeal.sig) → Buf (Elt Ideal) ℓ) : Prop :=
  ∀ c : Dev Cert.AddUpRefIdeal.nD,
    (Cert.Pre_core_number_up.fn (F := Ideal) (m ((c.tc : Thread Cert.AddUpRefIdeal.nD Cert.AddUpRefIdeal.τ).loc Cert.AddUpRefIdeal.main_arg0)) (m ((c.tc : Thread Cert.AddUpRefIdeal.nD Cert.AddUpRefIdeal.τ).loc Cert.AddUpRefIdeal.main_arg1)) (m ((c.tc : Thread Cert.AddUpRefIdeal.nD Cert.AddUpRefIdeal.τ).loc Cert.AddUpRefIdeal.main_arg2))) = (fun _ => 1#1)

def Pre_AddDown [hPre_core_number_down : Cert.Pre_core_number_down.Facts] (m : (ℓ : Loc Cert.AddDown.nD Cert.AddDown.τ Cert.AddDown.sig) → Buf (Elt Bits) ℓ) : Prop :=
  ∀ c : Dev Cert.AddDown.nD,
    (Cert.Pre_core_number_down.fn (F := Bits) (m ((c.tc : Thread Cert.AddDown.nD Cert.AddDown.τ).loc Cert.AddDown.main_arg0)) (m ((c.tc : Thread Cert.AddDown.nD Cert.AddDown.τ).loc Cert.AddDown.main_arg1)) (m ((c.tc : Thread Cert.AddDown.nD Cert.AddDown.τ).loc Cert.AddDown.main_arg2))) = (fun _ => 1#1)

def Pre_AddDownIdeal [hPre_core_number_down : Cert.Pre_core_number_down.Facts] (m : (ℓ : Loc Cert.AddDownIdeal.nD Cert.AddDownIdeal.τ Cert.AddDownIdeal.sig) → Buf (Elt Ideal) ℓ) : Prop :=
  ∀ c : Dev Cert.AddDownIdeal.nD,
    (Cert.Pre_core_number_down.fn (F := Ideal) (m ((c.tc : Thread Cert.AddDownIdeal.nD Cert.AddDownIdeal.τ).loc Cert.AddDownIdeal.main_arg0)) (m ((c.tc : Thread Cert.AddDownIdeal.nD Cert.AddDownIdeal.τ).loc Cert.AddDownIdeal.main_arg1)) (m ((c.tc : Thread Cert.AddDownIdeal.nD Cert.AddDownIdeal.τ).loc Cert.AddDownIdeal.main_arg2))) = (fun _ => 1#1)

def Pre_AddDownRefIdeal (m : (ℓ : Loc Cert.AddDownRefIdeal.nD Cert.AddDownRefIdeal.τ Cert.AddDownRefIdeal.sig) → Buf (Elt Ideal) ℓ) : Prop :=
  True

def Pre_AddDownRefIdeal_core_number_down [hPre_core_number_down : Cert.Pre_core_number_down.Facts] (m : (ℓ : Loc Cert.AddDownRefIdeal.nD Cert.AddDownRefIdeal.τ Cert.AddDownRefIdeal.sig) → Buf (Elt Ideal) ℓ) : Prop :=
  ∀ c : Dev Cert.AddDownRefIdeal.nD,
    (Cert.Pre_core_number_down.fn (F := Ideal) (m ((c.tc : Thread Cert.AddDownRefIdeal.nD Cert.AddDownRefIdeal.τ).loc Cert.AddDownRefIdeal.main_arg0)) (m ((c.tc : Thread Cert.AddDownRefIdeal.nD Cert.AddDownRefIdeal.τ).loc Cert.AddDownRefIdeal.main_arg1)) (m ((c.tc : Thread Cert.AddDownRefIdeal.nD Cert.AddDownRefIdeal.τ).loc Cert.AddDownRefIdeal.main_arg2))) = (fun _ => 1#1)

def Pre_AddGroup [hPre_core_number_group : Cert.Pre_core_number_group.Facts] (m : (ℓ : Loc Cert.AddGroup.nD Cert.AddGroup.τ Cert.AddGroup.sig) → Buf (Elt Bits) ℓ) : Prop :=
  ∀ c : Dev Cert.AddGroup.nD,
    (Cert.Pre_core_number_group.fn (F := Bits) (m ((c.tc : Thread Cert.AddGroup.nD Cert.AddGroup.τ).loc Cert.AddGroup.main_arg0)) (m ((c.tc : Thread Cert.AddGroup.nD Cert.AddGroup.τ).loc Cert.AddGroup.main_arg1)) (m ((c.tc : Thread Cert.AddGroup.nD Cert.AddGroup.τ).loc Cert.AddGroup.main_arg2))) = (fun _ => 1#1)

def Pre_AddGroupIdeal [hPre_core_number_group : Cert.Pre_core_number_group.Facts] (m : (ℓ : Loc Cert.AddGroupIdeal.nD Cert.AddGroupIdeal.τ Cert.AddGroupIdeal.sig) → Buf (Elt Ideal) ℓ) : Prop :=
  ∀ c : Dev Cert.AddGroupIdeal.nD,
    (Cert.Pre_core_number_group.fn (F := Ideal) (m ((c.tc : Thread Cert.AddGroupIdeal.nD Cert.AddGroupIdeal.τ).loc Cert.AddGroupIdeal.main_arg0)) (m ((c.tc : Thread Cert.AddGroupIdeal.nD Cert.AddGroupIdeal.τ).loc Cert.AddGroupIdeal.main_arg1)) (m ((c.tc : Thread Cert.AddGroupIdeal.nD Cert.AddGroupIdeal.τ).loc Cert.AddGroupIdeal.main_arg2))) = (fun _ => 1#1)

def Pre_AddGroupRefIdeal (m : (ℓ : Loc Cert.AddGroupRefIdeal.nD Cert.AddGroupRefIdeal.τ Cert.AddGroupRefIdeal.sig) → Buf (Elt Ideal) ℓ) : Prop :=
  True

def Pre_AddGroupRefIdeal_core_number_group [hPre_core_number_group : Cert.Pre_core_number_group.Facts] (m : (ℓ : Loc Cert.AddGroupRefIdeal.nD Cert.AddGroupRefIdeal.τ Cert.AddGroupRefIdeal.sig) → Buf (Elt Ideal) ℓ) : Prop :=
  ∀ c : Dev Cert.AddGroupRefIdeal.nD,
    (Cert.Pre_core_number_group.fn (F := Ideal) (m ((c.tc : Thread Cert.AddGroupRefIdeal.nD Cert.AddGroupRefIdeal.τ).loc Cert.AddGroupRefIdeal.main_arg0)) (m ((c.tc : Thread Cert.AddGroupRefIdeal.nD Cert.AddGroupRefIdeal.τ).loc Cert.AddGroupRefIdeal.main_arg1)) (m ((c.tc : Thread Cert.AddGroupRefIdeal.nD Cert.AddGroupRefIdeal.τ).loc Cert.AddGroupRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4)
      ∧ r.2.mem ((c.tc : Thread Cert.UpDx.nD Cert.UpDx.τ).loc Cert.UpDx.main_arg5) = m ((c.tc : Thread Cert.UpDx.nD Cert.UpDx.τ).loc Cert.UpDx.main_arg5))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
      ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5))
      ∧ r.2.sem = fun _ => 0)

def quiescent_UpDxIdeal_pre_finite_up_dx [hUpDxIdeal : Cert.UpDxIdeal.Facts] [hPre_finite_up_dx : Cert.Pre_finite_up_dx.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_finite_up_dx m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
      ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4)
      ∧ r.2.mem ((c.tc : Thread Cert.UpDxRefIdeal.nD Cert.UpDxRefIdeal.τ).loc Cert.UpDxRefIdeal.main_arg5) = m ((c.tc : Thread Cert.UpDxRefIdeal.nD Cert.UpDxRefIdeal.τ).loc Cert.UpDxRefIdeal.main_arg5))
      ∧ r.2.sem = fun _ => 0)

def quiescent_UpDxRefIdeal_pre_finite_up_dx [hUpDxRefIdeal : Cert.UpDxRefIdeal.Facts] [hPre_finite_up_dx : Cert.Pre_finite_up_dx.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_finite_up_dx m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4)
      ∧ r.2.mem ((c.tc : Thread Cert.UpDxRefIdeal.nD Cert.UpDxRefIdeal.τ).loc Cert.UpDxRefIdeal.main_arg5) = m ((c.tc : Thread Cert.UpDxRefIdeal.nD Cert.UpDxRefIdeal.τ).loc Cert.UpDxRefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxIdeal_pre_finite_in_dx [hInDxIdeal : Cert.InDxIdeal.Facts] [hPre_finite_in_dx : Cert.Pre_finite_in_dx.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in_dx m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_InDxRefIdeal_pre_finite_in_dx [hInDxRefIdeal : Cert.InDxRefIdeal.Facts] [hPre_finite_in_dx : Cert.Pre_finite_in_dx.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in_dx m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_CvFwd [hCvFwd : Cert.CvFwd.Facts] : Prop :=
  ∀ (m : (ℓ : Loc Cert.CvFwd.nD Cert.CvFwd.τ Cert.CvFwd.sig) → Buf (Elt Bits) ℓ) (g : Dev Cert.CvFwd.nD → PrngReg), Pre_CvFwd m →
    θ_run (Cert.CvFwd.defs (F := Bits)) (onTc (τ := Cert.CvFwd.τ) (Cert.CvFwd.main (F := Bits))) ⟨m, fun _ => 0, g⟩ (fun r => (∀ c : Dev Cert.CvFwd.nD,
      r.2.mem ((c.tc : Thread Cert.CvFwd.nD Cert.CvFwd.τ).loc Cert.CvFwd.main_arg0) = m ((c.tc : Thread Cert.CvFwd.nD Cert.CvFwd.τ).loc Cert.CvFwd.main_arg0)
      ∧ r.2.mem ((c.tc : Thread Cert.CvFwd.nD Cert.CvFwd.τ).loc Cert.CvFwd.main_arg1) = m ((c.tc : Thread Cert.CvFwd.nD Cert.CvFwd.τ).loc Cert.CvFwd.main_arg1)
      ∧ r.2.mem ((c.tc : Thread Cert.CvFwd.nD Cert.CvFwd.τ).loc Cert.CvFwd.main_arg2) = m ((c.tc : Thread Cert.CvFwd.nD Cert.CvFwd.τ).loc Cert.CvFwd.main_arg2)
      ∧ r.2.mem ((c.tc : Thread Cert.CvFwd.nD Cert.CvFwd.τ).loc Cert.CvFwd.main_arg3) = m ((c.tc : Thread Cert.CvFwd.nD Cert.CvFwd.τ).loc Cert.CvFwd.main_arg3)
      ∧ r.2.mem ((c.tc : Thread Cert.CvFwd.nD Cert.CvFwd.τ).loc Cert.CvFwd.main_arg4) = m ((c.tc : Thread Cert.CvFwd.nD Cert.CvFwd.τ).loc Cert.CvFwd.main_arg4)
      ∧ r.2.mem ((c.tc : Thread Cert.CvFwd.nD Cert.CvFwd.τ).loc Cert.CvFwd.main_arg5) = m ((c.tc : Thread Cert.CvFwd.nD Cert.CvFwd.τ).loc Cert.CvFwd.main_arg5)
      ∧ r.2.mem ((c.tc : Thread Cert.CvFwd.nD Cert.CvFwd.τ).loc Cert.CvFwd.main_arg6) = m ((c.tc : Thread Cert.CvFwd.nD Cert.CvFwd.τ).loc Cert.CvFwd.main_arg6))
      ∧ r.2.sem = fun _ => 0)

def quiescent_CvFwdIdeal [hCvFwdIdeal : Cert.CvFwdIdeal.Facts] : Prop :=
  ∀ (m : (ℓ : Loc Cert.CvFwdIdeal.nD Cert.CvFwdIdeal.τ Cert.CvFwdIdeal.sig) → Buf (Elt Ideal) ℓ) (g : Dev Cert.CvFwdIdeal.nD → PrngReg), Pre_CvFwdIdeal m →
    θ_run (Cert.CvFwdIdeal.defs (F := Ideal)) (onTc (τ := Cert.CvFwdIdeal.τ) (Cert.CvFwdIdeal.main (F := Ideal))) ⟨m, fun _ => 0, g⟩ (fun r => (∀ c : Dev Cert.CvFwdIdeal.nD,
      r.2.mem ((c.tc : Thread Cert.CvFwdIdeal.nD Cert.CvFwdIdeal.τ).loc Cert.CvFwdIdeal.main_arg0) = m ((c.tc : Thread Cert.CvFwdIdeal.nD Cert.CvFwdIdeal.τ).loc Cert.CvFwdIdeal.main_arg0)
      ∧ r.2.mem ((c.tc : Thread Cert.CvFwdIdeal.nD Cert.CvFwdIdeal.τ).loc Cert.CvFwdIdeal.main_arg1) = m ((c.tc : Thread Cert.CvFwdIdeal.nD Cert.CvFwdIdeal.τ).loc Cert.CvFwdIdeal.main_arg1)
      ∧ r.2.mem ((c.tc : Thread Cert.CvFwdIdeal.nD Cert.CvFwdIdeal.τ).loc Cert.CvFwdIdeal.main_arg2) = m ((c.tc : Thread Cert.CvFwdIdeal.nD Cert.CvFwdIdeal.τ).loc Cert.CvFwdIdeal.main_arg2)
      ∧ r.2.mem ((c.tc : Thread Cert.CvFwdIdeal.nD Cert.CvFwdIdeal.τ).loc Cert.CvFwdIdeal.main_arg3) = m ((c.tc : Thread Cert.CvFwdIdeal.nD Cert.CvFwdIdeal.τ).loc Cert.CvFwdIdeal.main_arg3)
      ∧ r.2.mem ((c.tc : Thread Cert.CvFwdIdeal.nD Cert.CvFwdIdeal.τ).loc Cert.CvFwdIdeal.main_arg4) = m ((c.tc : Thread Cert.CvFwdIdeal.nD Cert.CvFwdIdeal.τ).loc Cert.CvFwdIdeal.main_arg4)
      ∧ r.2.mem ((c.tc : Thread Cert.CvFwdIdeal.nD Cert.CvFwdIdeal.τ).loc Cert.CvFwdIdeal.main_arg5) = m ((c.tc : Thread Cert.CvFwdIdeal.nD Cert.CvFwdIdeal.τ).loc Cert.CvFwdIdeal.main_arg5)
      ∧ r.2.mem ((c.tc : Thread Cert.CvFwdIdeal.nD Cert.CvFwdIdeal.τ).loc Cert.CvFwdIdeal.main_arg6) = m ((c.tc : Thread Cert.CvFwdIdeal.nD Cert.CvFwdIdeal.τ).loc Cert.CvFwdIdeal.main_arg6))
      ∧ r.2.sem = fun _ => 0)

def quiescent_CvFwdIdeal_pre_finite_cv_fwd [hCvFwdIdeal : Cert.CvFwdIdeal.Facts] [hPre_finite_cv_fwd : Cert.Pre_finite_cv_fwd.Facts] : Prop :=
  ∀ (m : (ℓ : Loc Cert.CvFwdIdeal.nD Cert.CvFwdIdeal.τ Cert.CvFwdIdeal.sig) → Buf (Elt Ideal) ℓ) (g : Dev Cert.CvFwdIdeal.nD → PrngReg), Pre_CvFwdIdeal_finite_cv_fwd m →
    θ_run (Cert.CvFwdIdeal.defs (F := Ideal)) (onTc (τ := Cert.CvFwdIdeal.τ) (Cert.CvFwdIdeal.main (F := Ideal))) ⟨m, fun _ => 0, g⟩ (fun r => (∀ c : Dev Cert.CvFwdIdeal.nD,
      r.2.mem ((c.tc : Thread Cert.CvFwdIdeal.nD Cert.CvFwdIdeal.τ).loc Cert.CvFwdIdeal.main_arg0) = m ((c.tc : Thread Cert.CvFwdIdeal.nD Cert.CvFwdIdeal.τ).loc Cert.CvFwdIdeal.main_arg0)
      ∧ r.2.mem ((c.tc : Thread Cert.CvFwdIdeal.nD Cert.CvFwdIdeal.τ).loc Cert.CvFwdIdeal.main_arg1) = m ((c.tc : Thread Cert.CvFwdIdeal.nD Cert.CvFwdIdeal.τ).loc Cert.CvFwdIdeal.main_arg1)
      ∧ r.2.mem ((c.tc : Thread Cert.CvFwdIdeal.nD Cert.CvFwdIdeal.τ).loc Cert.CvFwdIdeal.main_arg2) = m ((c.tc : Thread Cert.CvFwdIdeal.nD Cert.CvFwdIdeal.τ).loc Cert.CvFwdIdeal.main_arg2)
      ∧ r.2.mem ((c.tc : Thread Cert.CvFwdIdeal.nD Cert.CvFwdIdeal.τ).loc Cert.CvFwdIdeal.main_arg3) = m ((c.tc : Thread Cert.CvFwdIdeal.nD Cert.CvFwdIdeal.τ).loc Cert.CvFwdIdeal.main_arg3)
      ∧ r.2.mem ((c.tc : Thread Cert.CvFwdIdeal.nD Cert.CvFwdIdeal.τ).loc Cert.CvFwdIdeal.main_arg4) = m ((c.tc : Thread Cert.CvFwdIdeal.nD Cert.CvFwdIdeal.τ).loc Cert.CvFwdIdeal.main_arg4)
      ∧ r.2.mem ((c.tc : Thread Cert.CvFwdIdeal.nD Cert.CvFwdIdeal.τ).loc Cert.CvFwdIdeal.main_arg5) = m ((c.tc : Thread Cert.CvFwdIdeal.nD Cert.CvFwdIdeal.τ).loc Cert.CvFwdIdeal.main_arg5)
      ∧ r.2.mem ((c.tc : Thread Cert.CvFwdIdeal.nD Cert.CvFwdIdeal.τ).loc Cert.CvFwdIdeal.main_arg6) = m ((c.tc : Thread Cert.CvFwdIdeal.nD Cert.CvFwdIdeal.τ).loc Cert.CvFwdIdeal.main_arg6))
      ∧ r.2.sem = fun _ => 0)

def quiescent_CvFwdRefIdeal [hCvFwdRefIdeal : Cert.CvFwdRefIdeal.Facts] : Prop :=
  ∀ (m : (ℓ : Loc Cert.CvFwdRefIdeal.nD Cert.CvFwdRefIdeal.τ Cert.CvFwdRefIdeal.sig) → Buf (Elt Ideal) ℓ) (g : Dev Cert.CvFwdRefIdeal.nD → PrngReg), Pre_CvFwdRefIdeal m →
    θ_run (Cert.CvFwdRefIdeal.defs (F := Ideal)) (onTc (τ := Cert.CvFwdRefIdeal.τ) (Cert.CvFwdRefIdeal.main (F := Ideal))) ⟨m, fun _ => 0, g⟩ (fun r => (∀ c : Dev Cert.CvFwdRefIdeal.nD,
      r.2.mem ((c.tc : Thread Cert.CvFwdRefIdeal.nD Cert.CvFwdRefIdeal.τ).loc Cert.CvFwdRefIdeal.main_arg0) = m ((c.tc : Thread Cert.CvFwdRefIdeal.nD Cert.CvFwdRefIdeal.τ).loc Cert.CvFwdRefIdeal.main_arg0)
      ∧ r.2.mem ((c.tc : Thread Cert.CvFwdRefIdeal.nD Cert.CvFwdRefIdeal.τ).loc Cert.CvFwdRefIdeal.main_arg1) = m ((c.tc : Thread Cert.CvFwdRefIdeal.nD Cert.CvFwdRefIdeal.τ).loc Cert.CvFwdRefIdeal.main_arg1)
      ∧ r.2.mem ((c.tc : Thread Cert.CvFwdRefIdeal.nD Cert.CvFwdRefIdeal.τ).loc Cert.CvFwdRefIdeal.main_arg2) = m ((c.tc : Thread Cert.CvFwdRefIdeal.nD Cert.CvFwdRefIdeal.τ).loc Cert.CvFwdRefIdeal.main_arg2)
      ∧ r.2.mem ((c.tc : Thread Cert.CvFwdRefIdeal.nD Cert.CvFwdRefIdeal.τ).loc Cert.CvFwdRefIdeal.main_arg3) = m ((c.tc : Thread Cert.CvFwdRefIdeal.nD Cert.CvFwdRefIdeal.τ).loc Cert.CvFwdRefIdeal.main_arg3)
      ∧ r.2.mem ((c.tc : Thread Cert.CvFwdRefIdeal.nD Cert.CvFwdRefIdeal.τ).loc Cert.CvFwdRefIdeal.main_arg4) = m ((c.tc : Thread Cert.CvFwdRefIdeal.nD Cert.CvFwdRefIdeal.τ).loc Cert.CvFwdRefIdeal.main_arg4)
      ∧ r.2.mem ((c.tc : Thread Cert.CvFwdRefIdeal.nD Cert.CvFwdRefIdeal.τ).loc Cert.CvFwdRefIdeal.main_arg5) = m ((c.tc : Thread Cert.CvFwdRefIdeal.nD Cert.CvFwdRefIdeal.τ).loc Cert.CvFwdRefIdeal.main_arg5)
      ∧ r.2.mem ((c.tc : Thread Cert.CvFwdRefIdeal.nD Cert.CvFwdRefIdeal.τ).loc Cert.CvFwdRefIdeal.main_arg6) = m ((c.tc : Thread Cert.CvFwdRefIdeal.nD Cert.CvFwdRefIdeal.τ).loc Cert.CvFwdRefIdeal.main_arg6))
      ∧ r.2.sem = fun _ => 0)

def quiescent_CvFwdRefIdeal_pre_finite_cv_fwd [hCvFwdRefIdeal : Cert.CvFwdRefIdeal.Facts] [hPre_finite_cv_fwd : Cert.Pre_finite_cv_fwd.Facts] : Prop :=
  ∀ (m : (ℓ : Loc Cert.CvFwdRefIdeal.nD Cert.CvFwdRefIdeal.τ Cert.CvFwdRefIdeal.sig) → Buf (Elt Ideal) ℓ) (g : Dev Cert.CvFwdRefIdeal.nD → PrngReg), Pre_CvFwdRefIdeal_finite_cv_fwd m →
    θ_run (Cert.CvFwdRefIdeal.defs (F := Ideal)) (onTc (τ := Cert.CvFwdRefIdeal.τ) (Cert.CvFwdRefIdeal.main (F := Ideal))) ⟨m, fun _ => 0, g⟩ (fun r => (∀ c : Dev Cert.CvFwdRefIdeal.nD,
      r.2.mem ((c.tc : Thread Cert.CvFwdRefIdeal.nD Cert.CvFwdRefIdeal.τ).loc Cert.CvFwdRefIdeal.main_arg0) = m ((c.tc : Thread Cert.CvFwdRefIdeal.nD Cert.CvFwdRefIdeal.τ).loc Cert.CvFwdRefIdeal.main_arg0)
      ∧ r.2.mem ((c.tc : Thread Cert.CvFwdRefIdeal.nD Cert.CvFwdRefIdeal.τ).loc Cert.CvFwdRefIdeal.main_arg1) = m ((c.tc : Thread Cert.CvFwdRefIdeal.nD Cert.CvFwdRefIdeal.τ).loc Cert.CvFwdRefIdeal.main_arg1)
      ∧ r.2.mem ((c.tc : Thread Cert.CvFwdRefIdeal.nD Cert.CvFwdRefIdeal.τ).loc Cert.CvFwdRefIdeal.main_arg2) = m ((c.tc : Thread Cert.CvFwdRefIdeal.nD Cert.CvFwdRefIdeal.τ).loc Cert.CvFwdRefIdeal.main_arg2)
      ∧ r.2.mem ((c.tc : Thread Cert.CvFwdRefIdeal.nD Cert.CvFwdRefIdeal.τ).loc Cert.CvFwdRefIdeal.main_arg3) = m ((c.tc : Thread Cert.CvFwdRefIdeal.nD Cert.CvFwdRefIdeal.τ).loc Cert.CvFwdRefIdeal.main_arg3)
      ∧ r.2.mem ((c.tc : Thread Cert.CvFwdRefIdeal.nD Cert.CvFwdRefIdeal.τ).loc Cert.CvFwdRefIdeal.main_arg4) = m ((c.tc : Thread Cert.CvFwdRefIdeal.nD Cert.CvFwdRefIdeal.τ).loc Cert.CvFwdRefIdeal.main_arg4)
      ∧ r.2.mem ((c.tc : Thread Cert.CvFwdRefIdeal.nD Cert.CvFwdRefIdeal.τ).loc Cert.CvFwdRefIdeal.main_arg5) = m ((c.tc : Thread Cert.CvFwdRefIdeal.nD Cert.CvFwdRefIdeal.τ).loc Cert.CvFwdRefIdeal.main_arg5)
      ∧ r.2.mem ((c.tc : Thread Cert.CvFwdRefIdeal.nD Cert.CvFwdRefIdeal.τ).loc Cert.CvFwdRefIdeal.main_arg6) = m ((c.tc : Thread Cert.CvFwdRefIdeal.nD Cert.CvFwdRefIdeal.τ).loc Cert.CvFwdRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamGroup [hAdamGroup : Cert.AdamGroup.Facts] : Prop :=
  ∀ (m : (ℓ : Loc Cert.AdamGroup.nD Cert.AdamGroup.τ Cert.AdamGroup.sig) → Buf (Elt Bits) ℓ) (g : Dev Cert.AdamGroup.nD → PrngReg), Pre_AdamGroup m →
    θ_run (Cert.AdamGroup.defs (F := Bits)) (onTc (τ := Cert.AdamGroup.τ) (Cert.AdamGroup.main (F := Bits))) ⟨m, fun _ => 0, g⟩ (fun r => (∀ c : Dev Cert.AdamGroup.nD,
      r.2.mem ((c.tc : Thread Cert.AdamGroup.nD Cert.AdamGroup.τ).loc Cert.AdamGroup.main_arg0) = m ((c.tc : Thread Cert.AdamGroup.nD Cert.AdamGroup.τ).loc Cert.AdamGroup.main_arg0)
      ∧ r.2.mem ((c.tc : Thread Cert.AdamGroup.nD Cert.AdamGroup.τ).loc Cert.AdamGroup.main_arg1) = m ((c.tc : Thread Cert.AdamGroup.nD Cert.AdamGroup.τ).loc Cert.AdamGroup.main_arg1)
      ∧ r.2.mem ((c.tc : Thread Cert.AdamGroup.nD Cert.AdamGroup.τ).loc Cert.AdamGroup.main_arg2) = m ((c.tc : Thread Cert.AdamGroup.nD Cert.AdamGroup.τ).loc Cert.AdamGroup.main_arg2)
      ∧ r.2.mem ((c.tc : Thread Cert.AdamGroup.nD Cert.AdamGroup.τ).loc Cert.AdamGroup.main_arg3) = m ((c.tc : Thread Cert.AdamGroup.nD Cert.AdamGroup.τ).loc Cert.AdamGroup.main_arg3))
      ∧ r.2.sem = fun _ => 0)

def quiescent_AdamGroupIdeal [hAdamGroupIdeal : Cert.AdamGroupIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg), Pre_AdamGroupIdeal m →
    θ_run (Cert.AdamGroupIdeal.defs (F := Ideal)) (onTc (τ := Cert.AdamGroupIdeal.τ) (Cert.AdamGroupIdeal.main (F := Ideal))) ⟨m, fun _ => 0, g⟩ (fun r => (∀ c : Dev Cert.AdamGroupIdeal.nD,
      r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
      ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
      ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
      ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ r.2.sem = fun _ => 0)

def quiescent_AdamGroupRefIdeal [hAdamGroupRefIdeal : Cert.AdamGroupRefIdeal.Facts] : Prop :=
  ∀ (m : (ℓ : Loc Cert.AdamGroupRefIdeal.nD Cert.AdamGroupRefIdeal.τ Cert.AdamGroupRefIdeal.sig) → Buf (Elt Ideal) ℓ) (g : Dev Cert.AdamGroupRefIdeal.nD → PrngReg), Pre_AdamGroupRefIdeal m →
    θ_run (Cert.AdamGroupRefIdeal.defs (F := Ideal)) (onTc (τ := Cert.AdamGroupRefIdeal.τ) (Cert.AdamGroupRefIdeal.main (F := Ideal))) ⟨m, fun _ => 0, g⟩ (fun r => (∀ c : Dev Cert.AdamGroupRefIdeal.nD,
      r.2.mem ((c.tc : Thread Cert.AdamGroupRefIdeal.nD Cert.AdamGroupRefIdeal.τ).loc Cert.AdamGroupRefIdeal.main_arg0) = m ((c.tc : Thread Cert.AdamGroupRefIdeal.nD Cert.AdamGroupRefIdeal.τ).loc Cert.AdamGroupRefIdeal.main_arg0)
      ∧ r.2.mem ((c.tc : Thread Cert.AdamGroupRefIdeal.nD Cert.AdamGroupRefIdeal.τ).loc Cert.AdamGroupRefIdeal.main_arg1) = m ((c.tc : Thread Cert.AdamGroupRefIdeal.nD Cert.AdamGroupRefIdeal.τ).loc Cert.AdamGroupRefIdeal.main_arg1)
      ∧ r.2.mem ((c.tc : Thread Cert.AdamGroupRefIdeal.nD Cert.AdamGroupRefIdeal.τ).loc Cert.AdamGroupRefIdeal.main_arg2) = m ((c.tc : Thread Cert.AdamGroupRefIdeal.nD Cert.AdamGroupRefIdeal.τ).loc Cert.AdamGroupRefIdeal.main_arg2)
      ∧ r.2.mem ((c.tc : Thread Cert.AdamGroupRefIdeal.nD Cert.AdamGroupRefIdeal.τ).loc Cert.AdamGroupRefIdeal.main_arg3) = m ((c.tc : Thread Cert.AdamGroupRefIdeal.nD Cert.AdamGroupRefIdeal.τ).loc Cert.AdamGroupRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_AddIn [hAddIn : Cert.AddIn.Facts] [hPre_core_number_in : Cert.Pre_core_number_in.Facts] : Prop :=
  ∀ (m : (ℓ : Loc Cert.AddIn.nD Cert.AddIn.τ Cert.AddIn.sig) → Buf (Elt Bits) ℓ) (g : Dev Cert.AddIn.nD → PrngReg), Pre_AddIn m →
    θ_run (Cert.AddIn.defs (F := Bits)) (onTc (τ := Cert.AddIn.τ) (Cert.AddIn.main (F := Bits))) ⟨m, fun _ => 0, g⟩ (fun r => (∀ c : Dev Cert.AddIn.nD,
      r.2.mem ((c.tc : Thread Cert.AddIn.nD Cert.AddIn.τ).loc Cert.AddIn.main_arg0) = m ((c.tc : Thread Cert.AddIn.nD Cert.AddIn.τ).loc Cert.AddIn.main_arg0)
      ∧ r.2.mem ((c.tc : Thread Cert.AddIn.nD Cert.AddIn.τ).loc Cert.AddIn.main_arg1) = m ((c.tc : Thread Cert.AddIn.nD Cert.AddIn.τ).loc Cert.AddIn.main_arg1)
      ∧ r.2.mem ((c.tc : Thread Cert.AddIn.nD Cert.AddIn.τ).loc Cert.AddIn.main_arg2) = m ((c.tc : Thread Cert.AddIn.nD Cert.AddIn.τ).loc Cert.AddIn.main_arg2))
      ∧ r.2.sem = fun _ => 0)

def quiescent_AddInIdeal [hAddInIdeal : Cert.AddInIdeal.Facts] [hPre_core_number_in : Cert.Pre_core_number_in.Facts] : Prop :=
  ∀ (m : (ℓ : Loc Cert.AddInIdeal.nD Cert.AddInIdeal.τ Cert.AddInIdeal.sig) → Buf (Elt Ideal) ℓ) (g : Dev Cert.AddInIdeal.nD → PrngReg), Pre_AddInIdeal m →
    θ_run (Cert.AddInIdeal.defs (F := Ideal)) (onTc (τ := Cert.AddInIdeal.τ) (Cert.AddInIdeal.main (F := Ideal))) ⟨m, fun _ => 0, g⟩ (fun r => (∀ c : Dev Cert.AddInIdeal.nD,
      r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
      ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
      ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ r.2.sem = fun _ => 0)

def quiescent_AddInRefIdeal [hAddInRefIdeal : Cert.AddInRefIdeal.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddInRefIdeal_pre_core_number_in [hAddInRefIdeal : Cert.AddInRefIdeal.Facts] [hPre_core_number_in : Cert.Pre_core_number_in.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal_core_number_in m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddKv [hAddKv : Cert.AddKv.Facts] [hPre_core_number_kv : Cert.Pre_core_number_kv.Facts] : Prop :=
  ∀ (m : (ℓ : Loc Cert.AddKv.nD Cert.AddKv.τ Cert.AddKv.sig) → Buf (Elt Bits) ℓ) (g : Dev Cert.AddKv.nD → PrngReg), Pre_AddKv m →
    θ_run (Cert.AddKv.defs (F := Bits)) (onTc (τ := Cert.AddKv.τ) (Cert.AddKv.main (F := Bits))) ⟨m, fun _ => 0, g⟩ (fun r => (∀ c : Dev Cert.AddKv.nD,
      r.2.mem ((c.tc : Thread Cert.AddKv.nD Cert.AddKv.τ).loc Cert.AddKv.main_arg0) = m ((c.tc : Thread Cert.AddKv.nD Cert.AddKv.τ).loc Cert.AddKv.main_arg0)
      ∧ r.2.mem ((c.tc : Thread Cert.AddKv.nD Cert.AddKv.τ).loc Cert.AddKv.main_arg1) = m ((c.tc : Thread Cert.AddKv.nD Cert.AddKv.τ).loc Cert.AddKv.main_arg1)
      ∧ r.2.mem ((c.tc : Thread Cert.AddKv.nD Cert.AddKv.τ).loc Cert.AddKv.main_arg2) = m ((c.tc : Thread Cert.AddKv.nD Cert.AddKv.τ).loc Cert.AddKv.main_arg2))
      ∧ r.2.sem = fun _ => 0)

def quiescent_AddKvIdeal [hAddKvIdeal : Cert.AddKvIdeal.Facts] [hPre_core_number_kv : Cert.Pre_core_number_kv.Facts] : Prop :=
  ∀ (m : (ℓ : Loc Cert.AddKvIdeal.nD Cert.AddKvIdeal.τ Cert.AddKvIdeal.sig) → Buf (Elt Ideal) ℓ) (g : Dev Cert.AddKvIdeal.nD → PrngReg), Pre_AddKvIdeal m →
    θ_run (Cert.AddKvIdeal.defs (F := Ideal)) (onTc (τ := Cert.AddKvIdeal.τ) (Cert.AddKvIdeal.main (F := Ideal))) ⟨m, fun _ => 0, g⟩ (fun r => (∀ c : Dev Cert.AddKvIdeal.nD,
      r.2.mem ((c.tc : Thread Cert.AddKvIdeal.nD Cert.AddKvIdeal.τ).loc Cert.AddKvIdeal.main_arg0) = m ((c.tc : Thread Cert.AddKvIdeal.nD Cert.AddKvIdeal.τ).loc Cert.AddKvIdeal.main_arg0)
      ∧ r.2.mem ((c.tc : Thread Cert.AddKvIdeal.nD Cert.AddKvIdeal.τ).loc Cert.AddKvIdeal.main_arg1) = m ((c.tc : Thread Cert.AddKvIdeal.nD Cert.AddKvIdeal.τ).loc Cert.AddKvIdeal.main_arg1)
      ∧ r.2.mem ((c.tc : Thread Cert.AddKvIdeal.nD Cert.AddKvIdeal.τ).loc Cert.AddKvIdeal.main_arg2) = m ((c.tc : Thread Cert.AddKvIdeal.nD Cert.AddKvIdeal.τ).loc Cert.AddKvIdeal.main_arg2))
      ∧ r.2.sem = fun _ => 0)

def quiescent_AddKvRefIdeal [hAddKvRefIdeal : Cert.AddKvRefIdeal.Facts] : Prop :=
  ∀ (m : (ℓ : Loc Cert.AddKvRefIdeal.nD Cert.AddKvRefIdeal.τ Cert.AddKvRefIdeal.sig) → Buf (Elt Ideal) ℓ) (g : Dev Cert.AddKvRefIdeal.nD → PrngReg), Pre_AddKvRefIdeal m →
    θ_run (Cert.AddKvRefIdeal.defs (F := Ideal)) (onTc (τ := Cert.AddKvRefIdeal.τ) (Cert.AddKvRefIdeal.main (F := Ideal))) ⟨m, fun _ => 0, g⟩ (fun r => (∀ c : Dev Cert.AddKvRefIdeal.nD,
      r.2.mem ((c.tc : Thread Cert.AddKvRefIdeal.nD Cert.AddKvRefIdeal.τ).loc Cert.AddKvRefIdeal.main_arg0) = m ((c.tc : Thread Cert.AddKvRefIdeal.nD Cert.AddKvRefIdeal.τ).loc Cert.AddKvRefIdeal.main_arg0)
      ∧ r.2.mem ((c.tc : Thread Cert.AddKvRefIdeal.nD Cert.AddKvRefIdeal.τ).loc Cert.AddKvRefIdeal.main_arg1) = m ((c.tc : Thread Cert.AddKvRefIdeal.nD Cert.AddKvRefIdeal.τ).loc Cert.AddKvRefIdeal.main_arg1)
      ∧ r.2.mem ((c.tc : Thread Cert.AddKvRefIdeal.nD Cert.AddKvRefIdeal.τ).loc Cert.AddKvRefIdeal.main_arg2) = m ((c.tc : Thread Cert.AddKvRefIdeal.nD Cert.AddKvRefIdeal.τ).loc Cert.AddKvRefIdeal.main_arg2))
      ∧ r.2.sem = fun _ => 0)

def quiescent_AddKvRefIdeal_pre_core_number_kv [hAddKvRefIdeal : Cert.AddKvRefIdeal.Facts] [hPre_core_number_kv : Cert.Pre_core_number_kv.Facts] : Prop :=
  ∀ (m : (ℓ : Loc Cert.AddKvRefIdeal.nD Cert.AddKvRefIdeal.τ Cert.AddKvRefIdeal.sig) → Buf (Elt Ideal) ℓ) (g : Dev Cert.AddKvRefIdeal.nD → PrngReg), Pre_AddKvRefIdeal_core_number_kv m →
    θ_run (Cert.AddKvRefIdeal.defs (F := Ideal)) (onTc (τ := Cert.AddKvRefIdeal.τ) (Cert.AddKvRefIdeal.main (F := Ideal))) ⟨m, fun _ => 0, g⟩ (fun r => (∀ c : Dev Cert.AddKvRefIdeal.nD,
      r.2.mem ((c.tc : Thread Cert.AddKvRefIdeal.nD Cert.AddKvRefIdeal.τ).loc Cert.AddKvRefIdeal.main_arg0) = m ((c.tc : Thread Cert.AddKvRefIdeal.nD Cert.AddKvRefIdeal.τ).loc Cert.AddKvRefIdeal.main_arg0)
      ∧ r.2.mem ((c.tc : Thread Cert.AddKvRefIdeal.nD Cert.AddKvRefIdeal.τ).loc Cert.AddKvRefIdeal.main_arg1) = m ((c.tc : Thread Cert.AddKvRefIdeal.nD Cert.AddKvRefIdeal.τ).loc Cert.AddKvRefIdeal.main_arg1)
      ∧ r.2.mem ((c.tc : Thread Cert.AddKvRefIdeal.nD Cert.AddKvRefIdeal.τ).loc Cert.AddKvRefIdeal.main_arg2) = m ((c.tc : Thread Cert.AddKvRefIdeal.nD Cert.AddKvRefIdeal.τ).loc Cert.AddKvRefIdeal.main_arg2))
      ∧ r.2.sem = fun _ => 0)

def quiescent_AddOut [hAddOut : Cert.AddOut.Facts] [hPre_core_number_out : Cert.Pre_core_number_out.Facts] : Prop :=
  ∀ (m : (ℓ : Loc Cert.AddOut.nD Cert.AddOut.τ Cert.AddOut.sig) → Buf (Elt Bits) ℓ) (g : Dev Cert.AddOut.nD → PrngReg), Pre_AddOut m →
    θ_run (Cert.AddOut.defs (F := Bits)) (onTc (τ := Cert.AddOut.τ) (Cert.AddOut.main (F := Bits))) ⟨m, fun _ => 0, g⟩ (fun r => (∀ c : Dev Cert.AddOut.nD,
      r.2.mem ((c.tc : Thread Cert.AddOut.nD Cert.AddOut.τ).loc Cert.AddOut.main_arg0) = m ((c.tc : Thread Cert.AddOut.nD Cert.AddOut.τ).loc Cert.AddOut.main_arg0)
      ∧ r.2.mem ((c.tc : Thread Cert.AddOut.nD Cert.AddOut.τ).loc Cert.AddOut.main_arg1) = m ((c.tc : Thread Cert.AddOut.nD Cert.AddOut.τ).loc Cert.AddOut.main_arg1)
      ∧ r.2.mem ((c.tc : Thread Cert.AddOut.nD Cert.AddOut.τ).loc Cert.AddOut.main_arg2) = m ((c.tc : Thread Cert.AddOut.nD Cert.AddOut.τ).loc Cert.AddOut.main_arg2))
      ∧ r.2.sem = fun _ => 0)

def quiescent_AddOutIdeal [hAddOutIdeal : Cert.AddOutIdeal.Facts] [hPre_core_number_out : Cert.Pre_core_number_out.Facts] : Prop :=
  ∀ (m : (ℓ : Loc Cert.AddOutIdeal.nD Cert.AddOutIdeal.τ Cert.AddOutIdeal.sig) → Buf (Elt Ideal) ℓ) (g : Dev Cert.AddOutIdeal.nD → PrngReg), Pre_AddOutIdeal m →
    θ_run (Cert.AddOutIdeal.defs (F := Ideal)) (onTc (τ := Cert.AddOutIdeal.τ) (Cert.AddOutIdeal.main (F := Ideal))) ⟨m, fun _ => 0, g⟩ (fun r => (∀ c : Dev Cert.AddOutIdeal.nD,
      r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
      ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
      ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ r.2.sem = fun _ => 0)

def quiescent_AddOutRefIdeal [hAddOutRefIdeal : Cert.AddOutRefIdeal.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddOutRefIdeal_pre_core_number_out [hAddOutRefIdeal : Cert.AddOutRefIdeal.Facts] [hPre_core_number_out : Cert.Pre_core_number_out.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal_core_number_out m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddUp [hAddUp : Cert.AddUp.Facts] [hPre_core_number_up : Cert.Pre_core_number_up.Facts] : Prop :=
  ∀ (m : (ℓ : Loc Cert.AddUp.nD Cert.AddUp.τ Cert.AddUp.sig) → Buf (Elt Bits) ℓ) (g : Dev Cert.AddUp.nD → PrngReg), Pre_AddUp m →
    θ_run (Cert.AddUp.defs (F := Bits)) (onTc (τ := Cert.AddUp.τ) (Cert.AddUp.main (F := Bits))) ⟨m, fun _ => 0, g⟩ (fun r => (∀ c : Dev Cert.AddUp.nD,
      r.2.mem ((c.tc : Thread Cert.AddUp.nD Cert.AddUp.τ).loc Cert.AddUp.main_arg0) = m ((c.tc : Thread Cert.AddUp.nD Cert.AddUp.τ).loc Cert.AddUp.main_arg0)
      ∧ r.2.mem ((c.tc : Thread Cert.AddUp.nD Cert.AddUp.τ).loc Cert.AddUp.main_arg1) = m ((c.tc : Thread Cert.AddUp.nD Cert.AddUp.τ).loc Cert.AddUp.main_arg1)
      ∧ r.2.mem ((c.tc : Thread Cert.AddUp.nD Cert.AddUp.τ).loc Cert.AddUp.main_arg2) = m ((c.tc : Thread Cert.AddUp.nD Cert.AddUp.τ).loc Cert.AddUp.main_arg2))
      ∧ r.2.sem = fun _ => 0)

def quiescent_AddUpIdeal [hAddUpIdeal : Cert.AddUpIdeal.Facts] [hPre_core_number_up : Cert.Pre_core_number_up.Facts] : Prop :=
  ∀ (m : (ℓ : Loc Cert.AddUpIdeal.nD Cert.AddUpIdeal.τ Cert.AddUpIdeal.sig) → Buf (Elt Ideal) ℓ) (g : Dev Cert.AddUpIdeal.nD → PrngReg), Pre_AddUpIdeal m →
    θ_run (Cert.AddUpIdeal.defs (F := Ideal)) (onTc (τ := Cert.AddUpIdeal.τ) (Cert.AddUpIdeal.main (F := Ideal))) ⟨m, fun _ => 0, g⟩ (fun r => (∀ c : Dev Cert.AddUpIdeal.nD,
      r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
      ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
      ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ r.2.sem = fun _ => 0)

def quiescent_AddUpRefIdeal [hAddUpRefIdeal : Cert.AddUpRefIdeal.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddUpRefIdeal_pre_core_number_up [hAddUpRefIdeal : Cert.AddUpRefIdeal.Facts] [hPre_core_number_up : Cert.Pre_core_number_up.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal_core_number_up m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddDown [hAddDown : Cert.AddDown.Facts] [hPre_core_number_down : Cert.Pre_core_number_down.Facts] : Prop :=
  ∀ (m : (ℓ : Loc Cert.AddDown.nD Cert.AddDown.τ Cert.AddDown.sig) → Buf (Elt Bits) ℓ) (g : Dev Cert.AddDown.nD → PrngReg), Pre_AddDown m →
    θ_run (Cert.AddDown.defs (F := Bits)) (onTc (τ := Cert.AddDown.τ) (Cert.AddDown.main (F := Bits))) ⟨m, fun _ => 0, g⟩ (fun r => (∀ c : Dev Cert.AddDown.nD,
      r.2.mem ((c.tc : Thread Cert.AddDown.nD Cert.AddDown.τ).loc Cert.AddDown.main_arg0) = m ((c.tc : Thread Cert.AddDown.nD Cert.AddDown.τ).loc Cert.AddDown.main_arg0)
      ∧ r.2.mem ((c.tc : Thread Cert.AddDown.nD Cert.AddDown.τ).loc Cert.AddDown.main_arg1) = m ((c.tc : Thread Cert.AddDown.nD Cert.AddDown.τ).loc Cert.AddDown.main_arg1)
      ∧ r.2.mem ((c.tc : Thread Cert.AddDown.nD Cert.AddDown.τ).loc Cert.AddDown.main_arg2) = m ((c.tc : Thread Cert.AddDown.nD Cert.AddDown.τ).loc Cert.AddDown.main_arg2))
      ∧ r.2.sem = fun _ => 0)

def quiescent_AddDownIdeal [hAddDownIdeal : Cert.AddDownIdeal.Facts] [hPre_core_number_down : Cert.Pre_core_number_down.Facts] : Prop :=
  ∀ (m : (ℓ : Loc Cert.AddDownIdeal.nD Cert.AddDownIdeal.τ Cert.AddDownIdeal.sig) → Buf (Elt Ideal) ℓ) (g : Dev Cert.AddDownIdeal.nD → PrngReg), Pre_AddDownIdeal m →
    θ_run (Cert.AddDownIdeal.defs (F := Ideal)) (onTc (τ := Cert.AddDownIdeal.τ) (Cert.AddDownIdeal.main (F := Ideal))) ⟨m, fun _ => 0, g⟩ (fun r => (∀ c : Dev Cert.AddDownIdeal.nD,
      r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
      ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1)
      ∧ r.2.mem ((c.tc : Thread Cert.AddDownIdeal.nD Cert.AddDownIdeal.τ).loc Cert.AddDownIdeal.main_arg2) = m ((c.tc : Thread Cert.AddDownIdeal.nD Cert.AddDownIdeal.τ).loc Cert.AddDownIdeal.main_arg2))
      ∧ r.2.sem = fun _ => 0)

def quiescent_AddDownRefIdeal [hAddDownRefIdeal : Cert.AddDownRefIdeal.Facts] : Prop :=
  ∀ (m : (ℓ : Loc Cert.AddDownRefIdeal.nD Cert.AddDownRefIdeal.τ Cert.AddDownRefIdeal.sig) → Buf (Elt Ideal) ℓ) (g : Dev Cert.AddDownRefIdeal.nD → PrngReg), Pre_AddDownRefIdeal m →
    θ_run (Cert.AddDownRefIdeal.defs (F := Ideal)) (onTc (τ := Cert.AddDownRefIdeal.τ) (Cert.AddDownRefIdeal.main (F := Ideal))) ⟨m, fun _ => 0, g⟩ (fun r => (∀ c : Dev Cert.AddDownRefIdeal.nD,
      r.2.mem ((c.tc : Thread Cert.AddDownRefIdeal.nD Cert.AddDownRefIdeal.τ).loc Cert.AddDownRefIdeal.main_arg0) = m ((c.tc : Thread Cert.AddDownRefIdeal.nD Cert.AddDownRefIdeal.τ).loc Cert.AddDownRefIdeal.main_arg0)
      ∧ r.2.mem ((c.tc : Thread Cert.AddDownRefIdeal.nD Cert.AddDownRefIdeal.τ).loc Cert.AddDownRefIdeal.main_arg1) = m ((c.tc : Thread Cert.AddDownRefIdeal.nD Cert.AddDownRefIdeal.τ).loc Cert.AddDownRefIdeal.main_arg1)
      ∧ r.2.mem ((c.tc : Thread Cert.AddDownRefIdeal.nD Cert.AddDownRefIdeal.τ).loc Cert.AddDownRefIdeal.main_arg2) = m ((c.tc : Thread Cert.AddDownRefIdeal.nD Cert.AddDownRefIdeal.τ).loc Cert.AddDownRefIdeal.main_arg2))
      ∧ r.2.sem = fun _ => 0)

def quiescent_AddDownRefIdeal_pre_core_number_down [hAddDownRefIdeal : Cert.AddDownRefIdeal.Facts] [hPre_core_number_down : Cert.Pre_core_number_down.Facts] : Prop :=
  ∀ (m : (ℓ : Loc Cert.AddDownRefIdeal.nD Cert.AddDownRefIdeal.τ Cert.AddDownRefIdeal.sig) → Buf (Elt Ideal) ℓ) (g : Dev Cert.AddDownRefIdeal.nD → PrngReg), Pre_AddDownRefIdeal_core_number_down m →
    θ_run (Cert.AddDownRefIdeal.defs (F := Ideal)) (onTc (τ := Cert.AddDownRefIdeal.τ) (Cert.AddDownRefIdeal.main (F := Ideal))) ⟨m, fun _ => 0, g⟩ (fun r => (∀ c : Dev Cert.AddDownRefIdeal.nD,
      r.2.mem ((c.tc : Thread Cert.AddDownRefIdeal.nD Cert.AddDownRefIdeal.τ).loc Cert.AddDownRefIdeal.main_arg0) = m ((c.tc : Thread Cert.AddDownRefIdeal.nD Cert.AddDownRefIdeal.τ).loc Cert.AddDownRefIdeal.main_arg0)
      ∧ r.2.mem ((c.tc : Thread Cert.AddDownRefIdeal.nD Cert.AddDownRefIdeal.τ).loc Cert.AddDownRefIdeal.main_arg1) = m ((c.tc : Thread Cert.AddDownRefIdeal.nD Cert.AddDownRefIdeal.τ).loc Cert.AddDownRefIdeal.main_arg1)
      ∧ r.2.mem ((c.tc : Thread Cert.AddDownRefIdeal.nD Cert.AddDownRefIdeal.τ).loc Cert.AddDownRefIdeal.main_arg2) = m ((c.tc : Thread Cert.AddDownRefIdeal.nD Cert.AddDownRefIdeal.τ).loc Cert.AddDownRefIdeal.main_arg2))
      ∧ r.2.sem = fun _ => 0)

def quiescent_AddGroup [hAddGroup : Cert.AddGroup.Facts] [hPre_core_number_group : Cert.Pre_core_number_group.Facts] : Prop :=
  ∀ (m : (ℓ : Loc Cert.AddGroup.nD Cert.AddGroup.τ Cert.AddGroup.sig) → Buf (Elt Bits) ℓ) (g : Dev Cert.AddGroup.nD → PrngReg), Pre_AddGroup m →
    θ_run (Cert.AddGroup.defs (F := Bits)) (onTc (τ := Cert.AddGroup.τ) (Cert.AddGroup.main (F := Bits))) ⟨m, fun _ => 0, g⟩ (fun r => (∀ c : Dev Cert.AddGroup.nD,
      r.2.mem ((c.tc : Thread Cert.AddGroup.nD Cert.AddGroup.τ).loc Cert.AddGroup.main_arg0) = m ((c.tc : Thread Cert.AddGroup.nD Cert.AddGroup.τ).loc Cert.AddGroup.main_arg0)
      ∧ r.2.mem ((c.tc : Thread Cert.AddGroup.nD Cert.AddGroup.τ).loc Cert.AddGroup.main_arg1) = m ((c.tc : Thread Cert.AddGroup.nD Cert.AddGroup.τ).loc Cert.AddGroup.main_arg1)
      ∧ r.2.mem ((c.tc : Thread Cert.AddGroup.nD Cert.AddGroup.τ).loc Cert.AddGroup.main_arg2) = m ((c.tc : Thread Cert.AddGroup.nD Cert.AddGroup.τ).loc Cert.AddGroup.main_arg2))
      ∧ r.2.sem = fun _ => 0)

def quiescent_AddGroupIdeal [hAddGroupIdeal : Cert.AddGroupIdeal.Facts] [hPre_core_number_group : Cert.Pre_core_number_group.Facts] : Prop :=
  ∀ (m : (ℓ : Loc Cert.AddGroupIdeal.nD Cert.AddGroupIdeal.τ Cert.AddGroupIdeal.sig) → Buf (Elt Ideal) ℓ) (g : Dev Cert.AddGroupIdeal.nD → PrngReg), Pre_AddGroupIdeal m →
    θ_run (Cert.AddGroupIdeal.defs (F := Ideal)) (onTc (τ := Cert.AddGroupIdeal.τ) (Cert.AddGroupIdeal.main (F := Ideal))) ⟨m, fun _ => 0, g⟩ (fun r => (∀ c : Dev Cert.AddGroupIdeal.nD,
      r.2.mem ((c.tc : Thread Cert.AddGroupIdeal.nD Cert.AddGroupIdeal.τ).loc Cert.AddGroupIdeal.main_arg0) = m ((c.tc : Thread Cert.AddGroupIdeal.nD Cert.AddGroupIdeal.τ).loc Cert.AddGroupIdeal.main_arg0)
      ∧ r.2.mem ((c.tc : Thread Cert.AddGroupIdeal.nD Cert.AddGroupIdeal.τ).loc Cert.AddGroupIdeal.main_arg1) = m ((c.tc : Thread Cert.AddGroupIdeal.nD Cert.AddGroupIdeal.τ).loc Cert.AddGroupIdeal.main_arg1)
      ∧ r.2.mem ((c.tc : Thread Cert.AddGroupIdeal.nD Cert.AddGroupIdeal.τ).loc Cert.AddGroupIdeal.main_arg2) = m ((c.tc : Thread Cert.AddGroupIdeal.nD Cert.AddGroupIdeal.τ).loc Cert.AddGroupIdeal.main_arg2))
      ∧ r.2.sem = fun _ => 0)

def quiescent_AddGroupRefIdeal [hAddGroupRefIdeal : Cert.AddGroupRefIdeal.Facts] : Prop :=
  ∀ (m : (ℓ : Loc Cert.AddGroupRefIdeal.nD Cert.AddGroupRefIdeal.τ Cert.AddGroupRefIdeal.sig) → Buf (Elt Ideal) ℓ) (g : Dev Cert.AddGroupRefIdeal.nD → PrngReg), Pre_AddGroupRefIdeal m →
    θ_run (Cert.AddGroupRefIdeal.defs (F := Ideal)) (onTc (τ := Cert.AddGroupRefIdeal.τ) (Cert.AddGroupRefIdeal.main (F := Ideal))) ⟨m, fun _ => 0, g⟩ (fun r => (∀ c : Dev Cert.AddGroupRefIdeal.nD,
      r.2.mem ((c.tc : Thread Cert.AddGroupRefIdeal.nD Cert.AddGroupRefIdeal.τ).loc Cert.AddGroupRefIdeal.main_arg0) = m ((c.tc : Thread Cert.AddGroupRefIdeal.nD Cert.AddGroupRefIdeal.τ).loc Cert.AddGroupRefIdeal.main_arg0)
      ∧ r.2.mem ((c.tc : Thread Cert.AddGroupRefIdeal.nD Cert.AddGroupRefIdeal.τ).loc Cert.AddGroupRefIdeal.main_arg1) = m ((c.tc : Thread Cert.AddGroupRefIdeal.nD Cert.AddGroupRefIdeal.τ).loc Cert.AddGroupRefIdeal.main_arg1)
      ∧ r.2.mem ((c.tc : Thread Cert.AddGroupRefIdeal.nD Cert.AddGroupRefIdeal.τ).loc Cert.AddGroupRefIdeal.main_arg2) = m ((c.tc : Thread Cert.AddGroupRefIdeal.nD Cert.AddGroupRefIdeal.τ).loc Cert.AddGroupRefIdeal.main_arg2))
      ∧ r.2.sem = fun _ => 0)

def quiescent_AddGroupRefIdeal_pre_core_number_group [hAddGroupRefIdeal : Cert.AddGroupRefIdeal.Facts] [hPre_core_number_group : Cert.Pre_core_number_group.Facts] : Prop :=
  ∀ (m : (ℓ : Loc Cert.AddGroupRefIdeal.nD Cert.AddGroupRefIdeal.τ Cert.AddGroupRefIdeal.sig) → Buf (Elt Ideal) ℓ) (g : Dev Cert.AddGroupRefIdeal.nD → PrngReg), Pre_AddGroupRefIdeal_core_number_group m →
    θ_run (Cert.AddGroupRefIdeal.defs (F := Ideal)) (onTc (τ := Cert.AddGroupRefIdeal.τ) (Cert.AddGroupRefIdeal.main (F := Ideal))) ⟨m, fun _ => 0, g⟩ (fun r => (∀ c : Dev Cert.AddGroupRefIdeal.nD,
      r.2.mem ((c.tc : Thread Cert.AddGroupRefIdeal.nD Cert.AddGroupRefIdeal.τ).loc Cert.AddGroupRefIdeal.main_arg0) = m ((c.tc : Thread Cert.AddGroupRefIdeal.nD Cert.AddGroupRefIdeal.τ).loc Cert.AddGroupRefIdeal.main_arg0)
      ∧ r.2.mem ((c.tc : Thread Cert.AddGroupRefIdeal.nD Cert.AddGroupRefIdeal.τ).loc Cert.AddGroupRefIdeal.main_arg1) = m ((c.tc : Thread Cert.AddGroupRefIdeal.nD Cert.AddGroupRefIdeal.τ).loc Cert.AddGroupRefIdeal.main_arg1)
      ∧ r.2.mem ((c.tc : Thread Cert.AddGroupRefIdeal.nD Cert.AddGroupRefIdeal.τ).loc Cert.AddGroupRefIdeal.main_arg2) = m ((c.tc : Thread Cert.AddGroupRefIdeal.nD Cert.AddGroupRefIdeal.τ).loc Cert.AddGroupRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDx_UpDxIdeal : Prop :=
  True

def algebraic_UpDxIdeal_UpDxRefIdeal_pre_finite_up_dx [hUpDxIdeal : Cert.UpDxIdeal.Facts] [hUpDxRefIdeal : Cert.UpDxRefIdeal.Facts] [hPre_finite_up_dx : Cert.Pre_finite_up_dx.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_finite_up_dx m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)
      ∧ m' ((c.tc : Thread Cert.UpDxRefIdeal.nD Cert.UpDxRefIdeal.τ).loc Cert.UpDxRefIdeal.main_arg5) = m ((c.tc : Thread Cert.UpDxIdeal.nD Cert.UpDxIdeal.τ).loc Cert.UpDxIdeal.main_arg5)) →
    ∃ (v0 : (c : Dev Cert.UpDxIdeal.nD) → Buf (Elt Ideal) ((c.tc : Thread Cert.UpDxIdeal.nD Cert.UpDxIdeal.τ).loc Cert.UpDxIdeal.main_v18_0)) (v1 : (c : Dev Cert.UpDxIdeal.nD) → Buf (Elt Ideal) ((c.tc : Thread Cert.UpDxIdeal.nD Cert.UpDxIdeal.τ).loc Cert.UpDxIdeal.main_v18_1)) (v2 : (c : Dev Cert.UpDxIdeal.nD) → Buf (Elt Ideal) ((c.tc : Thread Cert.UpDxIdeal.nD Cert.UpDxIdeal.τ).loc Cert.UpDxIdeal.main_v18_2)) (v3 : (c : Dev Cert.UpDxIdeal.nD) → Buf (Elt Ideal) ((c.tc : Thread Cert.UpDxIdeal.nD Cert.UpDxIdeal.τ).loc Cert.UpDxIdeal.main_v18_3)) (v4 : (c : Dev Cert.UpDxIdeal.nD) → Buf (Elt Ideal) ((c.tc : Thread Cert.UpDxIdeal.nD Cert.UpDxIdeal.τ).loc Cert.UpDxIdeal.main_v18_4)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v18_0) = v0 c
          ∧ r.2.mem ((c.tc : Thread Cert.UpDxIdeal.nD Cert.UpDxIdeal.τ).loc Cert.UpDxIdeal.main_v18_1) = v1 c
          ∧ r.2.mem ((c.tc : Thread Cert.UpDxIdeal.nD Cert.UpDxIdeal.τ).loc Cert.UpDxIdeal.main_v18_2) = v2 c
          ∧ r.2.mem ((c.tc : Thread Cert.UpDxIdeal.nD Cert.UpDxIdeal.τ).loc Cert.UpDxIdeal.main_v18_3) = v3 c
          ∧ r.2.mem ((c.tc : Thread Cert.UpDxIdeal.nD Cert.UpDxIdeal.τ).loc Cert.UpDxIdeal.main_v18_4) = v4 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
          ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v74) = v0 c
          ∧ r.2.mem ((c.tc : Thread Cert.UpDxRefIdeal.nD Cert.UpDxRefIdeal.τ).loc Cert.UpDxRefIdeal.main_v48) = v1 c
          ∧ r.2.mem ((c.tc : Thread Cert.UpDxRefIdeal.nD Cert.UpDxRefIdeal.τ).loc Cert.UpDxRefIdeal.main_v45) = v2 c
          ∧ r.2.mem ((c.tc : Thread Cert.UpDxRefIdeal.nD Cert.UpDxRefIdeal.τ).loc Cert.UpDxRefIdeal.main_v76) = v3 c
          ∧ r.2.mem ((c.tc : Thread Cert.UpDxRefIdeal.nD Cert.UpDxRefIdeal.τ).loc Cert.UpDxRefIdeal.main_v77) = v4 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4)
          ∧ r.2.mem ((c.tc : Thread Cert.UpDxRefIdeal.nD Cert.UpDxRefIdeal.τ).loc Cert.UpDxRefIdeal.main_arg5) = m' ((c.tc : Thread Cert.UpDxRefIdeal.nD Cert.UpDxRefIdeal.τ).loc Cert.UpDxRefIdeal.main_arg5))

def preserves_InDx_InDxIdeal : Prop :=
  True

def algebraic_InDxIdeal_InDxRefIdeal_pre_finite_in_dx [hInDxIdeal : Cert.InDxIdeal.Facts] [hInDxRefIdeal : Cert.InDxRefIdeal.Facts] [hPre_finite_in_dx : Cert.Pre_finite_in_dx.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in_dx m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v18_0)) (v1 : (c : Dev Cert.InDxIdeal.nD) → Buf (Elt Ideal) ((c.tc : Thread Cert.InDxIdeal.nD Cert.InDxIdeal.τ).loc Cert.InDxIdeal.main_v18_1)) (v2 : (c : Dev Cert.InDxIdeal.nD) → Buf (Elt Ideal) ((c.tc : Thread Cert.InDxIdeal.nD Cert.InDxIdeal.τ).loc Cert.InDxIdeal.main_v18_2)) (v3 : (c : Dev Cert.InDxIdeal.nD) → Buf (Elt Ideal) ((c.tc : Thread Cert.InDxIdeal.nD Cert.InDxIdeal.τ).loc Cert.InDxIdeal.main_v18_3)) (v4 : (c : Dev Cert.InDxIdeal.nD) → Buf (Elt Ideal) ((c.tc : Thread Cert.InDxIdeal.nD Cert.InDxIdeal.τ).loc Cert.InDxIdeal.main_v18_4)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v18_0) = v0 c
          ∧ r.2.mem ((c.tc : Thread Cert.InDxIdeal.nD Cert.InDxIdeal.τ).loc Cert.InDxIdeal.main_v18_1) = v1 c
          ∧ r.2.mem ((c.tc : Thread Cert.InDxIdeal.nD Cert.InDxIdeal.τ).loc Cert.InDxIdeal.main_v18_2) = v2 c
          ∧ r.2.mem ((c.tc : Thread Cert.InDxIdeal.nD Cert.InDxIdeal.τ).loc Cert.InDxIdeal.main_v18_3) = v3 c
          ∧ r.2.mem ((c.tc : Thread Cert.InDxIdeal.nD Cert.InDxIdeal.τ).loc Cert.InDxIdeal.main_v18_4) = v4 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v69) = v0 c
          ∧ r.2.mem ((c.tc : Thread Cert.InDxRefIdeal.nD Cert.InDxRefIdeal.τ).loc Cert.InDxRefIdeal.main_v43) = v1 c
          ∧ r.2.mem ((c.tc : Thread Cert.InDxRefIdeal.nD Cert.InDxRefIdeal.τ).loc Cert.InDxRefIdeal.main_v40) = v2 c
          ∧ r.2.mem ((c.tc : Thread Cert.InDxRefIdeal.nD Cert.InDxRefIdeal.τ).loc Cert.InDxRefIdeal.main_v71) = v3 c
          ∧ r.2.mem ((c.tc : Thread Cert.InDxRefIdeal.nD Cert.InDxRefIdeal.τ).loc Cert.InDxRefIdeal.main_v72) = v4 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v18_0)) (v1 : (c : Dev Cert.LossIdeal.nD) → Buf (Elt Ideal) ((c.tc : Thread Cert.LossIdeal.nD Cert.LossIdeal.τ).loc Cert.LossIdeal.main_v18_1)) (v2 : (c : Dev Cert.LossIdeal.nD) → Buf (Elt Ideal) ((c.tc : Thread Cert.LossIdeal.nD Cert.LossIdeal.τ).loc Cert.LossIdeal.main_v18_2)) (v3 : (c : Dev Cert.LossIdeal.nD) → Buf (Elt Ideal) ((c.tc : Thread Cert.LossIdeal.nD Cert.LossIdeal.τ).loc Cert.LossIdeal.main_v18_3)) (v4 : (c : Dev Cert.LossIdeal.nD) → Buf (Elt Ideal) ((c.tc : Thread Cert.LossIdeal.nD Cert.LossIdeal.τ).loc Cert.LossIdeal.main_v18_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v18_0) = v0 c
          ∧ r.2.mem ((c.tc : Thread Cert.LossIdeal.nD Cert.LossIdeal.τ).loc Cert.LossIdeal.main_v18_1) = v1 c
          ∧ r.2.mem ((c.tc : Thread Cert.LossIdeal.nD Cert.LossIdeal.τ).loc Cert.LossIdeal.main_v18_2) = v2 c
          ∧ r.2.mem ((c.tc : Thread Cert.LossIdeal.nD Cert.LossIdeal.τ).loc Cert.LossIdeal.main_v18_3) = v3 c
          ∧ r.2.mem ((c.tc : Thread Cert.LossIdeal.nD Cert.LossIdeal.τ).loc Cert.LossIdeal.main_v18_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v72) = v0 c
          ∧ r.2.mem ((c.tc : Thread Cert.LossRefIdeal.nD Cert.LossRefIdeal.τ).loc Cert.LossRefIdeal.main_v46) = v1 c
          ∧ r.2.mem ((c.tc : Thread Cert.LossRefIdeal.nD Cert.LossRefIdeal.τ).loc Cert.LossRefIdeal.main_v43) = v2 c
          ∧ r.2.mem ((c.tc : Thread Cert.LossRefIdeal.nD Cert.LossRefIdeal.τ).loc Cert.LossRefIdeal.main_v98) = v3 c
          ∧ r.2.mem ((c.tc : Thread Cert.LossRefIdeal.nD Cert.LossRefIdeal.τ).loc Cert.LossRefIdeal.main_v99) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v7) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v24) = v1 c
          ∧ r.2.mem ((c.tc : Thread Cert.DownRefIdeal.nD Cert.DownRefIdeal.τ).loc Cert.DownRefIdeal.main_v51) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)) (v2 : (c : Dev Cert.LnIdeal.nD) → Buf (Elt Ideal) ((c.tc : Thread Cert.LnIdeal.nD Cert.LnIdeal.τ).loc Cert.LnIdeal.main_v0_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_v0_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v17) = v0 c
          ∧ r.2.mem ((c.tc : Thread Cert.LnRefIdeal.nD Cert.LnRefIdeal.τ).loc Cert.LnRefIdeal.main_v13) = v1 c
          ∧ r.2.mem ((c.tc : Thread Cert.LnRefIdeal.nD Cert.LnRefIdeal.τ).loc Cert.LnRefIdeal.main_v40) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_v26) = v1 c
          ∧ r.2.mem ((c.tc : Thread Cert.OutRefIdeal.nD Cert.OutRefIdeal.τ).loc Cert.OutRefIdeal.main_v53) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v4) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_CvFwd_CvFwdIdeal : Prop :=
  True

def algebraic_CvFwdIdeal_CvFwdRefIdeal_pre_finite_cv_fwd [hCvFwdIdeal : Cert.CvFwdIdeal.Facts] [hCvFwdRefIdeal : Cert.CvFwdRefIdeal.Facts] [hPre_finite_cv_fwd : Cert.Pre_finite_cv_fwd.Facts] : Prop :=
  ∀ (m : (ℓ : Loc Cert.CvFwdIdeal.nD Cert.CvFwdIdeal.τ Cert.CvFwdIdeal.sig) → Buf (Elt Ideal) ℓ) (g : Dev Cert.CvFwdIdeal.nD → PrngReg)
    (m' : (ℓ : Loc Cert.CvFwdRefIdeal.nD Cert.CvFwdRefIdeal.τ Cert.CvFwdRefIdeal.sig) → Buf (Elt Ideal) ℓ) (g' : Dev Cert.CvFwdRefIdeal.nD → PrngReg), Pre_CvFwdIdeal_finite_cv_fwd m →
    (∀ c : Dev Cert.CvFwdIdeal.nD,
      m' ((c.tc : Thread Cert.CvFwdRefIdeal.nD Cert.CvFwdRefIdeal.τ).loc Cert.CvFwdRefIdeal.main_arg0) = m ((c.tc : Thread Cert.CvFwdIdeal.nD Cert.CvFwdIdeal.τ).loc Cert.CvFwdIdeal.main_arg0)
      ∧ m' ((c.tc : Thread Cert.CvFwdRefIdeal.nD Cert.CvFwdRefIdeal.τ).loc Cert.CvFwdRefIdeal.main_arg1) = m ((c.tc : Thread Cert.CvFwdIdeal.nD Cert.CvFwdIdeal.τ).loc Cert.CvFwdIdeal.main_arg1)
      ∧ m' ((c.tc : Thread Cert.CvFwdRefIdeal.nD Cert.CvFwdRefIdeal.τ).loc Cert.CvFwdRefIdeal.main_arg2) = m ((c.tc : Thread Cert.CvFwdIdeal.nD Cert.CvFwdIdeal.τ).loc Cert.CvFwdIdeal.main_arg2)
      ∧ m' ((c.tc : Thread Cert.CvFwdRefIdeal.nD Cert.CvFwdRefIdeal.τ).loc Cert.CvFwdRefIdeal.main_arg3) = m ((c.tc : Thread Cert.CvFwdIdeal.nD Cert.CvFwdIdeal.τ).loc Cert.CvFwdIdeal.main_arg3)
      ∧ m' ((c.tc : Thread Cert.CvFwdRefIdeal.nD Cert.CvFwdRefIdeal.τ).loc Cert.CvFwdRefIdeal.main_arg4) = m ((c.tc : Thread Cert.CvFwdIdeal.nD Cert.CvFwdIdeal.τ).loc Cert.CvFwdIdeal.main_arg4)
      ∧ m' ((c.tc : Thread Cert.CvFwdRefIdeal.nD Cert.CvFwdRefIdeal.τ).loc Cert.CvFwdRefIdeal.main_arg5) = m ((c.tc : Thread Cert.CvFwdIdeal.nD Cert.CvFwdIdeal.τ).loc Cert.CvFwdIdeal.main_arg5)
      ∧ m' ((c.tc : Thread Cert.CvFwdRefIdeal.nD Cert.CvFwdRefIdeal.τ).loc Cert.CvFwdRefIdeal.main_arg6) = m ((c.tc : Thread Cert.CvFwdIdeal.nD Cert.CvFwdIdeal.τ).loc Cert.CvFwdIdeal.main_arg6)) →
    ∃ (v0 : (c : Dev Cert.CvFwdIdeal.nD) → Buf (Elt Ideal) ((c.tc : Thread Cert.CvFwdIdeal.nD Cert.CvFwdIdeal.τ).loc Cert.CvFwdIdeal.main_v11_0)) (v1 : (c : Dev Cert.CvFwdIdeal.nD) → Buf (Elt Ideal) ((c.tc : Thread Cert.CvFwdIdeal.nD Cert.CvFwdIdeal.τ).loc Cert.CvFwdIdeal.main_v11_1)),
      θ_run (Cert.CvFwdIdeal.defs (F := Ideal)) (onTc (τ := Cert.CvFwdIdeal.τ) (Cert.CvFwdIdeal.main (F := Ideal))) ⟨m, fun _ => 0, g⟩ (fun r => ∀ c : Dev Cert.CvFwdIdeal.nD,
          r.2.mem ((c.tc : Thread Cert.CvFwdIdeal.nD Cert.CvFwdIdeal.τ).loc Cert.CvFwdIdeal.main_v11_0) = v0 c
          ∧ r.2.mem ((c.tc : Thread Cert.CvFwdIdeal.nD Cert.CvFwdIdeal.τ).loc Cert.CvFwdIdeal.main_v11_1) = v1 c
          ∧ r.2.mem ((c.tc : Thread Cert.CvFwdIdeal.nD Cert.CvFwdIdeal.τ).loc Cert.CvFwdIdeal.main_arg0) = m ((c.tc : Thread Cert.CvFwdIdeal.nD Cert.CvFwdIdeal.τ).loc Cert.CvFwdIdeal.main_arg0)
          ∧ r.2.mem ((c.tc : Thread Cert.CvFwdIdeal.nD Cert.CvFwdIdeal.τ).loc Cert.CvFwdIdeal.main_arg1) = m ((c.tc : Thread Cert.CvFwdIdeal.nD Cert.CvFwdIdeal.τ).loc Cert.CvFwdIdeal.main_arg1)
          ∧ r.2.mem ((c.tc : Thread Cert.CvFwdIdeal.nD Cert.CvFwdIdeal.τ).loc Cert.CvFwdIdeal.main_arg2) = m ((c.tc : Thread Cert.CvFwdIdeal.nD Cert.CvFwdIdeal.τ).loc Cert.CvFwdIdeal.main_arg2)
          ∧ r.2.mem ((c.tc : Thread Cert.CvFwdIdeal.nD Cert.CvFwdIdeal.τ).loc Cert.CvFwdIdeal.main_arg3) = m ((c.tc : Thread Cert.CvFwdIdeal.nD Cert.CvFwdIdeal.τ).loc Cert.CvFwdIdeal.main_arg3)
          ∧ r.2.mem ((c.tc : Thread Cert.CvFwdIdeal.nD Cert.CvFwdIdeal.τ).loc Cert.CvFwdIdeal.main_arg4) = m ((c.tc : Thread Cert.CvFwdIdeal.nD Cert.CvFwdIdeal.τ).loc Cert.CvFwdIdeal.main_arg4)
          ∧ r.2.mem ((c.tc : Thread Cert.CvFwdIdeal.nD Cert.CvFwdIdeal.τ).loc Cert.CvFwdIdeal.main_arg5) = m ((c.tc : Thread Cert.CvFwdIdeal.nD Cert.CvFwdIdeal.τ).loc Cert.CvFwdIdeal.main_arg5)
          ∧ r.2.mem ((c.tc : Thread Cert.CvFwdIdeal.nD Cert.CvFwdIdeal.τ).loc Cert.CvFwdIdeal.main_arg6) = m ((c.tc : Thread Cert.CvFwdIdeal.nD Cert.CvFwdIdeal.τ).loc Cert.CvFwdIdeal.main_arg6))
      ∧ θ_run (Cert.CvFwdRefIdeal.defs (F := Ideal)) (onTc (τ := Cert.CvFwdRefIdeal.τ) (Cert.CvFwdRefIdeal.main (F := Ideal))) ⟨m', fun _ => 0, g'⟩ (fun r => ∀ c : Dev Cert.CvFwdRefIdeal.nD,
          r.2.mem ((c.tc : Thread Cert.CvFwdRefIdeal.nD Cert.CvFwdRefIdeal.τ).loc Cert.CvFwdRefIdeal.main_v197) = v0 c
          ∧ r.2.mem ((c.tc : Thread Cert.CvFwdRefIdeal.nD Cert.CvFwdRefIdeal.τ).loc Cert.CvFwdRefIdeal.main_v166) = v1 c
          ∧ r.2.mem ((c.tc : Thread Cert.CvFwdRefIdeal.nD Cert.CvFwdRefIdeal.τ).loc Cert.CvFwdRefIdeal.main_arg0) = m' ((c.tc : Thread Cert.CvFwdRefIdeal.nD Cert.CvFwdRefIdeal.τ).loc Cert.CvFwdRefIdeal.main_arg0)
          ∧ r.2.mem ((c.tc : Thread Cert.CvFwdRefIdeal.nD Cert.CvFwdRefIdeal.τ).loc Cert.CvFwdRefIdeal.main_arg1) = m' ((c.tc : Thread Cert.CvFwdRefIdeal.nD Cert.CvFwdRefIdeal.τ).loc Cert.CvFwdRefIdeal.main_arg1)
          ∧ r.2.mem ((c.tc : Thread Cert.CvFwdRefIdeal.nD Cert.CvFwdRefIdeal.τ).loc Cert.CvFwdRefIdeal.main_arg2) = m' ((c.tc : Thread Cert.CvFwdRefIdeal.nD Cert.CvFwdRefIdeal.τ).loc Cert.CvFwdRefIdeal.main_arg2)
          ∧ r.2.mem ((c.tc : Thread Cert.CvFwdRefIdeal.nD Cert.CvFwdRefIdeal.τ).loc Cert.CvFwdRefIdeal.main_arg3) = m' ((c.tc : Thread Cert.CvFwdRefIdeal.nD Cert.CvFwdRefIdeal.τ).loc Cert.CvFwdRefIdeal.main_arg3)
          ∧ r.2.mem ((c.tc : Thread Cert.CvFwdRefIdeal.nD Cert.CvFwdRefIdeal.τ).loc Cert.CvFwdRefIdeal.main_arg4) = m' ((c.tc : Thread Cert.CvFwdRefIdeal.nD Cert.CvFwdRefIdeal.τ).loc Cert.CvFwdRefIdeal.main_arg4)
          ∧ r.2.mem ((c.tc : Thread Cert.CvFwdRefIdeal.nD Cert.CvFwdRefIdeal.τ).loc Cert.CvFwdRefIdeal.main_arg5) = m' ((c.tc : Thread Cert.CvFwdRefIdeal.nD Cert.CvFwdRefIdeal.τ).loc Cert.CvFwdRefIdeal.main_arg5)
          ∧ r.2.mem ((c.tc : Thread Cert.CvFwdRefIdeal.nD Cert.CvFwdRefIdeal.τ).loc Cert.CvFwdRefIdeal.main_arg6) = m' ((c.tc : Thread Cert.CvFwdRefIdeal.nD Cert.CvFwdRefIdeal.τ).loc Cert.CvFwdRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg1) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg1) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamGroup_AdamGroupIdeal : Prop :=
  True

def algebraic_AdamGroupIdeal_AdamGroupRefIdeal [hAdamGroupIdeal : Cert.AdamGroupIdeal.Facts] [hAdamGroupRefIdeal : Cert.AdamGroupRefIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg)
    (m' : (ℓ : Loc Cert.AdamGroupRefIdeal.nD Cert.AdamGroupRefIdeal.τ Cert.AdamGroupRefIdeal.sig) → Buf (Elt Ideal) ℓ) (g' : Dev Cert.AdamGroupRefIdeal.nD → PrngReg), Pre_AdamGroupIdeal m →
    (∀ c : Dev Cert.AdamGroupIdeal.nD,
      m' ((c.tc : Thread Cert.AdamGroupRefIdeal.nD Cert.AdamGroupRefIdeal.τ).loc Cert.AdamGroupRefIdeal.main_arg0) = m ((c.tc : Thread Cert.AdamGroupIdeal.nD Cert.AdamGroupIdeal.τ).loc Cert.AdamGroupIdeal.main_arg0)
      ∧ m' ((c.tc : Thread Cert.AdamGroupRefIdeal.nD Cert.AdamGroupRefIdeal.τ).loc Cert.AdamGroupRefIdeal.main_arg1) = m ((c.tc : Thread Cert.AdamGroupIdeal.nD Cert.AdamGroupIdeal.τ).loc Cert.AdamGroupIdeal.main_arg1)
      ∧ m' ((c.tc : Thread Cert.AdamGroupRefIdeal.nD Cert.AdamGroupRefIdeal.τ).loc Cert.AdamGroupRefIdeal.main_arg2) = m ((c.tc : Thread Cert.AdamGroupIdeal.nD Cert.AdamGroupIdeal.τ).loc Cert.AdamGroupIdeal.main_arg2)
      ∧ m' ((c.tc : Thread Cert.AdamGroupRefIdeal.nD Cert.AdamGroupRefIdeal.τ).loc Cert.AdamGroupRefIdeal.main_arg3) = m ((c.tc : Thread Cert.AdamGroupIdeal.nD Cert.AdamGroupIdeal.τ).loc Cert.AdamGroupIdeal.main_arg3)) →
    ∃ (v0 : (c : Dev Cert.AdamGroupIdeal.nD) → Buf (Elt Ideal) ((c.tc : Thread Cert.AdamGroupIdeal.nD Cert.AdamGroupIdeal.τ).loc Cert.AdamGroupIdeal.main_v0_0)) (v1 : (c : Dev Cert.AdamGroupIdeal.nD) → Buf (Elt Ideal) ((c.tc : Thread Cert.AdamGroupIdeal.nD Cert.AdamGroupIdeal.τ).loc Cert.AdamGroupIdeal.main_v0_1)) (v2 : (c : Dev Cert.AdamGroupIdeal.nD) → Buf (Elt Ideal) ((c.tc : Thread Cert.AdamGroupIdeal.nD Cert.AdamGroupIdeal.τ).loc Cert.AdamGroupIdeal.main_v0_2)) (v3 : (c : Dev Cert.AdamGroupIdeal.nD) → Buf (Elt Ideal) ((c.tc : Thread Cert.AdamGroupIdeal.nD Cert.AdamGroupIdeal.τ).loc Cert.AdamGroupIdeal.main_v0_3)),
      θ_run (Cert.AdamGroupIdeal.defs (F := Ideal)) (onTc (τ := Cert.AdamGroupIdeal.τ) (Cert.AdamGroupIdeal.main (F := Ideal))) ⟨m, fun _ => 0, g⟩ (fun r => ∀ c : Dev Cert.AdamGroupIdeal.nD,
          r.2.mem ((c.tc : Thread Cert.AdamGroupIdeal.nD Cert.AdamGroupIdeal.τ).loc Cert.AdamGroupIdeal.main_v0_0) = v0 c
          ∧ r.2.mem ((c.tc : Thread Cert.AdamGroupIdeal.nD Cert.AdamGroupIdeal.τ).loc Cert.AdamGroupIdeal.main_v0_1) = v1 c
          ∧ r.2.mem ((c.tc : Thread Cert.AdamGroupIdeal.nD Cert.AdamGroupIdeal.τ).loc Cert.AdamGroupIdeal.main_v0_2) = v2 c
          ∧ r.2.mem ((c.tc : Thread Cert.AdamGroupIdeal.nD Cert.AdamGroupIdeal.τ).loc Cert.AdamGroupIdeal.main_v0_3) = v3 c
          ∧ r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
          ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
          ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
          ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ θ_run (Cert.AdamGroupRefIdeal.defs (F := Ideal)) (onTc (τ := Cert.AdamGroupRefIdeal.τ) (Cert.AdamGroupRefIdeal.main (F := Ideal))) ⟨m', fun _ => 0, g'⟩ (fun r => ∀ c : Dev Cert.AdamGroupRefIdeal.nD,
          r.2.mem ((c.tc : Thread Cert.AdamGroupRefIdeal.nD Cert.AdamGroupRefIdeal.τ).loc Cert.AdamGroupRefIdeal.main_v23) = v0 c
          ∧ r.2.mem ((c.tc : Thread Cert.AdamGroupRefIdeal.nD Cert.AdamGroupRefIdeal.τ).loc Cert.AdamGroupRefIdeal.main_v4) = v1 c
          ∧ r.2.mem ((c.tc : Thread Cert.AdamGroupRefIdeal.nD Cert.AdamGroupRefIdeal.τ).loc Cert.AdamGroupRefIdeal.main_v10) = v2 c
          ∧ r.2.mem ((c.tc : Thread Cert.AdamGroupRefIdeal.nD Cert.AdamGroupRefIdeal.τ).loc Cert.AdamGroupRefIdeal.main_arg1) = v3 c
          ∧ r.2.mem ((c.tc : Thread Cert.AdamGroupRefIdeal.nD Cert.AdamGroupRefIdeal.τ).loc Cert.AdamGroupRefIdeal.main_arg0) = m' ((c.tc : Thread Cert.AdamGroupRefIdeal.nD Cert.AdamGroupRefIdeal.τ).loc Cert.AdamGroupRefIdeal.main_arg0)
          ∧ r.2.mem ((c.tc : Thread Cert.AdamGroupRefIdeal.nD Cert.AdamGroupRefIdeal.τ).loc Cert.AdamGroupRefIdeal.main_arg1) = m' ((c.tc : Thread Cert.AdamGroupRefIdeal.nD Cert.AdamGroupRefIdeal.τ).loc Cert.AdamGroupRefIdeal.main_arg1)
          ∧ r.2.mem ((c.tc : Thread Cert.AdamGroupRefIdeal.nD Cert.AdamGroupRefIdeal.τ).loc Cert.AdamGroupRefIdeal.main_arg2) = m' ((c.tc : Thread Cert.AdamGroupRefIdeal.nD Cert.AdamGroupRefIdeal.τ).loc Cert.AdamGroupRefIdeal.main_arg2)
          ∧ r.2.mem ((c.tc : Thread Cert.AdamGroupRefIdeal.nD Cert.AdamGroupRefIdeal.τ).loc Cert.AdamGroupRefIdeal.main_arg3) = m' ((c.tc : Thread Cert.AdamGroupRefIdeal.nD Cert.AdamGroupRefIdeal.τ).loc Cert.AdamGroupRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg1) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_AddIn_AddInIdeal : Prop :=
  True

def algebraic_AddInIdeal_AddInRefIdeal [hAddInIdeal : Cert.AddInIdeal.Facts] [hAddInRefIdeal : Cert.AddInRefIdeal.Facts] [hPre_core_number_in : Cert.Pre_core_number_in.Facts] : Prop :=
  ∀ (m : (ℓ : Loc Cert.AddInIdeal.nD Cert.AddInIdeal.τ Cert.AddInIdeal.sig) → Buf (Elt Ideal) ℓ) (g : Dev Cert.AddInIdeal.nD → PrngReg)
    (m' : (ℓ : Loc Cert.AddInRefIdeal.nD Cert.AddInRefIdeal.τ Cert.AddInRefIdeal.sig) → Buf (Elt Ideal) ℓ) (g' : Dev Cert.AddInRefIdeal.nD → PrngReg), Pre_AddInIdeal m →
    (∀ c : Dev Cert.AddInIdeal.nD,
      m' ((c.tc : Thread Cert.AddInRefIdeal.nD Cert.AddInRefIdeal.τ).loc Cert.AddInRefIdeal.main_arg0) = m ((c.tc : Thread Cert.AddInIdeal.nD Cert.AddInIdeal.τ).loc Cert.AddInIdeal.main_arg0)
      ∧ m' ((c.tc : Thread Cert.AddInRefIdeal.nD Cert.AddInRefIdeal.τ).loc Cert.AddInRefIdeal.main_arg1) = m ((c.tc : Thread Cert.AddInIdeal.nD Cert.AddInIdeal.τ).loc Cert.AddInIdeal.main_arg1)
      ∧ m' ((c.tc : Thread Cert.AddInRefIdeal.nD Cert.AddInRefIdeal.τ).loc Cert.AddInRefIdeal.main_arg2) = m ((c.tc : Thread Cert.AddInIdeal.nD Cert.AddInIdeal.τ).loc Cert.AddInIdeal.main_arg2)) →
    ∃ (v0 : (c : Dev Cert.AddInIdeal.nD) → Buf (Elt Ideal) ((c.tc : Thread Cert.AddInIdeal.nD Cert.AddInIdeal.τ).loc Cert.AddInIdeal.main_v0)),
      θ_run (Cert.AddInIdeal.defs (F := Ideal)) (onTc (τ := Cert.AddInIdeal.τ) (Cert.AddInIdeal.main (F := Ideal))) ⟨m, fun _ => 0, g⟩ (fun r => ∀ c : Dev Cert.AddInIdeal.nD,
          r.2.mem ((c.tc : Thread Cert.AddInIdeal.nD Cert.AddInIdeal.τ).loc Cert.AddInIdeal.main_v0) = v0 c
          ∧ r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
          ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
          ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ θ_run (Cert.AddInRefIdeal.defs (F := Ideal)) (onTc (τ := Cert.AddInRefIdeal.τ) (Cert.AddInRefIdeal.main (F := Ideal))) ⟨m', fun _ => 0, g'⟩ (fun r => ∀ c : Dev Cert.AddInRefIdeal.nD,
          r.2.mem ((c.tc : Thread Cert.AddInRefIdeal.nD Cert.AddInRefIdeal.τ).loc Cert.AddInRefIdeal.main_v6) = v0 c
          ∧ r.2.mem ((c.tc : Thread Cert.AddInRefIdeal.nD Cert.AddInRefIdeal.τ).loc Cert.AddInRefIdeal.main_arg0) = m' ((c.tc : Thread Cert.AddInRefIdeal.nD Cert.AddInRefIdeal.τ).loc Cert.AddInRefIdeal.main_arg0)
          ∧ r.2.mem ((c.tc : Thread Cert.AddInRefIdeal.nD Cert.AddInRefIdeal.τ).loc Cert.AddInRefIdeal.main_arg1) = m' ((c.tc : Thread Cert.AddInRefIdeal.nD Cert.AddInRefIdeal.τ).loc Cert.AddInRefIdeal.main_arg1)
          ∧ r.2.mem ((c.tc : Thread Cert.AddInRefIdeal.nD Cert.AddInRefIdeal.τ).loc Cert.AddInRefIdeal.main_arg2) = m' ((c.tc : Thread Cert.AddInRefIdeal.nD Cert.AddInRefIdeal.τ).loc Cert.AddInRefIdeal.main_arg2))

def preserves_AddKv_AddKvIdeal : Prop :=
  True

def algebraic_AddKvIdeal_AddKvRefIdeal [hAddKvIdeal : Cert.AddKvIdeal.Facts] [hAddKvRefIdeal : Cert.AddKvRefIdeal.Facts] [hPre_core_number_kv : Cert.Pre_core_number_kv.Facts] : Prop :=
  ∀ (m : (ℓ : Loc Cert.AddKvIdeal.nD Cert.AddKvIdeal.τ Cert.AddKvIdeal.sig) → Buf (Elt Ideal) ℓ) (g : Dev Cert.AddKvIdeal.nD → PrngReg)
    (m' : (ℓ : Loc Cert.AddKvRefIdeal.nD Cert.AddKvRefIdeal.τ Cert.AddKvRefIdeal.sig) → Buf (Elt Ideal) ℓ) (g' : Dev Cert.AddKvRefIdeal.nD → PrngReg), Pre_AddKvIdeal m →
    (∀ c : Dev Cert.AddKvIdeal.nD,
      m' ((c.tc : Thread Cert.AddKvRefIdeal.nD Cert.AddKvRefIdeal.τ).loc Cert.AddKvRefIdeal.main_arg0) = m ((c.tc : Thread Cert.AddKvIdeal.nD Cert.AddKvIdeal.τ).loc Cert.AddKvIdeal.main_arg0)
      ∧ m' ((c.tc : Thread Cert.AddKvRefIdeal.nD Cert.AddKvRefIdeal.τ).loc Cert.AddKvRefIdeal.main_arg1) = m ((c.tc : Thread Cert.AddKvIdeal.nD Cert.AddKvIdeal.τ).loc Cert.AddKvIdeal.main_arg1)
      ∧ m' ((c.tc : Thread Cert.AddKvRefIdeal.nD Cert.AddKvRefIdeal.τ).loc Cert.AddKvRefIdeal.main_arg2) = m ((c.tc : Thread Cert.AddKvIdeal.nD Cert.AddKvIdeal.τ).loc Cert.AddKvIdeal.main_arg2)) →
    ∃ (v0 : (c : Dev Cert.AddKvIdeal.nD) → Buf (Elt Ideal) ((c.tc : Thread Cert.AddKvIdeal.nD Cert.AddKvIdeal.τ).loc Cert.AddKvIdeal.main_v0)),
      θ_run (Cert.AddKvIdeal.defs (F := Ideal)) (onTc (τ := Cert.AddKvIdeal.τ) (Cert.AddKvIdeal.main (F := Ideal))) ⟨m, fun _ => 0, g⟩ (fun r => ∀ c : Dev Cert.AddKvIdeal.nD,
          r.2.mem ((c.tc : Thread Cert.AddKvIdeal.nD Cert.AddKvIdeal.τ).loc Cert.AddKvIdeal.main_v0) = v0 c
          ∧ r.2.mem ((c.tc : Thread Cert.AddKvIdeal.nD Cert.AddKvIdeal.τ).loc Cert.AddKvIdeal.main_arg0) = m ((c.tc : Thread Cert.AddKvIdeal.nD Cert.AddKvIdeal.τ).loc Cert.AddKvIdeal.main_arg0)
          ∧ r.2.mem ((c.tc : Thread Cert.AddKvIdeal.nD Cert.AddKvIdeal.τ).loc Cert.AddKvIdeal.main_arg1) = m ((c.tc : Thread Cert.AddKvIdeal.nD Cert.AddKvIdeal.τ).loc Cert.AddKvIdeal.main_arg1)
          ∧ r.2.mem ((c.tc : Thread Cert.AddKvIdeal.nD Cert.AddKvIdeal.τ).loc Cert.AddKvIdeal.main_arg2) = m ((c.tc : Thread Cert.AddKvIdeal.nD Cert.AddKvIdeal.τ).loc Cert.AddKvIdeal.main_arg2))
      ∧ θ_run (Cert.AddKvRefIdeal.defs (F := Ideal)) (onTc (τ := Cert.AddKvRefIdeal.τ) (Cert.AddKvRefIdeal.main (F := Ideal))) ⟨m', fun _ => 0, g'⟩ (fun r => ∀ c : Dev Cert.AddKvRefIdeal.nD,
          r.2.mem ((c.tc : Thread Cert.AddKvRefIdeal.nD Cert.AddKvRefIdeal.τ).loc Cert.AddKvRefIdeal.main_v6) = v0 c
          ∧ r.2.mem ((c.tc : Thread Cert.AddKvRefIdeal.nD Cert.AddKvRefIdeal.τ).loc Cert.AddKvRefIdeal.main_arg0) = m' ((c.tc : Thread Cert.AddKvRefIdeal.nD Cert.AddKvRefIdeal.τ).loc Cert.AddKvRefIdeal.main_arg0)
          ∧ r.2.mem ((c.tc : Thread Cert.AddKvRefIdeal.nD Cert.AddKvRefIdeal.τ).loc Cert.AddKvRefIdeal.main_arg1) = m' ((c.tc : Thread Cert.AddKvRefIdeal.nD Cert.AddKvRefIdeal.τ).loc Cert.AddKvRefIdeal.main_arg1)
          ∧ r.2.mem ((c.tc : Thread Cert.AddKvRefIdeal.nD Cert.AddKvRefIdeal.τ).loc Cert.AddKvRefIdeal.main_arg2) = m' ((c.tc : Thread Cert.AddKvRefIdeal.nD Cert.AddKvRefIdeal.τ).loc Cert.AddKvRefIdeal.main_arg2))

def preserves_AddOut_AddOutIdeal : Prop :=
  True

def algebraic_AddOutIdeal_AddOutRefIdeal [hAddOutIdeal : Cert.AddOutIdeal.Facts] [hAddOutRefIdeal : Cert.AddOutRefIdeal.Facts] [hPre_core_number_out : Cert.Pre_core_number_out.Facts] : Prop :=
  ∀ (m : (ℓ : Loc Cert.AddOutIdeal.nD Cert.AddOutIdeal.τ Cert.AddOutIdeal.sig) → Buf (Elt Ideal) ℓ) (g : Dev Cert.AddOutIdeal.nD → PrngReg)
    (m' : (ℓ : Loc Cert.AddOutRefIdeal.nD Cert.AddOutRefIdeal.τ Cert.AddOutRefIdeal.sig) → Buf (Elt Ideal) ℓ) (g' : Dev Cert.AddOutRefIdeal.nD → PrngReg), Pre_AddOutIdeal m →
    (∀ c : Dev Cert.AddOutIdeal.nD,
      m' ((c.tc : Thread Cert.AddOutRefIdeal.nD Cert.AddOutRefIdeal.τ).loc Cert.AddOutRefIdeal.main_arg0) = m ((c.tc : Thread Cert.AddOutIdeal.nD Cert.AddOutIdeal.τ).loc Cert.AddOutIdeal.main_arg0)
      ∧ m' ((c.tc : Thread Cert.AddOutRefIdeal.nD Cert.AddOutRefIdeal.τ).loc Cert.AddOutRefIdeal.main_arg1) = m ((c.tc : Thread Cert.AddOutIdeal.nD Cert.AddOutIdeal.τ).loc Cert.AddOutIdeal.main_arg1)
      ∧ m' ((c.tc : Thread Cert.AddOutRefIdeal.nD Cert.AddOutRefIdeal.τ).loc Cert.AddOutRefIdeal.main_arg2) = m ((c.tc : Thread Cert.AddOutIdeal.nD Cert.AddOutIdeal.τ).loc Cert.AddOutIdeal.main_arg2)) →
    ∃ (v0 : (c : Dev Cert.AddOutIdeal.nD) → Buf (Elt Ideal) ((c.tc : Thread Cert.AddOutIdeal.nD Cert.AddOutIdeal.τ).loc Cert.AddOutIdeal.main_v0)),
      θ_run (Cert.AddOutIdeal.defs (F := Ideal)) (onTc (τ := Cert.AddOutIdeal.τ) (Cert.AddOutIdeal.main (F := Ideal))) ⟨m, fun _ => 0, g⟩ (fun r => ∀ c : Dev Cert.AddOutIdeal.nD,
          r.2.mem ((c.tc : Thread Cert.AddOutIdeal.nD Cert.AddOutIdeal.τ).loc Cert.AddOutIdeal.main_v0) = v0 c
          ∧ r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
          ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
          ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ θ_run (Cert.AddOutRefIdeal.defs (F := Ideal)) (onTc (τ := Cert.AddOutRefIdeal.τ) (Cert.AddOutRefIdeal.main (F := Ideal))) ⟨m', fun _ => 0, g'⟩ (fun r => ∀ c : Dev Cert.AddOutRefIdeal.nD,
          r.2.mem ((c.tc : Thread Cert.AddOutRefIdeal.nD Cert.AddOutRefIdeal.τ).loc Cert.AddOutRefIdeal.main_v6) = v0 c
          ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
          ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1)
          ∧ r.2.mem ((c.tc : Thread Cert.AddOutRefIdeal.nD Cert.AddOutRefIdeal.τ).loc Cert.AddOutRefIdeal.main_arg2) = m' ((c.tc : Thread Cert.AddOutRefIdeal.nD Cert.AddOutRefIdeal.τ).loc Cert.AddOutRefIdeal.main_arg2))

def preserves_AddUp_AddUpIdeal : Prop :=
  True

def algebraic_AddUpIdeal_AddUpRefIdeal [hAddUpIdeal : Cert.AddUpIdeal.Facts] [hAddUpRefIdeal : Cert.AddUpRefIdeal.Facts] [hPre_core_number_up : Cert.Pre_core_number_up.Facts] : Prop :=
  ∀ (m : (ℓ : Loc Cert.AddUpIdeal.nD Cert.AddUpIdeal.τ Cert.AddUpIdeal.sig) → Buf (Elt Ideal) ℓ) (g : Dev Cert.AddUpIdeal.nD → PrngReg)
    (m' : (ℓ : Loc Cert.AddUpRefIdeal.nD Cert.AddUpRefIdeal.τ Cert.AddUpRefIdeal.sig) → Buf (Elt Ideal) ℓ) (g' : Dev Cert.AddUpRefIdeal.nD → PrngReg), Pre_AddUpIdeal m →
    (∀ c : Dev Cert.AddUpIdeal.nD,
      m' ((c.tc : Thread Cert.AddUpRefIdeal.nD Cert.AddUpRefIdeal.τ).loc Cert.AddUpRefIdeal.main_arg0) = m ((c.tc : Thread Cert.AddUpIdeal.nD Cert.AddUpIdeal.τ).loc Cert.AddUpIdeal.main_arg0)
      ∧ m' ((c.tc : Thread Cert.AddUpRefIdeal.nD Cert.AddUpRefIdeal.τ).loc Cert.AddUpRefIdeal.main_arg1) = m ((c.tc : Thread Cert.AddUpIdeal.nD Cert.AddUpIdeal.τ).loc Cert.AddUpIdeal.main_arg1)
      ∧ m' ((c.tc : Thread Cert.AddUpRefIdeal.nD Cert.AddUpRefIdeal.τ).loc Cert.AddUpRefIdeal.main_arg2) = m ((c.tc : Thread Cert.AddUpIdeal.nD Cert.AddUpIdeal.τ).loc Cert.AddUpIdeal.main_arg2)) →
    ∃ (v0 : (c : Dev Cert.AddUpIdeal.nD) → Buf (Elt Ideal) ((c.tc : Thread Cert.AddUpIdeal.nD Cert.AddUpIdeal.τ).loc Cert.AddUpIdeal.main_v0)),
      θ_run (Cert.AddUpIdeal.defs (F := Ideal)) (onTc (τ := Cert.AddUpIdeal.τ) (Cert.AddUpIdeal.main (F := Ideal))) ⟨m, fun _ => 0, g⟩ (fun r => ∀ c : Dev Cert.AddUpIdeal.nD,
          r.2.mem ((c.tc : Thread Cert.AddUpIdeal.nD Cert.AddUpIdeal.τ).loc Cert.AddUpIdeal.main_v0) = v0 c
          ∧ r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
          ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
          ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ θ_run (Cert.AddUpRefIdeal.defs (F := Ideal)) (onTc (τ := Cert.AddUpRefIdeal.τ) (Cert.AddUpRefIdeal.main (F := Ideal))) ⟨m', fun _ => 0, g'⟩ (fun r => ∀ c : Dev Cert.AddUpRefIdeal.nD,
          r.2.mem ((c.tc : Thread Cert.AddUpRefIdeal.nD Cert.AddUpRefIdeal.τ).loc Cert.AddUpRefIdeal.main_v6) = v0 c
          ∧ r.2.mem ((c.tc : Thread Cert.AddUpRefIdeal.nD Cert.AddUpRefIdeal.τ).loc Cert.AddUpRefIdeal.main_arg0) = m' ((c.tc : Thread Cert.AddUpRefIdeal.nD Cert.AddUpRefIdeal.τ).loc Cert.AddUpRefIdeal.main_arg0)
          ∧ r.2.mem ((c.tc : Thread Cert.AddUpRefIdeal.nD Cert.AddUpRefIdeal.τ).loc Cert.AddUpRefIdeal.main_arg1) = m' ((c.tc : Thread Cert.AddUpRefIdeal.nD Cert.AddUpRefIdeal.τ).loc Cert.AddUpRefIdeal.main_arg1)
          ∧ r.2.mem ((c.tc : Thread Cert.AddUpRefIdeal.nD Cert.AddUpRefIdeal.τ).loc Cert.AddUpRefIdeal.main_arg2) = m' ((c.tc : Thread Cert.AddUpRefIdeal.nD Cert.AddUpRefIdeal.τ).loc Cert.AddUpRefIdeal.main_arg2))

def preserves_AddDown_AddDownIdeal : Prop :=
  True

def algebraic_AddDownIdeal_AddDownRefIdeal [hAddDownIdeal : Cert.AddDownIdeal.Facts] [hAddDownRefIdeal : Cert.AddDownRefIdeal.Facts] [hPre_core_number_down : Cert.Pre_core_number_down.Facts] : Prop :=
  ∀ (m : (ℓ : Loc Cert.AddDownIdeal.nD Cert.AddDownIdeal.τ Cert.AddDownIdeal.sig) → Buf (Elt Ideal) ℓ) (g : Dev Cert.AddDownIdeal.nD → PrngReg)
    (m' : (ℓ : Loc Cert.AddDownRefIdeal.nD Cert.AddDownRefIdeal.τ Cert.AddDownRefIdeal.sig) → Buf (Elt Ideal) ℓ) (g' : Dev Cert.AddDownRefIdeal.nD → PrngReg), Pre_AddDownIdeal m →
    (∀ c : Dev Cert.AddDownIdeal.nD,
      m' ((c.tc : Thread Cert.AddDownRefIdeal.nD Cert.AddDownRefIdeal.τ).loc Cert.AddDownRefIdeal.main_arg0) = m ((c.tc : Thread Cert.AddDownIdeal.nD Cert.AddDownIdeal.τ).loc Cert.AddDownIdeal.main_arg0)
      ∧ m' ((c.tc : Thread Cert.AddDownRefIdeal.nD Cert.AddDownRefIdeal.τ).loc Cert.AddDownRefIdeal.main_arg1) = m ((c.tc : Thread Cert.AddDownIdeal.nD Cert.AddDownIdeal.τ).loc Cert.AddDownIdeal.main_arg1)
      ∧ m' ((c.tc : Thread Cert.AddDownRefIdeal.nD Cert.AddDownRefIdeal.τ).loc Cert.AddDownRefIdeal.main_arg2) = m ((c.tc : Thread Cert.AddDownIdeal.nD Cert.AddDownIdeal.τ).loc Cert.AddDownIdeal.main_arg2)) →
    ∃ (v0 : (c : Dev Cert.AddDownIdeal.nD) → Buf (Elt Ideal) ((c.tc : Thread Cert.AddDownIdeal.nD Cert.AddDownIdeal.τ).loc Cert.AddDownIdeal.main_v0)),
      θ_run (Cert.AddDownIdeal.defs (F := Ideal)) (onTc (τ := Cert.AddDownIdeal.τ) (Cert.AddDownIdeal.main (F := Ideal))) ⟨m, fun _ => 0, g⟩ (fun r => ∀ c : Dev Cert.AddDownIdeal.nD,
          r.2.mem ((c.tc : Thread Cert.AddDownIdeal.nD Cert.AddDownIdeal.τ).loc Cert.AddDownIdeal.main_v0) = v0 c
          ∧ r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
          ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1)
          ∧ r.2.mem ((c.tc : Thread Cert.AddDownIdeal.nD Cert.AddDownIdeal.τ).loc Cert.AddDownIdeal.main_arg2) = m ((c.tc : Thread Cert.AddDownIdeal.nD Cert.AddDownIdeal.τ).loc Cert.AddDownIdeal.main_arg2))
      ∧ θ_run (Cert.AddDownRefIdeal.defs (F := Ideal)) (onTc (τ := Cert.AddDownRefIdeal.τ) (Cert.AddDownRefIdeal.main (F := Ideal))) ⟨m', fun _ => 0, g'⟩ (fun r => ∀ c : Dev Cert.AddDownRefIdeal.nD,
          r.2.mem ((c.tc : Thread Cert.AddDownRefIdeal.nD Cert.AddDownRefIdeal.τ).loc Cert.AddDownRefIdeal.main_v6) = v0 c
          ∧ r.2.mem ((c.tc : Thread Cert.AddDownRefIdeal.nD Cert.AddDownRefIdeal.τ).loc Cert.AddDownRefIdeal.main_arg0) = m' ((c.tc : Thread Cert.AddDownRefIdeal.nD Cert.AddDownRefIdeal.τ).loc Cert.AddDownRefIdeal.main_arg0)
          ∧ r.2.mem ((c.tc : Thread Cert.AddDownRefIdeal.nD Cert.AddDownRefIdeal.τ).loc Cert.AddDownRefIdeal.main_arg1) = m' ((c.tc : Thread Cert.AddDownRefIdeal.nD Cert.AddDownRefIdeal.τ).loc Cert.AddDownRefIdeal.main_arg1)
          ∧ r.2.mem ((c.tc : Thread Cert.AddDownRefIdeal.nD Cert.AddDownRefIdeal.τ).loc Cert.AddDownRefIdeal.main_arg2) = m' ((c.tc : Thread Cert.AddDownRefIdeal.nD Cert.AddDownRefIdeal.τ).loc Cert.AddDownRefIdeal.main_arg2))

def preserves_AddGroup_AddGroupIdeal : Prop :=
  True

def algebraic_AddGroupIdeal_AddGroupRefIdeal [hAddGroupIdeal : Cert.AddGroupIdeal.Facts] [hAddGroupRefIdeal : Cert.AddGroupRefIdeal.Facts] [hPre_core_number_group : Cert.Pre_core_number_group.Facts] : Prop :=
  ∀ (m : (ℓ : Loc Cert.AddGroupIdeal.nD Cert.AddGroupIdeal.τ Cert.AddGroupIdeal.sig) → Buf (Elt Ideal) ℓ) (g : Dev Cert.AddGroupIdeal.nD → PrngReg)
    (m' : (ℓ : Loc Cert.AddGroupRefIdeal.nD Cert.AddGroupRefIdeal.τ Cert.AddGroupRefIdeal.sig) → Buf (Elt Ideal) ℓ) (g' : Dev Cert.AddGroupRefIdeal.nD → PrngReg), Pre_AddGroupIdeal m →
    (∀ c : Dev Cert.AddGroupIdeal.nD,
      m' ((c.tc : Thread Cert.AddGroupRefIdeal.nD Cert.AddGroupRefIdeal.τ).loc Cert.AddGroupRefIdeal.main_arg0) = m ((c.tc : Thread Cert.AddGroupIdeal.nD Cert.AddGroupIdeal.τ).loc Cert.AddGroupIdeal.main_arg0)
      ∧ m' ((c.tc : Thread Cert.AddGroupRefIdeal.nD Cert.AddGroupRefIdeal.τ).loc Cert.AddGroupRefIdeal.main_arg1) = m ((c.tc : Thread Cert.AddGroupIdeal.nD Cert.AddGroupIdeal.τ).loc Cert.AddGroupIdeal.main_arg1)
      ∧ m' ((c.tc : Thread Cert.AddGroupRefIdeal.nD Cert.AddGroupRefIdeal.τ).loc Cert.AddGroupRefIdeal.main_arg2) = m ((c.tc : Thread Cert.AddGroupIdeal.nD Cert.AddGroupIdeal.τ).loc Cert.AddGroupIdeal.main_arg2)) →
    ∃ (v0 : (c : Dev Cert.AddGroupIdeal.nD) → Buf (Elt Ideal) ((c.tc : Thread Cert.AddGroupIdeal.nD Cert.AddGroupIdeal.τ).loc Cert.AddGroupIdeal.main_v0)),
      θ_run (Cert.AddGroupIdeal.defs (F := Ideal)) (onTc (τ := Cert.AddGroupIdeal.τ) (Cert.AddGroupIdeal.main (F := Ideal))) ⟨m, fun _ => 0, g⟩ (fun r => ∀ c : Dev Cert.AddGroupIdeal.nD,
          r.2.mem ((c.tc : Thread Cert.AddGroupIdeal.nD Cert.AddGroupIdeal.τ).loc Cert.AddGroupIdeal.main_v0) = v0 c
          ∧ r.2.mem ((c.tc : Thread Cert.AddGroupIdeal.nD Cert.AddGroupIdeal.τ).loc Cert.AddGroupIdeal.main_arg0) = m ((c.tc : Thread Cert.AddGroupIdeal.nD Cert.AddGroupIdeal.τ).loc Cert.AddGroupIdeal.main_arg0)
          ∧ r.2.mem ((c.tc : Thread Cert.AddGroupIdeal.nD Cert.AddGroupIdeal.τ).loc Cert.AddGroupIdeal.main_arg1) = m ((c.tc : Thread Cert.AddGroupIdeal.nD Cert.AddGroupIdeal.τ).loc Cert.AddGroupIdeal.main_arg1)
          ∧ r.2.mem ((c.tc : Thread Cert.AddGroupIdeal.nD Cert.AddGroupIdeal.τ).loc Cert.AddGroupIdeal.main_arg2) = m ((c.tc : Thread Cert.AddGroupIdeal.nD Cert.AddGroupIdeal.τ).loc Cert.AddGroupIdeal.main_arg2))
      ∧ θ_run (Cert.AddGroupRefIdeal.defs (F := Ideal)) (onTc (τ := Cert.AddGroupRefIdeal.τ) (Cert.AddGroupRefIdeal.main (F := Ideal))) ⟨m', fun _ => 0, g'⟩ (fun r => ∀ c : Dev Cert.AddGroupRefIdeal.nD,
          r.2.mem ((c.tc : Thread Cert.AddGroupRefIdeal.nD Cert.AddGroupRefIdeal.τ).loc Cert.AddGroupRefIdeal.main_v6) = v0 c
          ∧ r.2.mem ((c.tc : Thread Cert.AddGroupRefIdeal.nD Cert.AddGroupRefIdeal.τ).loc Cert.AddGroupRefIdeal.main_arg0) = m' ((c.tc : Thread Cert.AddGroupRefIdeal.nD Cert.AddGroupRefIdeal.τ).loc Cert.AddGroupRefIdeal.main_arg0)
          ∧ r.2.mem ((c.tc : Thread Cert.AddGroupRefIdeal.nD Cert.AddGroupRefIdeal.τ).loc Cert.AddGroupRefIdeal.main_arg1) = m' ((c.tc : Thread Cert.AddGroupRefIdeal.nD Cert.AddGroupRefIdeal.τ).loc Cert.AddGroupRefIdeal.main_arg1)
          ∧ r.2.mem ((c.tc : Thread Cert.AddGroupRefIdeal.nD Cert.AddGroupRefIdeal.τ).loc Cert.AddGroupRefIdeal.main_arg2) = m' ((c.tc : Thread Cert.AddGroupRefIdeal.nD Cert.AddGroupRefIdeal.τ).loc Cert.AddGroupRefIdeal.main_arg2))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hLoss : Cert.Loss.Facts) (hLossIdeal : Cert.LossIdeal.Facts) (hLossRefIdeal : Cert.LossRefIdeal.Facts) (hUpDw : Cert.UpDw.Facts) (hUpDwIdeal : Cert.UpDwIdeal.Facts) (hUpDwRefIdeal : Cert.UpDwRefIdeal.Facts) (hInDw : Cert.InDw.Facts) (hInDwIdeal : Cert.InDwIdeal.Facts) (hInDwRefIdeal : Cert.InDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hDownDx : Cert.DownDx.Facts) (hDownDxIdeal : Cert.DownDxIdeal.Facts) (hDownDxRefIdeal : Cert.DownDxRefIdeal.Facts) (hOutDx : Cert.OutDx.Facts) (hOutDxIdeal : Cert.OutDxIdeal.Facts) (hOutDxRefIdeal : Cert.OutDxRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hLn : Cert.Ln.Facts) (hLnIdeal : Cert.LnIdeal.Facts) (hLnRefIdeal : Cert.LnRefIdeal.Facts) (hOut : Cert.Out.Facts) (hOutIdeal : Cert.OutIdeal.Facts) (hOutRefIdeal : Cert.OutRefIdeal.Facts) (hAttnFwd : Cert.AttnFwd.Facts) (hAttnFwdIdeal : Cert.AttnFwdIdeal.Facts) (hAttnFwdRefIdeal : Cert.AttnFwdRefIdeal.Facts) (hKv : Cert.Kv.Facts) (hKvIdeal : Cert.KvIdeal.Facts) (hKvRefIdeal : Cert.KvRefIdeal.Facts) (hKvDw : Cert.KvDw.Facts) (hKvDwIdeal : Cert.KvDwIdeal.Facts) (hKvDwRefIdeal : Cert.KvDwRefIdeal.Facts) (hCvFwd : Cert.CvFwd.Facts) (hCvFwdIdeal : Cert.CvFwdIdeal.Facts) (hCvFwdRefIdeal : Cert.CvFwdRefIdeal.Facts) (hAdamIn : Cert.AdamIn.Facts) (hAdamInIdeal : Cert.AdamInIdeal.Facts) (hAdamInRefIdeal : Cert.AdamInRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamGroup : Cert.AdamGroup.Facts) (hAdamGroupIdeal : Cert.AdamGroupIdeal.Facts) (hAdamGroupRefIdeal : Cert.AdamGroupRefIdeal.Facts) (hAdamSmall : Cert.AdamSmall.Facts) (hAdamSmallIdeal : Cert.AdamSmallIdeal.Facts) (hAdamSmallRefIdeal : Cert.AdamSmallRefIdeal.Facts) (hSumDevices : Cert.SumDevices.Facts) (hSumDevicesIdeal : Cert.SumDevicesIdeal.Facts) (hSumDevicesRefIdeal : Cert.SumDevicesRefIdeal.Facts) (hAddIn : Cert.AddIn.Facts) (hAddInIdeal : Cert.AddInIdeal.Facts) (hAddInRefIdeal : Cert.AddInRefIdeal.Facts) (hAddKv : Cert.AddKv.Facts) (hAddKvIdeal : Cert.AddKvIdeal.Facts) (hAddKvRefIdeal : Cert.AddKvRefIdeal.Facts) (hAddOut : Cert.AddOut.Facts) (hAddOutIdeal : Cert.AddOutIdeal.Facts) (hAddOutRefIdeal : Cert.AddOutRefIdeal.Facts) (hAddUp : Cert.AddUp.Facts) (hAddUpIdeal : Cert.AddUpIdeal.Facts) (hAddUpRefIdeal : Cert.AddUpRefIdeal.Facts) (hAddDown : Cert.AddDown.Facts) (hAddDownIdeal : Cert.AddDownIdeal.Facts) (hAddDownRefIdeal : Cert.AddDownRefIdeal.Facts) (hAddGroup : Cert.AddGroup.Facts) (hAddGroupIdeal : Cert.AddGroupIdeal.Facts) (hAddGroupRefIdeal : Cert.AddGroupRefIdeal.Facts) (hPre_finite : Cert.Pre_finite.Facts) (hPre_finite_up_dx : Cert.Pre_finite_up_dx.Facts) (hPre_finite_in_dx : Cert.Pre_finite_in_dx.Facts) (hPre_finite_loss : Cert.Pre_finite_loss.Facts) (hPre_finite_cv_fwd : Cert.Pre_finite_cv_fwd.Facts) (hPre_core_number_in : Cert.Pre_core_number_in.Facts) (hPre_core_number_kv : Cert.Pre_core_number_kv.Facts) (hPre_core_number_out : Cert.Pre_core_number_out.Facts) (hPre_core_number_up : Cert.Pre_core_number_up.Facts) (hPre_core_number_down : Cert.Pre_core_number_down.Facts) (hPre_core_number_group : Cert.Pre_core_number_group.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxIdeal_pre_finite_up_dx (hUpDxIdeal := hUpDxIdeal) (hPre_finite_up_dx := hPre_finite_up_dx)
    ∧ quiescent_UpDxRefIdeal (hUpDxRefIdeal := hUpDxRefIdeal)
    ∧ quiescent_UpDxRefIdeal_pre_finite_up_dx (hUpDxRefIdeal := hUpDxRefIdeal) (hPre_finite_up_dx := hPre_finite_up_dx)
    ∧ quiescent_InDx (hInDx := hInDx)
    ∧ quiescent_InDxIdeal (hInDxIdeal := hInDxIdeal)
    ∧ quiescent_InDxIdeal_pre_finite_in_dx (hInDxIdeal := hInDxIdeal) (hPre_finite_in_dx := hPre_finite_in_dx)
    ∧ quiescent_InDxRefIdeal (hInDxRefIdeal := hInDxRefIdeal)
    ∧ quiescent_InDxRefIdeal_pre_finite_in_dx (hInDxRefIdeal := hInDxRefIdeal) (hPre_finite_in_dx := hPre_finite_in_dx)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ln (hLn := hLn)
    ∧ quiescent_LnIdeal (hLnIdeal := hLnIdeal)
    ∧ quiescent_LnRefIdeal (hLnRefIdeal := hLnRefIdeal)
    ∧ quiescent_Out (hOut := hOut)
    ∧ quiescent_OutIdeal (hOutIdeal := hOutIdeal)
    ∧ quiescent_OutRefIdeal (hOutRefIdeal := hOutRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_Kv (hKv := hKv)
    ∧ quiescent_KvIdeal (hKvIdeal := hKvIdeal)
    ∧ quiescent_KvRefIdeal (hKvRefIdeal := hKvRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_CvFwd (hCvFwd := hCvFwd)
    ∧ quiescent_CvFwdIdeal (hCvFwdIdeal := hCvFwdIdeal)
    ∧ quiescent_CvFwdIdeal_pre_finite_cv_fwd (hCvFwdIdeal := hCvFwdIdeal) (hPre_finite_cv_fwd := hPre_finite_cv_fwd)
    ∧ quiescent_CvFwdRefIdeal (hCvFwdRefIdeal := hCvFwdRefIdeal)
    ∧ quiescent_CvFwdRefIdeal_pre_finite_cv_fwd (hCvFwdRefIdeal := hCvFwdRefIdeal) (hPre_finite_cv_fwd := hPre_finite_cv_fwd)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGroup (hAdamGroup := hAdamGroup)
    ∧ quiescent_AdamGroupIdeal (hAdamGroupIdeal := hAdamGroupIdeal)
    ∧ quiescent_AdamGroupRefIdeal (hAdamGroupRefIdeal := hAdamGroupRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_AddIn (hAddIn := hAddIn) (hPre_core_number_in := hPre_core_number_in)
    ∧ quiescent_AddInIdeal (hAddInIdeal := hAddInIdeal) (hPre_core_number_in := hPre_core_number_in)
    ∧ quiescent_AddInRefIdeal (hAddInRefIdeal := hAddInRefIdeal)
    ∧ quiescent_AddInRefIdeal_pre_core_number_in (hAddInRefIdeal := hAddInRefIdeal) (hPre_core_number_in := hPre_core_number_in)
    ∧ quiescent_AddKv (hAddKv := hAddKv) (hPre_core_number_kv := hPre_core_number_kv)
    ∧ quiescent_AddKvIdeal (hAddKvIdeal := hAddKvIdeal) (hPre_core_number_kv := hPre_core_number_kv)
    ∧ quiescent_AddKvRefIdeal (hAddKvRefIdeal := hAddKvRefIdeal)
    ∧ quiescent_AddKvRefIdeal_pre_core_number_kv (hAddKvRefIdeal := hAddKvRefIdeal) (hPre_core_number_kv := hPre_core_number_kv)
    ∧ quiescent_AddOut (hAddOut := hAddOut) (hPre_core_number_out := hPre_core_number_out)
    ∧ quiescent_AddOutIdeal (hAddOutIdeal := hAddOutIdeal) (hPre_core_number_out := hPre_core_number_out)
    ∧ quiescent_AddOutRefIdeal (hAddOutRefIdeal := hAddOutRefIdeal)
    ∧ quiescent_AddOutRefIdeal_pre_core_number_out (hAddOutRefIdeal := hAddOutRefIdeal) (hPre_core_number_out := hPre_core_number_out)
    ∧ quiescent_AddUp (hAddUp := hAddUp) (hPre_core_number_up := hPre_core_number_up)
    ∧ quiescent_AddUpIdeal (hAddUpIdeal := hAddUpIdeal) (hPre_core_number_up := hPre_core_number_up)
    ∧ quiescent_AddUpRefIdeal (hAddUpRefIdeal := hAddUpRefIdeal)
    ∧ quiescent_AddUpRefIdeal_pre_core_number_up (hAddUpRefIdeal := hAddUpRefIdeal) (hPre_core_number_up := hPre_core_number_up)
    ∧ quiescent_AddDown (hAddDown := hAddDown) (hPre_core_number_down := hPre_core_number_down)
    ∧ quiescent_AddDownIdeal (hAddDownIdeal := hAddDownIdeal) (hPre_core_number_down := hPre_core_number_down)
    ∧ quiescent_AddDownRefIdeal (hAddDownRefIdeal := hAddDownRefIdeal)
    ∧ quiescent_AddDownRefIdeal_pre_core_number_down (hAddDownRefIdeal := hAddDownRefIdeal) (hPre_core_number_down := hPre_core_number_down)
    ∧ quiescent_AddGroup (hAddGroup := hAddGroup) (hPre_core_number_group := hPre_core_number_group)
    ∧ quiescent_AddGroupIdeal (hAddGroupIdeal := hAddGroupIdeal) (hPre_core_number_group := hPre_core_number_group)
    ∧ quiescent_AddGroupRefIdeal (hAddGroupRefIdeal := hAddGroupRefIdeal)
    ∧ quiescent_AddGroupRefIdeal_pre_core_number_group (hAddGroupRefIdeal := hAddGroupRefIdeal) (hPre_core_number_group := hPre_core_number_group)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal_pre_finite_up_dx (hUpDxIdeal := hUpDxIdeal) (hUpDxRefIdeal := hUpDxRefIdeal) (hPre_finite_up_dx := hPre_finite_up_dx)
    ∧ preserves_InDx_InDxIdeal
    ∧ algebraic_InDxIdeal_InDxRefIdeal_pre_finite_in_dx (hInDxIdeal := hInDxIdeal) (hInDxRefIdeal := hInDxRefIdeal) (hPre_finite_in_dx := hPre_finite_in_dx)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_UpDw_UpDwIdeal
    ∧ algebraic_UpDwIdeal_UpDwRefIdeal (hUpDwIdeal := hUpDwIdeal) (hUpDwRefIdeal := hUpDwRefIdeal)
    ∧ preserves_InDw_InDwIdeal
    ∧ algebraic_InDwIdeal_InDwRefIdeal (hInDwIdeal := hInDwIdeal) (hInDwRefIdeal := hInDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_DownDx_DownDxIdeal
    ∧ algebraic_DownDxIdeal_DownDxRefIdeal (hDownDxIdeal := hDownDxIdeal) (hDownDxRefIdeal := hDownDxRefIdeal)
    ∧ preserves_OutDx_OutDxIdeal
    ∧ algebraic_OutDxIdeal_OutDxRefIdeal (hOutDxIdeal := hOutDxIdeal) (hOutDxRefIdeal := hOutDxRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ln_LnIdeal
    ∧ algebraic_LnIdeal_LnRefIdeal (hLnIdeal := hLnIdeal) (hLnRefIdeal := hLnRefIdeal)
    ∧ preserves_Out_OutIdeal
    ∧ algebraic_OutIdeal_OutRefIdeal (hOutIdeal := hOutIdeal) (hOutRefIdeal := hOutRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_Kv_KvIdeal
    ∧ algebraic_KvIdeal_KvRefIdeal (hKvIdeal := hKvIdeal) (hKvRefIdeal := hKvRefIdeal)
    ∧ preserves_KvDw_KvDwIdeal
    ∧ algebraic_KvDwIdeal_KvDwRefIdeal (hKvDwIdeal := hKvDwIdeal) (hKvDwRefIdeal := hKvDwRefIdeal)
    ∧ preserves_CvFwd_CvFwdIdeal
    ∧ algebraic_CvFwdIdeal_CvFwdRefIdeal_pre_finite_cv_fwd (hCvFwdIdeal := hCvFwdIdeal) (hCvFwdRefIdeal := hCvFwdRefIdeal) (hPre_finite_cv_fwd := hPre_finite_cv_fwd)
    ∧ preserves_AdamIn_AdamInIdeal
    ∧ algebraic_AdamInIdeal_AdamInRefIdeal (hAdamInIdeal := hAdamInIdeal) (hAdamInRefIdeal := hAdamInRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGroup_AdamGroupIdeal
    ∧ algebraic_AdamGroupIdeal_AdamGroupRefIdeal (hAdamGroupIdeal := hAdamGroupIdeal) (hAdamGroupRefIdeal := hAdamGroupRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_AddIn_AddInIdeal
    ∧ algebraic_AddInIdeal_AddInRefIdeal (hAddInIdeal := hAddInIdeal) (hAddInRefIdeal := hAddInRefIdeal) (hPre_core_number_in := hPre_core_number_in)
    ∧ preserves_AddKv_AddKvIdeal
    ∧ algebraic_AddKvIdeal_AddKvRefIdeal (hAddKvIdeal := hAddKvIdeal) (hAddKvRefIdeal := hAddKvRefIdeal) (hPre_core_number_kv := hPre_core_number_kv)
    ∧ preserves_AddOut_AddOutIdeal
    ∧ algebraic_AddOutIdeal_AddOutRefIdeal (hAddOutIdeal := hAddOutIdeal) (hAddOutRefIdeal := hAddOutRefIdeal) (hPre_core_number_out := hPre_core_number_out)
    ∧ preserves_AddUp_AddUpIdeal
    ∧ algebraic_AddUpIdeal_AddUpRefIdeal (hAddUpIdeal := hAddUpIdeal) (hAddUpRefIdeal := hAddUpRefIdeal) (hPre_core_number_up := hPre_core_number_up)
    ∧ preserves_AddDown_AddDownIdeal
    ∧ algebraic_AddDownIdeal_AddDownRefIdeal (hAddDownIdeal := hAddDownIdeal) (hAddDownRefIdeal := hAddDownRefIdeal) (hPre_core_number_down := hPre_core_number_down)
    ∧ preserves_AddGroup_AddGroupIdeal
    ∧ algebraic_AddGroupIdeal_AddGroupRefIdeal (hAddGroupIdeal := hAddGroupIdeal) (hAddGroupRefIdeal := hAddGroupRefIdeal) (hPre_core_number_group := hPre_core_number_group)
-- ==== Pre_core_number_down.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x1024 .f32) (main_arg1 : FVec F S4x352x1024 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_number_group.lean ====
abbrev S4x64x256 : Shape := ⟨3, ![4, 64, 256]⟩
abbrev S4x32x256 : Shape := ⟨3, ![4, 32, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x64x256 .f32) (main_arg1 : FVec F S4x32x256 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_number_in.lean ====
abbrev S4x1024x384 : Shape := ⟨3, ![4, 1024, 384]⟩
abbrev S4x512x384 : Shape := ⟨3, ![4, 512, 384]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x384 .f32) (main_arg1 : FVec F S4x512x384 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_number_kv.lean ====
abbrev S4x256x512 : Shape := ⟨3, ![4, 256, 512]⟩
abbrev S4x128x512 : Shape := ⟨3, ![4, 128, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x512 .f32) (main_arg1 : FVec F S4x128x512 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_number_out.lean ====
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x1024 .f32) (main_arg1 : FVec F S4x128x1024 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_number_up.lean ====
abbrev S4x1024x1408 : Shape := ⟨3, ![4, 1024, 1408]⟩
abbrev S4x512x1408 : Shape := ⟨3, ![4, 512, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x1408 .f32) (main_arg1 : FVec F S4x512x1408 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_finite.lean ====
abbrev S8192x1024 : Shape := ⟨2, ![8192, 1024]⟩
abbrev S8192x1536 : Shape := ⟨2, ![8192, 1536]⟩
abbrev S256x512 : Shape := ⟨2, ![256, 512]⟩
abbrev S8192x256 : Shape := ⟨2, ![8192, 256]⟩
abbrev S_ : Shape := ⟨0, ![]⟩
abbrev S256x256 : Shape := ⟨2, ![256, 256]⟩

class Facts : Prop where
  slices_S8192x1536_S8192x256_0_1280 : S8192x1536.Slices ![0, 1280] S8192x256
  bcast_S_S8192x256 : S_.BroadcastsInDim S8192x256 (![] : Fin 0 → Fin S8192x256.rank)
  reducesTo_S8192x256_S_d0_1 : S8192x256.ReducesTo [0, 1] S_
  h_S_ : 0 < S_.numel
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x1024 .f32) (main_arg1 : FVec F S8192x1536 .f32) (main_arg2 : FVec F S256x512 .f32) : IVec S_ 1 :=
  let main_v0 : FVec F S8192x256 .f32 := (extractStridedSlice S8192x256 ![0, 1280] · slices_S8192x1536_S8192x256_0_1280) main_arg1
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S256x256 .f32 := (extractStridedSlice S256x256 ![0, 0] · slices_S256x512_S256x256_0_0) main_arg2
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  main_v10
-- ==== Pre_finite_cv_fwd.lean ====
abbrev S8192x1536 : Shape := ⟨2, ![8192, 1536]⟩
abbrev S31x256 : Shape := ⟨2, ![31, 256]⟩
abbrev S1x256 : Shape := ⟨2, ![1, 256]⟩
abbrev S1x256x256 : Shape := ⟨3, ![1, 256, 256]⟩
abbrev S8192x256 : Shape := ⟨2, ![8192, 256]⟩
abbrev S_ : Shape := ⟨0, ![]⟩

class Facts : Prop where
  slices_S8192x1536_S8192x256_0_256 : S8192x1536.Slices ![0, 256] S8192x256
  bcast_S_S8192x256 : S_.BroadcastsInDim S8192x256 (![] : Fin 0 → Fin S8192x256.rank)
  reducesTo_S8192x256_S_d0_1 : S8192x256.ReducesTo [0, 1] S_
  h_S_ : 0 < S_.numel
  bcast_S_S31x256 : S_.BroadcastsInDim S31x256 (![] : Fin 0 → Fin S31x256.rank)
  reducesTo_S31x256_S_d0_1 : S31x256.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S8192x1536 .f32) (main_arg1 : FVec F S31x256 .f32) (main_arg2 : FVec F S1x256 .f32) (main_arg3 : FVec F S1x256 .f32) (main_arg4 : FVec F S1x256 .f32) (main_arg5 : FVec F S1x256x256 .bf16) (main_arg6 : FVec F S1x256 .f32) : IVec S_ 1 :=
  let main_v0 : FVec F S8192x256 .f32 := (extractStridedSlice S8192x256 ![0, 256] · slices_S8192x1536_S8192x256_0_256) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_c : IVec S_ 1 := constantI S_ 1 1#1
  let main_v4 : IVec S_ 1 := (fun x v => Host.reduce IntOp.andi x v reducesTo_S8192x256_S_d0_1 h_S_) main_v3 main_c
  let main_v5 : FVec F S31x256 .f32 := Host.absf main_arg1
  let main_cst_0 : FVec F S_ .f32 := constant S_ .f32 0x7F800000#32
  let main_v6 : FVec F S31x256 .f32 := broadcastInDim S31x256 ![] bcast_S_S31x256 main_cst_0
  let main_v7 : IVec S31x256 1 := cmpf .olt main_v5 main_v6
  let main_c_1 : IVec S_ 1 := constantI S_ 1 1#1
  let main_v8 : IVec S_ 1 := (fun x v => Host.reduce IntOp.andi x v reducesTo_S31x256_S_d0_1 h_S_) main_v7 main_c_1
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v4 main_v8
  let main_v14 : IVec S_ 1 := andi main_v13 main_v12
  main_v14
-- ==== Pre_finite_in_dx.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1x4x1024x384 : S_.BroadcastsInDim S1x4x1024x384 (![] : Fin 0 → Fin S1x4x1024x384.rank)
  reducesTo_S1x4x1024x384_S_d0_1_2_3 : S1x4x1024x384.ReducesTo [0, 1, 2, 3] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S8192x1536 .bf16) (main_arg1 : FVec F S1x4x1024x384 .bf16) (main_arg2 : FVec F S8192x1024 .f32) (main_arg3 : FVec F S8192x1024 .f32) (main_arg4 : FVec F S1x1024 .f32) (main_arg5 : FVec F S1x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S1x4x1024x384 .f32 := (extf .f32 · bitsLt_bf16_f32) main_arg1
  let main_v6 : FVec F S1x4x1024x384 .f32 := Host.absf main_v5
  let main_cst_0 : FVec F S_ .f32 := constant S_ .f32 0x7F800000#32
  let main_v7 : FVec F S1x4x1024x384 .f32 := broadcastInDim S1x4x1024x384 ![] bcast_S_S1x4x1024x384 main_cst_0
  let main_v8 : IVec S1x4x1024x384 1 := cmpf .olt main_v6 main_v7
  let main_c_1 : IVec S_ 1 := constantI S_ 1 1#1
  let main_v9 : IVec S_ 1 := (fun x v => Host.reduce IntOp.andi x v reducesTo_S1x4x1024x384_S_d0_1_2_3 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg3
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v3 main_v7
  let main_v13 : IVec S_ 1 := andi main_v12 main_v11
  main_v13
-- ==== Pre_finite_up_dx.lean ====
abbrev S2x8192x2816 : Shape := ⟨3, ![2, 8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S1x4x1024x1408 : S_.BroadcastsInDim S1x4x1024x1408 (![] : Fin 0 → Fin S1x4x1024x1408.rank)
  reducesTo_S1x4x1024x1408_S_d0_1_2_3 : S1x4x1024x1408.ReducesTo [0, 1, 2, 3] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S2x8192x2816 .bf16) (main_arg1 : FVec F S1x4x1024x1408 .bf16) (main_arg2 : FVec F S8192x1024 .f32) (main_arg3 : FVec F S8192x1024 .f32) (main_arg4 : FVec F S1x1024 .f32) (main_arg5 : FVec F S1x1024 .f32) : IVec S_ 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_c : IVec S_ 1 := constantI S_ 1 1#1
  let main_v4 : IVec S_ 1 := (fun x v => Host.reduce IntOp.andi x v reducesTo_S2x8192x2816_S_d0_1_2 h_S_) main_v3 main_c
  let main_v5 : FVec F S1x4x1024x1408 .f32 := (extf .f32 · bitsLt_bf16_f32) main_arg1
  let main_v6 : FVec F S1x4x1024x1408 .f32 := Host.absf main_v5
  let main_cst_0 : FVec F S_ .f32 := constant S_ .f32 0x7F800000#32
  let main_v7 : FVec F S1x4x1024x1408 .f32 := broadcastInDim S1x4x1024x1408 ![] bcast_S_S1x4x1024x1408 main_cst_0
  let main_v8 : IVec S1x4x1024x1408 1 := cmpf .olt main_v6 main_v7
  let main_c_1 : IVec S_ 1 := constantI S_ 1 1#1
  let main_v9 : IVec S_ 1 := (fun x v => Host.reduce IntOp.andi x v reducesTo_S1x4x1024x1408_S_d0_1_2_3 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Kernel.lean ====
abbrev S8192x1024 : Shape := ⟨2, ![8192, 1024]⟩
abbrev S8192x1536 : Shape := ⟨2, ![8192, 1536]⟩
abbrev S256x512 : Shape := ⟨2, ![256, 512]⟩
abbrev S8192x256 : Shape := ⟨2, ![8192, 256]⟩
abbrev S1x256 : Shape := ⟨2, ![1, 256]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S256x512, .f32⟩
  | .hbm, ⟨3, _⟩ => ⟨S8192x256, .bf16⟩
  | .hbm, ⟨4, _⟩ => ⟨S1x256, .f32⟩
  | .hbm, ⟨5, _⟩ => ⟨S256x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .f32⟩
  | .local _ .vmem, ⟨5, _⟩ => ⟨S1024x256, .bf16⟩
  | .local _ .vmem, ⟨6, _⟩ => ⟨S1024x256, .bf16⟩
  | .local _ .vmem, ⟨7, _⟩ => ⟨S1x256, .f32⟩
  | .local _ .vmem, ⟨8, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v198 : BitVec 32 := Scalar.extui v0
  let c0_i32_63 : BitVec 32 := 0#32
  let v199 : BitVec 1 := Scalar.cmpi .ne v198 c0_i32_63
  v199

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v200 : BitVec 1 := Scalar.xori v0 v_true
  let v201 : BitVec 32 := Scalar.extui v200
  let c0_i32_64 : BitVec 32 := 0#32
  let v202 : BitVec 1 := Scalar.cmpi .ne v201 c0_i32_64
  v202

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v203 : BitVec 32 := Scalar.extui v0
  let c0_i32_65 : BitVec 32 := 0#32
  let v204 : BitVec 1 := Scalar.cmpi .ne v203 c0_i32_65
  v204

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_66 : BitVec 1 := 1#1
  let v205 : BitVec 1 := Scalar.xori v0 true_66
  let v206 : BitVec 32 := Scalar.extui v205
  let c0_i32_67 : BitVec 32 := 0#32
  let v207 : BitVec 1 := Scalar.cmpi .ne v206 c0_i32_67
  v207

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v208 : BitVec 32 := Scalar.extui v0
  let c0_i32_68 : BitVec 32 := 0#32
  let v209 : BitVec 1 := Scalar.cmpi .ne v208 c0_i32_68
  v209

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_69 : BitVec 1 := 1#1
  let v210 : BitVec 1 := Scalar.xori v0 true_69
  let v211 : BitVec 32 := Scalar.extui v210
  let c0_i32_70 : BitVec 32 := 0#32
  let v212 : BitVec 1 := Scalar.cmpi .ne v211 c0_i32_70
  v212

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S8192x1536 : Shape := ⟨2, ![8192, 1536]⟩
abbrev S256x512 : Shape := ⟨2, ![256, 512]⟩
abbrev S8192x256 : Shape := ⟨2, ![8192, 256]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S256 : Shape := ⟨1, ![256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S256x512, .f32⟩
  | .hbm, ⟨3, _⟩ => ⟨S8192x256, .f32⟩
  | .hbm, ⟨4, _⟩ => ⟨S8192x4x64, .f32⟩
  | .hbm, ⟨5, _⟩ => ⟨S256x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x64x8192, .f32⟩
  | .hbm, ⟨52, _⟩ => ⟨S8192x4x64, .f32⟩
  | .hbm, ⟨53, _⟩ => ⟨S8192x256, .f32⟩
  | .hbm, ⟨54, _⟩ => ⟨S8192x256, .f32⟩
  | .hbm, ⟨55, _⟩ => ⟨S8192x4x64, .f32⟩
  | .hbm, ⟨56, _⟩ => ⟨S4x64x8192, .f32⟩
  | .hbm, ⟨57, _⟩ => ⟨S4x8192x256, .f32⟩
  | .hbm, ⟨58, _⟩ => ⟨S4x64x256, .f32⟩
  | .hbm, ⟨59, _⟩ => ⟨S256x4x64, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x64, .f32⟩
  | .hbm, ⟨78, _⟩ => ⟨S256x4x64, .f32⟩
  | .hbm, ⟨79, _⟩ => ⟨S4x8192x64, .f32⟩
  | .hbm, ⟨80, _⟩ => ⟨S8192x4x64, .f32⟩
  | .hbm, ⟨81, _⟩ => ⟨S256x256, .f32⟩
  | .hbm, ⟨82, _⟩ => ⟨S256x256, .f32⟩
  | .hbm, ⟨83, _⟩ => ⟨S256x512, .f32⟩
  | .hbm, ⟨84, _⟩ => ⟨S8192x256, .f32⟩
  | .hbm, ⟨85, _⟩ => ⟨S8192x256, .bf16⟩
  | .hbm, ⟨86, _⟩ => ⟨S_, .f32⟩
  | .hbm, ⟨87, _⟩ => ⟨S256, .f32⟩
  | .hbm, ⟨88, _⟩ => ⟨S1x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== UpDx.lean ====
abbrev S2x8192x2816 : Shape := ⟨3, ![2, 8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2x512x2816 : Shape := ⟨3, ![2, 512, 2816]⟩
abbrev S512x1024 : Shape := ⟨2, ![512, 1024]⟩
abbrev S512x1 : Shape := ⟨2, ![512, 1]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S1024 : Shape := ⟨1, ![1024]⟩

abbrev nBuf : Space → Nat
  | .hbm => 34
  | .vmem => 17
  | .smem => 0
  | _ => 0

abbrev bufTy : (tb : Table) → Fin (tcTables nBuf tb) → BufTy
  | .hbm, ⟨0, _⟩ => ⟨S2x8192x2816, .bf16⟩
  | .hbm, ⟨1, _⟩ => ⟨S1x4x1024x1408, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8192x1024, .bf16⟩
  | .local _ .vmem, ⟨0, _⟩ => ⟨S2x512x2816, .bf16⟩
  | .local _ .vmem, ⟨1, _⟩ => ⟨S2x512x2816, .bf16⟩
  | .local _ .vmem, ⟨2, _⟩ => ⟨S1x4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v57 : BitVec 32 := Scalar.extui v27
  let c0_i32_44 : BitVec 32 := 0#32
  let v58 : BitVec 1 := Scalar.cmpi .ne v57 c0_i32_44
  v58

def k0_cond2 (i : grid0.Coords) : BitVec 1 :=
  let arg0 : BitVec 32 := BitVec.ofNat 32 (i 0).val
  let c0_i32 : BitVec 32 := 0#32
  let v27 : BitVec 1 := Scalar.cmpi .eq arg0 c0_i32
  let v_true : BitVec 1 := 1#1
  let v59 : BitVec 1 := Scalar.xori v27 v_true
  let v60 : BitVec 32 := Scalar.extui v59
  let c0_i32_45 : BitVec 32 := 0#32
  let v61 : BitVec 1 := Scalar.cmpi .ne v60 c0_i32_45
  v61

def k0_cond3 (i : grid0.Coords) : BitVec 1 :=
  let arg0 : BitVec 32 := BitVec.ofNat 32 (i 0).val
  let c0_i32 : BitVec 32 := 0#32
  let v27 : BitVec 1 := Scalar.cmpi .eq arg0 c0_i32
  let v64 : BitVec 32 := Scalar.extui v27
  let c0_i32_47 : BitVec 32 := 0#32
  let v65 : BitVec 1 := Scalar.cmpi .ne v64 c0_i32_47
  v65

def k0_cond4 (i : grid0.Coords) : BitVec 1 :=
  let arg0 : BitVec 32 := BitVec.ofNat 32 (i 0).val
  let c0_i32 : BitVec 32 := 0#32
  let v27 : BitVec 1 := Scalar.cmpi .eq arg0 c0_i32
  let true_48 : BitVec 1 := 1#1
  let v66 : BitVec 1 := Scalar.xori v27 true_48
  let v67 : BitVec 32 := Scalar.extui v66
  let c0_i32_49 : BitVec 32 := 0#32
  let v68 : BitVec 1 := Scalar.cmpi .ne v67 c0_i32_49
  v68

def k0_cond5 (i : grid0.Coords) : BitVec 1 :=
  let arg0 : BitVec 32 := BitVec.ofNat 32 (i 0).val
  let c0_i32 : BitVec 32 := 0#32
  let v27 : BitVec 1 := Scalar.cmpi .eq arg0 c0_i32
  let v71 : BitVec 32 := Scalar.extui v27
  let c0_i32_51 : BitVec 32 := 0#32
  let v72 : BitVec 1 := Scalar.cmpi .ne v71 c0_i32_51
  v72

def k0_cond6 (i : grid0.Coords) : BitVec 1 :=
  let arg0 : BitVec 32 := BitVec.ofNat 32 (i 0).val
  let c0_i32 : BitVec 32 := 0#32
  let v27 : BitVec 1 := Scalar.cmpi .eq arg0 c0_i32
  let true_52 : BitVec 1 := 1#1
  let v73 : BitVec 1 := Scalar.xori v27 true_52
  let v74 : BitVec 32 := Scalar.extui v73
  let c0_i32_53 : BitVec 32 := 0#32
  let v75 : BitVec 1 := Scalar.cmpi .ne v74 c0_i32_53
  v75

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== UpDxRefIdeal.lean ====
abbrev S2x8192x2816 : Shape := ⟨3, ![2, 8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S1x8192x2816 : Shape := ⟨3, ![1, 8192, 2816]⟩
abbrev S8192x2816 : Shape := ⟨2, ![8192, 2816]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1x4x1024x1408, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S4x1024x1408, .bf16⟩
  | .hbm, ⟨41, _⟩ => ⟨S4x1024x1408, .f32⟩
  | .hbm, ⟨42, _⟩ => ⟨S1024x4x1408, .f32⟩
  | .hbm, ⟨43, _⟩ => ⟨S1024x5632, .f32⟩
  | .hbm, ⟨44, _⟩ => ⟨S8192x5632, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1x8192x2816, .bf16⟩
  | .hbm, ⟨49, _⟩ => ⟨S8192x2816, .bf16⟩
  | .hbm, ⟨50, _⟩ => ⟨S1x8192x2816, .bf16⟩
  | .hbm, ⟨51, _⟩ => ⟨S8192x2816, .bf16⟩
  | .hbm, ⟨52, _⟩ => ⟨S8192x5632, .bf16⟩
  | .hbm, ⟨53, _⟩ => ⟨S8192x5632, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== InDx.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1536 : Shape := ⟨2, ![512, 1536]⟩
abbrev S512x1024 : Shape := ⟨2, ![512, 1024]⟩
abbrev S512x1 : Shape := ⟨2, ![512, 1]⟩
abbrev S512x384 : Shape := ⟨2, ![512, 384]⟩
abbrev S1x1x1024x384 : Shape := ⟨4, ![1, 1, 1024, 384]⟩
abbrev S1024x384 : Shape := ⟨2, ![1024, 384]⟩
abbrev S512 : Shape := ⟨1, ![512]⟩
abbrev S1024 : Shape := ⟨1, ![1024]⟩

abbrev nBuf : Space → Nat
  | .hbm => 34
  | .vmem => 17
  | .smem => 0
  | _ => 0

abbrev bufTy : (tb : Table) → Fin (tcTables nBuf tb) → BufTy
  | .hbm, ⟨0, _⟩ => ⟨S8192x1536, .bf16⟩
  | .hbm, ⟨1, _⟩ => ⟨S1x4x1024x384, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S1x4x1024x384, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v53 : BitVec 32 := Scalar.extui v23
  let c0_i32_38 : BitVec 32 := 0#32
  let v54 : BitVec 1 := Scalar.cmpi .ne v53 c0_i32_38
  v54

def k0_cond2 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v55 : BitVec 1 := Scalar.xori v23 v_true
  let v56 : BitVec 32 := Scalar.extui v55
  let c0_i32_39 : BitVec 32 := 0#32
  let v57 : BitVec 1 := Scalar.cmpi .ne v56 c0_i32_39
  v57

def k0_cond3 (i : grid0.Coords) : BitVec 1 :=
  let arg0 : BitVec 32 := BitVec.ofNat 32 (i 0).val
  let c0_i32 : BitVec 32 := 0#32
  let v23 : BitVec 1 := Scalar.cmpi .eq arg0 c0_i32
  let v60 : BitVec 32 := Scalar.extui v23
  let c0_i32_41 : BitVec 32 := 0#32
  let v61 : BitVec 1 := Scalar.cmpi .ne v60 c0_i32_41
  v61

def k0_cond4 (i : grid0.Coords) : BitVec 1 :=
  let arg0 : BitVec 32 := BitVec.ofNat 32 (i 0).val
  let c0_i32 : BitVec 32 := 0#32
  let v23 : BitVec 1 := Scalar.cmpi .eq arg0 c0_i32
  let true_42 : BitVec 1 := 1#1
  let v62 : BitVec 1 := Scalar.xori v23 true_42
  let v63 : BitVec 32 := Scalar.extui v62
  let c0_i32_43 : BitVec 32 := 0#32
  let v64 : BitVec 1 := Scalar.cmpi .ne v63 c0_i32_43
  v64

def k0_cond5 (i : grid0.Coords) : BitVec 1 :=
  let arg0 : BitVec 32 := BitVec.ofNat 32 (i 0).val
  let c0_i32 : BitVec 32 := 0#32
  let v23 : BitVec 1 := Scalar.cmpi .eq arg0 c0_i32
  let v67 : BitVec 32 := Scalar.extui v23
  let c0_i32_45 : BitVec 32 := 0#32
  let v68 : BitVec 1 := Scalar.cmpi .ne v67 c0_i32_45
  v68

def k0_cond6 (i : grid0.Coords) : BitVec 1 :=
  let arg0 : BitVec 32 := BitVec.ofNat 32 (i 0).val
  let c0_i32 : BitVec 32 := 0#32
  let v23 : BitVec 1 := Scalar.cmpi .eq arg0 c0_i32
  let true_46 : BitVec 1 := 1#1
  let v69 : BitVec 1 := Scalar.xori v23 true_46
  let v70 : BitVec 32 := Scalar.extui v69
  let c0_i32_47 : BitVec 32 := 0#32
  let v71 : BitVec 1 := Scalar.cmpi .ne v70 c0_i32_47
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InDxRefIdeal.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x1024x384 : Shape := ⟨3, ![4, 1024, 384]⟩
abbrev S1024x4x384 : Shape := ⟨3, ![1024, 4, 384]⟩
abbrev S1024x1536 : Shape := ⟨2, ![1024, 1536]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1x4x1024x384, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S4x1024x384, .bf16⟩
  | .hbm, ⟨41, _⟩ => ⟨S4x1024x384, .f32⟩
  | .hbm, ⟨42, _⟩ => ⟨S1024x4x384, .f32⟩
  | .hbm, ⟨43, _⟩ => ⟨S1024x1536, .f32⟩
  | .hbm, ⟨44, _⟩ => ⟨S8192x1536, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1536, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 32
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v40 : BitVec 32 := Scalar.extui v0
  let c0_i32_20 : BitVec 32 := 0#32
  let v41 : BitVec 1 := Scalar.cmpi .ne v40 c0_i32_20
  v41

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v42 : BitVec 1 := Scalar.xori v0 v_true
  let v43 : BitVec 32 := Scalar.extui v42
  let c0_i32_21 : BitVec 32 := 0#32
  let v44 : BitVec 1 := Scalar.cmpi .ne v43 c0_i32_21
  v44

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_23 : BitVec 32 := 0#32
  let v48 : BitVec 1 := Scalar.cmpi .ne v47 c0_i32_23
  v48

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_24 : BitVec 1 := 1#1
  let v49 : BitVec 1 := Scalar.xori v0 true_24
  let v50 : BitVec 32 := Scalar.extui v49
  let c0_i32_25 : BitVec 32 := 0#32
  let v51 : BitVec 1 := Scalar.cmpi .ne v50 c0_i32_25
  v51

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v55 : BitVec 32 := Scalar.extui v0
  let c0_i32_27 : BitVec 32 := 0#32
  let v56 : BitVec 1 := Scalar.cmpi .ne v55 c0_i32_27
  v56

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v57 : BitVec 1 := Scalar.xori v0 true_28
  let v58 : BitVec 32 := Scalar.extui v57
  let c0_i32_29 : BitVec 32 := 0#32
  let v59 : BitVec 1 := Scalar.cmpi .ne v58 c0_i32_29
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S_, .f32⟩
  | 46 => ⟨S8192, .f32⟩
  | 47 => ⟨S8192, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S8192, .f32⟩
  | 56 => ⟨S_, .f32⟩
  | 57 => ⟨S8192, .f32⟩
  | 58 => ⟨S8192, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S_, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S_, .f32⟩
  | 72 => ⟨S8192, .f32⟩
  | 73 => ⟨S8192x1, .f32⟩
  | 74 => ⟨S8192x1024, .f32⟩
  | 75 => ⟨S8192x1024, .f32⟩
  | 76 => ⟨S8192x1, .f32⟩
  | 77 => ⟨S8192x1024, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S_, .f32⟩
  | 119 => ⟨S8192x1, .f32⟩
  | 120 => ⟨S8192x1, .f32⟩
  | 121 => ⟨S8192x1, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_25 : Ref sig .tc := ⟨.hbm, 110, rfl⟩
abbrev main_v80 : Ref sig .tc := ⟨.hbm, 111, rfl⟩
abbrev main_v81 : Ref sig .tc := ⟨.hbm, 112, rfl⟩
abbrev main_cst_26 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_27 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_28 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]
-- ==== UpDw.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S1024x5632, .f32⟩
  | .hbm, ⟨10, _⟩ => ⟨S8192x1024, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InDw.lean ====
abbrev S8192x1024 : Shape := ⟨2, ![8192, 1024]⟩
abbrev S8192x1536 : Shape := ⟨2, ![8192, 1536]⟩
abbrev S4x1024x384 : Shape := ⟨3, ![4, 1024, 384]⟩
abbrev S2048x1024 : Shape := ⟨2, ![2048, 1024]⟩
abbrev S2048x384 : Shape := ⟨2, ![2048, 384]⟩
abbrev S1x1024x384 : Shape := ⟨3, ![1, 1024, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S4x1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .f32⟩
  | .local _ .vmem, ⟨5, _⟩ => ⟨S1x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1536, .f32⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S8192x1024 : Shape := ⟨2, ![8192, 1024]⟩
abbrev S1x1x2816x1024 : Shape := ⟨4, ![1, 1, 2816, 1024]⟩
abbrev S8192x2816 : Shape := ⟨2, ![8192, 2816]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1x2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1x1x2816x1024, .bf16⟩
  | .local _ .vmem, ⟨3, _⟩ => ⟨S512x2816, .f32⟩
  | .local _ .vmem, ⟨4, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDxRefIdeal.lean ====
abbrev S8192x1024 : Shape := ⟨2, ![8192, 1024]⟩
abbrev S1x1x2816x1024 : Shape := ⟨4, ![1, 1, 2816, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1x2816x1024, .bf16⟩
  | .hbm, ⟨2, _⟩ => ⟨S8192x1024, .f32⟩
  | .hbm, ⟨3, _⟩ => ⟨S2816x1024, .bf16⟩
  | .hbm, ⟨4, _⟩ => ⟨S_, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S8192x1024 : Shape := ⟨2, ![8192, 1024]⟩
abbrev S1x1x1024x1024 : Shape := ⟨4, ![1, 1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDxRefIdeal.lean ====
abbrev S8192x1024 : Shape := ⟨2, ![8192, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1x1024x1024, .bf16⟩
  | .hbm, ⟨2, _⟩ => ⟨S8192x1024, .f32⟩
  | .hbm, ⟨3, _⟩ => ⟨S1024x1024, .bf16⟩
  | .hbm, ⟨4, _⟩ => ⟨S_, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S8192x1024 : Shape := ⟨2, ![8192, 1024]⟩
abbrev S1x4x1024x384 : Shape := ⟨4, ![1, 4, 1024, 384]⟩
abbrev S1x1536 : Shape := ⟨2, ![1, 1536]⟩
abbrev S8192x1536 : Shape := ⟨2, ![8192, 1536]⟩
abbrev S2048x1024 : Shape := ⟨2, ![2048, 1024]⟩
abbrev S1x1x1024x384 : Shape := ⟨4, ![1, 1, 1024, 384]⟩
abbrev S1x384 : Shape := ⟨2, ![1, 384]⟩
abbrev S2048x384 : Shape := ⟨2, ![2048, 384]⟩
abbrev S1024x384 : Shape := ⟨2, ![1024, 384]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x384, .bf16⟩
  | .hbm, ⟨2, _⟩ => ⟨S1x1536, .f32⟩
  | .hbm, ⟨3, _⟩ => ⟨S8192x1536, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1x384, .f32⟩
  | .local _ .vmem, ⟨5, _⟩ => ⟨S1x384, .f32⟩
  | .local _ .vmem, ⟨6, _⟩ => ⟨S2048x384, .f32⟩
  | .local _ .vmem, ⟨7, _⟩ => ⟨S2048x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S8192x1024 : Shape := ⟨2, ![8192, 1024]⟩
abbrev S1x4x1024x384 : Shape := ⟨4, ![1, 4, 1024, 384]⟩
abbrev S1x1536 : Shape := ⟨2, ![1, 1536]⟩
abbrev S4x1024x384 : Shape := ⟨3, ![4, 1024, 384]⟩
abbrev S1024x4x384 : Shape := ⟨3, ![1024, 4, 384]⟩
abbrev S1024x1536 : Shape := ⟨2, ![1024, 1536]⟩
abbrev S8192x1536 : Shape := ⟨2, ![8192, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x384, .bf16⟩
  | .hbm, ⟨2, _⟩ => ⟨S1x1536, .f32⟩
  | .hbm, ⟨3, _⟩ => ⟨S8192x1024, .f32⟩
  | .hbm, ⟨4, _⟩ => ⟨S4x1024x384, .bf16⟩
  | .hbm, ⟨5, _⟩ => ⟨S4x1024x384, .f32⟩
  | .hbm, ⟨6, _⟩ => ⟨S1024x4x384, .f32⟩
  | .hbm, ⟨7, _⟩ => ⟨S1024x1536, .f32⟩
  | .hbm, ⟨8, _⟩ => ⟨S8192x1536, .f32⟩
  | .hbm, ⟨9, _⟩ => ⟨S8192x1536, .f32⟩
  | .hbm, ⟨10, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S8192x1024 : Shape := ⟨2, ![8192, 1024]⟩
abbrev S1x4x1024x1408 : Shape := ⟨4, ![1, 4, 1024, 1408]⟩
abbrev S_ : Shape := ⟨0, ![]⟩
abbrev S1x5632 : Shape := ⟨2, ![1, 5632]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1x1408 : Shape := ⟨2, ![1, 1408]⟩
abbrev S1024x1408 : Shape := ⟨2, ![1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x1408, .bf16⟩
  | .hbm, ⟨2, _⟩ => ⟨S_, .f32⟩
  | .hbm, ⟨3, _⟩ => ⟨S1x5632, .f32⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1408, .f32⟩
  | .local _ .vmem, ⟨5, _⟩ => ⟨S1x1408, .f32⟩
  | .local _ .vmem, ⟨6, _⟩ => ⟨S1024x1408, .f32⟩
  | .local _ .vmem, ⟨7, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x1024 : Shape := ⟨2, ![8192, 1024]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x1408, .bf16⟩
  | .hbm, ⟨2, _⟩ => ⟨S8192x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S_ : Shape := ⟨0, ![]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S2816x1024 : Shape := ⟨2, ![2816, 1024]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S8192x1024, .f32⟩
  | .hbm, ⟨10, _⟩ => ⟨S8192x1, .f32⟩
  | .hbm, ⟨11, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DownRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S_ : Shape := ⟨0, ![]⟩
abbrev S2816x1024 : Shape := ⟨2, ![2816, 1024]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S2816x1024, .bf16⟩
  | .hbm, ⟨15, _⟩ => ⟨S8192x2816, .f32⟩
  | .hbm, ⟨16, _⟩ => ⟨S2816x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Ln.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Out.lean ====
abbrev S8192x1024 : Shape := ⟨2, ![8192, 1024]⟩
abbrev S1x1024x1024 : Shape := ⟨3, ![1, 1024, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S1024x1024 : Shape := ⟨2, ![1024, 1024]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S1024x1024, .bf16⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== AttnFwd.lean ====
abbrev S8192x1536 : Shape := ⟨2, ![8192, 1536]⟩
abbrev S256x512 : Shape := ⟨2, ![256, 512]⟩
abbrev S8192x256 : Shape := ⟨2, ![8192, 256]⟩
abbrev S1024x256 : Shape := ⟨2, ![1024, 256]⟩
abbrev S256x256 : Shape := ⟨2, ![256, 256]⟩
abbrev S1x256 : Shape := ⟨2, ![1, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .f32⟩
  | .hbm, ⟨1, _⟩ => ⟨S256x512, .f32⟩
  | .hbm, ⟨2, _⟩ => ⟨S8192x256, .bf16⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1024x256, .bf16⟩
  | .local _ .vmem, ⟨4, _⟩ => ⟨S1024x256, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdRefIdeal.lean ====
abbrev S8192x1536 : Shape := ⟨2, ![8192, 1536]⟩
abbrev S256x512 : Shape := ⟨2, ![256, 512]⟩
abbrev S8192x256 : Shape := ⟨2, ![8192, 256]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S256x512, .f32⟩
  | .hbm, ⟨2, _⟩ => ⟨S8192x256, .f32⟩
  | .hbm, ⟨3, _⟩ => ⟨S8192x4x64, .f32⟩
  | .hbm, ⟨4, _⟩ => ⟨S256x256, .f32⟩
  | .hbm, ⟨5, _⟩ => ⟨S256x256, .f32⟩
  | .hbm, ⟨6, _⟩ => ⟨S256x4x64, .f32⟩
  | .hbm, ⟨7, _⟩ => ⟨S256x4x64, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x64x8192, .f32⟩
  | .hbm, ⟨27, _⟩ => ⟨S8192x4x64, .f32⟩
  | .hbm, ⟨28, _⟩ => ⟨S8192x256, .f32⟩
  | .hbm, ⟨29, _⟩ => ⟨S8192x256, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kv.lean ====
abbrev S256x1024 : Shape := ⟨2, ![256, 1024]⟩
abbrev S1x1x1024x512 : Shape := ⟨4, ![1, 1, 1024, 512]⟩
abbrev S_ : Shape := ⟨0, ![]⟩
abbrev S1x512 : Shape := ⟨2, ![1, 512]⟩
abbrev S256x512 : Shape := ⟨2, ![256, 512]⟩
abbrev S1024x512 : Shape := ⟨2, ![1024, 512]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1x1024x512, .bf16⟩
  | .hbm, ⟨2, _⟩ => ⟨S_, .f32⟩
  | .hbm, ⟨3, _⟩ => ⟨S1x512, .f32⟩
  | .hbm, ⟨4, _⟩ => ⟨S256x512, .f32⟩
  | .local _ .vmem, ⟨0, _⟩ => ⟨S256x1024, .f32⟩
  | .local _ .vmem, ⟨1, _⟩ => ⟨S1x1x1024x512, .bf16⟩
  | .local _ .vmem, ⟨2, _⟩ => ⟨S1x512, .f32⟩
  | .local _ .vmem, ⟨3, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KvRefIdeal.lean ====
abbrev S256x1024 : Shape := ⟨2, ![256, 1024]⟩
abbrev S1x1x1024x512 : Shape := ⟨4, ![1, 1, 1024, 512]⟩
abbrev S1024x512 : Shape := ⟨2, ![1024, 512]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1x1024x512, .bf16⟩
  | .hbm, ⟨2, _⟩ => ⟨S1024x512, .bf16⟩
  | .hbm, ⟨3, _⟩ => ⟨S1024x512, .f32⟩
  | .hbm, ⟨4, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvDw.lean ====
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S1x1024x512, .f32⟩
  | .local _ .vmem, ⟨0, _⟩ => ⟨S256x1024, .f32⟩
  | .local _ .vmem, ⟨1, _⟩ => ⟨S256x512, .f32⟩
  | .local _ .vmem, ⟨2, _⟩ => ⟨S1x1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwRefIdeal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩
abbrev S1x1024x512 : Shape := ⟨3, ![1, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S_, .f32⟩
  | .hbm, ⟨3, _⟩ => ⟨S1024x512, .f32⟩
  | .hbm, ⟨4, _⟩ => ⟨S256x512, .f32⟩
  | .hbm, ⟨5, _⟩ => ⟨S512x1024, .f32⟩
  | .hbm, ⟨6, _⟩ => ⟨S1024x512, .f32⟩
  | .hbm, ⟨7, _⟩ => ⟨S1x1024x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CvFwd.lean ====
abbrev S8192x1536 : Shape := ⟨2, ![8192, 1536]⟩
abbrev S31x256 : Shape := ⟨2, ![31, 256]⟩
abbrev S1x256 : Shape := ⟨2, ![1, 256]⟩
abbrev S1x256x256 : Shape := ⟨3, ![1, 256, 256]⟩
abbrev S_ : Shape := ⟨0, ![]⟩
abbrev S32x256 : Shape := ⟨2, ![32, 256]⟩
abbrev S256 : Shape := ⟨1, ![256]⟩
abbrev S256x1 : Shape := ⟨2, ![256, 1]⟩
abbrev S256x256 : Shape := ⟨2, ![256, 256]⟩
abbrev S8192x256 : Shape := ⟨2, ![8192, 256]⟩
abbrev S512x256 : Shape := ⟨2, ![512, 256]⟩
abbrev S544x256 : Shape := ⟨2, ![544, 256]⟩

abbrev nBuf : Space → Nat
  | .hbm => 40
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S31x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256x256, .bf16⟩
  | .hbm, ⟨6, _⟩ => ⟨S1x256, .f32⟩
  | .hbm, ⟨7, _⟩ => ⟨S_, .i32⟩
  | .hbm, ⟨8, _⟩ => ⟨S_, .f32⟩
  | .hbm, ⟨9, _⟩ => ⟨S32x256, .f32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S_, .bf16⟩
  | .hbm, ⟨36, _⟩ => ⟨S256x256, .bf16⟩
  | .hbm, ⟨37, _⟩ => ⟨S256x256, .bf16⟩
  | .hbm, ⟨38, _⟩ => ⟨S8192x256, .bf16⟩
  | .hbm, ⟨39, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x256x256, .bf16⟩
  | .local _ .vmem, ⟨10, _⟩ => ⟨S1x256, .f32⟩
  | .local _ .vmem, ⟨11, _⟩ => ⟨S512x256, .bf16⟩
  | .local _ .vmem, ⟨12, _⟩ => ⟨S512x256, .bf16⟩
  | .local _ .vmem, ⟨13, _⟩ => ⟨S512x256, .f32⟩
  | .local _ .vmem, ⟨14, _⟩ => ⟨S512x256, .f32⟩
  | .local _ .vmem, ⟨15, _⟩ => ⟨S544x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CvFwdRefIdeal.lean ====
abbrev S8192x1536 : Shape := ⟨2, ![8192, 1536]⟩
abbrev S31x256 : Shape := ⟨2, ![31, 256]⟩
abbrev S1x256 : Shape := ⟨2, ![1, 256]⟩
abbrev S1x256x256 : Shape := ⟨3, ![1, 256, 256]⟩
abbrev S8192x256 : Shape := ⟨2, ![8192, 256]⟩
abbrev S_ : Shape := ⟨0, ![]⟩
abbrev S30x256 : Shape := ⟨2, ![30, 256]⟩
abbrev S8222x256 : Shape := ⟨2, ![8222, 256]⟩
abbrev S8192x4x64 : Shape := ⟨3, ![8192, 4, 64]⟩
abbrev S8192x4 : Shape := ⟨2, ![8192, 4]⟩
abbrev S8192x4x1 : Shape := ⟨3, ![8192, 4, 1]⟩
abbrev S256x256 : Shape := ⟨2, ![256, 256]⟩

abbrev nBuf : Space → Nat
  | .hbm => 221
  | .vmem => 0
  | .smem => 0
  | _ => 0

abbrev hbmTy0_0 (i : Nat) : BufTy := match i % 128 with
  | 0 => ⟨S8192x1536, .f32⟩
  | 1 => ⟨S31x256, .f32⟩
  | 2 => ⟨S1x256, .f32⟩
  | 3 => ⟨S1x256, .f32⟩
  | 4 => ⟨S1x256, .f32⟩
  | 5 => ⟨S1x256x256, .bf16⟩
  | 6 => ⟨S1x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S8192x256, .f32⟩
  | 18 => ⟨S_, .f32⟩
  | 19 => ⟨S30x256, .f32⟩
  | 20 => ⟨S8222x256, .f32⟩
  | 21 => ⟨S8192x256, .f32⟩
  | 22 => ⟨S1x256, .f32⟩
  | 23 => ⟨S8192x256, .f32⟩
  | 24 => ⟨S8192x256, .f32⟩
  | 25 => ⟨S8192x256, .f32⟩
  | 26 => ⟨S1x256, .f32⟩
  | 27 => ⟨S8192x256, .f32⟩
  | 28 => ⟨S8192x256, .f32⟩
  | 29 => ⟨S8192x256, .f32⟩
  | 30 => ⟨S8192x256, .f32⟩
  | 31 => ⟨S1x256, .f32⟩
  | 32 => ⟨S8192x256, .f32⟩
  | 33 => ⟨S8192x256, .f32⟩
  | 34 => ⟨S8192x256, .f32⟩
  | 35 => ⟨S8192x256, .f32⟩
  | 36 => ⟨S1x256, .f32⟩
  | 37 => ⟨S8192x256, .f32⟩
  | 38 => ⟨S8192x256, .f32⟩
  | 39 => ⟨S8192x256, .f32⟩
  | 40 => ⟨S8192x256, .f32⟩
  | 41 => ⟨S1x256, .f32⟩
  | 42 => ⟨S8192x256, .f32⟩
  | 43 => ⟨S8192x256, .f32⟩
  | 44 => ⟨S8192x256, .f32⟩
  | 45 => ⟨S8192x256, .f32⟩
  | 46 => ⟨S1x256, .f32⟩
  | 47 => ⟨S8192x256, .f32⟩
  | 48 => ⟨S8192x256, .f32⟩
  | 49 => ⟨S8192x256, .f32⟩
  | 50 => ⟨S8192x256, .f32⟩
  | 51 => ⟨S1x256, .f32⟩
  | 52 => ⟨S8192x256, .f32⟩
  | 53 => ⟨S8192x256, .f32⟩
  | 54 => ⟨S8192x256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S8192x256, .f32⟩
  | 61 => ⟨S1x256, .f32⟩
  | 62 => ⟨S8192x256, .f32⟩
  | 63 => ⟨S8192x256, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x256, .f32⟩
  | 70 => ⟨S8192x256, .f32⟩
  | 71 => ⟨S1x256, .f32⟩
  | 72 => ⟨S8192x256, .f32⟩
  | 73 => ⟨S8192x256, .f32⟩
  | 74 => ⟨S8192x256, .f32⟩
  | 75 => ⟨S8192x256, .f32⟩
  | 76 => ⟨S1x256, .f32⟩
  | 77 => ⟨S8192x256, .f32⟩
  | 78 => ⟨S8192x256, .f32⟩
  | 79 => ⟨S8192x256, .f32⟩
  | 80 => ⟨S8192x256, .f32⟩
  | 81 => ⟨S1x256, .f32⟩
  | 82 => ⟨S8192x256, .f32⟩
  | 83 => ⟨S8192x256, .f32⟩
  | 84 => ⟨S8192x256, .f32⟩
  | 85 => ⟨S8192x256, .f32⟩
  | 86 => ⟨S1x256, .f32⟩
  | 87 => ⟨S8192x256, .f32⟩
  | 88 => ⟨S8192x256, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S8192x256, .f32⟩
  | 95 => ⟨S8192x256, .f32⟩
  | 96 => ⟨S1x256, .f32⟩
  | 97 => ⟨S8192x256, .f32⟩
  | 98 => ⟨S8192x256, .f32⟩
  | 99 => ⟨S8192x256, .f32⟩
  | 100 => ⟨S8192x256, .f32⟩
  | 101 => ⟨S1x256, .f32⟩
  | 102 => ⟨S8192x256, .f32⟩
  | 103 => ⟨S8192x256, .f32⟩
  | 104 => ⟨S8192x256, .f32⟩
  | 105 => ⟨S8192x256, .f32⟩
  | 106 => ⟨S1x256, .f32⟩
  | 107 => ⟨S8192x256, .f32⟩
  | 108 => ⟨S8192x256, .f32⟩
  | 109 => ⟨S8192x256, .f32⟩
  | 110 => ⟨S8192x256, .f32⟩
  | 111 => ⟨S1x256, .f32⟩
  | 112 => ⟨S8192x256, .f32⟩
  | 113 => ⟨S8192x256, .f32⟩
  | 114 => ⟨S8192x256, .f32⟩
  | 115 => ⟨S8192x256, .f32⟩
  | 116 => ⟨S1x256, .f32⟩
  | 117 => ⟨S8192x256, .f32⟩
  | 118 => ⟨S8192x256, .f32⟩
  | 119 => ⟨S8192x256, .f32⟩
  | 120 => ⟨S8192x256, .f32⟩
  | 121 => ⟨S1x256, .f32⟩
  | 122 => ⟨S8192x256, .f32⟩
  | 123 => ⟨S8192x256, .f32⟩
  | 124 => ⟨S8192x256, .f32⟩
  | 125 => ⟨S8192x256, .f32⟩
  | 126 => ⟨S1x256, .f32⟩
  | 127 => ⟨S8192x256, .f32⟩
  | _ => ⟨S8192x1536, .f32⟩

abbrev hbmTy0_1 (i : Nat) : BufTy := match i % 128 with
  | 0 => ⟨S8192x256, .f32⟩
  | 1 => ⟨S8192x256, .f32⟩
  | 2 => ⟨S8192x256, .f32⟩
  | 3 => ⟨S1x256, .f32⟩
  | 4 => ⟨S8192x256, .f32⟩
  | 5 => ⟨S8192x256, .f32⟩
  | 6 => ⟨S8192x256, .f32⟩
  | 7 => ⟨S8192x256, .f32⟩
  | 8 => ⟨S1x256, .f32⟩
  | 9 => ⟨S8192x256, .f32⟩
  | 10 => ⟨S8192x256, .f32⟩
  | 11 => ⟨S8192x256, .f32⟩
  | 12 => ⟨S8192x256, .f32⟩
  | 13 => ⟨S1x256, .f32⟩
  | 14 => ⟨S8192x256, .f32⟩
  | 15 => ⟨S8192x256, .f32⟩
  | 16 => ⟨S8192x256, .f32⟩
  | 17 => ⟨S8192x256, .f32⟩
  | 18 => ⟨S1x256, .f32⟩
  | 19 => ⟨S8192x256, .f32⟩
  | 20 => ⟨S8192x256, .f32⟩
  | 21 => ⟨S8192x256, .f32⟩
  | 22 => ⟨S8192x256, .f32⟩
  | 23 => ⟨S1x256, .f32⟩
  | 24 => ⟨S8192x256, .f32⟩
  | 25 => ⟨S8192x256, .f32⟩
  | 26 => ⟨S8192x256, .f32⟩
  | 27 => ⟨S8192x256, .f32⟩
  | 28 => ⟨S1x256, .f32⟩
  | 29 => ⟨S8192x256, .f32⟩
  | 30 => ⟨S8192x256, .f32⟩
  | 31 => ⟨S8192x256, .f32⟩
  | 32 => ⟨S8192x256, .f32⟩
  | 33 => ⟨S1x256, .f32⟩
  | 34 => ⟨S8192x256, .f32⟩
  | 35 => ⟨S8192x256, .f32⟩
  | 36 => ⟨S8192x256, .f32⟩
  | 37 => ⟨S8192x256, .f32⟩
  | 38 => ⟨S1x256, .f32⟩
  | 39 => ⟨S8192x256, .f32⟩
  | 40 => ⟨S8192x256, .f32⟩
  | 41 => ⟨S8192x256, .f32⟩
  | 42 => ⟨S8192x256, .f32⟩
  | 43 => ⟨S1x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x4x64, .f32⟩
  | 50 => ⟨S_, .f32⟩
  | 51 => ⟨S8192x4, .f32⟩
  | 52 => ⟨S8192x4x1, .f32⟩
  | 53 => ⟨S_, .f32⟩
  | 54 => ⟨S8192x4x1, .f32⟩
  | 55 => ⟨S8192x4x1, .f32⟩
  | 56 => ⟨S8192x4x64, .f32⟩
  | 57 => ⟨S8192x4x64, .f32⟩
  | 58 => ⟨S8192x4x64, .f32⟩
  | 59 => ⟨S_, .f32⟩
  | 60 => ⟨S8192x4, .f32⟩
  | 61 => ⟨S8192x4x1, .f32⟩
  | 62 => ⟨S_, .f32⟩
  | 63 => ⟨S8192x4x1, .f32⟩
  | 64 => ⟨S8192x4x1, .f32⟩
  | 65 => ⟨S8192x4x64, .f32⟩
  | 66 => ⟨S8192x4x64, .f32⟩
  | 67 => ⟨S_, .f32⟩
  | 68 => ⟨S8192x4x1, .f32⟩
  | 69 => ⟨S8192x4x1, .f32⟩
  | 70 => ⟨S8192x4x1, .f32⟩
  | 71 => ⟨S8192x4x64, .f32⟩
  | 72 => ⟨S8192x4x64, .f32⟩
  | 73 => ⟨S8192x256, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S_, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S256x256, .bf16⟩
  | 88 => ⟨S256x256, .f32⟩
  | 89 => ⟨S8192x256, .f32⟩
  | 90 => ⟨S8192x256, .f32⟩
  | 91 => ⟨S8192x256, .f32⟩
  | 92 => ⟨S8192x256, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_cst_2 : Ref sig .tc := ⟨.hbm, 178, rfl⟩
abbrev main_v168 : Ref sig .tc := ⟨.hbm, 179, rfl⟩
abbrev main_v169 : Ref sig .tc := ⟨.hbm, 180, rfl⟩
abbrev main_cst_3 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_cst_4 : Ref sig .tc := ⟨.hbm, 187, rfl⟩
abbrev main_v175 : Ref sig .tc := ⟨.hbm, 188, rfl⟩
abbrev main_v176 : Ref sig .tc := ⟨.hbm, 189, rfl⟩
abbrev main_cst_5 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_cst_6 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_call0_v0 : Ref sig .tc := ⟨.hbm, 206, rfl⟩
abbrev main_call0_v1 : Ref sig .tc := ⟨.hbm, 207, rfl⟩
abbrev main_call0_cst : Ref sig .tc := ⟨.hbm, 208, rfl⟩
abbrev main_call0_v2 : Ref sig .tc := ⟨.hbm, 209, rfl⟩
abbrev main_call0_v3 : Ref sig .tc := ⟨.hbm, 210, rfl⟩
abbrev main_call0_cst_0 : Ref sig .tc := ⟨.hbm, 211, rfl⟩
abbrev main_call0_v4 : Ref sig .tc := ⟨.hbm, 212, rfl⟩
abbrev main_call0_v5 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩

abbrev nD : Nat := 1
abbrev τ : Topo := Topo.v7x

variable {F : FTy → Type} [FloatOps F]
-- ==== AdamIn.lean ====
abbrev S2048x384 : Shape := ⟨2, ![2048, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvRefIdeal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGroup.lean ====
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGroupRefIdeal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1920x128 : Shape := ⟨2, ![1920, 128]⟩

abbrev nBuf : Space → Nat
  | .hbm => 8
  | .vmem => 8
  | .smem => 0
  | _ => 0

abbrev bufTy : (tb : Table) → Fin (tcTables nBuf tb) → BufTy
  | .hbm, ⟨0, _⟩ => ⟨S1920x128, .f32⟩
  | .hbm, ⟨1, _⟩ => ⟨S1920x128, .f32⟩
  | .hbm, ⟨2, _⟩ => ⟨S1920x128, .f32⟩
  | .hbm, ⟨3, _⟩ => ⟨S1920x128, .f32⟩
  | .hbm, ⟨4, _⟩ => ⟨S1920x128, .f32⟩
  | .hbm, ⟨5, _⟩ => ⟨S1920x128, .f32⟩
  | .hbm, ⟨6, _⟩ => ⟨S1920x128, .f32⟩
  | .hbm, ⟨7, _⟩ => ⟨S1920x128, .f32⟩
  | .local _ .vmem, ⟨0, _⟩ => ⟨S1920x128, .f32⟩
  | .local _ .vmem, ⟨1, _⟩ => ⟨S1920x128, .f32⟩
  | .local _ .vmem, ⟨2, _⟩ => ⟨S1920x128, .f32⟩
  | .local _ .vmem, ⟨3, _⟩ => ⟨S1920x128, .f32⟩
  | .local _ .vmem, ⟨4, _⟩ => ⟨S1920x128, .f32⟩
  | .local _ .vmem, ⟨5, _⟩ => ⟨S1920x128, .f32⟩
  | .local _ .vmem, ⟨6, _⟩ => ⟨S1920x128, .f32⟩
  | .local _ .vmem, ⟨7, _⟩ => ⟨S1920x128, .f32⟩
  | _, _ => ⟨S1920x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1920x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1920x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1920x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1920x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1920x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S1920x128 : Shape := ⟨2, ![1920, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1920x128, .f32⟩
  | .hbm, ⟨1, _⟩ => ⟨S1920x128, .f32⟩
  | .hbm, ⟨2, _⟩ => ⟨S1920x128, .f32⟩
  | .hbm, ⟨3, _⟩ => ⟨S1920x128, .f32⟩
  | .hbm, ⟨4, _⟩ => ⟨S_, .f32⟩
  | .hbm, ⟨5, _⟩ => ⟨S1920x128, .f32⟩
  | .hbm, ⟨6, _⟩ => ⟨S1920x128, .f32⟩
  | .hbm, ⟨7, _⟩ => ⟨S_, .f32⟩
  | .hbm, ⟨8, _⟩ => ⟨S1920x128, .f32⟩
  | .hbm, ⟨9, _⟩ => ⟨S1920x128, .f32⟩
  | .hbm, ⟨10, _⟩ => ⟨S1920x128, .f32⟩
  | .hbm, ⟨11, _⟩ => ⟨S_, .f32⟩
  | .hbm, ⟨12, _⟩ => ⟨S1920x128, .f32⟩
  | .hbm, ⟨13, _⟩ => ⟨S1920x128, .f32⟩
  | .hbm, ⟨14, _⟩ => ⟨S1920x128, .f32⟩
  | .hbm, ⟨15, _⟩ => ⟨S_, .f32⟩
  | .hbm, ⟨16, _⟩ => ⟨S1920x128, .f32⟩
  | .hbm, ⟨17, _⟩ => ⟨S1920x128, .f32⟩
  | .hbm, ⟨18, _⟩ => ⟨S1920x128, .f32⟩
  | .hbm, ⟨19, _⟩ => ⟨S_, .f32⟩
  | .hbm, ⟨20, _⟩ => ⟨S1920x128, .f32⟩
  | .hbm, ⟨21, _⟩ => ⟨S1920x128, .f32⟩
  | .hbm, ⟨22, _⟩ => ⟨S_, .f32⟩
  | .hbm, ⟨23, _⟩ => ⟨S1920x128, .f32⟩
  | .hbm, ⟨24, _⟩ => ⟨S1920x128, .f32⟩
  | .hbm, ⟨25, _⟩ => ⟨S1920x128, .f32⟩
  | .hbm, ⟨26, _⟩ => ⟨S_, .f32⟩
  | .hbm, ⟨27, _⟩ => ⟨S1920x128, .f32⟩
  | .hbm, ⟨28, _⟩ => ⟨S1920x128, .f32⟩
  | .hbm, ⟨29, _⟩ => ⟨S1920x128, .f32⟩
  | .hbm, ⟨30, _⟩ => ⟨S_, .f32⟩
  | .hbm, ⟨31, _⟩ => ⟨S1920x128, .f32⟩
  | .hbm, ⟨32, _⟩ => ⟨S1920x128, .f32⟩
  | .hbm, ⟨33, _⟩ => ⟨S1920x128, .f32⟩
  | .hbm, ⟨34, _⟩ => ⟨S_, .f32⟩
  | .hbm, ⟨35, _⟩ => ⟨S1920x128, .f32⟩
  | .hbm, ⟨36, _⟩ => ⟨S1920x128, .f32⟩
  | _, _ => ⟨S1920x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDevices.lean ====
abbrev S8x2224x128 : Shape := ⟨3, ![8, 2224, 128]⟩
abbrev S2224x128 : Shape := ⟨2, ![2224, 128]⟩
abbrev S8x1112x128 : Shape := ⟨3, ![8, 1112, 128]⟩
abbrev S1112x128 : Shape := ⟨2, ![1112, 128]⟩
abbrev S1x1112x128 : Shape := ⟨3, ![1, 1112, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2224x128, .f32⟩
  | .hbm, ⟨1, _⟩ => ⟨S2224x128, .f32⟩
  | .local _ .vmem, ⟨0, _⟩ => ⟨S8x1112x128, .f32⟩
  | .local _ .vmem, ⟨1, _⟩ => ⟨S8x1112x128, .f32⟩
  | .local _ .vmem, ⟨2, _⟩ => ⟨S1112x128, .f32⟩
  | .local _ .vmem, ⟨3, _⟩ => ⟨S1112x128, .f32⟩
  | _, _ => ⟨S8x2224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDevicesRefIdeal.lean ====
abbrev S8x2224x128 : Shape := ⟨3, ![8, 2224, 128]⟩
abbrev S_ : Shape := ⟨0, ![]⟩
abbrev S2224x128 : Shape := ⟨2, ![2224, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2224x128, .f32⟩
  | .hbm, ⟨1, _⟩ => ⟨S_, .f32⟩
  | .hbm, ⟨2, _⟩ => ⟨S2224x128, .f32⟩
  | _, _ => ⟨S8x2224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddIn.lean ====
abbrev S4x1024x384 : Shape := ⟨3, ![4, 1024, 384]⟩
abbrev S4x512x384 : Shape := ⟨3, ![4, 512, 384]⟩
abbrev S1 : Shape := ⟨1, ![1]⟩
abbrev S1x512x384 : Shape := ⟨3, ![1, 512, 384]⟩
abbrev S512x384 : Shape := ⟨2, ![512, 384]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x384, .f32⟩
  | .hbm, ⟨1, _⟩ => ⟨S4x512x384, .f32⟩
  | .hbm, ⟨2, _⟩ => ⟨S4x512x384, .bf16⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .bf16⟩
  | .local _ .vmem, ⟨5, _⟩ => ⟨S1x512x384, .bf16⟩
  | .local _ .smem, ⟨0, _⟩ => ⟨S1, .i32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddInRefIdeal.lean ====
abbrev S4x1024x384 : Shape := ⟨3, ![4, 1024, 384]⟩
abbrev S4x512x384 : Shape := ⟨3, ![4, 512, 384]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x512x384, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x384, .f32⟩
  | .hbm, ⟨7, _⟩ => ⟨S4x512x384, .f32⟩
  | .hbm, ⟨8, _⟩ => ⟨S4x512x384, .f32⟩
  | .hbm, ⟨9, _⟩ => ⟨S4x512x384, .f32⟩
  | .hbm, ⟨10, _⟩ => ⟨S4x512x384, .bf16⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddKv.lean ====
abbrev S4x256x512 : Shape := ⟨3, ![4, 256, 512]⟩
abbrev S4x128x512 : Shape := ⟨3, ![4, 128, 512]⟩
abbrev S1 : Shape := ⟨1, ![1]⟩
abbrev S1x128x512 : Shape := ⟨3, ![1, 128, 512]⟩
abbrev S128x512 : Shape := ⟨2, ![128, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S4x128x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .bf16⟩
  | .local _ .vmem, ⟨5, _⟩ => ⟨S1x128x512, .bf16⟩
  | .local _ .smem, ⟨0, _⟩ => ⟨S1, .i32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddKvRefIdeal.lean ====
abbrev S4x256x512 : Shape := ⟨3, ![4, 256, 512]⟩
abbrev S4x128x512 : Shape := ⟨3, ![4, 128, 512]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x128x512, .f32⟩
  | .hbm, ⟨7, _⟩ => ⟨S4x128x512, .f32⟩
  | .hbm, ⟨8, _⟩ => ⟨S4x128x512, .f32⟩
  | .hbm, ⟨9, _⟩ => ⟨S4x128x512, .f32⟩
  | .hbm, ⟨10, _⟩ => ⟨S4x128x512, .bf16⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddOut.lean ====
abbrev S4x256x1024 : Shape := ⟨3, ![4, 256, 1024]⟩
abbrev S4x128x1024 : Shape := ⟨3, ![4, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOutRefIdeal.lean ====
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddUp.lean ====
abbrev S4x1024x1408 : Shape := ⟨3, ![4, 1024, 1408]⟩
abbrev S4x512x1408 : Shape := ⟨3, ![4, 512, 1408]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S4x512x1408, .bf16⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .bf16⟩
  | .local _ .vmem, ⟨5, _⟩ => ⟨S1x128x1408, .bf16⟩
  | .local _ .smem, ⟨0, _⟩ => ⟨S1, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddUpRefIdeal.lean ====
abbrev S4x1024x1408 : Shape := ⟨3, ![4, 1024, 1408]⟩
abbrev S4x512x1408 : Shape := ⟨3, ![4, 512, 1408]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x1408, .f32⟩
  | .hbm, ⟨7, _⟩ => ⟨S4x512x1408, .f32⟩
  | .hbm, ⟨8, _⟩ => ⟨S4x512x1408, .f32⟩
  | .hbm, ⟨9, _⟩ => ⟨S4x512x1408, .f32⟩
  | .hbm, ⟨10, _⟩ => ⟨S4x512x1408, .bf16⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddDown.lean ====
abbrev S4x704x1024 : Shape := ⟨3, ![4, 704, 1024]⟩
abbrev S4x352x1024 : Shape := ⟨3, ![4, 352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .bf16⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .bf16⟩
  | .local _ .vmem, ⟨5, _⟩ => ⟨S1x176x1024, .bf16⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddDownRefIdeal.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .bf16⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddGroup.lean ====
abbrev S4x64x256 : Shape := ⟨3, ![4, 64, 256]⟩
abbrev S4x32x256 : Shape := ⟨3, ![4, 32, 256]⟩
abbrev S1 : Shape := ⟨1, ![1]⟩
abbrev S1x32x256 : Shape := ⟨3, ![1, 32, 256]⟩
abbrev S32x256 : Shape := ⟨2, ![32, 256]⟩

abbrev nBuf : Space → Nat
  | .hbm => 3
  | .vmem => 6
  | .smem => 1
  | _ => 0

abbrev bufTy : (tb : Table) → Fin (tcTables nBuf tb) → BufTy
  | .hbm, ⟨0, _⟩ => ⟨S4x64x256, .f32⟩
  | .hbm, ⟨1, _⟩ => ⟨S4x32x256, .f32⟩
  | .hbm, ⟨2, _⟩ => ⟨S4x32x256, .bf16⟩
  | .local _ .vmem, ⟨0, _⟩ => ⟨S1x32x256, .f32⟩
  | .local _ .vmem, ⟨1, _⟩ => ⟨S1x32x256, .f32⟩
  | .local _ .vmem, ⟨2, _⟩ => ⟨S1x32x256, .f32⟩
  | .local _ .vmem, ⟨3, _⟩ => ⟨S1x32x256, .f32⟩
  | .local _ .vmem, ⟨4, _⟩ => ⟨S1x32x256, .bf16⟩
  | .local _ .vmem, ⟨5, _⟩ => ⟨S1x32x256, .bf16⟩
  | .local _ .smem, ⟨0, _⟩ => ⟨S1, .i32⟩
  | _, _ => ⟨S4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddGroupRefIdeal.lean ====
abbrev S4x64x256 : Shape := ⟨3, ![4, 64, 256]⟩
abbrev S4x32x256 : Shape := ⟨3, ![4, 32, 256]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x64x256, .f32⟩
  | .hbm, ⟨1, _⟩ => ⟨S4x32x256, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x32x256, .f32⟩
  | .hbm, ⟨7, _⟩ => ⟨S4x32x256, .f32⟩
  | .hbm, ⟨8, _⟩ => ⟨S4x32x256, .f32⟩
  | .hbm, ⟨9, _⟩ => ⟨S4x32x256, .f32⟩
  | .hbm, ⟨10, _⟩ => ⟨S4x32x256, .bf16⟩
  | _, _ => ⟨S4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Heads.lean ====
/-
  Attention over extended reals, one row at a time: the 256 columns of a row are 4 heads of 64 columns.
  The definitions state the gradient of softmax attention for one query row; the lemmas say that a dot product with
  the columns of one head is the 256-column dot product with the other heads' columns multiplied by zero, and that
  two ways of writing the gradient of a softmax agree when the scores are finite.
-/
module

public import Idealize.ShloMosaic.Lib.Pointwise
public import Idealize.ShloMosaic.Lib.ValueIdx

@[expose] public section

noncomputable section

namespace Cert.Heads

open Idealize.ShloMosaic
open scoped BigOperators

/-- Column `d` of head `h`. -/
def col (h : Fin 4) (d : Fin 64) : Fin 256 := ⟨h.val * 64 + d.val, by omega⟩

/-- The head a column belongs to. -/
def head (c : Fin 256) : Fin 4 := ⟨c.val / 64, by omega⟩

theorem head_col (h : Fin 4) (d : Fin 64) : head (col h d) = h := by
  apply Fin.ext; show (h.val * 64 + d.val) / 64 = h.val; omega

/-- A column within its head. -/
def within (c : Fin 256) : Fin 64 := ⟨c.val % 64, by omega⟩

theorem col_head (c : Fin 256) : col (head c) (within c) = c := by
  apply Fin.ext; show c.val / 64 * 64 + c.val % 64 = c.val; omega

/-- One head's mask at a column: one on the head's own columns, zero elsewhere. -/
def mask (h : Fin 4) (c : Fin 256) : EReal := if head c = h then 1 else 0

/-- A sum over the columns is a sum over the heads and the columns of each. -/
theorem sum_cols (f : Fin 256 → EReal) : ∑ c, f c = ∑ h : Fin 4, ∑ d : Fin 64, f (col h d) := by
  rw [← Fintype.sum_prod_type' (f := fun (h : Fin 4) (d : Fin 64) => f (col h d)),
    ← Equiv.sum_comp (finProdFinEquiv (m := 4) (n := 64)) f]
  refine Finset.sum_congr rfl fun p _ => congrArg f (Fin.ext ?_)
  show p.2.val + 64 * p.1.val = p.1.val * 64 + p.2.val
  omega

/-- The masked dot product over the columns is the dot product over the head's columns. -/
theorem sum_mask (h : Fin 4) (x y : Fin 256 → EReal) :
    ∑ c, x c * mask h c * y c = ∑ d, x (col h d) * y (col h d) := by
  rw [sum_cols, Finset.sum_eq_single h]
  · refine Finset.sum_congr rfl fun d _ => ?_
    rw [mask, if_pos (head_col h d), mul_one]
  · intro b _ hb
    refine Finset.sum_eq_zero fun d _ => ?_
    rw [mask, head_col, if_neg hb, mul_zero, zero_mul]
  · intro hh; exact absurd (Finset.mem_univ h) hh

/-- Of four terms, one per head, where those of the other heads than the column's vanish, one is left. -/
theorem sum_heads (c : Fin 256) (f : Fin 4 → EReal) (h : ∀ b, b ≠ head c → f b = 0) :
    (((0 + f 0) + f 1) + f 2) + f 3 = f (head c) := by
  have e : (((0 + f 0) + f 1) + f 2) + f 3 = ∑ b, f b := by
    rw [Fin.sum_univ_four, zero_add]
  rw [e, Finset.sum_eq_single (head c) (fun b _ hb => h b hb) (fun hh => absurd (Finset.mem_univ _) hh)]

/-! ## One row of attention and its gradient -/

/-- The factor the scores are scaled by. -/
def scale : EReal := Ideal.ofBits .f32 0x3E000000#32

/-- The scores of a query row `q` against the key rows `k`, of one head. -/
def score (q : Fin 256 → EReal) (k : Fin 256 → Fin 256 → EReal) (h : Fin 4) (m : Fin 256) : EReal :=
  (∑ d, q (col h d) * k m (col h d)) * scale

/-- The exponential of a score less the row's greatest. -/
def expo (s : Fin 256 → EReal) (m : Fin 256) : EReal :=
  Ideal.exp (s m - Finset.univ.fold max ⊥ s)

/-- The softmax of a row of scores. -/
def soft (s : Fin 256 → EReal) (m : Fin 256) : EReal := Ideal.div (expo s m) (∑ k, expo s k)

/-- The gradient of the softmax weights: the row `g` of the result's gradient against the value rows `v`. -/
def dweight (g : Fin 256 → EReal) (v : Fin 256 → Fin 256 → EReal) (h : Fin 4) (m : Fin 256) : EReal :=
  ∑ d, g (col h d) * v m (col h d)

/-- The gradient of the scaled scores, from the scores `s` and the gradient `w` of the softmax weights. -/
def dscore (s w : Fin 256 → EReal) (m : Fin 256) : EReal :=
  soft s m * (w m - ∑ k, w k * soft s k) * scale

/-- The gradient of the scores of one row, of one head. -/
def rowGrad (q g : Fin 256 → EReal) (k v : Fin 256 → Fin 256 → EReal) (h : Fin 4) : Fin 256 → EReal :=
  dscore (score q k h) (dweight g v h)

/-- The gradient of the query row. -/
def dq (q g : Fin 256 → EReal) (k v : Fin 256 → Fin 256 → EReal) (c : Fin 256) : EReal :=
  ∑ m, rowGrad q g k v (head c) m * k m c

/-- What one row adds to the gradient of the keys. -/
def dk (q g : Fin 256 → EReal) (k v : Fin 256 → Fin 256 → EReal) (m c : Fin 256) : EReal :=
  rowGrad q g k v (head c) m * q c

/-- What one row adds to the gradient of the values. -/
def dv (q g : Fin 256 → EReal) (k : Fin 256 → Fin 256 → EReal) (m c : Fin 256) : EReal :=
  soft (score q k (head c)) m * g c

/-- The attention's result at a row: the value rows, each times its softmax weight. -/
def attend (q : Fin 256 → EReal) (k v : Fin 256 → Fin 256 → EReal) (c : Fin 256) : EReal :=
  ∑ m, soft (score q k (head c)) m * v m c

/-! ## The rows of the step's arrays -/

/-- Row `t` of the queries, columns 1280 to 1535 of the input projection. -/
def qRow (x : Vec Ideal ⟨2, ![8192, 1536]⟩ .f32) (t : Fin 8192) (c : Fin 256) : EReal :=
  x (ix2 t ⟨1280 + c.val, by omega⟩)

/-- Row `t` of the gradient of the attention's result, columns 768 to 1023 of the gradient of the mixed features. -/
def gRow (x : Vec Ideal ⟨2, ![8192, 1024]⟩ .f32) (t : Fin 8192) (c : Fin 256) : EReal :=
  x (ix2 t ⟨768 + c.val, by omega⟩)

/-- Row `m` of the keys, the first 256 columns. -/
def kRow (x : Vec Ideal ⟨2, ![256, 512]⟩ .f32) (m c : Fin 256) : EReal := x (ix2 m ⟨c.val, by omega⟩)

/-- Row `m` of the values, the last 256 columns. -/
def vRow (x : Vec Ideal ⟨2, ![256, 512]⟩ .f32) (m c : Fin 256) : EReal := x (ix2 m ⟨256 + c.val, by omega⟩)

section Results

variable (g : Vec Ideal ⟨2, ![8192, 1024]⟩ .f32) (q : Vec Ideal ⟨2, ![8192, 1536]⟩ .f32)
  (kv : Vec Ideal ⟨2, ![256, 512]⟩ .f32)

/-- The attention's result. -/
def resO : Vec Ideal ⟨2, ![8192, 256]⟩ .bf16 := fun i => attend (qRow q (i 0)) (kRow kv) (vRow kv) (i 1)

/-- The gradient of the queries. -/
def resQ : Vec Ideal ⟨2, ![8192, 256]⟩ .bf16 := fun i => dq (qRow q (i 0)) (gRow g (i 0)) (kRow kv) (vRow kv) (i 1)

/-- Its sum over the rows, the gradient of the queries' bias. -/
def resB : Vec Ideal ⟨2, ![1, 256]⟩ .f32 := fun i => ∑ t, dq (qRow q t) (gRow g t) (kRow kv) (vRow kv) (i 1)

/-- The gradient of the keys at row `m`, column `c`. -/
def resK (m c : Fin 256) : EReal := ∑ t, dk (qRow q t) (gRow g t) (kRow kv) (vRow kv) m c

/-- The gradient of the values. -/
def resV (m c : Fin 256) : EReal := ∑ t, dv (qRow q t) (gRow g t) (kRow kv) m c

/-- The gradient of the keys and the values side by side. -/
def resKV : Vec Ideal ⟨2, ![256, 512]⟩ .f32 := fun i =>
  if h : (i 1).val < 256 then resK g q kv (i 0) ⟨(i 1).val, h⟩
  else resV g q kv (i 0) ⟨(i 1).val - 256, by have : (i 1).val < 512 := (i 1).isLt; omega⟩

end Results

/-! ## The two forms of the softmax's gradient -/

/-- A real factor that is not negative passes through a sum of extended reals. -/
theorem mul_sum_coe {ι : Type} (t : Finset ι) (f : ι → EReal) {r : ℝ} (hr : 0 ≤ r) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- … and through a difference. -/
theorem mul_sub_coe (a b : EReal) {r : ℝ} (hr : 0 ≤ r) :
    (r : EReal) * (a - b) = (r : EReal) * a - (r : EReal) * b := by
  rw [sub_eq_add_neg, EReal.left_distrib_of_nonneg_of_ne_top (by exact_mod_cast hr) (EReal.coe_ne_top r),
    mul_neg, ← sub_eq_add_neg]

/-- The greatest of a row of real scores is real. -/
theorem fold_max_coe (s : Fin 256 → ℝ) : ∃ r : ℝ, Finset.univ.fold max (⊥ : EReal) (fun m => (s m : EReal)) = r := by
  have h : Finset.univ.fold max (⊥ : EReal) (fun m => (s m : EReal)) = Finset.univ.sup (fun m => (s m : EReal)) := rfl
  obtain ⟨m, _, hm⟩ := Finset.exists_mem_eq_sup (Finset.univ : Finset (Fin 256)) ⟨0, Finset.mem_univ _⟩
    (fun m => (s m : EReal))
  exact ⟨s m, h.trans hm⟩

/-- The exponentials of a row of real scores are positive reals. -/
theorem expo_coe (s : Fin 256 → ℝ) : ∃ e : Fin 256 → ℝ, (∀ m, 0 < e m) ∧ ∀ m, expo (fun m => (s m : EReal)) m = (e m : EReal) := by
  obtain ⟨r, hr⟩ := fold_max_coe s
  refine ⟨fun m => Real.exp (s m - r), fun m => Real.exp_pos _, fun m => ?_⟩
  rw [expo, hr, ← EReal.coe_sub]
  rfl

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- With real scores, the softmax's gradient may be taken through the quotient: with `e` the exponentials and `l` their
    sum, `(w / l - ∑ w / l² e) e`, which is `(e / l) (w - ∑ w e / l)`. -/
theorem dscore_eq (s : Fin 256 → ℝ) (w : Fin 256 → EReal) (m : Fin 256) :
    (Ideal.div (w m) (∑ k, expo (fun m => (s m : EReal)) k)
        + -(∑ k, w k * Ideal.div 1 ((∑ k, expo (fun m => (s m : EReal)) k) * (∑ k, expo (fun m => (s m : EReal)) k))
            * expo (fun m => (s m : EReal)) k))
      * expo (fun m => (s m : EReal)) m * scale
    = dscore (fun m => (s m : EReal)) w m := by
  obtain ⟨e, he, hs⟩ := expo_coe s
  have hl : 0 < ∑ k, e k := Finset.sum_pos (fun k _ => he k) ⟨0, Finset.mem_univ _⟩
  have hl' : (∑ k, e k) ≠ 0 := ne_of_gt hl
  have hll : (∑ k, e k) * (∑ k, e k) ≠ 0 := mul_ne_zero hl' hl'
  simp only [dscore, soft, hs, ← coe_sum, ← EReal.coe_mul, Ideal.div_coe hl', Ideal.div_coe hll, one_mul]
  set l := ∑ k, e k
  have hc : (0 : ℝ) ≤ 1 / l := le_of_lt (one_div_pos.mpr hl)
  have h1 : ∀ k, w k * ((1 / (l * l) : ℝ) : EReal) * (e k : EReal)
      = ((1 / l : ℝ) : EReal) * (w k * ((e k * (1 / l) : ℝ) : EReal)) := by
    intro k
    rw [show (1 / (l * l) : ℝ) = 1 / l * (1 / l) by field_simp, EReal.coe_mul, EReal.coe_mul]
    ac_rfl
  simp only [h1]
  rw [← mul_sum_coe _ _ hc, ← sub_eq_add_neg, mul_comm (w m), ← mul_sub_coe _ _ hc, EReal.coe_mul]
  ac_rfl

/-- Scores of real queries and keys are real. -/
theorem score_coe (q : Fin 256 → EReal) (k : Fin 256 → Fin 256 → EReal) (hq : ∀ c, ∃ r : ℝ, q c = r)
    (hk : ∀ m c, ∃ r : ℝ, k m c = r) (h : Fin 4) : ∃ s : Fin 256 → ℝ, score q k h = fun m => (s m : EReal) := by
  choose q' hq' using hq
  choose k' hk' using hk
  have hsc : scale = ((1 / 8 : ℝ) : EReal) := by
    rw [scale]; simp [Ideal.ofBits, Ideal.ieee]; rw [← EReal.coe_mul]; norm_num
  refine ⟨fun m => (∑ d, q' (col h d) * k' m (col h d)) * (1 / 8), funext fun m => ?_⟩
  simp only [score, hq', hk', hsc, ← EReal.coe_mul, ← coe_sum]

end Cert.Heads

end
-- ==== Proof.AttnBlock.lean ====
/-
  One grid point of the attention's backward kernel, over extended reals: what its stored values are at an index.
  The kernel takes the four heads one after another, each with the other heads' columns multiplied by zero; here the
  four copies are one definition over the head's mask, read once.
-/
module

public import proofs.«01_k».proof.Proof.Gen.KernelIdeal.Value
public import proofs.«01_k».proof.Proof.Heads
public import Idealize.ShloMosaic.Lib.Pipeline.ValueKit

@[expose] public section

noncomputable section

namespace Cert.KernelIdeal.Attn

open Cert.KernelIdeal Cert.KernelIdeal.Gen Idealize.ShloMosaic Idealize.ShloMosaic.TcCoe Idealize.ShloMosaic.Tactic
open Idealize.SL.Sem Cert.Heads

/-! ## The heads' masks -/

/-- The mask of head `h`, as the kernel builds it. -/
def headMask : Fin 4 → FVec Ideal S1x256 .f32
  | 0 => k0_pay7
  | 1 => k0_pay16
  | 2 => k0_pay25
  | 3 => k0_pay34

theorem bit_mask (h : Fin 4) (c : Fin 256) (b : BitVec 1) (e : b = if head c = h then 1#1 else 0#1) :
    Scalar.select b (1 : EReal) 0 = mask h c := by
  subst e
  unfold mask
  split <;> rfl

theorem headMask_apply (h : Fin 4) (c : Fin 256) : headMask h (ix2 0 c) = mask h c := by
  match h with
  | 0 => pointwise [headMask, k0_pay7]; exact bit_mask 0 c _ (by revert c; decide)
  | 1 => pointwise [headMask, k0_pay16]; exact bit_mask 1 c _ (by revert c; decide)
  | 2 => pointwise [headMask, k0_pay25]; exact bit_mask 2 c _ (by revert c; decide)
  | 3 => pointwise [headMask, k0_pay34]; exact bit_mask 3 c _ (by revert c; decide)

/-! ## One head's step, over its mask -/

/-- A block with the other heads' columns multiplied by zero. -/
def masked (μ : FVec Ideal S1x256 .f32) (x : Vec Ideal S1024x256 .f32) : FVec Ideal S1024x256 .bf16 :=
  truncf .bf16 (mulf x (broadcastTo S1024x256 μ broadcasts_S1x256_S1024x256)) bitsLt_bf16_f32

/-- The dot products of a masked block's rows with rows `k`. -/
def dots (μ : FVec Ideal S1x256 .f32) (x : Vec Ideal S1024x256 .f32) (k : FVec Ideal S256x256 .bf16) :
    FVec Ideal S1024x256 .f32 :=
  matmul dot_S1024x256_S256x256_S1024x256_1_1_0_0_n_n none (masked μ x) k (constant S1024x256 .f32 0x00000000#32)

/-- The scaled scores. -/
def scores (μ : FVec Ideal S1x256 .f32) (x : Vec Ideal S1024x256 .f32) (k : FVec Ideal S256x256 .bf16) :
    FVec Ideal S1024x256 .f32 :=
  mulf (dots μ x k) (broadcast S1024x256 (Scalar.ofBits .f32 0x3E000000#32))

/-- The exponentials of a block of scores less each row's greatest. -/
def expos (s : FVec Ideal S1024x256 .f32) : FVec Ideal S1024x256 .f32 :=
  exp (subf s (broadcastTo S1024x256
    (shapeCast S1024x1 (multiReduction .maximumf [1] S1024 s 0xFF800000#32 reduces_S1024x256_S1024 (.inl rfl) rfl)
      shapeCasts_S1024_S1024x1) broadcasts_S1024x1_S1024x256))

/-- A block divided by its rows' sums. -/
def shares (e : FVec Ideal S1024x256 .f32) : FVec Ideal S1024x256 .f32 :=
  divf e (broadcastTo S1024x256
    (shapeCast S1024x1 (multiReduction .add [1] S1024 e 0x00000000#32 reduces_S1024x256_S1024 (.inl rfl) rfl)
      shapeCasts_S1024_S1024x1) broadcasts_S1024x1_S1024x256)

/-- The gradient of the scaled scores, from the softmax weights `p` and their gradient `w`. -/
def dscores (p w : FVec Ideal S1024x256 .f32) : FVec Ideal S1024x256 .bf16 :=
  truncf .bf16 (mulf (mulf p (subf w (broadcastTo S1024x256
    (shapeCast S1024x1 (multiReduction .add [1] S1024 (mulf w p) 0x00000000#32 reduces_S1024x256_S1024 (.inl rfl) rfl)
      shapeCasts_S1024_S1024x1) broadcasts_S1024x1_S1024x256)))
    (broadcast S1024x256 (Scalar.ofBits .f32 0x3E000000#32))) bitsLt_bf16_f32

/-- What a head adds to the gradient of the queries. -/
def addQ (μ : FVec Ideal S1x256 .f32) (a : FVec Ideal S1024x256 .f32) (s : FVec Ideal S1024x256 .bf16)
    (k : FVec Ideal S256x256 .bf16) : FVec Ideal S1024x256 .f32 :=
  addf a (mulf (matmul dot_S1024x256_S256x256_S1024x256_1_0_0_1_n_n none s k (constant S1024x256 .f32 0x00000000#32))
    (broadcastTo S1024x256 μ broadcasts_S1x256_S1024x256))

/-- What a head adds to the gradient of the keys or of the values: a product over the block's rows. -/
def addK (a : FVec Ideal S256x256 .f32) (s x : FVec Ideal S1024x256 .bf16) : FVec Ideal S256x256 .f32 :=
  addf a (matmul dot_S1024x256_S1024x256_S256x256_0_0_1_1_n_n none s x (constant S256x256 .f32 0x00000000#32))

theorem masked_apply (μ : FVec Ideal S1x256 .f32) (x : Vec Ideal S1024x256 .f32) (t : Fin 1024) (c : Fin 256) :
    masked μ x (ix2 t c) = x (ix2 t c) * μ (ix2 0 c) := by
  pointwise [masked]

theorem dots_apply (μ : FVec Ideal S1x256 .f32) (x : Vec Ideal S1024x256 .f32) (k : FVec Ideal S256x256 .bf16)
    (t : Fin 1024) (m : Fin 256) :
    dots μ x k (ix2 t m) = ∑ c, masked μ x (ix2 t c) * k (ix2 m c) := by
  pointwise [dots]

theorem scores_apply (μ : FVec Ideal S1x256 .f32) (x : Vec Ideal S1024x256 .f32) (k : FVec Ideal S256x256 .bf16)
    (t : Fin 1024) (m : Fin 256) : scores μ x k (ix2 t m) = dots μ x k (ix2 t m) * scale := by
  pointwise [scores, scale]

theorem expos_apply (s : FVec Ideal S1024x256 .f32) (t : Fin 1024) (m : Fin 256) :
    expos s (ix2 t m) = expo (fun m => s (ix2 t m)) m := by
  pointwise [expos, expo]
  rw [show Ideal.ofBits .f32 0xFF800000#32 = ⊥ by simp [Ideal.ofBits, Ideal.ieee]]

theorem shares_apply (e : FVec Ideal S1024x256 .f32) (t : Fin 1024) (m : Fin 256) :
    shares e (ix2 t m) = Ideal.div (e (ix2 t m)) (∑ k, e (ix2 t k)) := by
  pointwise [shares]

theorem dscores_apply (p w : FVec Ideal S1024x256 .f32) (t : Fin 1024) (m : Fin 256) :
    dscores p w (ix2 t m) = p (ix2 t m) * (w (ix2 t m) - ∑ k, w (ix2 t k) * p (ix2 t k)) * scale := by
  pointwise [dscores, scale]

theorem addQ_apply (μ : FVec Ideal S1x256 .f32) (a : FVec Ideal S1024x256 .f32) (s : FVec Ideal S1024x256 .bf16)
    (k : FVec Ideal S256x256 .bf16) (t : Fin 1024) (c : Fin 256) :
    addQ μ a s k (ix2 t c) = a (ix2 t c) + (∑ m, s (ix2 t m) * k (ix2 m c)) * μ (ix2 0 c) := by
  pointwise [addQ]

theorem addK_apply (a : FVec Ideal S256x256 .f32) (s x : FVec Ideal S1024x256 .bf16) (m c : Fin 256) :
    addK a s x (ix2 m c) = a (ix2 m c) + ∑ t, s (ix2 t m) * x (ix2 t c) := by
  pointwise [addK]

/-! ## The four heads -/

/-- The rows of a block. -/
abbrev row {n : ℕ} (x : Vec Ideal ⟨2, ![n, 256]⟩ .f32) (t : Fin n) : Fin 256 → EReal := fun c => x (ix2 t c)

variable (q g : Vec Ideal S1024x256 .f32) (k v : FVec Ideal S256x256 .bf16)

/-- The softmax weights of head `h`. -/
def probs (h : Fin 4) : FVec Ideal S1024x256 .f32 := shares (expos (scores (headMask h) q k))

/-- The gradient of the scaled scores of head `h`. -/
def grads (h : Fin 4) : FVec Ideal S1024x256 .bf16 := dscores (probs q k h) (dots (headMask h) g v)

theorem dots_row (h : Fin 4) (t : Fin 1024) (m : Fin 256) :
    dots (headMask h) g v (ix2 t m) = dweight (row g t) (row v) h m := by
  simp only [dots_apply, masked_apply, headMask_apply]
  exact sum_mask h (row g t) (row v m)

theorem probs_row (h : Fin 4) (t : Fin 1024) (m : Fin 256) :
    probs q k h (ix2 t m) = soft (score (row q t) (row k) h) m := by
  have e : (fun m => scores (headMask h) q k (ix2 t m)) = score (row q t) (row k) h := funext fun m => by
    rw [scores_apply, dots_row]; rfl
  simp only [probs, shares_apply, expos_apply, e, soft]

theorem grads_row (h : Fin 4) (t : Fin 1024) (m : Fin 256) :
    grads q g k v h (ix2 t m) = rowGrad (row q t) (row g t) (row k) (row v) h m := by
  simp only [grads, dscores_apply, probs_row, dots_row]
  rfl

/-- The gradient of a block's queries. -/
def gradQ : FVec Ideal S1024x256 .f32 :=
  addQ (headMask 3) (addQ (headMask 2) (addQ (headMask 1) (addQ (headMask 0) k0_pay4 (grads q g k v 0) k)
    (grads q g k v 1) k) (grads q g k v 2) k) (grads q g k v 3) k

/-- What a block adds to the gradient of the keys. -/
def gradK : FVec Ideal S256x256 .f32 :=
  addK (addK (addK (addK k0_pay5 (grads q g k v 0) (masked (headMask 0) q))
    (grads q g k v 1) (masked (headMask 1) q)) (grads q g k v 2) (masked (headMask 2) q))
    (grads q g k v 3) (masked (headMask 3) q)

/-- What a block adds to the gradient of the values. -/
def gradV : FVec Ideal S256x256 .f32 :=
  addK (addK (addK (addK k0_pay6 (probs q k 0) (masked (headMask 0) g))
    (probs q k 1) (masked (headMask 1) g)) (probs q k 2) (masked (headMask 2) g))
    (probs q k 3) (masked (headMask 3) g)

theorem zeroQ (t : Fin 1024) (c : Fin 256) : (k0_pay4 (F := Ideal)) (ix2 t c) = 0 := by pointwise [k0_pay4]
theorem zeroK (m c : Fin 256) : (k0_pay5 (F := Ideal)) (ix2 m c) = 0 := by pointwise [k0_pay5]
theorem zeroV (m c : Fin 256) : (k0_pay6 (F := Ideal)) (ix2 m c) = 0 := by pointwise [k0_pay6]

theorem mask_self (c : Fin 256) : mask (head c) c = 1 := if_pos rfl
theorem mask_ne {b : Fin 4} {c : Fin 256} (h : b ≠ head c) : mask b c = 0 := if_neg (Ne.symm h)

theorem gradQ_row (t : Fin 1024) (c : Fin 256) :
    gradQ q g k v (ix2 t c) = dq (row q t) (row g t) (row k) (row v) c := by
  simp only [gradQ, addQ_apply, zeroQ, headMask_apply, grads_row]
  rw [sum_heads c (fun h => (∑ m, rowGrad (row q t) (row g t) (row k) (row v) h m * k (ix2 m c)) * mask h c)
    fun b hb => by rw [mask_ne hb, mul_zero], mask_self, mul_one]
  rfl

theorem gradK_row (m c : Fin 256) :
    gradK q g k v (ix2 m c) = ∑ t, dk (row q t) (row g t) (row k) (row v) m c := by
  simp only [gradK, addK_apply, zeroK, masked_apply, headMask_apply, grads_row]
  rw [sum_heads c (fun h => ∑ t, rowGrad (row q t) (row g t) (row k) (row v) h m * (q (ix2 t c) * mask h c))
    fun b hb => by simp only [mask_ne hb, mul_zero, Finset.sum_const_zero]]
  simp only [mask_self, mul_one]
  rfl

theorem gradV_row (m c : Fin 256) : gradV q g k (ix2 m c) = ∑ t, dv (row q t) (row g t) (row k) m c := by
  simp only [gradV, addK_apply, zeroV, masked_apply, headMask_apply, probs_row]
  rw [sum_heads c (fun h => ∑ t, soft (score (row q t) (row k) h) m * (g (ix2 t c) * mask h c))
    fun b hb => by simp only [mask_ne hb, mul_zero, Finset.sum_const_zero]]
  simp only [mask_self, mul_one]
  rfl

end Cert.KernelIdeal.Attn

end
-- ==== Proof.AttnRun.lean ====
/-
  The attention's backward kernel over its whole grid, over extended reals: what its three result arrays end holding.
-/
module

public import proofs.«01_k».proof.Proof.AttnBlock

@[expose] public section

noncomputable section

namespace Cert.KernelIdeal.Attn

open Cert.KernelIdeal Cert.KernelIdeal.Gen Idealize.ShloMosaic Idealize.ShloMosaic.TcCoe Idealize.ShloMosaic.Tactic
open Idealize.SL.Sem Cert.Heads

variable (m : (ℓ : Loc nD τ sig) → Buf (Elt Ideal) ℓ) (c : Dev nD)

/-- A grid point's block of queries, of gradients, and its keys and values. -/
abbrev qB (t : Fin cfg0.N) : Vec Ideal S1024x256 .f32 := iblk m c 1 t
abbrev gB (t : Fin cfg0.N) : Vec Ideal S1024x256 .f32 := iblk m c 0 t
abbrev kB (t : Fin cfg0.N) : Vec Ideal S256x256 .f32 :=
  View.ld (iblk m c 2 t) (Rect.unit ![0, 0] ![256, 256] inb_S256x512_S256x256_0_0)
abbrev vB (t : Fin cfg0.N) : Vec Ideal S256x256 .f32 :=
  View.ld (iblk m c 2 t) (Rect.unit ![0, 256] ![256, 256] inb_S256x512_S256x256_0_256)

abbrev A0 := m ((c : Thread nD τ).loc main_arg0)
abbrev A1 := m ((c : Thread nD τ).loc main_arg1)
abbrev A2 := m ((c : Thread nD τ).loc main_arg2)

theorem idx : ∀ t : Fin cfg0.N, win0_0.index t = ![t.val, 3] ∧ win0_1.index t = ![t.val, 5] ∧ win0_2.index t = ![0, 0]
    ∧ win0_3.index t = ![t.val, 0] ∧ win0_4.index t = ![0, 0] ∧ win0_5.index t = ![0, 0] :=
  (by decide +kernel : ∀ t : Fin grid0.N, _)

/-! ## The blocks are rows of the arrays -/

/-- Row `r` of block `t`. -/
def at8 (t : Fin cfg0.N) (r : Fin 1024) : Fin 8192 :=
  ⟨t.val * 1024 + r.val, by have : t.val < 8 := lt_of_lt_of_eq t.isLt N_0; omega⟩

theorem qB_row (t : Fin cfg0.N) (r : Fin 1024) : row (qB m c t) r = qRow (A1 m c) (at8 t r) := by
  funext d
  unfold row qB qRow A1
  blk_ext [iblk, V, idx t, at8]

theorem gB_row (t : Fin cfg0.N) (r : Fin 1024) : row (gB m c t) r = gRow (A0 m c) (at8 t r) := by
  funext d
  unfold row gB gRow A0
  blk_ext [iblk, V, idx t, at8]

theorem kB_row (t : Fin cfg0.N) : row (kB m c t) = kRow (A2 m c) := by
  funext r d
  pointwise [row, kB, kRow, A2]
  blk_ext [iblk, V, idx t]

theorem vB_row (t : Fin cfg0.N) : row (vB m c t) = vRow (A2 m c) := by
  funext r d
  pointwise [row, vB, vRow, A2]
  blk_ext [iblk, V, idx t]

theorem gradQ_at (t : Fin cfg0.N) (r : Fin 1024) (d : Fin 256) :
    gradQ (qB m c t) (gB m c t) (kB m c t) (vB m c t) (ix2 r d)
      = dq (qRow (A1 m c) (at8 t r)) (gRow (A0 m c) (at8 t r)) (kRow (A2 m c)) (vRow (A2 m c)) d := by
  rw [gradQ_row, qB_row, gB_row, kB_row, vB_row]

/-! ## The gradient of the queries -/

theorem out3 (t : Fin cfg0.N) :
    (outsAt0 m c t.val t.isLt).1 = gradQ (qB m c t) (gB m c t) (kB m c t) (vB m c t) := by
  have hN : t.val < 8 := lt_of_lt_of_eq t.isLt N_0
  by_cases h : t.val % 8 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem final3 : (dats m 0 c).arrAt 3 cfg0.N = resQ (A0 m c) (A1 m c) (A2 m c) := by
  refine (dats m 0 c).arrAt_eq_of_covers 3 _ (by decide +kernel) fun t hf y => ?_
  blk_simp
  rw [after0_3, out3]
  have e0 : (win0_3.blk t).view.emb y 0 = at8 t (y 0) := Fin.ext (by blk_simp [idx t, at8])
  have e1 : (win0_3.blk t).view.emb y 1 = y 1 := Fin.ext (by blk_simp [idx t])
  have ey : y = ix2 (y 0) (y 1) := by funext a; match a with | 0 => rfl | 1 => rfl
  unfold resQ
  rw [e0, e1]
  exact (congrArg _ ey).trans (gradQ_at m c t (y 0) (y 1))

/-! ## Its sum over the rows -/

/-- A sum over the eight blocks' rows is a sum over the array's rows. -/
theorem sum_at8 (f : Fin 8192 → EReal) : ∑ t : Fin cfg0.N, ∑ r, f (at8 t r) = ∑ t, f t := by
  refine Fin.sum_mul_add_congr fun s k hl => ?_
  rfl

/-- A block's column sums. -/
def colsum (x : FVec Ideal S1024x256 .f32) : FVec Ideal S1x256 .f32 :=
  shapeCast S1x256 (multiReduction .add [0] S256 x 0x00000000#32 reduces_S1024x256_S256 (.inl rfl) rfl)
    shapeCasts_S256_S1x256

theorem colsum_apply (x : FVec Ideal S1024x256 .f32) (j : S1x256.Idx) : colsum x j = ∑ r, x (ix2 r (j 1)) := by
  have ej : j = ix2 0 (j 1) := by
    funext a
    match a with
    | 0 => exact Fin.ext (by have : (j 0).val < 1 := (j 0).isLt; show (j 0).val = 0; omega)
    | 1 => rfl
  rw [ej]
  pointwise [colsum]

theorem colsum_sum (j : S1x256.Idx) :
    ∑ t : Fin cfg0.N, (show EReal from colsum (gradQ (qB m c t) (gB m c t) (kB m c t) (vB m c t)) j)
      = resB (A0 m c) (A1 m c) (A2 m c) j := by
  refine Eq.trans (Fin.sum_fin_congr fun t => ?_)
    (sum_at8 fun t => dq (qRow (A1 m c) t) (gRow (A0 m c) t) (kRow (A2 m c)) (vRow (A2 m c)) (j 1))
  refine (colsum_apply _ j).trans ?_
  exact Finset.sum_congr rfl fun r _ => gradQ_at m c t r (j 1)

theorem final4 : (dats m 0 c).arrAt 4 cfg0.N = resB (A0 m c) (A1 m c) (A2 m c) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => colsum (gradQ (qB m c t) (gB m c t) (kB m c t) (vB m c t)) j)
    (fun t h j => by
      have h1 : ¬1 ≤ t.val := by have : t.val < 8 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay45
      rw [shapeCast_self]
      rfl)
    (le_of_eq N_0) t0_7 rfl j, zero_add]
  exact colsum_sum m c j

/-! ## The gradient of the keys and the values -/

/-- What block `t` adds to the gradient of the keys and the values side by side. -/
def addKV (t : Fin cfg0.N) : Vec Ideal S256x512 .f32 := fun i =>
  if h : (i 1).val < 256 then gradK (qB m c t) (gB m c t) (kB m c t) (vB m c t) (ix2 (i 0) ⟨(i 1).val, h⟩)
  else gradV (qB m c t) (gB m c t) (kB m c t)
    (ix2 (i 0) ⟨(i 1).val - 256, by have : (i 1).val < 512 := (i 1).isLt; omega⟩)

theorem addKV_left (t : Fin cfg0.N) (i : S256x512.Idx) (x : S256x256.Idx) (h0 : (i 0).val = (x 0).val)
    (h1 : (i 1).val = (x 1).val) : addKV m c t i = gradK (qB m c t) (gB m c t) (kB m c t) (vB m c t) x := by
  have hx : (x 1).val < 256 := (x 1).isLt
  rw [addKV, dif_pos (by omega)]
  exact congrArg (gradK _ _ _ _) (by
    funext a
    match a with
    | 0 => exact Fin.ext h0
    | 1 => exact Fin.ext h1)

theorem addKV_right (t : Fin cfg0.N) (i : S256x512.Idx) (x : S256x256.Idx) (h0 : (i 0).val = (x 0).val)
    (h1 : (i 1).val = 256 + (x 1).val) : addKV m c t i = gradV (qB m c t) (gB m c t) (kB m c t) x := by
  rw [addKV, dif_neg (by omega)]
  exact congrArg (gradV _ _ _) (by
    funext a
    match a with
    | 0 => exact Fin.ext h0
    | 1 => exact Fin.ext (by show (i 1).val - 256 = (x 1).val; omega))

theorem gradK_sum (r d : Fin 256) :
    ∑ t : Fin cfg0.N, (show EReal from gradK (qB m c t) (gB m c t) (kB m c t) (vB m c t) (ix2 r d))
      = resK (A0 m c) (A1 m c) (A2 m c) r d := by
  refine Eq.trans (Fin.sum_fin_congr fun t => ?_)
    (sum_at8 fun t => dk (qRow (A1 m c) t) (gRow (A0 m c) t) (kRow (A2 m c)) (vRow (A2 m c)) r d)
  refine (gradK_row _ _ _ _ r d).trans (Finset.sum_congr rfl fun b _ => ?_)
  rw [qB_row, gB_row, kB_row, vB_row]

theorem gradV_sum (r d : Fin 256) :
    ∑ t : Fin cfg0.N, (show EReal from gradV (qB m c t) (gB m c t) (kB m c t) (ix2 r d))
      = resV (A0 m c) (A1 m c) (A2 m c) r d := by
  refine Eq.trans (Fin.sum_fin_congr fun t => ?_)
    (sum_at8 fun t => dv (qRow (A1 m c) t) (gRow (A0 m c) t) (kRow (A2 m c)) r d)
  refine (gradV_row _ _ _ r d).trans (Finset.sum_congr rfl fun b _ => ?_)
  rw [qB_row, gB_row, kB_row]

theorem addKV_sum (i : S256x512.Idx) :
    ∑ t : Fin cfg0.N, (show EReal from addKV m c t i) = resKV (A0 m c) (A1 m c) (A2 m c) i := by
  have hi : (i 1).val < 512 := (i 1).isLt
  by_cases h : (i 1).val < 256
  · rw [resKV, dif_pos h]
    refine Eq.trans ?_ (gradK_sum m c (i 0) ⟨(i 1).val, h⟩)
    exact Fin.sum_fin_congr fun t => addKV_left m c t i (ix2 (i 0) ⟨(i 1).val, h⟩) rfl rfl
  · rw [resKV, dif_neg h]
    refine Eq.trans ?_ (gradV_sum m c (i 0) ⟨(i 1).val - 256, by omega⟩)
    exact Fin.sum_fin_congr fun t => addKV_right m c t i (ix2 (i 0) ⟨(i 1).val - 256, by omega⟩) rfl
      (by show (i 1).val = 256 + ((i 1).val - 256); omega)

theorem out5_A (t : Fin cfg0.N) (h : t.val % 8 = 0) (j : S256x512.Idx) :
    (outsAt0 m c t.val t.isLt).2.2 j = 0 + addKV m c t j := by
  have h1 : ¬1 ≤ t.val := by have : t.val < 8 := lt_of_lt_of_eq t.isLt N_0; omega
  rw [outsAt0_A m c t h h1 h h1 h h1, zero_add]
  frame_out
  canon_tiles x hx
  · rw [addKV_right m c t j x hx0 hx1]
    rfl
  · rw [addKV_left m c t j x hx0 hx1]
    rfl

theorem out5_B (t : Fin cfg0.N) (h : ¬t.val % 8 = 0) (j : S256x512.Idx) :
    (outsAt0 m c t.val t.isLt).2.2 j
      = (outsAt0 m c (t.val - 1) (lt_of_le_of_lt (Nat.sub_le _ _) t.isLt)).2.2 j + addKV m c t j := by
  have h1 : 1 ≤ t.val := by omega
  rw [outsAt0_B m c t h h1 h h1 h h1]
  frame_out
  generalize (outsAt0 m c (t.val - 1) _).2.2 = xo
  canon_tiles x hx
  · rw [addKV_right m c t j x hx0 hx1]
    unfold k0_pay1
    rw [shapeCast_self]
    refine congrArg₂ (· + ·) (congrArg xo ?_) rfl
    funext a
    match a with
    | 0 => exact Fin.ext (by show 0 + 1 * (x 0).val = (j 0).val; omega)
    | 1 => exact Fin.ext (by show 256 + 1 * (x 1).val = (j 1).val; omega)
  · rw [addKV_left m c t j x hx0 hx1]
    unfold k0_pay46
    rw [shapeCast_self]
    refine congrArg₂ (· + ·) (congrArg xo ?_) rfl
    funext a
    match a with
    | 0 => exact Fin.ext (by show 0 + 1 * (x 0).val = (j 0).val; omega)
    | 1 => exact Fin.ext (by show 0 + 1 * (x 1).val = (j 1).val; omega)

theorem final5 : (dats m 0 c).arrAt 5 cfg0.N = resKV (A0 m c) (A1 m c) (A2 m c) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (addKV m c) (out5_A m c) (out5_B m c) (le_of_eq N_0) t0_7 rfl j, zero_add]
  exact addKV_sum m c j

end Cert.KernelIdeal.Attn

end
-- ==== Proof.AttnRef.lean ====
/-
  The reference of the attention's backward call, over extended reals: its stages at an index, and its three results.
-/
module

public import proofs.«01_k».proof.Proof.Gen.ReferenceIdeal.Read
public import proofs.«01_k».proof.Proof.Heads
public import Idealize.ShloMosaic.Lib.Pipeline.ValueKit

@[expose] public section

noncomputable section

namespace Cert.ReferenceIdeal.Attn

open Cert.ReferenceIdeal Cert.ReferenceIdeal.Gen Cert.ReferenceIdeal.Read Idealize.ShloMosaic
open Idealize.ShloMosaic.TcCoe Idealize.ShloMosaic.Tactic Idealize.SL.Sem Cert.Heads

variable (g : Vec Ideal S8192x1024 .f32) (q : Vec Ideal S8192x1536 .f32) (kv : Vec Ideal S256x512 .f32)

/-- The scores, in the order of the reference's arrays. -/
abbrev sc (h : Fin 4) (t : Fin 8192) : Fin 256 → EReal := score (qRow q t) (kRow kv) h

theorem score_at (h : Fin 4) (t : Fin 8192) (m : Fin 256) : val_main_v8 (F := Ideal) q kv (ix3 h t m) = sc q kv h t m := by
  pointwise [val_main_v8, val_main_v7, val_main_cst, val_main_v6, val_main_v1, val_main_v0, val_main_v4, val_main_v2]
  rfl

theorem max_at (h : Fin 4) (t : Fin 8192) :
    val_main_v9 (F := Ideal) q kv (ix2 h t) = Finset.univ.fold max ⊥ (sc q kv h t) := by
  pointwise [val_main_v9, val_main_cst_0]
  simp only [score_at]
  rw [show Ideal.ofBits .f32 0xFF800000#32 = ⊥ by simp [Ideal.ofBits, Ideal.ieee]]

theorem top_at (h : Fin 4) (t : Fin 8192) :
    val_main_v16 (F := Ideal) q kv (ix2 h t) = Finset.univ.fold max ⊥ (sc q kv h t) := by
  rw [val_main_v16_apply, val_main_v15_apply, val_main_cst_2_apply, max_at]
  refine Eq.trans (b := max (Ideal.ofBits .f32 0xFF800000#32) _) rfl ?_
  rw [show Ideal.ofBits .f32 0xFF800000#32 = ⊥ by simp [Ideal.ofBits, Ideal.ieee]]
  exact max_eq_right bot_le

theorem exp_at (h : Fin 4) (t : Fin 8192) (m : Fin 256) :
    val_main_v29 (F := Ideal) q kv (ix3 h t m) = expo (sc q kv h t) m := by
  pointwise [val_main_v29, val_main_v28, val_main_v27, val_main_v26]
  rw [score_at, top_at]
  rfl

theorem total_at (h : Fin 4) (t : Fin 8192) :
    val_main_v31 (F := Ideal) q kv (ix3 h t 0) = ∑ k, expo (sc q kv h t) k := by
  pointwise [val_main_v31, val_main_v30, val_main_cst_8]
  simp only [exp_at]

theorem soft_at (h : Fin 4) (t : Fin 8192) (m : Fin 256) :
    val_main_v33 (F := Ideal) q kv (ix3 h t m) = soft (sc q kv h t) m := by
  pointwise [val_main_v33, val_main_v32]
  rw [exp_at, total_at]
  rfl

theorem weight_at (h : Fin 4) (t : Fin 8192) (m : Fin 256) :
    val_main_v43 (F := Ideal) g kv (ix3 h t m) = dweight (gRow g t) (vRow kv) h m := by
  pointwise [val_main_v43, val_main_v42, val_main_v41, val_main_v40, val_main_v5, val_main_v3]
  rfl

theorem dscore_at (h : Fin 4) (t : Fin 8192) (m : Fin 256) (s : Fin 256 → ℝ) (hs : sc q kv h t = fun m => (s m : EReal)) :
    val_main_v59 (F := Ideal) g q kv (ix3 h t m) = rowGrad (qRow q t) (gRow g t) (kRow kv) (vRow kv) h m := by
  pointwise [val_main_v59, val_main_v58, val_main_cst_12, val_main_v57, val_main_v56, val_main_v55, val_main_v54, val_main_cst_11,
    val_main_v53, val_main_v52, val_main_v51, val_main_v50, val_main_v49, val_main_cst_10, val_main_v48, val_main_v47, val_main_v46,
    val_main_v36, val_main_v35, val_main_cst_9, val_main_v34]
  simp only [total_at, weight_at, exp_at]
  have e := dscore_eq s (dweight (gRow g t) (vRow kv) h) m
  rw [← hs] at e
  rw [Fin.sum_univ_one]
  exact e

theorem dq_at (t : Fin 8192) (c : Fin 256) (s : Fin 4 → Fin 8192 → Fin 256 → ℝ)
    (hs : ∀ h t, sc q kv h t = fun m => (s h t m : EReal)) :
    val_main_v67 (F := Ideal) g q kv (ix2 t c) = dq (qRow q t) (gRow g t) (kRow kv) (vRow kv) c := by
  pointwise [val_main_v67, val_main_v63, val_main_v62, val_main_v4, val_main_v2]
  simp only [fun h t m => dscore_at g q kv h t m (s h t) (hs h t)]
  rfl

theorem dk_at (m c : Fin 256) (s : Fin 4 → Fin 8192 → Fin 256 → ℝ)
    (hs : ∀ h t, sc q kv h t = fun m => (s h t m : EReal)) :
    val_main_v65 (F := Ideal) g q kv (ix2 m c) = resK g q kv m c := by
  pointwise [val_main_v65, val_main_v61, val_main_v60, val_main_v1, val_main_v0]
  simp only [fun h t m => dscore_at g q kv h t m (s h t) (hs h t)]
  rfl

theorem dv_at (m c : Fin 256) : val_main_v64 (F := Ideal) g q kv (ix2 m c) = resV g q kv m c := by
  pointwise [val_main_v64, val_main_v45, val_main_v44, val_main_v42, val_main_v41, val_main_v40]
  simp only [soft_at]
  exact Finset.sum_congr rfl fun t _ => mul_comm _ _

theorem dkv_at (s : Fin 4 → Fin 8192 → Fin 256 → ℝ) (hs : ∀ h t, sc q kv h t = fun m => (s h t m : EReal)) :
    val_main_v66 (F := Ideal) g q kv = resKV g q kv := by
  funext i
  pointwise [val_main_v66]
  unfold resKV
  split
  · exact dk_at g q kv _ _ s hs
  · exact dv_at g q kv _ _

theorem db_at (s : Fin 4 → Fin 8192 → Fin 256 → ℝ) (hs : ∀ h t, sc q kv h t = fun m => (s h t m : EReal)) :
    val_main_v70 (F := Ideal) g q kv = resB g q kv := by
  funext i
  pointwise [val_main_v70, val_main_v69, val_main_cst_13]
  exact Finset.sum_congr rfl fun t _ => dq_at g q kv t (i 1) s hs

theorem dqs_at (s : Fin 4 → Fin 8192 → Fin 256 → ℝ) (hs : ∀ h t, sc q kv h t = fun m => (s h t m : EReal)) :
    val_main_v68 (F := Ideal) g q kv = resQ g q kv := by
  funext i
  have ei : i = ix2 (i 0) (i 1) := by funext a; match a with | 0 => rfl | 1 => rfl
  rw [ei]
  exact dq_at g q kv (i 0) (i 1) s hs

end Cert.ReferenceIdeal.Attn

end
-- ==== Proof.Finite.lean ====
/-
  Extended reals that are real numbers, and the words a precondition is read from.
-/
module

public import Idealize.ShloMosaic.Lib.Pipeline.ValueKit

@[expose] public section

noncomputable section

namespace Cert.Finite

open Idealize.ShloMosaic

/-- The value is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- A value whose magnitude is below the infinite word is real. -/
theorem real_of_lt (x y : EReal) (hy : y = Ideal.ofBits .f32 0x7F800000#32)
    (h : Ideal.cmp .olt (max x (-x)) y = 1#1) : IsReal x := by
  have ht : Ideal.ofBits .f32 0x7F800000#32 = ⊤ := by simp [Ideal.ofBits, Ideal.ieee]
  rw [hy, ht] at h
  have hl : max x (-x) < ⊤ := by
    by_contra hn
    simp [Ideal.cmp, hn] at h
  induction x using EReal.rec with
  | bot => simp at hl
  | coe r => exact ⟨r, rfl⟩
  | top => simp at hl

theorem and_one {a b : BitVec 1} (h : IntOp.andi a b = 1#1) : a = 1#1 ∧ b = 1#1 := by
  revert a b; decide

end Cert.Finite

end
-- ==== Proof.AttnPre.lean ====
/-
  The attention's precondition read: the queries and the keys are real numbers, so every score is.
-/
module

public import proofs.«01_k».proof.Pre_finite
public import proofs.«01_k».proof.Proof.Heads
public import proofs.«01_k».proof.Proof.Finite
public import Idealize.ShloMosaic.Lib.ReduceAll
public import Idealize.ShloMosaic.Lib.Decide

@[expose] public section

noncomputable section

namespace Cert.AttnPre

open Idealize.ShloMosaic Cert.Pre_finite Cert.Heads Cert.Finite

instance facts : Cert.Pre_finite.Facts where
  slices_S8192x1536_S8192x256_0_1280 := by decide
  bcast_S_S8192x256 := by decide
  reducesTo_S8192x256_S_d0_1 := by decide
  h_S_ := by decide
  slices_S256x512_S256x256_0_0 := by decide
  bcast_S_S256x256 := by decide
  reducesTo_S256x256_S_d0_1 := by decide

variable (g : Vec Ideal ⟨2, ![8192, 1024]⟩ .f32) (q : Vec Ideal ⟨2, ![8192, 1536]⟩ .f32)
  (kv : Vec Ideal ⟨2, ![256, 512]⟩ .f32)

theorem parts (h : Cert.Pre_finite.fn (F := Ideal) g q kv = fun _ => 1#1) :
    (∀ t c, ∃ r : ℝ, qRow q t c = r) ∧ ∀ m c, ∃ r : ℝ, kRow kv m c = r := by
  have h0 := congrFun h (fun a => a.elim0)
  obtain ⟨h1, h2⟩ := and_one h0
  haveI : Subsingleton S_.Idx := ⟨fun a b => funext fun i => i.elim0⟩
  constructor
  · intro t c
    have e := Host.reduce_andi_all _ _ _ _ _ h1 (ix2 t c)
    obtain ⟨r, hr⟩ := real_of_lt _ _ rfl e
    refine ⟨r, Eq.trans ?_ hr⟩
    pointwise
    rfl
  · intro t c
    have e := Host.reduce_andi_all _ _ _ _ _ h2 (ix2 t c)
    obtain ⟨r, hr⟩ := real_of_lt _ _ rfl e
    refine ⟨r, Eq.trans ?_ hr⟩
    pointwise
    rfl

/-- The scores of every row and head are real. -/
theorem scores (h : Cert.Pre_finite.fn (F := Ideal) g q kv = fun _ => 1#1) :
    ∃ s : Fin 4 → Fin 8192 → Fin 256 → ℝ, ∀ b t, score (qRow q t) (kRow kv) b = fun m => (s b t m : EReal) := by
  obtain ⟨hq, hk⟩ := parts g q kv h
  choose s hs using fun b t => score_coe (qRow q t) (kRow kv) (hq t) hk b
  exact ⟨s, hs⟩

end Cert.AttnPre

end
-- ==== Proof.AttnClaims.lean ====
/-
  The claims of the attention's backward call.
-/
module

public import proofs.«01_k».proof.Defs
public import proofs.«01_k».proof.Proof.Gen.Kernel.Frame
public import proofs.«01_k».proof.Proof.AttnRun
public import proofs.«01_k».proof.Proof.AttnRef
public import proofs.«01_k».proof.Proof.AttnPre
public import Idealize.ShloMosaic.Lib.Claim
public import Idealize.ShloMosaic.Lib.Quiescent

@[expose] public section

noncomputable section

namespace Cert.Proof.Attn

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem frame_reference_pre : Cert.quiescent_ReferenceIdeal_pre_finite := fun m ρ _ => frame_reference m ρ trivial

theorem algebraic : Cert.algebraic_KernelIdeal_ReferenceIdeal_pre_finite := by
  intro m ρ m' ρ' hpre hag
  have hr := Cert.ReferenceIdeal.Value.run (F := Ideal) m' ρ'
  refine ⟨fun c => Cert.Heads.resQ (Cert.KernelIdeal.Attn.A0 m c) (Cert.KernelIdeal.Attn.A1 m c) (Cert.KernelIdeal.Attn.A2 m c),
    fun c => Cert.Heads.resB (Cert.KernelIdeal.Attn.A0 m c) (Cert.KernelIdeal.Attn.A1 m c) (Cert.KernelIdeal.Attn.A2 m c),
    fun c => Cert.Heads.resKV (Cert.KernelIdeal.Attn.A0 m c) (Cert.KernelIdeal.Attn.A1 m c) (Cert.KernelIdeal.Attn.A2 m c), ?_, ?_⟩
  · refine (θ_run _ _ _).mono (fun r h c => ?_) (Cert.KernelIdeal.Value.run_blocks (F := Ideal) m ρ)
    obtain ⟨h0, h1, h2, h3⟩ := h c
    exact ⟨h0.trans (Cert.KernelIdeal.Attn.final3 m c), h1.trans (Cert.KernelIdeal.Attn.final4 m c),
      h2.trans (Cert.KernelIdeal.Attn.final5 m c), h3⟩
  · refine (θ_run _ _ _).mono (fun r h c => ?_) hr
    obtain ⟨h0, h1, h2, h3⟩ := h c
    obtain ⟨a0, a1, a2⟩ := hag c
    obtain ⟨s, hs⟩ := Cert.AttnPre.scores _ _ _ (hpre c)
    rw [Cert.ReferenceIdeal.Read.val_main_v68_eq, a0, a1, a2, Cert.ReferenceIdeal.Attn.dqs_at _ _ _ s hs] at h0
    rw [Cert.ReferenceIdeal.Read.val_main_v70_eq, a0, a1, a2, Cert.ReferenceIdeal.Attn.db_at _ _ _ s hs] at h1
    rw [Cert.ReferenceIdeal.Read.val_main_v66_eq, a0, a1, a2, Cert.ReferenceIdeal.Attn.dkv_at _ _ _ s hs] at h2
    exact ⟨h0, h1, h2, h3⟩

end Cert.Proof.Attn

end
-- ==== Proof.Norm.lean ====
/-
  The normalisation of a row of 1024 extended reals and its gradient, in two forms: the one through the normalised row,
  and the one of the chain rule through the mean and the variance.
-/
module

public import Idealize.ShloMosaic.PureOps.Ideal
public import Idealize.ShloMosaic.Lib.Pointwise

@[expose] public section

noncomputable section

namespace Cert.Norm

open Idealize.ShloMosaic

/-- The row's length and the constant added to the variance. -/
def len : EReal := Ideal.ofBits .f32 0x44800000#32
def eps : EReal := Ideal.ofBits .f32 0x3727C5AC#32
def two : EReal := Ideal.ofBits .f32 0x40000000#32
def negHalf : EReal := Ideal.ofBits .f32 0xBF000000#32

theorem len_eq : len = ((1024 : ℝ) : EReal) := by
  simp [len, Ideal.ofBits, Ideal.ieee]; rw [← EReal.coe_mul]; norm_num

theorem two_eq : two = ((2 : ℝ) : EReal) := by
  simp [two, Ideal.ofBits, Ideal.ieee]; rw [← EReal.coe_mul]; norm_num

theorem negHalf_eq : negHalf = ((-(1 / 2) : ℝ) : EReal) := by
  simp [negHalf, Ideal.ofBits, Ideal.ieee]; rw [← EReal.coe_mul]; norm_num

theorem eps_pos : ∃ e : ℝ, 0 < e ∧ eps = (e : EReal) := by
  refine ⟨_, ?_, by simp [eps, Ideal.ofBits, Ideal.ieee]; rw [← EReal.coe_mul]⟩
  norm_num

/-- The mean of a row. -/
def mean (x : Fin 1024 → EReal) : EReal := Ideal.div (∑ c, x c) len

/-- A row less its mean. -/
def cent (x : Fin 1024 → EReal) (c : Fin 1024) : EReal := x c - mean x

/-- The variance and the constant. -/
def spread (x : Fin 1024 → EReal) : EReal := mean (fun c => cent x c * cent x c) + eps

/-- The reciprocal of its root. -/
def recip (x : Fin 1024 → EReal) : EReal := Ideal.rsqrt (spread x)

/-- The normalised row. -/
def unit (x : Fin 1024 → EReal) (c : Fin 1024) : EReal := cent x c * recip x

/-- The gradient of a row, from the gradient `t` of the normalised row `u` and the root's reciprocal `s`. -/
def dnormOf (s : EReal) (u t : Fin 1024 → EReal) (c : Fin 1024) : EReal :=
  s * (t c - mean t - u c * mean fun c => t c * u c)

/-- The gradient of `x`, from the gradient `t` of the normalised row. -/
def dnorm (x t : Fin 1024 → EReal) (c : Fin 1024) : EReal := dnormOf (recip x) (unit x) t c

/-- The gradient of the variance, by the chain rule, divided over the row. -/
def dspread (x t : Fin 1024 → EReal) : EReal :=
  Ideal.div ((∑ c, cent x c * t c) * (negHalf * Ideal.div (recip x) (spread x))) len

/-- The gradient of `x` by the chain rule: through the two places the row less its mean is read, and through the mean. -/
def dchain (x t : Fin 1024 → EReal) (c : Fin 1024) : EReal :=
  t c * recip x + dspread x t * (two * cent x c)
    + Ideal.div ((∑ c, -(t c * recip x)) + ∑ c, -(dspread x t * (two * cent x c))) len

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of extended reals is real only if every one is. -/
theorem real_of_sum {ι : Type} (s : Finset ι) (f : ι → EReal) (h : ∃ r : ℝ, ∑ i ∈ s, f i = r) :
    ∀ i ∈ s, ∃ r : ℝ, f i = r := by
  classical
  induction s using Finset.induction_on with
  | empty => simp
  | insert a s ha ih =>
    obtain ⟨r, hr⟩ := h
    rw [Finset.sum_insert ha] at hr
    have h2 : (∃ p : ℝ, f a = p) ∧ ∃ q : ℝ, ∑ i ∈ s, f i = q := by
      generalize f a = u at hr
      generalize ∑ i ∈ s, f i = v at hr
      induction u using EReal.rec <;> induction v using EReal.rec <;> simp_all
    intro i hi
    rcases Finset.mem_insert.mp hi with rfl | hi
    · exact h2.1
    · exact ih h2.2 i hi

theorem mean_coe (x : Fin 1024 → ℝ) : mean (fun c => (x c : EReal)) = (((∑ c, x c) * (1 / 1024) : ℝ) : EReal) := by
  rw [mean, len_eq, Ideal.div_coe (by norm_num), ← coe_sum, EReal.coe_mul]

/-- A row of reals less its mean is real, and sums to zero; the root's reciprocal is the positive real whose square
    divides one by the variance and the constant. -/
theorem parts_coe (x : Fin 1024 → ℝ) : ∃ (d : Fin 1024 → ℝ) (v r : ℝ), 0 < r ∧ v ≠ 0 ∧ r * r * v = 1 ∧ ∑ c, d c = 0
    ∧ (∀ c, cent (fun c => (x c : EReal)) c = (d c : EReal)) ∧ spread (fun c => (x c : EReal)) = (v : EReal)
    ∧ recip (fun c => (x c : EReal)) = (r : EReal) := by
  obtain ⟨e, he, hee⟩ := eps_pos
  have hd : ∀ c, cent (fun c => (x c : EReal)) c = ((x c - (∑ c, x c) * (1 / 1024) : ℝ) : EReal) := fun c => by
    rw [cent, mean_coe, EReal.coe_sub]
  set d : Fin 1024 → ℝ := fun c => x c - (∑ c, x c) * (1 / 1024) with hdd
  have hv : spread (fun c => (x c : EReal)) = (((∑ c, d c * d c) * (1 / 1024) + e : ℝ) : EReal) := by
    rw [spread, hee]
    simp only [hd]
    rw [show (fun c => ((d c : ℝ) : EReal) * (d c : EReal)) = fun c => ((d c * d c : ℝ) : EReal) from
      funext fun c => (EReal.coe_mul _ _).symm, mean_coe, ← EReal.coe_add]
  have hp : 0 < (∑ c, d c * d c) * (1 / 1024) + e := by
    have : 0 ≤ ∑ c, d c * d c := Finset.sum_nonneg fun c _ => mul_self_nonneg _
    positivity
  set v : ℝ := (∑ c, d c * d c) * (1 / 1024) + e
  refine ⟨d, v, (Real.sqrt v)⁻¹, inv_pos.mpr (Real.sqrt_pos.mpr hp), ne_of_gt hp, ?_, ?_, hd, hv, ?_⟩
  · have := Real.mul_self_sqrt (le_of_lt hp)
    have hs : Real.sqrt v ≠ 0 := ne_of_gt (Real.sqrt_pos.mpr hp)
    field_simp
    rw [sq, this]
  · simp only [hdd, Finset.sum_sub_distrib, Finset.sum_const, Finset.card_univ, Fintype.card_fin, nsmul_eq_mul]
    ring_nf
  · rw [recip, hv, Ideal.rsqrt_coe, if_neg (not_lt.mpr (le_of_lt hp)), if_neg (ne_of_gt hp)]

/-- A row that is not all reals normalises to zero. -/
theorem spread_top (x : Fin 1024 → EReal) (h : ¬∃ a : Fin 1024 → ℝ, x = fun c => (a c : EReal)) : spread x = ⊤ := by
  have hm : ¬∃ r : ℝ, ∑ c, x c = r := fun hr => h (by
    choose a ha using fun c => real_of_sum Finset.univ x hr c (Finset.mem_univ c)
    exact ⟨a, funext ha⟩)
  have hc : ∀ c, cent x c * cent x c = ⊤ := by
    intro c
    have hs : mean x = ⊤ ∨ mean x = ⊥ := by
      rw [mean, len_eq, Ideal.div_coe (by norm_num)]
      generalize ∑ c, x c = u at hm
      induction u using EReal.rec with
      | bot => right; exact EReal.bot_mul_coe_of_pos (by norm_num)
      | coe r => exact absurd ⟨r, rfl⟩ hm
      | top => left; exact EReal.top_mul_coe_of_pos (by norm_num)
    have ht : cent x c = ⊤ ∨ cent x c = ⊥ := by
      rw [cent]
      rcases hs with hs | hs <;> rw [hs]
      · right; simp
      · generalize x c = u
        induction u using EReal.rec <;> simp
    rcases ht with ht | ht <;> rw [ht] <;> simp
  obtain ⟨e, he, hee⟩ := eps_pos
  rw [spread, hee]
  simp only [hc]
  have : ∑ _c : Fin 1024, (⊤ : EReal) = ⊤ := by
    rw [Finset.sum_const, Finset.card_univ, Fintype.card_fin]
    rw [EReal.nsmul_eq_mul, show ((1024 : ℕ) : EReal) = ((1024 : ℝ) : EReal) by norm_cast,
      EReal.coe_mul_top_of_pos (by norm_num)]
  rw [mean, this, len_eq, Ideal.div_coe (by norm_num), EReal.top_mul_coe_of_pos (by norm_num), EReal.top_add_coe]

theorem recip_zero (x : Fin 1024 → EReal) (h : ¬∃ a : Fin 1024 → ℝ, x = fun c => (a c : EReal)) : recip x = 0 := by
  rw [recip, spread_top x h, Ideal.rsqrt_top]

/-- The normalised row is real whatever the row. -/
theorem unit_coe (x : Fin 1024 → EReal) : ∃ u : Fin 1024 → ℝ, ∀ c, unit x c = (u c : EReal) := by
  by_cases h : ∃ a : Fin 1024 → ℝ, x = fun c => (a c : EReal)
  · obtain ⟨a, rfl⟩ := h
    obtain ⟨d, v, r, -, -, -, -, h1, -, h2⟩ := parts_coe a
    exact ⟨fun c => d c * r, fun c => by rw [unit, h1, h2, EReal.coe_mul]⟩
  · exact ⟨fun _ => 0, fun c => by rw [unit, recip_zero x h, mul_zero]; rfl⟩

/-- The two forms agree where the incoming gradient is real. -/
theorem dchain_eq (x : Fin 1024 → EReal) (t : Fin 1024 → ℝ) (c : Fin 1024) :
    dchain x (fun c => (t c : EReal)) c = dnorm x (fun c => (t c : EReal)) c := by
  by_cases h : ∃ a : Fin 1024 → ℝ, x = fun c => (a c : EReal)
  · obtain ⟨a, rfl⟩ := h
    obtain ⟨d, v, r, hr, hv, hrv, hd, h1, h2, h3⟩ := parts_coe a
    have e1 : dspread (fun c => (a c : EReal)) (fun c => (t c : EReal))
        = ((((∑ c, d c * t c) * (-(1 / 2) * (r * (1 / v)))) * (1 / 1024) : ℝ) : EReal) := by
      simp only [dspread, h1, h2, h3, negHalf_eq, len_eq, Ideal.div_coe hv,
        Ideal.div_coe (show (1024 : ℝ) ≠ 0 by norm_num), ← EReal.coe_mul, ← coe_sum]
    have e2 : dchain (fun c => (a c : EReal)) (fun c => (t c : EReal)) c
        = ((t c * r + ((∑ c, d c * t c) * (-(1 / 2) * (r * (1 / v)))) * (1 / 1024) * (2 * d c)
          + ((∑ c, -(t c * r)) + ∑ c, -(((∑ c, d c * t c) * (-(1 / 2) * (r * (1 / v)))) * (1 / 1024) * (2 * d c)))
            * (1 / 1024) : ℝ) : EReal) := by
      simp only [dchain, e1, h1, h3, two_eq, len_eq, Ideal.div_coe (show (1024 : ℝ) ≠ 0 by norm_num),
        ← EReal.coe_mul, ← EReal.coe_neg, ← coe_sum, ← EReal.coe_add]
    have e3 : dnorm (fun c => (a c : EReal)) (fun c => (t c : EReal)) c
        = ((r * (t c - (∑ c, t c) * (1 / 1024) - d c * r * ((∑ c, t c * (d c * r)) * (1 / 1024))) : ℝ) : EReal) := by
      simp only [dnorm, dnormOf, unit, h1, h3, mean, len_eq, Ideal.div_coe (show (1024 : ℝ) ≠ 0 by norm_num),
        ← EReal.coe_mul, ← coe_sum, ← EReal.coe_sub]
    rw [e2, e3]
    congr 1
    have s1 : ∑ c, -(t c * r) = -(∑ c, t c) * r := by rw [Finset.sum_neg_distrib, ← Finset.sum_mul]; ring
    have s2 : ∑ c, -(((∑ c, d c * t c) * (-(1 / 2) * (r * (1 / v)))) * (1 / 1024) * (2 * d c)) = 0 := by
      rw [Finset.sum_neg_distrib, ← Finset.mul_sum, ← Finset.mul_sum, hd]; ring
    have s3 : ∑ c, t c * (d c * r) = (∑ c, d c * t c) * r := by
      rw [Finset.sum_mul]; exact Finset.sum_congr rfl fun c _ => by ring
    rw [s1, s2, s3]
    have hw : r * (1 / v) = r * r * r := by
      field_simp
      nlinarith
    rw [hw]
    ring
  · simp only [dchain, dnorm, dnormOf, dspread, recip_zero x h, spread_top x h]
    have hz : Ideal.div 0 ⊤ = 0 := by simp [Ideal.div]
    have hl : Ideal.div 0 len = 0 := by rw [len_eq, Ideal.div_coe (by norm_num), zero_mul]
    simp [hz, hl]

end Cert.Norm

end
-- ==== Proof.NormBwd.lean ====
/-
  The results of a normalisation's backward call, from the gradient `dy` of the normalised, scaled and shifted rows.
-/
module

public import proofs.«01_k».proof.Proof.Norm

@[expose] public section

noncomputable section

namespace Cert.Norm

open Idealize.ShloMosaic

variable (dy : Fin 8192 → Fin 1024 → EReal) (r : Vec Ideal ⟨2, ![8192, 1024]⟩ .f32) (g : Vec Ideal ⟨2, ![1, 1024]⟩ .f32)

/-- Row `t` of the normalisation's argument. -/
def row (t : Fin 8192) (c : Fin 1024) : EReal := r (ix2 t c)

/-- The gradient of the normalised rows: the gradient of the result times the scale. -/
def scaled (t : Fin 8192) (c : Fin 1024) : EReal := dy t c * g (ix2 0 c)

/-- The gradient of the normalisation's argument. -/
def bwd (t : Fin 8192) (c : Fin 1024) : EReal := dnorm (row r t) (scaled dy g t) c

def resX : Vec Ideal ⟨2, ![8192, 1024]⟩ .f32 := fun i => bwd dy r g (i 0) (i 1)

/-- The gradient of the scale. -/
def resScale : Vec Ideal ⟨2, ![1, 1024]⟩ .f32 := fun i => ∑ t, dy t (i 1) * unit (row r t) (i 1)

/-- The gradient of the shift. -/
def resShift : Vec Ideal ⟨2, ![1, 1024]⟩ .f32 := fun i => ∑ t, dy t (i 1)

/-- The sum of the argument's gradient over the rows. -/
def resSum : Vec Ideal ⟨2, ![1, 1024]⟩ .f32 := fun i => ∑ t, bwd dy r g t (i 1)

end Cert.Norm

end
-- ==== Proof.Products.lean ====
/-
  The products of the projections as sums: the weights' columns lie four to a chip's share, one share after the other.
-/
module

public import proofs.«01_k».proof.Proof.Finite

@[expose] public section

noncomputable section

namespace Cert.Products

open Idealize.ShloMosaic Cert.Finite

/-- The factor of the residual's gradient. -/
def alpha : EReal := Ideal.ofBits .f32 0x3FB504F3#32

theorem alpha_real : IsReal alpha :=
  ⟨_, by simp [alpha, Ideal.ofBits, Ideal.ieee]; rw [← EReal.coe_mul]⟩

/-- A sum over four shares of the columns. -/
theorem sum_four (n : ℕ) (f : Fin (4 * n) → EReal) (F : Fin 4 → Fin n → EReal)
    (h : ∀ s k hl, F s k = f ⟨s.val * n + k.val, hl⟩) :
    ∑ k, F 0 k + ∑ k, F 1 k + ∑ k, F 2 k + ∑ k, F 3 k = ∑ l, f l := by
  rw [← Fin.sum_mul_add_congr h, Fin.sum_univ_four]

/-! ## The up-projection: 5632 columns, the gradients' in two halves, the weights' in four shares -/

def upGrad (du : Vec Ideal ⟨3, ![2, 8192, 2816]⟩ .bf16) (t : Fin 8192) (k : Fin 5632) : EReal :=
  du (ix3 ⟨k.val / 2816, by omega⟩ t ⟨k.val % 2816, by omega⟩)

def upCol (w : Vec Ideal ⟨4, ![1, 4, 1024, 1408]⟩ .bf16) (n : Fin 1024) (k : Fin 5632) : EReal :=
  w (ix4 0 ⟨k.val / 1408, by omega⟩ n ⟨k.val % 1408, by omega⟩)

/-- The two halves side by side. -/
theorem upGrad_halves (du : Vec Ideal ⟨3, ![2, 8192, 2816]⟩ .bf16) (t : Fin 8192) (k : Fin 5632) :
    (if h : k.val < 2816 then du (ix3 0 t ⟨k.val, h⟩) else du (ix3 1 t ⟨k.val - 2816, by omega⟩)) = upGrad du t k := by
  unfold upGrad
  split
  · refine congrArg du (funext fun b => ?_)
    match b with
    | 0 => exact Fin.ext (by show 0 = k.val / 2816; omega)
    | 1 => rfl
    | 2 => exact Fin.ext (by show k.val = k.val % 2816; omega)
  · refine congrArg du (funext fun b => ?_)
    match b with
    | 0 => exact Fin.ext (by show 1 = k.val / 2816; omega)
    | 1 => rfl
    | 2 => exact Fin.ext (by show k.val - 2816 = k.val % 2816; omega)

/-- The gradient of the projection's argument, with the residual's. -/
def upDy (du : Vec Ideal ⟨3, ![2, 8192, 2816]⟩ .bf16) (w : Vec Ideal ⟨4, ![1, 4, 1024, 1408]⟩ .bf16)
    (d : Vec Ideal ⟨2, ![8192, 1024]⟩ .f32) (t : Fin 8192) (n : Fin 1024) : EReal :=
  ∑ k, upGrad du t k * upCol w n k + alpha * d (ix2 t n)

theorem upDy_real (du : Vec Ideal ⟨3, ![2, 8192, 2816]⟩ .bf16) (w : Vec Ideal ⟨4, ![1, 4, 1024, 1408]⟩ .bf16)
    (d : Vec Ideal ⟨2, ![8192, 1024]⟩ .f32) (h0 : ∀ i, IsReal (du i)) (h1 : ∀ i, IsReal (w i)) (h2 : ∀ i, IsReal (d i))
    (t : Fin 8192) (n : Fin 1024) : IsReal (upDy du w d t n) :=
  (IsReal.sum _ _ fun _ _ => (h0 _).mul (h1 _)).add (alpha_real.mul (h2 _))

/-- The gradient of the weights, the columns in four shares. -/
def upDw (x : Vec Ideal ⟨2, ![8192, 1024]⟩ .bf16) (du : Vec Ideal ⟨3, ![2, 8192, 2816]⟩ .bf16) :
    Vec Ideal ⟨3, ![4, 1024, 1408]⟩ .f32 :=
  fun i => ∑ t, (show EReal from x (ix2 t (i 1))) * upGrad du t
    ⟨(i 0).val * 1408 + (i 2).val, by have : (i 0).val < 4 := (i 0).isLt; have : (i 2).val < 1408 := (i 2).isLt; omega⟩

/-- The projection. -/
def upFwd (x : Vec Ideal ⟨2, ![8192, 1024]⟩ .bf16) (w : Vec Ideal ⟨4, ![1, 4, 1024, 1408]⟩ .bf16) :
    Vec Ideal ⟨2, ![8192, 5632]⟩ .f32 := fun i => ∑ k, (show EReal from x (ix2 (i 0) k)) * upCol w k (i 1)

/-! ## The input projection: 1536 columns, the weights' in four shares -/

def inCol (w : Vec Ideal ⟨4, ![1, 4, 1024, 384]⟩ .bf16) (n : Fin 1024) (k : Fin 1536) : EReal :=
  w (ix4 0 ⟨k.val / 384, by omega⟩ n ⟨k.val % 384, by omega⟩)

/-- The gradient of the projection's argument, with the residual's. -/
def inDy (dh : Vec Ideal ⟨2, ![8192, 1536]⟩ .bf16) (w : Vec Ideal ⟨4, ![1, 4, 1024, 384]⟩ .bf16)
    (d : Vec Ideal ⟨2, ![8192, 1024]⟩ .f32) (t : Fin 8192) (n : Fin 1024) : EReal :=
  ∑ k, (show EReal from dh (ix2 t k)) * inCol w n k + alpha * d (ix2 t n)

/-- The gradient of the weights, the columns in four shares. -/
def inDw (x : Vec Ideal ⟨2, ![8192, 1024]⟩ .bf16) (dh : Vec Ideal ⟨2, ![8192, 1536]⟩ .bf16) :
    Vec Ideal ⟨3, ![4, 1024, 384]⟩ .f32 :=
  fun i => ∑ t, (show EReal from x (ix2 t (i 1))) * dh (ix2 t
    ⟨(i 0).val * 384 + (i 2).val, by have : (i 0).val < 4 := (i 0).isLt; have : (i 2).val < 384 := (i 2).isLt; omega⟩)

theorem inDy_real (dh : Vec Ideal ⟨2, ![8192, 1536]⟩ .bf16) (w : Vec Ideal ⟨4, ![1, 4, 1024, 384]⟩ .bf16)
    (d : Vec Ideal ⟨2, ![8192, 1024]⟩ .f32) (h0 : ∀ i, IsReal (dh i)) (h1 : ∀ i, IsReal (w i)) (h2 : ∀ i, IsReal (d i))
    (t : Fin 8192) (n : Fin 1024) : IsReal (inDy dh w d t n) :=
  (IsReal.sum _ _ fun _ _ => (h0 _).mul (h1 _)).add (alpha_real.mul (h2 _))

/-- The projection, with its bias. -/
def inFwd (x : Vec Ideal ⟨2, ![8192, 1024]⟩ .bf16) (w : Vec Ideal ⟨4, ![1, 4, 1024, 384]⟩ .bf16)
    (b : Vec Ideal ⟨2, ![1, 1536]⟩ .f32) : Vec Ideal ⟨2, ![8192, 1536]⟩ .f32 :=
  fun i => ∑ k, (show EReal from x (ix2 (i 0) k)) * inCol w k (i 1) + b (ix2 0 (i 1))

/-! ## The down-projection and the output projection: the weights whole -/

def downDw (x : Vec Ideal ⟨2, ![8192, 2816]⟩ .bf16) (dr : Vec Ideal ⟨2, ![8192, 1024]⟩ .bf16) :
    Vec Ideal ⟨3, ![1, 2816, 1024]⟩ .f32 := fun i => ∑ t, (show EReal from x (ix2 t (i 1))) * dr (ix2 t (i 2))

def outDw (x dr : Vec Ideal ⟨2, ![8192, 1024]⟩ .bf16) : Vec Ideal ⟨3, ![1, 1024, 1024]⟩ .f32 :=
  fun i => ∑ t, (show EReal from x (ix2 t (i 1))) * dr (ix2 t (i 2))

def downDx (dr : Vec Ideal ⟨2, ![8192, 1024]⟩ .bf16) (w : Vec Ideal ⟨4, ![1, 1, 2816, 1024]⟩ .bf16) :
    Vec Ideal ⟨2, ![8192, 2816]⟩ .f32 := fun i => ∑ k, (show EReal from dr (ix2 (i 0) k)) * w (ix4 0 0 (i 1) k)

def outDx (dr : Vec Ideal ⟨2, ![8192, 1024]⟩ .bf16) (w : Vec Ideal ⟨4, ![1, 1, 1024, 1024]⟩ .bf16) :
    Vec Ideal ⟨2, ![8192, 1024]⟩ .f32 := fun i => ∑ k, (show EReal from dr (ix2 (i 0) k)) * w (ix4 0 0 (i 1) k)

/-! ## The memory's projection to keys and values, and its weights' gradient -/

def kvFwd (x : Vec Ideal ⟨2, ![256, 1024]⟩ .f32) (w : Vec Ideal ⟨4, ![1, 1, 1024, 512]⟩ .bf16) :
    Vec Ideal ⟨2, ![256, 512]⟩ .f32 := fun i => ∑ k, (show EReal from x (ix2 (i 0) k)) * w (ix4 0 0 k (i 1))

def kvDw (x : Vec Ideal ⟨2, ![256, 1024]⟩ .f32) (d : Vec Ideal ⟨2, ![256, 512]⟩ .f32) :
    Vec Ideal ⟨3, ![1, 1024, 512]⟩ .f32 := fun i => ∑ t, (show EReal from x (ix2 t (i 1))) * d (ix2 t (i 2))

end Cert.Products

end
-- ==== Proof.UpDxRun.lean ====
/-
  The backward kernel of the up-projection and its normalisation over its whole grid, over extended reals.
-/
module

public import proofs.«01_k».proof.Proof.Gen.UpDxIdeal.Value
public import proofs.«01_k».proof.Proof.NormBwd
public import proofs.«01_k».proof.Proof.Products
public import Idealize.ShloMosaic.Lib.Pipeline.ValueKit
public import Idealize.ShloMosaic.Lib.StableHlo.ReadAt

@[expose] public section

noncomputable section

namespace Cert.UpDxIdeal.Bwd

open Cert.UpDxIdeal Cert.UpDxIdeal.Gen Idealize.ShloMosaic Idealize.ShloMosaic.TcCoe Idealize.ShloMosaic.Tactic
open Idealize.SL.Sem Cert.Norm Cert.Products

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-- The gradient of the normalisation's result. -/
abbrev dy := upDy (A0 m c) (A1 m c) (A2 m c)

theorem idx : ∀ t : Fin cfg0.N, win0_0.index t = ![0, t.val, 0] ∧ win0_1.index t = ![0, 0, 0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] ∧ win0_9.index t = ![0, 0] ∧ win0_10.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

/-- A sum over the sixteen blocks' rows is a sum over the array's rows. -/
theorem sum_at16 (f : Fin 8192 → EReal) : ∑ t : Fin cfg0.N, ∑ r, f (at16 t r) = ∑ t, f t := by
  refine Fin.sum_mul_add_congr fun s k hl => ?_
  rfl

/-! ## The blocks are rows of the arrays -/

/-- The normalised rows the kernel is handed. -/
theorem unit_read (t : Fin 8192) (k : Fin 1024) :
    (show EReal from V m c main_v17 (ix2 t k)) = unit (row (A3 m c) t) k := by
  unfold V
  after_reads_at
  rfl

/-- The root's reciprocals the kernel is handed. -/
theorem recip_read (t : Fin 8192) : (show EReal from V m c main_v13 (ix2 t 0)) = recip (row (A3 m c) t) := by
  unfold V
  after_reads_at
  rfl

def unitB (t : Fin cfg0.N) (r : Fin 512) (k : Fin 1024) : EReal := iblk m c 3 t (ix2 r k)
def recipB (t : Fin cfg0.N) (r : Fin 512) : EReal := iblk m c 4 t (ix2 r 0)
def scaleB (t : Fin cfg0.N) (k : Fin 1024) : EReal := iblk m c 5 t (ix2 0 k)
def resB (t : Fin cfg0.N) (r : Fin 512) (k : Fin 1024) : EReal := iblk m c 2 t (ix2 r k)
def gradB (t : Fin cfg0.N) (a : Fin 2) (r : Fin 512) (k : Fin 2816) : EReal := iblk m c 0 t (ix3 a r k)
def colB (t : Fin cfg0.N) (a : Fin 4) (n : Fin 1024) (k : Fin 1408) : EReal := iblk m c 1 t (ix4 0 a n k)

theorem unitB_eq (t : Fin cfg0.N) (r : Fin 512) : unitB m c t r = unit (row (A3 m c) (at16 t r)) := by
  funext k
  refine Eq.trans ?_ (unit_read m c (at16 t r) k)
  unfold unitB
  blk_ext [iblk, idx t, at16]

theorem recipB_eq (t : Fin cfg0.N) (r : Fin 512) : recipB m c t r = recip (row (A3 m c) (at16 t r)) := by
  refine Eq.trans ?_ (recip_read m c (at16 t r))
  unfold recipB
  blk_ext [iblk, idx t, at16]

theorem scaleB_eq (t : Fin cfg0.N) (k : Fin 1024) : scaleB m c t k = A4 m c (ix2 0 k) := by
  rw [A4, ← V_main_arg4 m c]
  unfold scaleB
  blk_ext [iblk, idx t]

theorem resB_eq (t : Fin cfg0.N) (r : Fin 512) (k : Fin 1024) : resB m c t r k = A2 m c (ix2 (at16 t r) k) := by
  rw [A2, ← V_main_arg2 m c]
  unfold resB
  blk_ext [iblk, idx t, at16]

theorem gradB_eq (t : Fin cfg0.N) (a : Fin 2) (r : Fin 512) (k : Fin 2816) :
    gradB m c t a r k = A0 m c (ix3 a (at16 t r) k) := by
  rw [A0, ← V_main_arg0 m c]
  unfold gradB
  blk_ext [iblk, idx t, at16]

theorem colB_eq (t : Fin cfg0.N) (a : Fin 4) (n : Fin 1024) (k : Fin 1408) :
    colB m c t a n k = A1 m c (ix4 0 a n k) := by
  rw [A1, ← V_main_arg1 m c]
  unfold colB
  blk_ext [iblk, idx t]

/-! ## The gradient of the normalisation's result -/

/-- A block's product of the gradient with the weights' columns: four parts, one per share of the columns. -/
def prod (t : Fin cfg0.N) : FVec Ideal S512x1024 .f32 :=
  k0_pay6 (View.ld (iblk m c 0 t) (Rect.unit ![0, 0, 0] ![1, 512, 1408] inb_S2x512x2816_S1x512x1408_0_0_0))
    (View.ld (iblk m c 1 t) (Rect.unit ![0, 0, 0, 0] ![1, 1, 1024, 1408] inb_S1x4x1024x1408_S1x1x1024x1408_0_0_0_0))
    (View.ld (iblk m c 0 t) (Rect.unit ![0, 0, 1408] ![1, 512, 1408] inb_S2x512x2816_S1x512x1408_0_0_1408))
    (View.ld (iblk m c 1 t) (Rect.unit ![0, 1, 0, 0] ![1, 1, 1024, 1408] inb_S1x4x1024x1408_S1x1x1024x1408_0_1_0_0))
    (View.ld (iblk m c 0 t) (Rect.unit ![1, 0, 0] ![1, 512, 1408] inb_S2x512x2816_S1x512x1408_1_0_0))
    (View.ld (iblk m c 1 t) (Rect.unit ![0, 2, 0, 0] ![1, 1, 1024, 1408] inb_S1x4x1024x1408_S1x1x1024x1408_0_2_0_0))
    (View.ld (iblk m c 0 t) (Rect.unit ![1, 0, 1408] ![1, 512, 1408] inb_S2x512x2816_S1x512x1408_1_0_1408))
    (View.ld (iblk m c 1 t) (Rect.unit ![0, 3, 0, 0] ![1, 1, 1024, 1408] inb_S1x4x1024x1408_S1x1x1024x1408_0_3_0_0))

theorem part (t : Fin cfg0.N) (r : Fin 512) (n : Fin 1024) (s : Fin 4) (a : Fin 2) (x : Fin 1408) (y : Fin 2816)
    (h : s.val * 1408 + x.val = a.val * 2816 + y.val) :
    gradB m c t a r y * colB m c t s n x
      = upGrad (A0 m c) (at16 t r) ⟨s.val * 1408 + x.val, by omega⟩ * upCol (A1 m c) n ⟨s.val * 1408 + x.val, by omega⟩ := by
  rw [gradB_eq, colB_eq]
  refine congrArg₂ (· * ·) (congrArg (A0 m c) ?_) (congrArg (A1 m c) ?_)
  · funext b
    match b with
    | 0 => exact Fin.ext (by show a.val = (s.val * 1408 + x.val) / 2816; omega)
    | 1 => rfl
    | 2 => exact Fin.ext (by show y.val = (s.val * 1408 + x.val) % 2816; omega)
  · funext b
    match b with
    | 0 => rfl
    | 1 => exact Fin.ext (by show s.val = (s.val * 1408 + x.val) / 1408; omega)
    | 2 => rfl
    | 3 => exact Fin.ext (by show x.val = (s.val * 1408 + x.val) % 1408; omega)

theorem prod_at (t : Fin cfg0.N) (r : Fin 512) (n : Fin 1024) :
    prod m c t (ix2 r n) = ∑ k, upGrad (A0 m c) (at16 t r) k * upCol (A1 m c) n k := by
  have e : prod m c t (ix2 r n) = ∑ x : Fin 1408, gradB m c t 0 r ⟨x.val, by omega⟩ * colB m c t 0 n x
      + ∑ x : Fin 1408, gradB m c t 0 r ⟨1408 + x.val, by omega⟩ * colB m c t 1 n x
      + ∑ x : Fin 1408, gradB m c t 1 r ⟨x.val, by omega⟩ * colB m c t 2 n x
      + ∑ x : Fin 1408, gradB m c t 1 r ⟨1408 + x.val, by omega⟩ * colB m c t 3 n x := by
    pointwise [prod, k0_pay6]
    rfl
  refine (e.trans (congrArg₂ (· + ·) (congrArg₂ (· + ·) (congrArg₂ (· + ·) ?_ ?_) ?_) ?_)).trans
    (sum_four 1408 (fun k => upGrad (A0 m c) (at16 t r) k * upCol (A1 m c) n k)
    (fun s x => upGrad (A0 m c) (at16 t r) ⟨s.val * 1408 + x.val, by omega⟩
      * upCol (A1 m c) n ⟨s.val * 1408 + x.val, by omega⟩) fun s k hl => rfl)
  · exact Finset.sum_congr rfl fun x _ => part m c t r n 0 0 x ⟨x.val, by omega⟩ (by simp)
  · exact Finset.sum_congr rfl fun x _ => part m c t r n 1 0 x ⟨1408 + x.val, by omega⟩ (by simp)
  · exact Finset.sum_congr rfl fun x _ => part m c t r n 2 1 x ⟨x.val, by omega⟩ (by simp)
  · exact Finset.sum_congr rfl fun x _ => part m c t r n 3 1 x ⟨1408 + x.val, by omega⟩ (by simp; omega)

/-- A block's gradient of the normalisation's result. -/
def dyB (t : Fin cfg0.N) : FVec Ideal S512x1024 .f32 :=
  k0_pay7 (prod m c t) (iblk m c 2 t) (FloatOps.ofBits FTy.f32 0x3FB504F3#32)

theorem dyB_at (t : Fin cfg0.N) (r : Fin 512) (n : Fin 1024) : dyB m c t (ix2 r n) = dy m c (at16 t r) n := by
  pointwise [dyB, k0_pay7]
  refine congrArg₂ (· + ·) (prod_at m c t r n) (congrArg (alpha * ·) (resB_eq m c t r n))

/-! ## The gradient of the normalisation's argument -/

def dxB (t : Fin cfg0.N) : FVec Ideal S512x1024 .f32 :=
  k0_pay9 (prod m c t) (iblk m c 2 t) (FloatOps.ofBits FTy.f32 0x3FB504F3#32) (iblk m c 3 t) (iblk m c 5 t) (iblk m c 4 t)

theorem dxB_at (t : Fin cfg0.N) (r : Fin 512) (n : Fin 1024) :
    dxB m c t (ix2 r n) = bwd (dy m c) (A3 m c) (A4 m c) (at16 t r) n := by
  have e : dxB m c t (ix2 r n)
      = dnormOf (recipB m c t r) (unitB m c t r) (fun k => dyB m c t (ix2 r k) * scaleB m c t k) n := by
    pointwise [dxB, k0_pay9, k0_pay8, dyB, k0_pay7]
    rfl
  have ht : (fun k => dyB m c t (ix2 r k) * scaleB m c t k) = scaled (dy m c) (A4 m c) (at16 t r) := by
    funext k
    exact congrArg₂ (· * ·) (dyB_at m c t r k) (scaleB_eq m c t k)
  rw [e, ht, unitB_eq, recipB_eq]
  rfl

theorem out6 (t : Fin cfg0.N) : (outsAt0 m c t.val t.isLt).1 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem out10 (t : Fin cfg0.N) : (outsAt0 m c t.val t.isLt).2.2.2.2 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem final6 : (dats m 0 c).arrAt 6 cfg0.N = resX (dy m c) (A3 m c) (A4 m c) := by
  refine (dats m 0 c).arrAt_eq_of_covers 6 _ (by decide +kernel) fun t hf y => ?_
  blk_simp
  rw [after0_6, out6]
  have e0 : (win0_6.blk t).view.emb y 0 = at16 t (y 0) := Fin.ext (by blk_simp [idx t, at16])
  have e1 : (win0_6.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

theorem final10 : (dats m 0 c).arrAt 10 cfg0.N = resX (dy m c) (A3 m c) (A4 m c) := by
  refine (dats m 0 c).arrAt_eq_of_covers 10 _ (by decide +kernel) fun t hf y => ?_
  blk_simp
  rw [after0_10, out10]
  have e0 : (win0_10.blk t).view.emb y 0 = at16 t (y 0) := Fin.ext (by blk_simp [idx t, at16])
  have e1 : (win0_10.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

/-! ## The sums over the rows -/

theorem scale_at (t : Fin cfg0.N) (k : Fin 1024) :
    k0_pay11 (prod m c t) (iblk m c 2 t) (FloatOps.ofBits FTy.f32 0x3FB504F3#32) (iblk m c 3 t) (ix2 0 k)
      = ∑ r, dy m c (at16 t r) k * unit (row (A3 m c) (at16 t r)) k := by
  have e : k0_pay11 (prod m c t) (iblk m c 2 t) (FloatOps.ofBits FTy.f32 0x3FB504F3#32) (iblk m c 3 t) (ix2 0 k)
      = ∑ r, dyB m c t (ix2 r k) * unitB m c t r k := by
    pointwise [k0_pay11, k0_pay8, dyB, k0_pay7]
    rfl
  refine e.trans (Finset.sum_congr rfl fun r _ => congrArg₂ (· * ·) (dyB_at m c t r k) ?_)
  rw [unitB_eq]

theorem shift_at (t : Fin cfg0.N) (k : Fin 1024) : k0_pay2 (dyB m c t) (ix2 0 k) = ∑ r, dy m c (at16 t r) k := by
  pointwise [k0_pay2]
  exact Finset.sum_congr rfl fun r _ => dyB_at m c t r k

theorem sum_at (t : Fin cfg0.N) (k : Fin 1024) :
    k0_pay4 (dxB m c t) (ix2 0 k) = ∑ r, bwd (dy m c) (A3 m c) (A4 m c) (at16 t r) k := by
  pointwise [k0_pay4]
  exact Finset.sum_congr rfl fun r _ => dxB_at m c t r k

theorem flat (j : S1x1024.Idx) : j = ix2 0 (j 1) := by
  funext a
  match a with
  | 0 => exact Fin.ext (by have : (j 0).val < 1 := (j 0).isLt; show (j 0).val = 0; omega)
  | 1 => rfl

theorem final7 : (dats m 0 c).arrAt 7 cfg0.N = resScale (dy m c) (A3 m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => k0_pay11 (prod m c t) (iblk m c 2 t) (FloatOps.ofBits FTy.f32 0x3FB504F3#32) (iblk m c 3 t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay1
      rw [shapeCast_self]
      rfl)
    (le_of_eq N_0) t0_15 rfl j, zero_add]
  refine Eq.trans (Fin.sum_fin_congr fun t => ?_)
    (sum_at16 fun t => dy m c t (j 1) * unit (row (A3 m c) t) (j 1))
  exact (congrArg _ (flat j)).trans (scale_at m c t (j 1))

theorem final8 : (dats m 0 c).arrAt 8 cfg0.N = resShift (dy m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t j => k0_pay2 (dyB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay3
      rw [shapeCast_self]
      rfl)
    (le_of_eq N_0) t0_15 rfl j, zero_add]
  refine Eq.trans (Fin.sum_fin_congr fun t => ?_) (sum_at16 fun t => dy m c t (j 1))
  exact (congrArg _ (flat j)).trans (shift_at m c t (j 1))

theorem final9 : (dats m 0 c).arrAt 9 cfg0.N = resSum (dy m c) (A3 m c) (A4 m c) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t j => k0_pay4 (dxB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay5
      rw [shapeCast_self]
      rfl)
    (le_of_eq N_0) t0_15 rfl j, zero_add]
  refine Eq.trans (Fin.sum_fin_congr fun t => ?_)
    (sum_at16 fun t => bwd (dy m c) (A3 m c) (A4 m c) t (j 1))
  exact (congrArg _ (flat j)).trans (sum_at m c t (j 1))

end Cert.UpDxIdeal.Bwd

end
-- ==== Proof.UpDxRef.lean ====
/-
  The reference of the up-projection's backward call, over extended reals: its stages at an index, and its five results.
-/
module

public import proofs.«01_k».proof.Proof.Gen.UpDxRefIdeal.Read
public import proofs.«01_k».proof.Proof.NormBwd
public import proofs.«01_k».proof.Proof.Products
public import Idealize.ShloMosaic.Lib.Pipeline.ValueKit

@[expose] public section

noncomputable section

namespace Cert.UpDxRefIdeal.Bwd

open Cert.UpDxRefIdeal Cert.UpDxRefIdeal.Gen Cert.UpDxRefIdeal.Read Idealize.ShloMosaic
open Idealize.ShloMosaic.TcCoe Idealize.ShloMosaic.Tactic Idealize.SL.Sem Cert.Norm Cert.Products

variable (x0 : Vec Ideal S2x8192x2816 .bf16) (x1 : Vec Ideal S1x4x1024x1408 .bf16) (x2 x3 : Vec Ideal S8192x1024 .f32)
  (x4 : Vec Ideal S1x1024 .f32)

theorem cent_at (t : Fin 8192) (n : Fin 1024) : val_main_v14 (F := Ideal) x3 (ix2 t n) = cent (row x3 t) n := by
  pointwise [val_main_v14, val_main_v13, val_main_v3, val_main_v2, val_main_cst_0, val_main_v1, val_main_v0, val_main_cst]
  rfl

theorem twice_at (t : Fin 8192) (n : Fin 1024) : val_main_v8 (F := Ideal) x3 (ix2 t n) = two * cent (row x3 t) n := by
  pointwise [val_main_v8, val_main_v7, val_main_cst_1, val_main_v5, val_main_v4, val_main_v3, val_main_v2, val_main_cst_0,
    val_main_v1, val_main_v0, val_main_cst]
  rfl

theorem spread_at (t : Fin 8192) : val_main_v16 (F := Ideal) x3 (ix2 t 0) = spread (row x3 t) := by
  pointwise [val_main_v16, val_main_v15, val_main_cst_4, val_main_v12, val_main_v11, val_main_cst_3, val_main_v10, val_main_v9,
    val_main_cst_2, val_main_v6, val_main_v5, val_main_v4, val_main_v3, val_main_v2, val_main_cst_0, val_main_v1, val_main_v0,
    val_main_cst]
  rfl

theorem recip_at (t : Fin 8192) : val_main_v17 (F := Ideal) x3 (ix2 t 0) = recip (row x3 t) := by
  pointwise [val_main_v17]
  rw [spread_at]
  rfl

theorem unit_at (t : Fin 8192) (n : Fin 1024) : val_main_v22 (F := Ideal) x3 (ix2 t n) = unit (row x3 t) n := by
  pointwise [val_main_v22, val_main_v21]
  rw [cent_at, recip_at]
  rfl

theorem grad_at (t : Fin 8192) (k : Fin 5632) : val_main_v39 (F := Ideal) x0 (ix2 t k) = upGrad x0 t k := by
  pointwise [val_main_v39, val_main_v38, val_main_v37, val_main_v36, val_main_v35, val_main_v34]
  exact upGrad_halves x0 t k

theorem col_at (n : Fin 1024) (k : Fin 5632) : val_main_v30 (F := Ideal) x1 (ix2 n k) = upCol x1 n k := by
  pointwise [val_main_v30, val_main_v29, val_main_v28, val_main_v27]
  rfl

theorem dy_at (t : Fin 8192) (n : Fin 1024) : val_main_v43 (F := Ideal) x0 x1 x2 (ix2 t n) = upDy x0 x1 x2 t n := by
  pointwise [val_main_v43, val_main_v42, val_main_v41, val_main_v40, val_main_cst_7]
  simp only [grad_at, col_at]
  exact add_comm _ _

theorem scaled_at (t : Fin 8192) (n : Fin 1024) :
    val_main_v50 (F := Ideal) x0 x1 x2 x4 (ix2 t n) = scaled (upDy x0 x1 x2) x4 t n := by
  pointwise [val_main_v50, val_main_v49]
  rw [dy_at]
  rfl

theorem dspread_at (t : Fin 8192) :
    val_main_v61 (F := Ideal) x0 x1 x2 x3 x4 (ix2 t 0) = dspread (row x3 t) (scaled (upDy x0 x1 x2) x4 t) := by
  pointwise [val_main_v61, val_main_v60, val_main_cst_12, val_main_v56, val_main_v53, val_main_v52, val_main_cst_10, val_main_v51,
    val_main_v20, val_main_v19, val_main_cst_5, val_main_v18]
  simp only [cent_at, scaled_at, recip_at, spread_at]
  rfl

theorem through_at (t : Fin 8192) (n : Fin 1024) :
    val_main_v55 (F := Ideal) x0 x1 x2 x3 x4 (ix2 t n) = scaled (upDy x0 x1 x2) x4 t n * recip (row x3 t) := by
  pointwise [val_main_v55, val_main_v54]
  rw [scaled_at, recip_at]

theorem around_at (t : Fin 8192) (n : Fin 1024) : val_main_v64 (F := Ideal) x0 x1 x2 x3 x4 (ix2 t n)
    = dspread (row x3 t) (scaled (upDy x0 x1 x2) x4 t) * (two * cent (row x3 t) n) := by
  pointwise [val_main_v64, val_main_v63, val_main_v62, val_main_cst_13]
  rw [Fin.sum_univ_one, dspread_at, twice_at]

theorem chain_at (t : Fin 8192) (n : Fin 1024) : val_main_v74 (F := Ideal) x0 x1 x2 x3 x4 (ix2 t n)
    = dchain (row x3 t) (scaled (upDy x0 x1 x2) x4 t) n := by
  pointwise [val_main_v74, val_main_v73, val_main_v72, val_main_cst_16, val_main_v71, val_main_v70, val_main_cst_15, val_main_v69,
    val_main_v68, val_main_v67, val_main_v66, val_main_cst_14, val_main_v65, val_main_v59, val_main_v58, val_main_cst_11, val_main_v57]
  rw [Fin.sum_univ_one]
  simp only [through_at, around_at]
  rfl

theorem pair (j : S8192x1024.Idx) : j = ix2 (j 0) (j 1) := by
  funext a
  match a with
  | 0 => rfl
  | 1 => rfl

theorem flat (j : S1x1024.Idx) : j = ix2 0 (j 1) := by
  funext a
  match a with
  | 0 => exact Fin.ext (by have : (j 0).val < 1 := (j 0).isLt; show (j 0).val = 0; omega)
  | 1 => rfl

theorem shift_eq : val_main_v45 (F := Ideal) x0 x1 x2 = resShift (upDy x0 x1 x2) := by
  funext j
  rw [flat j]
  pointwise [val_main_v45, val_main_v44, val_main_cst_8]
  exact Finset.sum_congr rfl fun t _ => dy_at x0 x1 x2 t (j 1)

theorem scale_eq : val_main_v48 (F := Ideal) x0 x1 x2 x3 = resScale (upDy x0 x1 x2) x3 := by
  funext j
  rw [flat j]
  pointwise [val_main_v48, val_main_v47, val_main_cst_9, val_main_v46]
  exact Finset.sum_congr rfl fun t _ =>
    (mul_comm _ _).trans (congrArg₂ (· * ·) (dy_at x0 x1 x2 t (j 1)) (unit_at x3 t (j 1)))

/-- Where the gradient of the normalised rows is real, the chain rule's gradient of a row is the kernel's. -/
theorem bwd_at (s : Fin 8192 → Fin 1024 → ℝ) (hs : ∀ t n, scaled (upDy x0 x1 x2) x4 t n = (s t n : EReal))
    (t : Fin 8192) (n : Fin 1024) :
    val_main_v74 (F := Ideal) x0 x1 x2 x3 x4 (ix2 t n) = bwd (upDy x0 x1 x2) x3 x4 t n := by
  have e : scaled (upDy x0 x1 x2) x4 t = fun n => (s t n : EReal) := funext (hs t)
  rw [chain_at, bwd, e]
  exact dchain_eq _ _ _

variable (s : Fin 8192 → Fin 1024 → ℝ) (hs : ∀ t n, scaled (upDy x0 x1 x2) x4 t n = (s t n : EReal))
include hs

theorem x_eq : val_main_v74 (F := Ideal) x0 x1 x2 x3 x4 = resX (upDy x0 x1 x2) x3 x4 := by
  funext j
  rw [pair j]
  exact bwd_at x0 x1 x2 x3 x4 s hs (j 0) (j 1)

theorem xb_eq : val_main_v77 (F := Ideal) x0 x1 x2 x3 x4 = resX (upDy x0 x1 x2) x3 x4 := by
  funext j
  rw [pair j]
  exact bwd_at x0 x1 x2 x3 x4 s hs (j 0) (j 1)

theorem sum_eq : val_main_v76 (F := Ideal) x0 x1 x2 x3 x4 = resSum (upDy x0 x1 x2) x3 x4 := by
  funext j
  rw [flat j]
  pointwise [val_main_v76, val_main_v75, val_main_cst_17]
  exact Finset.sum_congr rfl fun t _ => bwd_at x0 x1 x2 x3 x4 s hs t (j 1)

end Cert.UpDxRefIdeal.Bwd

end
-- ==== Proof.UpDxPre.lean ====
/-
  The precondition of the up-projection's backward call read: the gradient of the normalised rows is real.
-/
module

public import proofs.«01_k».proof.Pre_finite_up_dx
public import proofs.«01_k».proof.Proof.NormBwd
public import proofs.«01_k».proof.Proof.Products
public import Idealize.ShloMosaic.Lib.ReduceAll
public import Idealize.ShloMosaic.Lib.Decide

@[expose] public section

noncomputable section

namespace Cert.UpDxPre

open Idealize.ShloMosaic Cert.Pre_finite_up_dx Cert.Norm Cert.Products Cert.Finite

instance facts : Cert.Pre_finite_up_dx.Facts where
  bitsLt_bf16_f32 := by decide
  bcast_S_S2x8192x2816 := by decide
  reducesTo_S2x8192x2816_S_d0_1_2 := by decide
  h_S_ := by decide
  bcast_S_S1x4x1024x1408 := by decide
  reducesTo_S1x4x1024x1408_S_d0_1_2_3 := by decide
  bcast_S_S8192x1024 := by decide
  reducesTo_S8192x1024_S_d0_1 := by decide
  bcast_S_S1x1024 := by decide
  reducesTo_S1x1024_S_d0_1 := by decide

variable (x0 : Vec Ideal S2x8192x2816 .bf16) (x1 : Vec Ideal S1x4x1024x1408 .bf16) (x2 x3 : Vec Ideal S8192x1024 .f32)
  (x4 x5 : Vec Ideal S1x1024 .f32)

theorem parts (h : fn (F := Ideal) x0 x1 x2 x3 x4 x5 = fun _ => 1#1) :
    (∀ i, IsReal (x0 i)) ∧ (∀ i, IsReal (x1 i)) ∧ (∀ i, IsReal (x2 i)) ∧ ∀ i, IsReal (x4 i) := by
  have h0 := congrFun h (fun a => a.elim0)
  obtain ⟨h1, h4⟩ := and_one h0
  obtain ⟨h1, h3⟩ := and_one h1
  obtain ⟨h1, h2⟩ := and_one h1
  haveI : Subsingleton S_.Idx := ⟨fun a b => funext fun i => i.elim0⟩
  exact ⟨fun i => real_of_lt _ _ rfl (Host.reduce_andi_all _ _ _ _ _ h1 i),
    fun i => real_of_lt _ _ rfl (Host.reduce_andi_all _ _ _ _ _ h2 i),
    fun i => real_of_lt _ _ rfl (Host.reduce_andi_all _ _ _ _ _ h3 i),
    fun i => real_of_lt _ _ rfl (Host.reduce_andi_all _ _ _ _ _ h4 i)⟩

/-- The gradient of every normalised row is real. -/
theorem grads (h : fn (F := Ideal) x0 x1 x2 x3 x4 x5 = fun _ => 1#1) :
    ∃ s : Fin 8192 → Fin 1024 → ℝ, ∀ t n, scaled (upDy x0 x1 x2) x4 t n = (s t n : EReal) := by
  obtain ⟨h0, h1, h2, h4⟩ := parts x0 x1 x2 x3 x4 x5 h
  choose s hs using fun t n => (upDy_real x0 x1 x2 h0 h1 h2 t n).mul (h4 (ix2 0 n))
  exact ⟨s, hs⟩

end Cert.UpDxPre

end
-- ==== Proof.UpDxClaims.lean ====
/-
  The claims of the up-projection's backward call.
-/
module

public import proofs.«01_k».proof.Defs
public import proofs.«01_k».proof.Proof.Gen.UpDx.Frame
public import proofs.«01_k».proof.Proof.Gen.UpDxRefIdeal.Run
public import proofs.«01_k».proof.Proof.UpDxRun
public import proofs.«01_k».proof.Proof.UpDxRef
public import proofs.«01_k».proof.Proof.UpDxPre
public import Idealize.ShloMosaic.Lib.Claim
public import Idealize.ShloMosaic.Lib.Quiescent

@[expose] public section

noncomputable section

namespace Cert.Proof.UpDx

open Idealize.ShloMosaic Idealize.ShloMosaic.TcCoe Idealize.SL.Sem Cert.UpDxIdeal.Bwd Cert.UpDxRefIdeal.Bwd

theorem frame_kernel : Cert.quiescent_UpDx := fun m ρ _ => Cert.UpDx.Gen.frame m ρ

theorem frame_ideal : Cert.quiescent_UpDxIdeal := fun m ρ _ => Cert.UpDxIdeal.Gen.frame m ρ

theorem frame_ideal_pre : Cert.quiescent_UpDxIdeal_pre_finite_up_dx := fun m ρ _ => Cert.UpDxIdeal.Gen.frame m ρ

theorem frame_reference : Cert.quiescent_UpDxRefIdeal := fun m ρ _ =>
  (θ_run Cert.UpDxRefIdeal.defs _ _).mono
    (fun r h => ⟨fun c => (h c).2.2.2.2.2, Idealize.ShloMosaic.sem_eq_zero_of_no_sems (by decide) r.2⟩)
    (Cert.UpDxRefIdeal.Value.run (F := Ideal) m ρ)

theorem frame_reference_pre : Cert.quiescent_UpDxRefIdeal_pre_finite_up_dx := fun m ρ _ => frame_reference m ρ trivial

theorem algebraic : Cert.algebraic_UpDxIdeal_UpDxRefIdeal_pre_finite_up_dx := by
  intro m ρ m' ρ' hpre hag
  have hr := Cert.UpDxRefIdeal.Value.run (F := Ideal) m' ρ'
  refine ⟨fun c => Cert.Norm.resX (dy m c) (A3 m c) (A4 m c), fun c => Cert.Norm.resScale (dy m c) (A3 m c),
    fun c => Cert.Norm.resShift (dy m c), fun c => Cert.Norm.resSum (dy m c) (A3 m c) (A4 m c),
    fun c => Cert.Norm.resX (dy m c) (A3 m c) (A4 m c), ?_, ?_⟩
  · refine (θ_run _ _ _).mono (fun r h c => ?_) (Cert.UpDxIdeal.Value.run_blocks (F := Ideal) m ρ)
    obtain ⟨h0, h1, h2, h3, h4, h5⟩ := h c
    exact ⟨h0.trans (final6 m c), h1.trans (final7 m c), h2.trans (final8 m c), h3.trans (final9 m c),
      h4.trans (final10 m c), h5⟩
  · refine (θ_run _ _ _).mono (fun r h c => ?_) hr
    obtain ⟨h0, h1, h2, h3, h4, h5⟩ := h c
    obtain ⟨a0, a1, a2, a3, a4, a5⟩ := hag c
    obtain ⟨s, hs⟩ := Cert.UpDxPre.grads _ _ _ _ _ _ (hpre c)
    rw [Cert.UpDxRefIdeal.Read.val_main_v74_eq, a0, a1, a2, a3, a4, x_eq _ _ _ _ _ s hs] at h0
    rw [Cert.UpDxRefIdeal.Read.val_main_v48_eq, a0, a1, a2, a3, scale_eq] at h1
    rw [Cert.UpDxRefIdeal.Read.val_main_v45_eq, a0, a1, a2, shift_eq] at h2
    rw [Cert.UpDxRefIdeal.Read.val_main_v76_eq, a0, a1, a2, a3, a4, sum_eq _ _ _ _ _ s hs] at h3
    rw [Cert.UpDxRefIdeal.Read.val_main_v77_eq, a0, a1, a2, a3, a4, xb_eq _ _ _ _ _ s hs] at h4
    exact ⟨h0, h1, h2, h3, h4, h5⟩

end Cert.Proof.UpDx

end
-- ==== Proof.InDxRun.lean ====
/-
  The backward kernel of the input projection and its normalisation over its whole grid, over extended reals.
-/
module

public import proofs.«01_k».proof.Proof.Gen.InDxIdeal.Value
public import proofs.«01_k».proof.Proof.NormBwd
public import proofs.«01_k».proof.Proof.Products
public import Idealize.ShloMosaic.Lib.Pipeline.ValueKit
public import Idealize.ShloMosaic.Lib.StableHlo.ReadAt

@[expose] public section

noncomputable section

namespace Cert.InDxIdeal.Bwd

open Cert.InDxIdeal Cert.InDxIdeal.Gen Idealize.ShloMosaic Idealize.ShloMosaic.TcCoe Idealize.ShloMosaic.Tactic
open Idealize.SL.Sem Cert.Norm Cert.Products

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-- The gradient of the normalisation's result. -/
abbrev dy := inDy (A0 m c) (A1 m c) (A2 m c)

theorem idx : ∀ t : Fin cfg0.N, win0_0.index t = ![t.val, 0] ∧ win0_1.index t = ![0, 0, 0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] ∧ win0_9.index t = ![0, 0] ∧ win0_10.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

/-- A sum over the sixteen blocks' rows is a sum over the array's rows. -/
theorem sum_at16 (f : Fin 8192 → EReal) : ∑ t : Fin cfg0.N, ∑ r, f (at16 t r) = ∑ t, f t := by
  refine Fin.sum_mul_add_congr fun s k hl => ?_
  rfl

/-! ## The blocks are rows of the arrays -/

/-- The normalised rows the kernel is handed. -/
theorem unit_read (t : Fin 8192) (k : Fin 1024) :
    (show EReal from V m c main_v17 (ix2 t k)) = unit (row (A3 m c) t) k := by
  unfold V
  after_reads_at
  rfl

/-- The root's reciprocals the kernel is handed. -/
theorem recip_read (t : Fin 8192) : (show EReal from V m c main_v13 (ix2 t 0)) = recip (row (A3 m c) t) := by
  unfold V
  after_reads_at
  rfl

def unitB (t : Fin cfg0.N) (r : Fin 512) (k : Fin 1024) : EReal := iblk m c 3 t (ix2 r k)
def recipB (t : Fin cfg0.N) (r : Fin 512) : EReal := iblk m c 4 t (ix2 r 0)
def scaleB (t : Fin cfg0.N) (k : Fin 1024) : EReal := iblk m c 5 t (ix2 0 k)
def resB (t : Fin cfg0.N) (r : Fin 512) (k : Fin 1024) : EReal := iblk m c 2 t (ix2 r k)
def gradB (t : Fin cfg0.N) (r : Fin 512) (k : Fin 1536) : EReal := iblk m c 0 t (ix2 r k)
def colB (t : Fin cfg0.N) (a : Fin 4) (n : Fin 1024) (k : Fin 384) : EReal := iblk m c 1 t (ix4 0 a n k)

theorem unitB_eq (t : Fin cfg0.N) (r : Fin 512) : unitB m c t r = unit (row (A3 m c) (at16 t r)) := by
  funext k
  refine Eq.trans ?_ (unit_read m c (at16 t r) k)
  unfold unitB
  blk_ext [iblk, idx t, at16]

theorem recipB_eq (t : Fin cfg0.N) (r : Fin 512) : recipB m c t r = recip (row (A3 m c) (at16 t r)) := by
  refine Eq.trans ?_ (recip_read m c (at16 t r))
  unfold recipB
  blk_ext [iblk, idx t, at16]

theorem scaleB_eq (t : Fin cfg0.N) (k : Fin 1024) : scaleB m c t k = A4 m c (ix2 0 k) := by
  rw [A4, ← V_main_arg4 m c]
  unfold scaleB
  blk_ext [iblk, idx t]

theorem resB_eq (t : Fin cfg0.N) (r : Fin 512) (k : Fin 1024) : resB m c t r k = A2 m c (ix2 (at16 t r) k) := by
  rw [A2, ← V_main_arg2 m c]
  unfold resB
  blk_ext [iblk, idx t, at16]

theorem gradB_eq (t : Fin cfg0.N) (r : Fin 512) (k : Fin 1536) : gradB m c t r k = A0 m c (ix2 (at16 t r) k) := by
  rw [A0, ← V_main_arg0 m c]
  unfold gradB
  blk_ext [iblk, idx t, at16]

theorem colB_eq (t : Fin cfg0.N) (a : Fin 4) (n : Fin 1024) (k : Fin 384) :
    colB m c t a n k = A1 m c (ix4 0 a n k) := by
  rw [A1, ← V_main_arg1 m c]
  unfold colB
  blk_ext [iblk, idx t]

/-! ## The gradient of the normalisation's result -/

/-- A block's gradient of the normalisation's result: four parts of the product, one per share of the columns, and the
    residual's. -/
def dyB (t : Fin cfg0.N) : FVec Ideal S512x1024 .f32 :=
  k0_pay4 (View.ld (iblk m c 0 t) (Rect.unit ![0, 0] ![512, 384] inb_S512x1536_S512x384_0_0))
    (View.ld (iblk m c 1 t) (Rect.unit ![0, 0, 0, 0] ![1, 1, 1024, 384] inb_S1x4x1024x384_S1x1x1024x384_0_0_0_0))
    (View.ld (iblk m c 0 t) (Rect.unit ![0, 384] ![512, 384] inb_S512x1536_S512x384_0_384))
    (View.ld (iblk m c 1 t) (Rect.unit ![0, 1, 0, 0] ![1, 1, 1024, 384] inb_S1x4x1024x384_S1x1x1024x384_0_1_0_0))
    (View.ld (iblk m c 0 t) (Rect.unit ![0, 768] ![512, 384] inb_S512x1536_S512x384_0_768))
    (View.ld (iblk m c 1 t) (Rect.unit ![0, 2, 0, 0] ![1, 1, 1024, 384] inb_S1x4x1024x384_S1x1x1024x384_0_2_0_0))
    (View.ld (iblk m c 0 t) (Rect.unit ![0, 1152] ![512, 384] inb_S512x1536_S512x384_0_1152))
    (View.ld (iblk m c 1 t) (Rect.unit ![0, 3, 0, 0] ![1, 1, 1024, 384] inb_S1x4x1024x384_S1x1x1024x384_0_3_0_0)) (iblk m c 2 t)

theorem part (t : Fin cfg0.N) (r : Fin 512) (n : Fin 1024) (s : Fin 4) (x : Fin 384) (y : Fin 1536)
    (h : s.val * 384 + x.val = y.val) :
    gradB m c t r y * colB m c t s n x
      = (show EReal from A0 m c (ix2 (at16 t r) ⟨s.val * 384 + x.val, by omega⟩))
        * inCol (A1 m c) n ⟨s.val * 384 + x.val, by omega⟩ := by
  rw [gradB_eq, colB_eq]
  refine congrArg₂ (· * ·) (congrArg (A0 m c) ?_) (congrArg (A1 m c) ?_)
  · exact congrArg (ix2 (at16 t r)) (Fin.ext h.symm)
  · funext b
    match b with
    | 0 => rfl
    | 1 => exact Fin.ext (by show s.val = (s.val * 384 + x.val) / 384; omega)
    | 2 => rfl
    | 3 => exact Fin.ext (by show x.val = (s.val * 384 + x.val) % 384; omega)

theorem dyB_at (t : Fin cfg0.N) (r : Fin 512) (n : Fin 1024) : dyB m c t (ix2 r n) = dy m c (at16 t r) n := by
  have e : dyB m c t (ix2 r n) = ∑ x : Fin 384, gradB m c t r ⟨x.val, by omega⟩ * colB m c t 0 n x
      + ∑ x : Fin 384, gradB m c t r ⟨384 + x.val, by omega⟩ * colB m c t 1 n x
      + ∑ x : Fin 384, gradB m c t r ⟨768 + x.val, by omega⟩ * colB m c t 2 n x
      + ∑ x : Fin 384, gradB m c t r ⟨1152 + x.val, by omega⟩ * colB m c t 3 n x + alpha * resB m c t r n := by
    pointwise [dyB, k0_pay4]
    rfl
  refine e.trans (congrArg₂ (· + ·) ((congrArg₂ (· + ·) (congrArg₂ (· + ·) (congrArg₂ (· + ·) ?_ ?_) ?_) ?_).trans
    (sum_four 384 (fun k => (show EReal from A0 m c (ix2 (at16 t r) k)) * inCol (A1 m c) n k)
    (fun s x => (show EReal from A0 m c (ix2 (at16 t r) ⟨s.val * 384 + x.val, by omega⟩))
      * inCol (A1 m c) n ⟨s.val * 384 + x.val, by omega⟩) fun s k hl => rfl)) (congrArg (alpha * ·) (resB_eq m c t r n)))
  · exact Finset.sum_congr rfl fun x _ => part m c t r n 0 x ⟨x.val, by omega⟩ (by simp)
  · exact Finset.sum_congr rfl fun x _ => part m c t r n 1 x ⟨384 + x.val, by omega⟩ (by simp)
  · exact Finset.sum_congr rfl fun x _ => part m c t r n 2 x ⟨768 + x.val, by omega⟩ (by simp)
  · exact Finset.sum_congr rfl fun x _ => part m c t r n 3 x ⟨1152 + x.val, by omega⟩ (by simp)

/-! ## The gradient of the normalisation's argument -/

def dxB (t : Fin cfg0.N) : FVec Ideal S512x1024 .f32 :=
  k0_pay6 (dyB m c t) (iblk m c 3 t) (iblk m c 5 t) (iblk m c 4 t)

theorem dxB_at (t : Fin cfg0.N) (r : Fin 512) (n : Fin 1024) :
    dxB m c t (ix2 r n) = bwd (dy m c) (A3 m c) (A4 m c) (at16 t r) n := by
  have e : dxB m c t (ix2 r n)
      = dnormOf (recipB m c t r) (unitB m c t r) (fun k => dyB m c t (ix2 r k) * scaleB m c t k) n := by
    pointwise [dxB, k0_pay6, k0_pay5]
    rfl
  have ht : (fun k => dyB m c t (ix2 r k) * scaleB m c t k) = scaled (dy m c) (A4 m c) (at16 t r) := by
    funext k
    exact congrArg₂ (· * ·) (dyB_at m c t r k) (scaleB_eq m c t k)
  rw [e, ht, unitB_eq, recipB_eq]
  rfl

theorem out6 (t : Fin cfg0.N) : (outsAt0 m c t.val t.isLt).1 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem out10 (t : Fin cfg0.N) : (outsAt0 m c t.val t.isLt).2.2.2.2 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem final6 : (dats m 0 c).arrAt 6 cfg0.N = resX (dy m c) (A3 m c) (A4 m c) := by
  refine (dats m 0 c).arrAt_eq_of_covers 6 _ (by decide +kernel) fun t hf y => ?_
  blk_simp
  rw [after0_6, out6]
  have e0 : (win0_6.blk t).view.emb y 0 = at16 t (y 0) := Fin.ext (by blk_simp [idx t, at16])
  have e1 : (win0_6.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

theorem final10 : (dats m 0 c).arrAt 10 cfg0.N = resX (dy m c) (A3 m c) (A4 m c) := by
  refine (dats m 0 c).arrAt_eq_of_covers 10 _ (by decide +kernel) fun t hf y => ?_
  blk_simp
  rw [after0_10, out10]
  have e0 : (win0_10.blk t).view.emb y 0 = at16 t (y 0) := Fin.ext (by blk_simp [idx t, at16])
  have e1 : (win0_10.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

/-! ## The sums over the rows -/

theorem scale_at (t : Fin cfg0.N) (k : Fin 1024) :
    k0_pay8 (dyB m c t) (iblk m c 3 t) (ix2 0 k)
      = ∑ r, dy m c (at16 t r) k * unit (row (A3 m c) (at16 t r)) k := by
  have e : k0_pay8 (dyB m c t) (iblk m c 3 t) (ix2 0 k)
      = ∑ r, dyB m c t (ix2 r k) * unitB m c t r k := by
    pointwise [k0_pay8, k0_pay5]
    rfl
  refine e.trans (Finset.sum_congr rfl fun r _ => congrArg₂ (· * ·) (dyB_at m c t r k) ?_)
  rw [unitB_eq]

theorem shift_at (t : Fin cfg0.N) (k : Fin 1024) : k0_pay10 (dyB m c t) (ix2 0 k) = ∑ r, dy m c (at16 t r) k := by
  pointwise [k0_pay10]
  exact Finset.sum_congr rfl fun r _ => dyB_at m c t r k

theorem sum_at (t : Fin cfg0.N) (k : Fin 1024) :
    k0_pay2 (dxB m c t) (ix2 0 k) = ∑ r, bwd (dy m c) (A3 m c) (A4 m c) (at16 t r) k := by
  pointwise [k0_pay2]
  exact Finset.sum_congr rfl fun r _ => dxB_at m c t r k

theorem flat (j : S1x1024.Idx) : j = ix2 0 (j 1) := by
  funext a
  match a with
  | 0 => exact Fin.ext (by have : (j 0).val < 1 := (j 0).isLt; show (j 0).val = 0; omega)
  | 1 => rfl

theorem final7 : (dats m 0 c).arrAt 7 cfg0.N = resScale (dy m c) (A3 m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t j => k0_pay8 (dyB m c t) (iblk m c 3 t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay9
      rw [shapeCast_self]
      rfl)
    (le_of_eq N_0) t0_15 rfl j, zero_add]
  refine Eq.trans (Fin.sum_fin_congr fun t => ?_)
    (sum_at16 fun t => dy m c t (j 1) * unit (row (A3 m c) t) (j 1))
  exact (congrArg _ (flat j)).trans (scale_at m c t (j 1))

theorem final8 : (dats m 0 c).arrAt 8 cfg0.N = resShift (dy m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t j => k0_pay10 (dyB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay1
      rw [shapeCast_self]
      rfl)
    (le_of_eq N_0) t0_15 rfl j, zero_add]
  refine Eq.trans (Fin.sum_fin_congr fun t => ?_) (sum_at16 fun t => dy m c t (j 1))
  exact (congrArg _ (flat j)).trans (shift_at m c t (j 1))

theorem final9 : (dats m 0 c).arrAt 9 cfg0.N = resSum (dy m c) (A3 m c) (A4 m c) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t j => k0_pay2 (dxB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay3
      rw [shapeCast_self]
      rfl)
    (le_of_eq N_0) t0_15 rfl j, zero_add]
  refine Eq.trans (Fin.sum_fin_congr fun t => ?_)
    (sum_at16 fun t => bwd (dy m c) (A3 m c) (A4 m c) t (j 1))
  exact (congrArg _ (flat j)).trans (sum_at m c t (j 1))

end Cert.InDxIdeal.Bwd

end
-- ==== Proof.InDxRef.lean ====
/-
  The reference of the input projection's backward call, over extended reals: its stages at an index, and its five results.
-/
module

public import proofs.«01_k».proof.Proof.Gen.InDxRefIdeal.Read
public import proofs.«01_k».proof.Proof.NormBwd
public import proofs.«01_k».proof.Proof.Products
public import Idealize.ShloMosaic.Lib.Pipeline.ValueKit

@[expose] public section

noncomputable section

namespace Cert.InDxRefIdeal.Bwd

open Cert.InDxRefIdeal Cert.InDxRefIdeal.Gen Cert.InDxRefIdeal.Read Idealize.ShloMosaic
open Idealize.ShloMosaic.TcCoe Idealize.ShloMosaic.Tactic Idealize.SL.Sem Cert.Norm Cert.Products

variable (x0 : Vec Ideal S8192x1536 .bf16) (x1 : Vec Ideal S1x4x1024x384 .bf16) (x2 x3 : Vec Ideal S8192x1024 .f32)
  (x4 : Vec Ideal S1x1024 .f32)

theorem cent_at (t : Fin 8192) (n : Fin 1024) : val_main_v14 (F := Ideal) x3 (ix2 t n) = cent (row x3 t) n := by
  pointwise [val_main_v14, val_main_v13, val_main_v3, val_main_v2, val_main_cst_0, val_main_v1, val_main_v0, val_main_cst]
  rfl

theorem twice_at (t : Fin 8192) (n : Fin 1024) : val_main_v8 (F := Ideal) x3 (ix2 t n) = two * cent (row x3 t) n := by
  pointwise [val_main_v8, val_main_v7, val_main_cst_1, val_main_v5, val_main_v4, val_main_v3, val_main_v2, val_main_cst_0,
    val_main_v1, val_main_v0, val_main_cst]
  rfl

theorem spread_at (t : Fin 8192) : val_main_v16 (F := Ideal) x3 (ix2 t 0) = spread (row x3 t) := by
  pointwise [val_main_v16, val_main_v15, val_main_cst_4, val_main_v12, val_main_v11, val_main_cst_3, val_main_v10, val_main_v9,
    val_main_cst_2, val_main_v6, val_main_v5, val_main_v4, val_main_v3, val_main_v2, val_main_cst_0, val_main_v1, val_main_v0,
    val_main_cst]
  rfl

theorem recip_at (t : Fin 8192) : val_main_v17 (F := Ideal) x3 (ix2 t 0) = recip (row x3 t) := by
  pointwise [val_main_v17]
  rw [spread_at]
  rfl

theorem unit_at (t : Fin 8192) (n : Fin 1024) : val_main_v22 (F := Ideal) x3 (ix2 t n) = unit (row x3 t) n := by
  pointwise [val_main_v22, val_main_v21]
  rw [cent_at, recip_at]
  rfl

theorem grad_at (t : Fin 8192) (k : Fin 1536) : val_main_v34 (F := Ideal) x0 (ix2 t k) = x0 (ix2 t k) := by
  pointwise [val_main_v34]

theorem col_at (n : Fin 1024) (k : Fin 1536) : val_main_v30 (F := Ideal) x1 (ix2 n k) = inCol x1 n k := by
  pointwise [val_main_v30, val_main_v29, val_main_v28, val_main_v27]
  rfl

theorem dy_at (t : Fin 8192) (n : Fin 1024) : val_main_v38 (F := Ideal) x0 x1 x2 (ix2 t n) = inDy x0 x1 x2 t n := by
  pointwise [val_main_v38, val_main_v37, val_main_v36, val_main_v35, val_main_cst_7]
  simp only [grad_at, col_at]
  exact add_comm _ _

theorem scaled_at (t : Fin 8192) (n : Fin 1024) :
    val_main_v45 (F := Ideal) x0 x1 x2 x4 (ix2 t n) = scaled (inDy x0 x1 x2) x4 t n := by
  pointwise [val_main_v45, val_main_v44]
  rw [dy_at]
  rfl

theorem dspread_at (t : Fin 8192) :
    val_main_v56 (F := Ideal) x0 x1 x2 x3 x4 (ix2 t 0) = dspread (row x3 t) (scaled (inDy x0 x1 x2) x4 t) := by
  pointwise [val_main_v56, val_main_v55, val_main_cst_12, val_main_v51, val_main_v48, val_main_v47, val_main_cst_10, val_main_v46,
    val_main_v20, val_main_v19, val_main_cst_5, val_main_v18]
  simp only [cent_at, scaled_at, recip_at, spread_at]
  rfl

theorem through_at (t : Fin 8192) (n : Fin 1024) :
    val_main_v50 (F := Ideal) x0 x1 x2 x3 x4 (ix2 t n) = scaled (inDy x0 x1 x2) x4 t n * recip (row x3 t) := by
  pointwise [val_main_v50, val_main_v49]
  rw [scaled_at, recip_at]

theorem around_at (t : Fin 8192) (n : Fin 1024) : val_main_v59 (F := Ideal) x0 x1 x2 x3 x4 (ix2 t n)
    = dspread (row x3 t) (scaled (inDy x0 x1 x2) x4 t) * (two * cent (row x3 t) n) := by
  pointwise [val_main_v59, val_main_v58, val_main_v57, val_main_cst_13]
  rw [Fin.sum_univ_one, dspread_at, twice_at]

theorem chain_at (t : Fin 8192) (n : Fin 1024) : val_main_v69 (F := Ideal) x0 x1 x2 x3 x4 (ix2 t n)
    = dchain (row x3 t) (scaled (inDy x0 x1 x2) x4 t) n := by
  pointwise [val_main_v69, val_main_v68, val_main_v67, val_main_cst_16, val_main_v66, val_main_v65, val_main_cst_15, val_main_v64,
    val_main_v63, val_main_v62, val_main_v61, val_main_cst_14, val_main_v60, val_main_v54, val_main_v53, val_main_cst_11, val_main_v52]
  rw [Fin.sum_univ_one]
  simp only [through_at, around_at]
  rfl

theorem pair (j : S8192x1024.Idx) : j = ix2 (j 0) (j 1) := by
  funext a
  match a with
  | 0 => rfl
  | 1 => rfl

theorem flat (j : S1x1024.Idx) : j = ix2 0 (j 1) := by
  funext a
  match a with
  | 0 => exact Fin.ext (by have : (j 0).val < 1 := (j 0).isLt; show (j 0).val = 0; omega)
  | 1 => rfl

theorem shift_eq : val_main_v40 (F := Ideal) x0 x1 x2 = resShift (inDy x0 x1 x2) := by
  funext j
  rw [flat j]
  pointwise [val_main_v40, val_main_v39, val_main_cst_8]
  exact Finset.sum_congr rfl fun t _ => dy_at x0 x1 x2 t (j 1)

theorem scale_eq : val_main_v43 (F := Ideal) x0 x1 x2 x3 = resScale (inDy x0 x1 x2) x3 := by
  funext j
  rw [flat j]
  pointwise [val_main_v43, val_main_v42, val_main_cst_9, val_main_v41]
  exact Finset.sum_congr rfl fun t _ =>
    (mul_comm _ _).trans (congrArg₂ (· * ·) (dy_at x0 x1 x2 t (j 1)) (unit_at x3 t (j 1)))

/-- Where the gradient of the normalised rows is real, the chain rule's gradient of a row is the kernel's. -/
theorem bwd_at (s : Fin 8192 → Fin 1024 → ℝ) (hs : ∀ t n, scaled (inDy x0 x1 x2) x4 t n = (s t n : EReal))
    (t : Fin 8192) (n : Fin 1024) :
    val_main_v69 (F := Ideal) x0 x1 x2 x3 x4 (ix2 t n) = bwd (inDy x0 x1 x2) x3 x4 t n := by
  have e : scaled (inDy x0 x1 x2) x4 t = fun n => (s t n : EReal) := funext (hs t)
  rw [chain_at, bwd, e]
  exact dchain_eq _ _ _

variable (s : Fin 8192 → Fin 1024 → ℝ) (hs : ∀ t n, scaled (inDy x0 x1 x2) x4 t n = (s t n : EReal))
include hs

theorem x_eq : val_main_v69 (F := Ideal) x0 x1 x2 x3 x4 = resX (inDy x0 x1 x2) x3 x4 := by
  funext j
  rw [pair j]
  exact bwd_at x0 x1 x2 x3 x4 s hs (j 0) (j 1)

theorem xb_eq : val_main_v72 (F := Ideal) x0 x1 x2 x3 x4 = resX (inDy x0 x1 x2) x3 x4 := by
  funext j
  rw [pair j]
  exact bwd_at x0 x1 x2 x3 x4 s hs (j 0) (j 1)

theorem sum_eq : val_main_v71 (F := Ideal) x0 x1 x2 x3 x4 = resSum (inDy x0 x1 x2) x3 x4 := by
  funext j
  rw [flat j]
  pointwise [val_main_v71, val_main_v70, val_main_cst_17]
  exact Finset.sum_congr rfl fun t _ => bwd_at x0 x1 x2 x3 x4 s hs t (j 1)

end Cert.InDxRefIdeal.Bwd

end
-- ==== Proof.InDxPre.lean ====
/-
  The precondition of the input projection's backward call read: the gradient of the normalised rows is real.
-/
module

public import proofs.«01_k».proof.Pre_finite_in_dx
public import proofs.«01_k».proof.Proof.NormBwd
public import proofs.«01_k».proof.Proof.Products
public import Idealize.ShloMosaic.Lib.ReduceAll
public import Idealize.ShloMosaic.Lib.Decide

@[expose] public section

noncomputable section

namespace Cert.InDxPre

open Idealize.ShloMosaic Cert.Pre_finite_in_dx Cert.Norm Cert.Products Cert.Finite

instance facts : Cert.Pre_finite_in_dx.Facts where
  bitsLt_bf16_f32 := by decide
  bcast_S_S8192x1536 := by decide
  reducesTo_S8192x1536_S_d0_1 := by decide
  h_S_ := by decide
  bcast_S_S1x4x1024x384 := by decide
  reducesTo_S1x4x1024x384_S_d0_1_2_3 := by decide
  bcast_S_S8192x1024 := by decide
  reducesTo_S8192x1024_S_d0_1 := by decide
  bcast_S_S1x1024 := by decide
  reducesTo_S1x1024_S_d0_1 := by decide

variable (x0 : Vec Ideal S8192x1536 .bf16) (x1 : Vec Ideal S1x4x1024x384 .bf16) (x2 x3 : Vec Ideal S8192x1024 .f32)
  (x4 x5 : Vec Ideal S1x1024 .f32)

theorem parts (h : fn (F := Ideal) x0 x1 x2 x3 x4 x5 = fun _ => 1#1) :
    (∀ i, IsReal (x0 i)) ∧ (∀ i, IsReal (x1 i)) ∧ (∀ i, IsReal (x2 i)) ∧ ∀ i, IsReal (x4 i) := by
  have h0 := congrFun h (fun a => a.elim0)
  obtain ⟨h1, h4⟩ := and_one h0
  obtain ⟨h1, h3⟩ := and_one h1
  obtain ⟨h1, h2⟩ := and_one h1
  haveI : Subsingleton S_.Idx := ⟨fun a b => funext fun i => i.elim0⟩
  exact ⟨fun i => real_of_lt _ _ rfl (Host.reduce_andi_all _ _ _ _ _ h1 i),
    fun i => real_of_lt _ _ rfl (Host.reduce_andi_all _ _ _ _ _ h2 i),
    fun i => real_of_lt _ _ rfl (Host.reduce_andi_all _ _ _ _ _ h3 i),
    fun i => real_of_lt _ _ rfl (Host.reduce_andi_all _ _ _ _ _ h4 i)⟩

/-- The gradient of every normalised row is real. -/
theorem grads (h : fn (F := Ideal) x0 x1 x2 x3 x4 x5 = fun _ => 1#1) :
    ∃ s : Fin 8192 → Fin 1024 → ℝ, ∀ t n, scaled (inDy x0 x1 x2) x4 t n = (s t n : EReal) := by
  obtain ⟨h0, h1, h2, h4⟩ := parts x0 x1 x2 x3 x4 x5 h
  choose s hs using fun t n => (inDy_real x0 x1 x2 h0 h1 h2 t n).mul (h4 (ix2 0 n))
  exact ⟨s, hs⟩

end Cert.InDxPre

end
-- ==== Proof.InDxClaims.lean ====
/-
  The claims of the input projection's backward call.
-/
module

public import proofs.«01_k».proof.Defs
public import proofs.«01_k».proof.Proof.Gen.InDx.Frame
public import proofs.«01_k».proof.Proof.Gen.InDxRefIdeal.Run
public import proofs.«01_k».proof.Proof.InDxRun
public import proofs.«01_k».proof.Proof.InDxRef
public import proofs.«01_k».proof.Proof.InDxPre
public import Idealize.ShloMosaic.Lib.Claim
public import Idealize.ShloMosaic.Lib.Quiescent

@[expose] public section

noncomputable section

namespace Cert.Proof.InDx

open Idealize.ShloMosaic Idealize.ShloMosaic.TcCoe Idealize.SL.Sem Cert.InDxIdeal.Bwd Cert.InDxRefIdeal.Bwd

theorem frame_kernel : Cert.quiescent_InDx := fun m ρ _ => Cert.InDx.Gen.frame m ρ

theorem frame_ideal : Cert.quiescent_InDxIdeal := fun m ρ _ => Cert.InDxIdeal.Gen.frame m ρ

theorem frame_ideal_pre : Cert.quiescent_InDxIdeal_pre_finite_in_dx := fun m ρ _ => Cert.InDxIdeal.Gen.frame m ρ

theorem frame_reference : Cert.quiescent_InDxRefIdeal := fun m ρ _ =>
  (θ_run Cert.InDxRefIdeal.defs _ _).mono
    (fun r h => ⟨fun c => (h c).2.2.2.2.2, Idealize.ShloMosaic.sem_eq_zero_of_no_sems (by decide) r.2⟩)
    (Cert.InDxRefIdeal.Value.run (F := Ideal) m ρ)

theorem frame_reference_pre : Cert.quiescent_InDxRefIdeal_pre_finite_in_dx := fun m ρ _ => frame_reference m ρ trivial

theorem algebraic : Cert.algebraic_InDxIdeal_InDxRefIdeal_pre_finite_in_dx := by
  intro m ρ m' ρ' hpre hag
  have hr := Cert.InDxRefIdeal.Value.run (F := Ideal) m' ρ'
  refine ⟨fun c => Cert.Norm.resX (dy m c) (A3 m c) (A4 m c), fun c => Cert.Norm.resScale (dy m c) (A3 m c),
    fun c => Cert.Norm.resShift (dy m c), fun c => Cert.Norm.resSum (dy m c) (A3 m c) (A4 m c),
    fun c => Cert.Norm.resX (dy m c) (A3 m c) (A4 m c), ?_, ?_⟩
  · refine (θ_run _ _ _).mono (fun r h c => ?_) (Cert.InDxIdeal.Value.run_blocks (F := Ideal) m ρ)
    obtain ⟨h0, h1, h2, h3, h4, h5⟩ := h c
    exact ⟨h0.trans (final6 m c), h1.trans (final7 m c), h2.trans (final8 m c), h3.trans (final9 m c),
      h4.trans (final10 m c), h5⟩
  · refine (θ_run _ _ _).mono (fun r h c => ?_) hr
    obtain ⟨h0, h1, h2, h3, h4, h5⟩ := h c
    obtain ⟨a0, a1, a2, a3, a4, a5⟩ := hag c
    obtain ⟨s, hs⟩ := Cert.InDxPre.grads _ _ _ _ _ _ (hpre c)
    rw [Cert.InDxRefIdeal.Read.val_main_v69_eq, a0, a1, a2, a3, a4, x_eq _ _ _ _ _ s hs] at h0
    rw [Cert.InDxRefIdeal.Read.val_main_v43_eq, a0, a1, a2, a3, scale_eq] at h1
    rw [Cert.InDxRefIdeal.Read.val_main_v40_eq, a0, a1, a2, shift_eq] at h2
    rw [Cert.InDxRefIdeal.Read.val_main_v71_eq, a0, a1, a2, a3, a4, sum_eq _ _ _ _ _ s hs] at h3
    rw [Cert.InDxRefIdeal.Read.val_main_v72_eq, a0, a1, a2, a3, a4, xb_eq _ _ _ _ _ s hs] at h4
    exact ⟨h0, h1, h2, h3, h4, h5⟩

end Cert.Proof.InDx

end
-- ==== Proof.LossRows.lean ====
/-
  The squared error of the last normalisation's rows against the targets: its gradient, and its sums.
-/
module

public import proofs.«01_k».proof.Proof.NormBwd
public import proofs.«01_k».proof.Proof.Finite

@[expose] public section

noncomputable section

namespace Cert.Norm

open Idealize.ShloMosaic Cert.Finite

variable (y r : Vec Ideal ⟨2, ![8192, 1024]⟩ .f32) (g b : Vec Ideal ⟨2, ![1, 1024]⟩ .f32)

/-- A row's error: the row normalised, scaled and shifted, less its target. -/
def err (t : Fin 8192) (n : Fin 1024) : EReal := unit (row r t) n * g (ix2 0 n) + b (ix2 0 n) - y (ix2 t n)

/-- One over the row's length, the factor of the error in the loss's gradient. -/
def share : EReal := Ideal.ofBits .f32 0x3A800000#32

/-- The loss's gradient of the normalised, scaled and shifted rows. -/
def errGrad (t : Fin 8192) (n : Fin 1024) : EReal := err y r g b t n * share

/-- The squared errors summed over the rows. -/
def resSquares : Vec Ideal ⟨2, ![1, 1024]⟩ .f32 := fun i => ∑ t, err y r g b t (i 1) * err y r g b t (i 1)

theorem share_eq : share = ((1 / 1024 : ℝ) : EReal) := by
  simp [share, Ideal.ofBits, Ideal.ieee]; rw [← EReal.coe_mul]; norm_num

/-- Half the mean's factor times twice an error is the error's share. -/
theorem half_twice (e : EReal) : Ideal.div (Ideal.ofBits .f32 0x3F000000#32) len * (two * e) = e * share := by
  have h : Ideal.ofBits .f32 0x3F000000#32 = ((1 / 2 : ℝ) : EReal) := by
    simp [Ideal.ofBits, Ideal.ieee]; rw [← EReal.coe_mul]; norm_num
  rw [h, len_eq, two_eq, share_eq, Ideal.div_coe (by norm_num), ← mul_assoc, ← EReal.coe_mul, ← EReal.coe_mul, mul_comm]
  norm_num

/-- Where the targets, the scale and the shift are real, so is the gradient: a normalised row always is. -/
theorem errGrad_real (hy : ∀ i, IsReal (y i)) (hg : ∀ i, IsReal (g i)) (hb : ∀ i, IsReal (b i)) (t : Fin 8192) (n : Fin 1024) :
    IsReal (errGrad y r g b t n) := by
  obtain ⟨u, hu⟩ := unit_coe (row r t)
  exact (((IsReal.mul ⟨u n, hu n⟩ (hg _)).add (hb _)).sub (hy _)).mul ⟨_, share_eq⟩

end Cert.Norm

end
-- ==== Proof.LossRun.lean ====
/-
  The loss's backward kernel, with the last normalisation's, over its whole grid, over extended reals.
-/
module

public import proofs.«01_k».proof.Proof.Gen.LossIdeal.Value
public import proofs.«01_k».proof.Proof.NormBwd
public import proofs.«01_k».proof.Proof.LossRows
public import Idealize.ShloMosaic.Lib.Pipeline.ValueKit
public import Idealize.ShloMosaic.Lib.StableHlo.ReadAt

@[expose] public section

noncomputable section

namespace Cert.LossIdeal.Bwd

open Cert.LossIdeal Cert.LossIdeal.Gen Idealize.ShloMosaic Idealize.ShloMosaic.TcCoe Idealize.ShloMosaic.Tactic
open Idealize.SL.Sem Cert.Norm

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

/-- The gradient of the normalisation's result. -/
abbrev dy := errGrad (A0 m c) (A1 m c) (A2 m c) (A3 m c)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

/-- A sum over the sixteen blocks' rows is a sum over the array's rows. -/
theorem sum_at16 (f : Fin 8192 → EReal) : ∑ t : Fin cfg0.N, ∑ r, f (at16 t r) = ∑ t, f t := by
  refine Fin.sum_mul_add_congr fun s k hl => ?_
  rfl

/-! ## The blocks are rows of the arrays -/

/-- The normalised rows the kernel is handed. -/
theorem unit_read (t : Fin 8192) (k : Fin 1024) :
    (show EReal from V m c main_v17 (ix2 t k)) = unit (row (A1 m c) t) k := by
  unfold V
  after_reads_at
  rfl

/-- The root's reciprocals the kernel is handed. -/
theorem recip_read (t : Fin 8192) : (show EReal from V m c main_v13 (ix2 t 0)) = recip (row (A1 m c) t) := by
  unfold V
  after_reads_at
  rfl

def unitB (t : Fin cfg0.N) (r : Fin 512) (k : Fin 1024) : EReal := iblk m c 1 t (ix2 r k)
def recipB (t : Fin cfg0.N) (r : Fin 512) : EReal := iblk m c 2 t (ix2 r 0)
def scaleB (t : Fin cfg0.N) (k : Fin 1024) : EReal := iblk m c 3 t (ix2 0 k)
def shiftB (t : Fin cfg0.N) (k : Fin 1024) : EReal := iblk m c 4 t (ix2 0 k)
def targetB (t : Fin cfg0.N) (r : Fin 512) (k : Fin 1024) : EReal := iblk m c 0 t (ix2 r k)

theorem unitB_eq (t : Fin cfg0.N) (r : Fin 512) : unitB m c t r = unit (row (A1 m c) (at16 t r)) := by
  funext k
  refine Eq.trans ?_ (unit_read m c (at16 t r) k)
  unfold unitB
  blk_ext [iblk, idx t, at16]

theorem recipB_eq (t : Fin cfg0.N) (r : Fin 512) : recipB m c t r = recip (row (A1 m c) (at16 t r)) := by
  refine Eq.trans ?_ (recip_read m c (at16 t r))
  unfold recipB
  blk_ext [iblk, idx t, at16]

theorem scaleB_eq (t : Fin cfg0.N) (k : Fin 1024) : scaleB m c t k = A2 m c (ix2 0 k) := by
  rw [A2, ← V_main_arg2 m c]
  unfold scaleB
  blk_ext [iblk, idx t]

theorem shiftB_eq (t : Fin cfg0.N) (k : Fin 1024) : shiftB m c t k = A3 m c (ix2 0 k) := by
  rw [A3, ← V_main_arg3 m c]
  unfold shiftB
  blk_ext [iblk, idx t]

theorem targetB_eq (t : Fin cfg0.N) (r : Fin 512) (k : Fin 1024) : targetB m c t r k = A0 m c (ix2 (at16 t r) k) := by
  rw [A0, ← V_main_arg0 m c]
  unfold targetB
  blk_ext [iblk, idx t, at16]

/-! ## The gradient of the normalisation's result -/

/-- A block's errors. -/
def errB (t : Fin cfg0.N) : FVec Ideal S512x1024 .f32 :=
  k0_pay8 (iblk m c 1 t) (iblk m c 3 t) (iblk m c 4 t) (iblk m c 0 t)

theorem errB_at (t : Fin cfg0.N) (r : Fin 512) (n : Fin 1024) :
    errB m c t (ix2 r n) = err (A0 m c) (A1 m c) (A2 m c) (A3 m c) (at16 t r) n := by
  have e : errB m c t (ix2 r n) = unitB m c t r n * scaleB m c t n + shiftB m c t n - targetB m c t r n := by
    pointwise [errB, k0_pay8, k0_pay7]
    rfl
  exact e.trans (congrArg₂ (· - ·) (congrArg₂ (· + ·) (congrArg₂ (· * ·) (congrFun (unitB_eq m c t r) n) (scaleB_eq m c t n))
    (shiftB_eq m c t n)) (targetB_eq m c t r n))

/-- A block's gradient of the normalisation's result. -/
def dyB (t : Fin cfg0.N) : FVec Ideal S512x1024 .f32 :=
  k0_pay9 (iblk m c 1 t) (iblk m c 3 t) (iblk m c 4 t) (iblk m c 0 t)

theorem dyB_at (t : Fin cfg0.N) (r : Fin 512) (n : Fin 1024) : dyB m c t (ix2 r n) = dy m c (at16 t r) n := by
  pointwise [dyB, k0_pay9]
  exact congrArg (· * _) (errB_at m c t r n)

/-! ## The gradient of the normalisation's argument -/

def dxB (t : Fin cfg0.N) : FVec Ideal S512x1024 .f32 :=
  k0_pay10 (iblk m c 1 t) (iblk m c 3 t) (iblk m c 4 t) (iblk m c 0 t) (iblk m c 3 t) (iblk m c 2 t)

theorem dxB_at (t : Fin cfg0.N) (r : Fin 512) (n : Fin 1024) :
    dxB m c t (ix2 r n) = bwd (dy m c) (A1 m c) (A2 m c) (at16 t r) n := by
  have e : dxB m c t (ix2 r n)
      = dnormOf (recipB m c t r) (unitB m c t r) (fun k => dyB m c t (ix2 r k) * scaleB m c t k) n := by
    pointwise [dxB, k0_pay10, k0_pay9, k0_pay8, dyB, k0_pay7]
    rfl
  have ht : (fun k => dyB m c t (ix2 r k) * scaleB m c t k) = scaled (dy m c) (A2 m c) (at16 t r) := by
    funext k
    exact congrArg₂ (· * ·) (dyB_at m c t r k) (scaleB_eq m c t k)
  rw [e, ht, unitB_eq, recipB_eq]
  rfl

theorem out5 (t : Fin cfg0.N) : (outsAt0 m c t.val t.isLt).1 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem out9 (t : Fin cfg0.N) : (outsAt0 m c t.val t.isLt).2.2.2.2 = dxB m c t := by
  have hN : t.val < 16 := lt_of_lt_of_eq t.isLt N_0
  by_cases h : t.val % 16 = 0
  · have h1 : ¬1 ≤ t.val := by omega
    rw [outsAt0_A m c t h h1 h h1 h h1]
    frame_out
    rfl
  · have h1 : 1 ≤ t.val := by omega
    rw [outsAt0_B m c t h h1 h h1 h h1]
    frame_out
    rfl

theorem final5 : (dats m 0 c).arrAt 5 cfg0.N = resX (dy m c) (A1 m c) (A2 m c) := by
  refine (dats m 0 c).arrAt_eq_of_covers 5 _ (by decide +kernel) fun t hf y => ?_
  blk_simp
  rw [after0_5, out5]
  have e0 : (win0_5.blk t).view.emb y 0 = at16 t (y 0) := Fin.ext (by blk_simp [idx t, at16])
  have e1 : (win0_5.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

theorem final9 : (dats m 0 c).arrAt 9 cfg0.N = resX (dy m c) (A1 m c) (A2 m c) := by
  refine (dats m 0 c).arrAt_eq_of_covers 9 _ (by decide +kernel) fun t hf y => ?_
  blk_simp
  rw [after0_9, out9]
  have e0 : (win0_9.blk t).view.emb y 0 = at16 t (y 0) := Fin.ext (by blk_simp [idx t, at16])
  have e1 : (win0_9.blk t).view.emb y 1 = y 1 := Fin.ext (by blk_simp [idx t])
  have ey : y = ix2 (y 0) (y 1) := by funext a; match a with | 0 => rfl | 1 => rfl
  unfold resX
  rw [e0, e1]
  exact (congrArg _ ey).trans (dxB_at m c t (y 0) (y 1))

/-! ## The sums over the rows -/

theorem scale_at (t : Fin cfg0.N) (k : Fin 1024) :
    k0_pay1 (k0_pay7 (iblk m c 1 t)) (dyB m c t) (ix2 0 k)
      = ∑ r, dy m c (at16 t r) k * unit (row (A1 m c) (at16 t r)) k := by
  have e : k0_pay1 (k0_pay7 (iblk m c 1 t)) (dyB m c t) (ix2 0 k)
      = ∑ r, dyB m c t (ix2 r k) * unitB m c t r k := by
    pointwise [k0_pay1, k0_pay7]
    rfl
  refine e.trans (Finset.sum_congr rfl fun r _ => congrArg₂ (· * ·) (dyB_at m c t r k) ?_)
  rw [unitB_eq]

theorem shift_at (t : Fin cfg0.N) (k : Fin 1024) : k0_pay3 (dyB m c t) (ix2 0 k) = ∑ r, dy m c (at16 t r) k := by
  pointwise [k0_pay3]
  exact Finset.sum_congr rfl fun r _ => dyB_at m c t r k

theorem squares_at (t : Fin cfg0.N) (k : Fin 1024) : k0_pay5 (errB m c t) (ix2 0 k)
    = ∑ r, err (A0 m c) (A1 m c) (A2 m c) (A3 m c) (at16 t r) k * err (A0 m c) (A1 m c) (A2 m c) (A3 m c) (at16 t r) k := by
  pointwise [k0_pay5]
  exact Finset.sum_congr rfl fun r _ => congrArg₂ (· * ·) (errB_at m c t r k) (errB_at m c t r k)

theorem flat (j : S1x1024.Idx) : j = ix2 0 (j 1) := by
  funext a
  match a with
  | 0 => exact Fin.ext (by have : (j 0).val < 1 := (j 0).isLt; show (j 0).val = 0; omega)
  | 1 => rfl

theorem final6 : (dats m 0 c).arrAt 6 cfg0.N = resScale (dy m c) (A1 m c) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun t j => k0_pay1 (k0_pay7 (iblk m c 1 t)) (dyB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay2
      rw [shapeCast_self]
      rfl)
    (le_of_eq N_0) t0_15 rfl j, zero_add]
  refine Eq.trans (Fin.sum_fin_congr fun t => ?_)
    (sum_at16 fun t => dy m c t (j 1) * unit (row (A1 m c) t) (j 1))
  exact (congrArg _ (flat j)).trans (scale_at m c t (j 1))

theorem final7 : (dats m 0 c).arrAt 7 cfg0.N = resShift (dy m c) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t j => k0_pay3 (dyB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay4
      rw [shapeCast_self]
      rfl)
    (le_of_eq N_0) t0_15 rfl j, zero_add]
  refine Eq.trans (Fin.sum_fin_congr fun t => ?_) (sum_at16 fun t => dy m c t (j 1))
  exact (congrArg _ (flat j)).trans (shift_at m c t (j 1))

theorem final8 : (dats m 0 c).arrAt 8 cfg0.N = resSquares (A0 m c) (A1 m c) (A2 m c) (A3 m c) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0)
    (fun t j => k0_pay5 (errB m c t) j)
    (fun t h j => by
      have h1 : ¬1 ≤ t.val := by have : t.val < 16 := lt_of_lt_of_eq t.isLt N_0; omega
      rw [outsAt0_A m c t h h1 h h1 h h1]
      frame_out
      exact (zero_add _).symm)
    (fun t h j => by
      have h1 : 1 ≤ t.val := by omega
      rw [outsAt0_B m c t h h1 h h1 h h1]
      frame_out
      unfold k0_pay6
      rw [shapeCast_self]
      rfl)
    (le_of_eq N_0) t0_15 rfl j, zero_add]
  refine Eq.trans (Fin.sum_fin_congr fun t => ?_)
    (sum_at16 fun t =>
    err (A0 m c) (A1 m c) (A2 m c) (A3 m c) t (j 1) * err (A0 m c) (A1 m c) (A2 m c) (A3 m c) t (j 1))
  exact (congrArg _ (flat j)).trans (squares_at m c t (j 1))

end Cert.LossIdeal.Bwd

end
-- ==== Proof.LossRef.lean ====
/-
  The reference of the loss's backward call, over extended reals: its stages at an index, and its five results.
-/
module

public import proofs.«01_k».proof.Proof.Gen.LossRefIdeal.Read
public import proofs.«01_k».proof.Proof.NormBwd
public import proofs.«01_k».proof.Proof.LossRows
public import Idealize.ShloMosaic.Lib.Pipeline.ValueKit

@[expose] public section

noncomputable section

namespace Cert.LossRefIdeal.Bwd

open Cert.LossRefIdeal Cert.LossRefIdeal.Gen Cert.LossRefIdeal.Read Idealize.ShloMosaic
open Idealize.ShloMosaic.TcCoe Idealize.ShloMosaic.Tactic Idealize.SL.Sem Cert.Norm

variable (x0 x1 : Vec Ideal S8192x1024 .f32) (x2 x3 : Vec Ideal S1x1024 .f32)

theorem cent_at (t : Fin 8192) (n : Fin 1024) : val_main_v14 (F := Ideal) x1 (ix2 t n) = cent (row x1 t) n := by
  pointwise [val_main_v14, val_main_v13, val_main_v3, val_main_v2, val_main_cst_0, val_main_v1, val_main_v0, val_main_cst]
  rfl

theorem twice_at (t : Fin 8192) (n : Fin 1024) : val_main_v8 (F := Ideal) x1 (ix2 t n) = two * cent (row x1 t) n := by
  pointwise [val_main_v8, val_main_v7, val_main_cst_1, val_main_v5, val_main_v4, val_main_v3, val_main_v2, val_main_cst_0,
    val_main_v1, val_main_v0, val_main_cst]
  rfl

theorem spread_at (t : Fin 8192) : val_main_v16 (F := Ideal) x1 (ix2 t 0) = spread (row x1 t) := by
  pointwise [val_main_v16, val_main_v15, val_main_cst_4, val_main_v12, val_main_v11, val_main_cst_3, val_main_v10, val_main_v9,
    val_main_cst_2, val_main_v6, val_main_v5, val_main_v4, val_main_v3, val_main_v2, val_main_cst_0, val_main_v1, val_main_v0,
    val_main_cst]
  rfl

theorem recip_at (t : Fin 8192) : val_main_v17 (F := Ideal) x1 (ix2 t 0) = recip (row x1 t) := by
  pointwise [val_main_v17]
  rw [spread_at]
  rfl

theorem unit_at (t : Fin 8192) (n : Fin 1024) : val_main_v22 (F := Ideal) x1 (ix2 t n) = unit (row x1 t) n := by
  pointwise [val_main_v22, val_main_v21]
  rw [cent_at, recip_at]
  rfl

theorem err_at (t : Fin 8192) (n : Fin 1024) : val_main_v27 (F := Ideal) x0 x1 x2 x3 (ix2 t n) = err x0 x1 x2 x3 t n := by
  pointwise [val_main_v27, val_main_v26, val_main_v25, val_main_v24, val_main_v23]
  rw [unit_at]
  rfl

theorem dy_at (t : Fin 8192) (n : Fin 1024) : val_main_v41 (F := Ideal) x0 x1 x2 x3 (ix2 t n) = errGrad x0 x1 x2 x3 t n := by
  pointwise [val_main_v41, val_main_v40, val_main_v39, val_main_v38, val_main_cst_13, val_main_v37, val_main_v36, val_main_cst_12,
    val_main_cst_11, val_main_v30, val_main_v29, val_main_cst_6]
  rw [err_at]
  exact half_twice _

theorem scaled_at (t : Fin 8192) (n : Fin 1024) :
    val_main_v48 (F := Ideal) x0 x1 x2 x3 (ix2 t n) = scaled (errGrad x0 x1 x2 x3) x2 t n := by
  pointwise [val_main_v48, val_main_v47]
  rw [dy_at]
  rfl

theorem dspread_at (t : Fin 8192) :
    val_main_v59 (F := Ideal) x0 x1 x2 x3 (ix2 t 0) = dspread (row x1 t) (scaled (errGrad x0 x1 x2 x3) x2 t) := by
  pointwise [val_main_v59, val_main_v58, val_main_cst_18, val_main_v54, val_main_v51, val_main_v50, val_main_cst_16, val_main_v49,
    val_main_v20, val_main_v19, val_main_cst_5, val_main_v18]
  simp only [cent_at, scaled_at, recip_at, spread_at]
  rfl

theorem through_at (t : Fin 8192) (n : Fin 1024) :
    val_main_v53 (F := Ideal) x0 x1 x2 x3 (ix2 t n) = scaled (errGrad x0 x1 x2 x3) x2 t n * recip (row x1 t) := by
  pointwise [val_main_v53, val_main_v52]
  rw [scaled_at, recip_at]

theorem around_at (t : Fin 8192) (n : Fin 1024) : val_main_v62 (F := Ideal) x0 x1 x2 x3 (ix2 t n)
    = dspread (row x1 t) (scaled (errGrad x0 x1 x2 x3) x2 t) * (two * cent (row x1 t) n) := by
  pointwise [val_main_v62, val_main_v61, val_main_v60, val_main_cst_19]
  rw [Fin.sum_univ_one, dspread_at, twice_at]

theorem chain_at (t : Fin 8192) (n : Fin 1024) : val_main_v72 (F := Ideal) x0 x1 x2 x3 (ix2 t n)
    = dchain (row x1 t) (scaled (errGrad x0 x1 x2 x3) x2 t) n := by
  pointwise [val_main_v72, val_main_v71, val_main_v70, val_main_cst_22, val_main_v69, val_main_v68, val_main_cst_21, val_main_v67,
    val_main_v66, val_main_v65, val_main_v64, val_main_cst_20, val_main_v63, val_main_v57, val_main_v56, val_main_cst_17, val_main_v55]
  rw [Fin.sum_univ_one]
  simp only [through_at, around_at]
  rfl

theorem pair (j : S8192x1024.Idx) : j = ix2 (j 0) (j 1) := by
  funext a
  match a with
  | 0 => rfl
  | 1 => rfl

theorem flat (j : S1x1024.Idx) : j = ix2 0 (j 1) := by
  funext a
  match a with
  | 0 => exact Fin.ext (by have : (j 0).val < 1 := (j 0).isLt; show (j 0).val = 0; omega)
  | 1 => rfl

theorem shift_eq : val_main_v43 (F := Ideal) x0 x1 x2 x3 = resShift (errGrad x0 x1 x2 x3) := by
  funext j
  rw [flat j]
  pointwise [val_main_v43, val_main_v42, val_main_cst_14]
  exact Finset.sum_congr rfl fun t _ => dy_at x0 x1 x2 x3 t (j 1)

theorem scale_eq : val_main_v46 (F := Ideal) x0 x1 x2 x3 = resScale (errGrad x0 x1 x2 x3) x1 := by
  funext j
  rw [flat j]
  pointwise [val_main_v46, val_main_v45, val_main_cst_15, val_main_v44]
  exact Finset.sum_congr rfl fun t _ =>
    (mul_comm _ _).trans (congrArg₂ (· * ·) (dy_at x0 x1 x2 x3 t (j 1)) (unit_at x1 t (j 1)))

/-! The errors once more, as the loss itself reads them. -/

theorem cent2_at (t : Fin 8192) (n : Fin 1024) : val_main_v85 (F := Ideal) x1 (ix2 t n) = cent (row x1 t) n := by
  pointwise [val_main_v85, val_main_v84, val_main_v76, val_main_v75, val_main_cst_24, val_main_v74, val_main_v73, val_main_cst_23]
  rfl

theorem recip2_at (t : Fin 8192) : val_main_v88 (F := Ideal) x1 (ix2 t 0) = recip (row x1 t) := by
  pointwise [val_main_v88, val_main_v87, val_main_v86, val_main_cst_27, val_main_v83, val_main_v82, val_main_cst_26, val_main_v81,
    val_main_v80, val_main_cst_25, val_main_v79, val_main_v78, val_main_v77, val_main_v76, val_main_v75, val_main_cst_24,
    val_main_v74, val_main_v73, val_main_cst_23]
  rfl

theorem err2_at (t : Fin 8192) (n : Fin 1024) : val_main_v95 (F := Ideal) x0 x1 x2 x3 (ix2 t n) = err x0 x1 x2 x3 t n := by
  pointwise [val_main_v95, val_main_v94, val_main_v93, val_main_v92, val_main_v91, val_main_v90, val_main_v89]
  rw [cent2_at, recip2_at]
  rfl

theorem squares_eq : val_main_v98 (F := Ideal) x0 x1 x2 x3 = resSquares x0 x1 x2 x3 := by
  funext j
  rw [flat j]
  pointwise [val_main_v98, val_main_v97, val_main_cst_28, val_main_v96]
  exact Finset.sum_congr rfl fun t _ => congrArg₂ (· * ·) (err2_at x0 x1 x2 x3 t (j 1)) (err2_at x0 x1 x2 x3 t (j 1))

/-- Where the gradient of the normalised rows is real, the chain rule's gradient of a row is the kernel's. -/
theorem bwd_at (s : Fin 8192 → Fin 1024 → ℝ) (hs : ∀ t n, scaled (errGrad x0 x1 x2 x3) x2 t n = (s t n : EReal))
    (t : Fin 8192) (n : Fin 1024) :
    val_main_v72 (F := Ideal) x0 x1 x2 x3 (ix2 t n) = bwd (errGrad x0 x1 x2 x3) x1 x2 t n := by
  have e : scaled (errGrad x0 x1 x2 x3) x2 t = fun n => (s t n : EReal) := funext (hs t)
  rw [chain_at, bwd, e]
  exact dchain_eq _ _ _

variable (s : Fin 8192 → Fin 1024 → ℝ) (hs : ∀ t n, scaled (errGrad x0 x1 x2 x3) x2 t n = (s t n : EReal))
include hs

theorem x_eq : val_main_v72 (F := Ideal) x0 x1 x2 x3 = resX (errGrad x0 x1 x2 x3) x1 x2 := by
  funext j
  rw [pair j]
  exact bwd_at x0 x1 x2 x3 s hs (j 0) (j 1)

theorem xb_eq : val_main_v99 (F := Ideal) x0 x1 x2 x3 = resX (errGrad x0 x1 x2 x3) x1 x2 := by
  funext j
  rw [pair j]
  exact bwd_at x0 x1 x2 x3 s hs (j 0) (j 1)

end Cert.LossRefIdeal.Bwd

end
-- ==== Proof.LossPre.lean ====
/-
  The precondition of the loss's backward call read: the gradient of the normalised rows is real.
-/
module

public import proofs.«01_k».proof.Pre_finite_loss
public import proofs.«01_k».proof.Proof.NormBwd
public import proofs.«01_k».proof.Proof.LossRows
public import Idealize.ShloMosaic.Lib.ReduceAll
public import Idealize.ShloMosaic.Lib.Decide

@[expose] public section

noncomputable section

namespace Cert.LossPre

open Idealize.ShloMosaic Cert.Pre_finite_loss Cert.Norm Cert.Finite

instance facts : Cert.Pre_finite_loss.Facts where
  bcast_S_S8192x1024 := by decide
  reducesTo_S8192x1024_S_d0_1 := by decide
  h_S_ := by decide
  bcast_S_S1x1024 := by decide
  reducesTo_S1x1024_S_d0_1 := by decide

variable (x0 x1 : Vec Ideal S8192x1024 .f32) (x2 x3 : Vec Ideal S1x1024 .f32)

theorem parts (h : fn (F := Ideal) x0 x1 x2 x3 = fun _ => 1#1) :
    (∀ i, IsReal (x0 i)) ∧ (∀ i, IsReal (x2 i)) ∧ ∀ i, IsReal (x3 i) := by
  have h0 := congrFun h (fun a => a.elim0)
  obtain ⟨h1, h3⟩ := and_one h0
  obtain ⟨h1, h2⟩ := and_one h1
  haveI : Subsingleton S_.Idx := ⟨fun a b => funext fun i => i.elim0⟩
  exact ⟨fun i => real_of_lt _ _ rfl (Host.reduce_andi_all _ _ _ _ _ h1 i),
    fun i => real_of_lt _ _ rfl (Host.reduce_andi_all _ _ _ _ _ h2 i),
    fun i => real_of_lt _ _ rfl (Host.reduce_andi_all _ _ _ _ _ h3 i)⟩

/-- The gradient of every normalised row is real. -/
theorem grads (h : fn (F := Ideal) x0 x1 x2 x3 = fun _ => 1#1) :
    ∃ s : Fin 8192 → Fin 1024 → ℝ, ∀ t n, scaled (errGrad x0 x1 x2 x3) x2 t n = (s t n : EReal) := by
  obtain ⟨h0, h2, h3⟩ := parts x0 x1 x2 x3 h
  choose s hs using fun t n => (errGrad_real x0 x1 x2 x3 h0 h2 h3 t n).mul (h2 (ix2 0 n))
  exact ⟨s, hs⟩

end Cert.LossPre

end
-- ==== Proof.LossClaims.lean ====
/-
  The claims of the loss's backward call.
-/
module

public import proofs.«01_k».proof.Defs
public import proofs.«01_k».proof.Proof.Gen.Loss.Frame
public import proofs.«01_k».proof.Proof.Gen.LossRefIdeal.Run
public import proofs.«01_k».proof.Proof.LossRun
public import proofs.«01_k».proof.Proof.LossRef
public import proofs.«01_k».proof.Proof.LossPre
public import Idealize.ShloMosaic.Lib.Claim
public import Idealize.ShloMosaic.Lib.Quiescent

@[expose] public section

noncomputable section

namespace Cert.Proof.Loss

open Idealize.ShloMosaic Idealize.ShloMosaic.TcCoe Idealize.SL.Sem Cert.LossIdeal.Bwd Cert.LossRefIdeal.Bwd

theorem frame_kernel : Cert.quiescent_Loss := fun m ρ _ => Cert.Loss.Gen.frame m ρ

theorem frame_ideal : Cert.quiescent_LossIdeal := fun m ρ _ => Cert.LossIdeal.Gen.frame m ρ

theorem frame_ideal_pre : Cert.quiescent_LossIdeal_pre_finite_loss := fun m ρ _ => Cert.LossIdeal.Gen.frame m ρ

theorem frame_reference : Cert.quiescent_LossRefIdeal := fun m ρ _ =>
  (θ_run Cert.LossRefIdeal.defs _ _).mono
    (fun r h => ⟨fun c => (h c).2.2.2.2.2, Idealize.ShloMosaic.sem_eq_zero_of_no_sems (by decide) r.2⟩)
    (Cert.LossRefIdeal.Value.run (F := Ideal) m ρ)

theorem frame_reference_pre : Cert.quiescent_LossRefIdeal_pre_finite_loss := fun m ρ _ => frame_reference m ρ trivial

theorem algebraic : Cert.algebraic_LossIdeal_LossRefIdeal_pre_finite_loss := by
  intro m ρ m' ρ' hpre hag
  have hr := Cert.LossRefIdeal.Value.run (F := Ideal) m' ρ'
  refine ⟨fun c => Cert.Norm.resX (dy m c) (A1 m c) (A2 m c), fun c => Cert.Norm.resScale (dy m c) (A1 m c),
    fun c => Cert.Norm.resShift (dy m c), fun c => Cert.Norm.resSquares (A0 m c) (A1 m c) (A2 m c) (A3 m c),
    fun c => Cert.Norm.resX (dy m c) (A1 m c) (A2 m c), ?_, ?_⟩
  · refine (θ_run _ _ _).mono (fun r h c => ?_) (Cert.LossIdeal.Value.run_blocks (F := Ideal) m ρ)
    obtain ⟨h0, h1, h2, h3, h4, h5⟩ := h c
    exact ⟨h0.trans (final5 m c), h1.trans (final6 m c), h2.trans (final7 m c), h3.trans (final8 m c),
      h4.trans (final9 m c), h5⟩
  · refine (θ_run _ _ _).mono (fun r h c => ?_) hr
    obtain ⟨h0, h1, h2, h3, h4, h5⟩ := h c
    obtain ⟨a0, a1, a2, a3⟩ := hag c
    obtain ⟨s, hs⟩ := Cert.LossPre.grads _ _ _ _ (hpre c)
    rw [Cert.LossRefIdeal.Read.val_main_v72_eq, a0, a1, a2, a3, x_eq _ _ _ _ s hs] at h0
    rw [Cert.LossRefIdeal.Read.val_main_v46_eq, a0, a1, a2, a3, scale_eq] at h1
    rw [Cert.LossRefIdeal.Read.val_main_v43_eq, a0, a1, a2, a3, shift_eq] at h2
    rw [Cert.LossRefIdeal.Read.val_main_v98_eq, a0, a1, a2, a3, squares_eq] at h3
    rw [Cert.LossRefIdeal.Read.val_main_v99_eq, a0, a1, a2, a3, xb_eq _ _ _ _ s hs] at h4
    exact ⟨h0, h1, h2, h3, h4, h5⟩

end Cert.Proof.Loss

end
-- ==== Proof.UpDwRun.lean ====
/-
  The up-projection's weight gradient over its whole grid, over extended reals: four shares of the columns, each the sum over
  four blocks of rows.
-/
module

public import proofs.«01_k».proof.Proof.Gen.UpDwIdeal.Value
public import proofs.«01_k».proof.Proof.Products
public import Idealize.ShloMosaic.Lib.Pipeline.ValueKit

@[expose] public section

noncomputable section

namespace Cert.UpDwIdeal.Bwd

open Cert.UpDwIdeal Cert.UpDwIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val % 4, 0] ∧ win0_1.index t = ![t.val / 4 / 2, t.val % 4, t.val / 4 % 2]
    ∧ win0_2.index t = ![t.val / 4, 0, 0] :=
  (by decide +kernel : ∀ t : Fin grid0.N, _)

theorem lt (t : Fin cfg0.N) : t.val < 16 := lt_of_lt_of_eq t.isLt N_0

/-- Row `r` of the rows of point `t`, and column `k` of its columns. -/
def rowAt (t : Fin cfg0.N) (r : Fin 2048) : Fin 8192 := ⟨t.val % 4 * 2048 + r.val, by omega⟩
def colAt (t : Fin cfg0.N) (k : Fin 1408) : Fin 5632 := ⟨t.val / 4 * 1408 + k.val, by have := lt t; omega⟩

def leftB (t : Fin cfg0.N) (r : Fin 2048) (n : Fin 1024) : EReal := iblk m c 0 t (ix2 r n)
def rightB (t : Fin cfg0.N) (r : Fin 2048) (k : Fin 1408) : EReal := iblk m c 1 t (ix3 0 r k)

theorem leftB_eq (t : Fin cfg0.N) (r : Fin 2048) (n : Fin 1024) : leftB m c t r n = A0 m c (ix2 (rowAt t r) n) := by
  unfold leftB A0
  blk_ext [iblk, V, idx t, rowAt]

theorem rightB_eq (t : Fin cfg0.N) (r : Fin 2048) (k : Fin 1408) : rightB m c t r k = upGrad (A1 m c) (rowAt t r) (colAt t k) := by
  have := lt t
  unfold rightB A1 upGrad
  blk_ext [iblk, V, idx t, rowAt, colAt] <;> omega

/-- What a point adds to its share. -/
theorem term_at (t : Fin cfg0.N) (n : Fin 1024) (k : Fin 1408) :
    k0_pay2 (iblk m c 0 t) (iblk m c 1 t) (ix3 0 n k)
      = ∑ r, (show EReal from A0 m c (ix2 (rowAt t r) n)) * upGrad (A1 m c) (rowAt t r) (colAt t k) := by
  have e : k0_pay2 (iblk m c 0 t) (iblk m c 1 t) (ix3 0 n k) = ∑ r, leftB m c t r n * rightB m c t r k := by
    pointwise [k0_pay2, k0_pay1]
    rfl
  exact e.trans (Finset.sum_congr rfl fun r _ => congrArg₂ (· * ·) (leftB_eq m c t r n) (rightB_eq m c t r k))

theorem flat (j : S1x1024x1408.Idx) : j = ix3 0 (j 1) (j 2) := by
  funext a
  match a with
  | 0 => exact Fin.ext (by have : (j 0).val < 1 := (j 0).isLt; show (j 0).val = 0; omega)
  | 1 => rfl
  | 2 => rfl

theorem step_at (a : Vec Ideal S2048x1024 .bf16) (b : Vec Ideal S1x2048x1408 .bf16) (v : Vec Ideal S1x1024x1408 .f32)
    (n : Fin 1024) (k : Fin 1408) : k0_pay3 a b v (ix3 0 n k) = v (ix3 0 n k) + k0_pay2 a b (ix3 0 n k) := by
  pointwise [k0_pay3, k0_pay2]

theorem final2 : (dats m 0 c).arrAt 2 cfg0.N = upDw (A0 m c) (A1 m c) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => k0_pay2 (iblk m c 0 t) (iblk m c 1 t) j)
    (fun t h j => by
      have h1 : ¬1 ≤ t.val % 4 := by omega
      rw [outsAt0_A m c t h h1]
      frame_out
      exact (zero_add _).symm)
    (fun t h j => by
      have h1 : 1 ≤ t.val % 4 := by omega
      rw [outsAt0_B m c t h h1]
      frame_out
      rw [flat j]
      exact step_at _ _ _ (j 1) (j 2))
    t ((flush0_2 t).mp hf) y, zero_add]
  have hq : t.val % 4 = 3 := (flush0_2 t).mp hf
  have ht := lt t
  have e0 : (win0_2.blk t).view.emb y 0 = (⟨t.val / 4, by omega⟩ : Fin 4) := Fin.ext (by blk_simp [idx t])
  have e1 : (win0_2.blk t).view.emb y 1 = y 1 := Fin.ext (by blk_simp [idx t])
  have e2 : (win0_2.blk t).view.emb y 2 = y 2 := Fin.ext (by blk_simp [idx t])
  unfold upDw
  simp only [e0, e1, e2]
  refine Eq.trans (Fin.sum_fin_congr fun s => (congrArg _ (flat y)).trans (term_at m c _ (y 1) (y 2)))
    (Fin.sum_mul_add_congr fun s r hl => ?_)
  have er : ∀ h, rowAt ⟨4 * (t.val / 4) + s.val, h⟩ r = ⟨s.val * 2048 + r.val, hl⟩ := fun h => Fin.ext (by
    show (4 * (t.val / 4) + s.val) % 4 * 2048 + r.val = s.val * 2048 + r.val
    omega)
  have ec : ∀ h h', colAt ⟨4 * (t.val / 4) + s.val, h⟩ (y 2) = ⟨t.val / 4 * 1408 + (y 2).val, h'⟩ := fun h h' => Fin.ext (by
    show (4 * (t.val / 4) + s.val) / 4 * 1408 + (y 2).val = t.val / 4 * 1408 + (y 2).val
    omega)
  rw [er, ec]

end Cert.UpDwIdeal.Bwd

end
-- ==== Proof.UpDwRef.lean ====
/-
  The reference of the up-projection's weight gradient, over extended reals.
-/
module

public import proofs.«01_k».proof.Proof.Gen.UpDwRefIdeal.Read
public import proofs.«01_k».proof.Proof.Products
public import Idealize.ShloMosaic.Lib.Pipeline.ValueKit

@[expose] public section

noncomputable section

namespace Cert.UpDwRefIdeal.Bwd

open Cert.UpDwRefIdeal Cert.UpDwRefIdeal.Gen Cert.UpDwRefIdeal.Read Idealize.ShloMosaic
open Idealize.ShloMosaic.TcCoe Idealize.ShloMosaic.Tactic Idealize.SL.Sem Cert.Products

variable (x0 : Vec Ideal S8192x1024 .bf16) (x1 : Vec Ideal S2x8192x2816 .bf16)

theorem grad_at (t : Fin 8192) (k : Fin 5632) : val_main_v5 (F := Ideal) x1 (ix2 t k) = upGrad x1 t k := by
  pointwise [val_main_v5, val_main_v4, val_main_v3, val_main_v2, val_main_v1, val_main_v0]
  exact upGrad_halves x1 t k

theorem triple (j : S4x1024x1408.Idx) : j = ix3 (j 0) (j 1) (j 2) := by
  funext a
  match a with
  | 0 => rfl
  | 1 => rfl
  | 2 => rfl

theorem dw_eq : val_main_v12 (F := Ideal) x0 x1 = upDw x0 x1 := by
  funext j
  rw [triple j]
  pointwise [val_main_v12, val_main_v11, val_main_v10, val_main_v9, val_main_v7]
  exact Finset.sum_congr rfl fun t _ => (mul_comm _ _).trans (congrArg _ (grad_at x1 t _))

end Cert.UpDwRefIdeal.Bwd

end
-- ==== Proof.UpDwClaims.lean ====
/-
  The claims of the up-projection's weight gradient.
-/
module

public import proofs.«01_k».proof.Defs
public import proofs.«01_k».proof.Proof.Gen.UpDw.Frame
public import proofs.«01_k».proof.Proof.Gen.UpDwRefIdeal.Run
public import proofs.«01_k».proof.Proof.UpDwRun
public import proofs.«01_k».proof.Proof.UpDwRef
public import Idealize.ShloMosaic.Lib.Claim
public import Idealize.ShloMosaic.Lib.Quiescent

@[expose] public section

noncomputable section

namespace Cert.Proof.UpDw

open Idealize.ShloMosaic Idealize.ShloMosaic.TcCoe Idealize.SL.Sem Cert.UpDwIdeal.Bwd

theorem frame_kernel : Cert.quiescent_UpDw := fun m ρ _ => Cert.UpDw.Gen.frame m ρ

theorem frame_ideal : Cert.quiescent_UpDwIdeal := fun m ρ _ => Cert.UpDwIdeal.Gen.frame m ρ

theorem frame_reference : Cert.quiescent_UpDwRefIdeal := fun m ρ _ =>
  (θ_run Cert.UpDwRefIdeal.defs _ _).mono
    (fun r h => ⟨fun c => (h c).2, Idealize.ShloMosaic.sem_eq_zero_of_no_sems (by decide) r.2⟩)
    (Cert.UpDwRefIdeal.Value.run (F := Ideal) m ρ)

theorem algebraic : Cert.algebraic_UpDwIdeal_UpDwRefIdeal := by
  intro m ρ m' ρ' _ hag
  have hr := Cert.UpDwRefIdeal.Value.run (F := Ideal) m' ρ'
  refine ⟨fun c => Cert.Products.upDw (A0 m c) (A1 m c), ?_, ?_⟩
  · refine (θ_run _ _ _).mono (fun r h c => ?_) (Cert.UpDwIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.UpDwRefIdeal.Read.val_main_v12_eq, a0, a1, Cert.UpDwRefIdeal.Bwd.dw_eq] at h0
    exact ⟨h0, h1⟩

end Cert.Proof.UpDw

end
-- ==== Proof.InDwRun.lean ====
/-
  The input projection's weight gradient over its whole grid, over extended reals: four shares of the columns, each the sum over
  four blocks of rows.
-/
module

public import proofs.«01_k».proof.Proof.Gen.InDwIdeal.Value
public import proofs.«01_k».proof.Proof.Products
public import Idealize.ShloMosaic.Lib.Pipeline.ValueKit

@[expose] public section

noncomputable section

namespace Cert.InDwIdeal.Bwd

open Cert.InDwIdeal Cert.InDwIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem lt (t : Fin cfg0.N) : t.val < 16 := lt_of_lt_of_eq t.isLt N_0

/-- Row `r` of the rows of point `t`, and column `k` of its columns. -/
def rowAt (t : Fin cfg0.N) (r : Fin 2048) : Fin 8192 := ⟨t.val % 4 * 2048 + r.val, by omega⟩
def colAt (t : Fin cfg0.N) (k : Fin 384) : Fin 1536 := ⟨t.val / 4 * 384 + k.val, by have := lt t; omega⟩

def leftB (t : Fin cfg0.N) (r : Fin 2048) (n : Fin 1024) : EReal := iblk m c 0 t (ix2 r n)
def rightB (t : Fin cfg0.N) (r : Fin 2048) (k : Fin 384) : EReal := iblk m c 1 t (ix2 r k)

theorem leftB_eq (t : Fin cfg0.N) (r : Fin 2048) (n : Fin 1024) : leftB m c t r n = A0 m c (ix2 (rowAt t r) n) := by
  unfold leftB A0
  blk_ext [iblk, V, idx t, rowAt]

theorem rightB_eq (t : Fin cfg0.N) (r : Fin 2048) (k : Fin 384) : rightB m c t r k = A1 m c (ix2 (rowAt t r) (colAt t k)) := by
  unfold rightB A1
  blk_ext [iblk, V, idx t, rowAt, colAt]

/-- What a point adds to its share. -/
theorem term_at (t : Fin cfg0.N) (n : Fin 1024) (k : Fin 384) :
    k0_pay2 (iblk m c 0 t) (iblk m c 1 t) (ix3 0 n k)
      = ∑ r, (show EReal from A0 m c (ix2 (rowAt t r) n)) * A1 m c (ix2 (rowAt t r) (colAt t k)) := by
  have e : k0_pay2 (iblk m c 0 t) (iblk m c 1 t) (ix3 0 n k) = ∑ r, leftB m c t r n * rightB m c t r k := by
    pointwise [k0_pay2, k0_pay1]
    rfl
  exact e.trans (Finset.sum_congr rfl fun r _ => congrArg₂ (· * ·) (leftB_eq m c t r n) (rightB_eq m c t r k))

theorem flat (j : S1x1024x384.Idx) : j = ix3 0 (j 1) (j 2) := by
  funext a
  match a with
  | 0 => exact Fin.ext (by have : (j 0).val < 1 := (j 0).isLt; show (j 0).val = 0; omega)
  | 1 => rfl
  | 2 => rfl

theorem step_at (a : Vec Ideal S2048x1024 .bf16) (b : Vec Ideal S2048x384 .bf16) (v : Vec Ideal S1x1024x384 .f32)
    (n : Fin 1024) (k : Fin 384) : k0_pay3 a b v (ix3 0 n k) = v (ix3 0 n k) + k0_pay2 a b (ix3 0 n k) := by
  pointwise [k0_pay3, k0_pay2]

theorem final2 : (dats m 0 c).arrAt 2 cfg0.N = inDw (A0 m c) (A1 m c) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => k0_pay2 (iblk m c 0 t) (iblk m c 1 t) j)
    (fun t h j => by
      have h1 : ¬1 ≤ t.val % 4 := by omega
      rw [outsAt0_A m c t h h1]
      frame_out
      exact (zero_add _).symm)
    (fun t h j => by
      have h1 : 1 ≤ t.val % 4 := by omega
      rw [outsAt0_B m c t h h1]
      frame_out
      rw [flat j]
      exact step_at _ _ _ (j 1) (j 2))
    t ((flush0_2 t).mp hf) y, zero_add]
  have hq : t.val % 4 = 3 := (flush0_2 t).mp hf
  have ht := lt t
  have e0 : (win0_2.blk t).view.emb y 0 = (⟨t.val / 4, by omega⟩ : Fin 4) := Fin.ext (by blk_simp [idx t])
  have e1 : (win0_2.blk t).view.emb y 1 = y 1 := Fin.ext (by blk_simp [idx t])
  have e2 : (win0_2.blk t).view.emb y 2 = y 2 := Fin.ext (by blk_simp [idx t])
  unfold inDw
  simp only [e0, e1, e2]
  refine Eq.trans (Fin.sum_fin_congr fun s => (congrArg _ (flat y)).trans (term_at m c _ (y 1) (y 2)))
    (Fin.sum_mul_add_congr fun s r hl => ?_)
  have er : ∀ h, rowAt ⟨4 * (t.val / 4) + s.val, h⟩ r = ⟨s.val * 2048 + r.val, hl⟩ := fun h => Fin.ext (by
    show (4 * (t.val / 4) + s.val) % 4 * 2048 + r.val = s.val * 2048 + r.val
    omega)
  have ec : ∀ h h', colAt ⟨4 * (t.val / 4) + s.val, h⟩ (y 2) = ⟨t.val / 4 * 384 + (y 2).val, h'⟩ := fun h h' => Fin.ext (by
    show (4 * (t.val / 4) + s.val) / 4 * 384 + (y 2).val = t.val / 4 * 384 + (y 2).val
    omega)
  rw [er, ec]

end Cert.InDwIdeal.Bwd

end
-- ==== Proof.InDwRef.lean ====
/-
  The reference of the input projection's weight gradient, over extended reals.
-/
module

public import proofs.«01_k».proof.Proof.Gen.InDwRefIdeal.Read
public import proofs.«01_k».proof.Proof.Products
public import Idealize.ShloMosaic.Lib.Pipeline.ValueKit

@[expose] public section

noncomputable section

namespace Cert.InDwRefIdeal.Bwd

open Cert.InDwRefIdeal Cert.InDwRefIdeal.Gen Cert.InDwRefIdeal.Read Idealize.ShloMosaic
open Idealize.ShloMosaic.TcCoe Idealize.ShloMosaic.Tactic Idealize.SL.Sem Cert.Products

variable (x0 : Vec Ideal S8192x1024 .bf16) (x1 : Vec Ideal S8192x1536 .bf16)

theorem triple (j : S4x1024x384.Idx) : j = ix3 (j 0) (j 1) (j 2) := by
  funext a
  match a with
  | 0 => rfl
  | 1 => rfl
  | 2 => rfl

theorem dw_eq : val_main_v7 (F := Ideal) x0 x1 = inDw x0 x1 := by
  funext j
  rw [triple j]
  pointwise [val_main_v7, val_main_v6, val_main_v5, val_main_v4, val_main_v2, val_main_v0]
  exact Finset.sum_congr rfl fun t _ => mul_comm _ _

end Cert.InDwRefIdeal.Bwd

end
-- ==== Proof.InDwClaims.lean ====
/-
  The claims of the input projection's weight gradient.
-/
module

public import proofs.«01_k».proof.Defs
public import proofs.«01_k».proof.Proof.Gen.InDw.Frame
public import proofs.«01_k».proof.Proof.Gen.InDwRefIdeal.Run
public import proofs.«01_k».proof.Proof.InDwRun
public import proofs.«01_k».proof.Proof.InDwRef
public import Idealize.ShloMosaic.Lib.Claim
public import Idealize.ShloMosaic.Lib.Quiescent

@[expose] public section

noncomputable section

namespace Cert.Proof.InDw

open Idealize.ShloMosaic Idealize.ShloMosaic.TcCoe Idealize.SL.Sem Cert.InDwIdeal.Bwd

theorem frame_kernel : Cert.quiescent_InDw := fun m ρ _ => Cert.InDw.Gen.frame m ρ

theorem frame_ideal : Cert.quiescent_InDwIdeal := fun m ρ _ => Cert.InDwIdeal.Gen.frame m ρ

theorem frame_reference : Cert.quiescent_InDwRefIdeal := fun m ρ _ =>
  (θ_run Cert.InDwRefIdeal.defs _ _).mono
    (fun r h => ⟨fun c => (h c).2, Idealize.ShloMosaic.sem_eq_zero_of_no_sems (by decide) r.2⟩)
    (Cert.InDwRefIdeal.Value.run (F := Ideal) m ρ)

theorem algebraic : Cert.algebraic_InDwIdeal_InDwRefIdeal := by
  intro m ρ m' ρ' _ hag
  have hr := Cert.InDwRefIdeal.Value.run (F := Ideal) m' ρ'
  refine ⟨fun c => Cert.Products.inDw (A0 m c) (A1 m c), ?_, ?_⟩
  · refine (θ_run _ _ _).mono (fun r h c => ?_) (Cert.InDwIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.InDwRefIdeal.Read.val_main_v7_eq, a0, a1, Cert.InDwRefIdeal.Bwd.dw_eq] at h0
    exact ⟨h0, h1⟩

end Cert.Proof.InDw

end
-- ==== Proof.DownDwRun.lean ====
/-
  The down-projection's weight gradient over its whole grid, over extended reals: two halves of its rows, each the sum over
  eight blocks of the arguments' rows.
-/
module

public import proofs.«01_k».proof.Proof.Gen.DownDwIdeal.Value
public import proofs.«01_k».proof.Proof.Products
public import Idealize.ShloMosaic.Lib.Pipeline.ValueKit

@[expose] public section

noncomputable section

namespace Cert.DownDwIdeal.Bwd

open Cert.DownDwIdeal Cert.DownDwIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val % 8, t.val / 8] ∧ win0_1.index t = ![t.val % 8, 0]
    ∧ win0_2.index t = ![0, t.val / 8, 0] :=
  (by decide +kernel : ∀ t : Fin grid0.N, _)

theorem lt (t : Fin cfg0.N) : t.val < 16 := lt_of_lt_of_eq t.isLt N_0

/-- Row `r` of the rows of point `t`, and column `k` of its columns. -/
def rowAt (t : Fin cfg0.N) (r : Fin 1024) : Fin 8192 := ⟨t.val % 8 * 1024 + r.val, by omega⟩
def colAt (t : Fin cfg0.N) (k : Fin 1408) : Fin 2816 := ⟨t.val / 8 * 1408 + k.val, by have := lt t; omega⟩

def leftB (t : Fin cfg0.N) (r : Fin 1024) (k : Fin 1408) : EReal := iblk m c 0 t (ix2 r k)
def rightB (t : Fin cfg0.N) (r : Fin 1024) (n : Fin 1024) : EReal := iblk m c 1 t (ix2 r n)

theorem leftB_eq (t : Fin cfg0.N) (r : Fin 1024) (k : Fin 1408) : leftB m c t r k = A0 m c (ix2 (rowAt t r) (colAt t k)) := by
  unfold leftB A0
  blk_ext [iblk, V, idx t, rowAt, colAt]

theorem rightB_eq (t : Fin cfg0.N) (r : Fin 1024) (n : Fin 1024) : rightB m c t r n = A1 m c (ix2 (rowAt t r) n) := by
  unfold rightB A1
  blk_ext [iblk, V, idx t, rowAt]

/-- What a point adds to its share. -/
theorem term_at (t : Fin cfg0.N) (k : Fin 1408) (n : Fin 1024) :
    k0_pay2 (iblk m c 0 t) (iblk m c 1 t) (ix3 0 k n)
      = ∑ r, (show EReal from A0 m c (ix2 (rowAt t r) (colAt t k))) * A1 m c (ix2 (rowAt t r) n) := by
  have e : k0_pay2 (iblk m c 0 t) (iblk m c 1 t) (ix3 0 k n) = ∑ r, leftB m c t r k * rightB m c t r n := by
    pointwise [k0_pay2, k0_pay1]
    rfl
  exact e.trans (Finset.sum_congr rfl fun r _ => congrArg₂ (· * ·) (leftB_eq m c t r k) (rightB_eq m c t r n))

theorem flat (j : S1x1408x1024.Idx) : j = ix3 0 (j 1) (j 2) := by
  funext a
  match a with
  | 0 => exact Fin.ext (by have : (j 0).val < 1 := (j 0).isLt; show (j 0).val = 0; omega)
  | 1 => rfl
  | 2 => rfl

theorem step_at (a : Vec Ideal S1024x1408 .bf16) (b : Vec Ideal S1024x1024 .bf16) (v : Vec Ideal S1x1408x1024 .f32)
    (k : Fin 1408) (n : Fin 1024) : k0_pay3 a b v (ix3 0 k n) = v (ix3 0 k n) + k0_pay2 a b (ix3 0 k n) := by
  pointwise [k0_pay3, k0_pay2]

theorem final2 : (dats m 0 c).arrAt 2 cfg0.N = downDw (A0 m c) (A1 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun t j => k0_pay2 (iblk m c 0 t) (iblk m c 1 t) j)
    (fun t h j => by
      have h1 : ¬1 ≤ t.val % 8 := by omega
      rw [outsAt0_A m c t h h1]
      frame_out
      exact (zero_add _).symm)
    (fun t h j => by
      have h1 : 1 ≤ t.val % 8 := by omega
      rw [outsAt0_B m c t h h1]
      frame_out
      rw [flat j]
      exact step_at _ _ _ (j 1) (j 2))
    t ((flush0_2 t).mp hf) y, zero_add]
  have hq : t.val % 8 = 7 := (flush0_2 t).mp hf
  have ht := lt t
  have e1 : (win0_2.blk t).view.emb y 1 = colAt t (y 1) := Fin.ext (by blk_simp [idx t, colAt])
  have e2 : (win0_2.blk t).view.emb y 2 = y 2 := Fin.ext (by blk_simp [idx t])
  unfold downDw
  simp only [e1, e2]
  refine Eq.trans (Fin.sum_fin_congr fun s => (congrArg _ (flat y)).trans (term_at m c _ (y 1) (y 2)))
    (Fin.sum_mul_add_congr fun s r hl => ?_)
  have er : ∀ h, rowAt ⟨8 * (t.val / 8) + s.val, h⟩ r = ⟨s.val * 1024 + r.val, hl⟩ := fun h => Fin.ext (by
    show (8 * (t.val / 8) + s.val) % 8 * 1024 + r.val = s.val * 1024 + r.val
    omega)
  have ec : ∀ h, colAt ⟨8 * (t.val / 8) + s.val, h⟩ (y 1) = colAt t (y 1) := fun h => Fin.ext (by
    show (8 * (t.val / 8) + s.val) / 8 * 1408 + (y 1).val = t.val / 8 * 1408 + (y 1).val
    omega)
  rw [er, ec]

end Cert.DownDwIdeal.Bwd

end
-- ==== Proof.DownDwRef.lean ====
/-
  The reference of the down-projection's weight gradient, over extended reals.
-/
module

public import proofs.«01_k».proof.Proof.Gen.DownDwRefIdeal.Read
public import proofs.«01_k».proof.Proof.Products
public import Idealize.ShloMosaic.Lib.Pipeline.ValueKit

@[expose] public section

noncomputable section

namespace Cert.DownDwRefIdeal.Bwd

open Cert.DownDwRefIdeal Cert.DownDwRefIdeal.Gen Cert.DownDwRefIdeal.Read Idealize.ShloMosaic
open Idealize.ShloMosaic.TcCoe Idealize.ShloMosaic.Tactic Idealize.SL.Sem Cert.Products

variable (x0 : Vec Ideal S8192x2816 .bf16) (x1 : Vec Ideal S8192x1024 .bf16)

theorem triple (j : S1x2816x1024.Idx) : j = ix3 0 (j 1) (j 2) := by
  funext a
  match a with
  | 0 => exact Fin.ext (by have : (j 0).val < 1 := (j 0).isLt; show (j 0).val = 0; omega)
  | 1 => rfl
  | 2 => rfl

theorem dw_eq : val_main_v6 (F := Ideal) x0 x1 = downDw x0 x1 := by
  funext j
  rw [triple j]
  pointwise [val_main_v6, val_main_v5, val_main_v4, val_main_v2, val_main_v0]
  exact Finset.sum_congr rfl fun t _ => mul_comm _ _

end Cert.DownDwRefIdeal.Bwd

end
-- ==== Proof.DownDwClaims.lean ====
/-
  The claims of the down-projection's weight gradient.
-/
module

public import proofs.«01_k».proof.Defs
public import proofs.«01_k».proof.Proof.Gen.DownDw.Frame
public import proofs.«01_k».proof.Proof.Gen.DownDwRefIdeal.Run
public import proofs.«01_k».proof.Proof.DownDwRun
public import proofs.«01_k».proof.Proof.DownDwRef
public import Idealize.ShloMosaic.Lib.Claim
public import Idealize.ShloMosaic.Lib.Quiescent

@[expose] public section

noncomputable section

namespace Cert.Proof.DownDw

open Idealize.ShloMosaic Idealize.ShloMosaic.TcCoe Idealize.SL.Sem Cert.DownDwIdeal.Bwd

theorem frame_kernel : Cert.quiescent_DownDw := fun m ρ _ => Cert.DownDw.Gen.frame m ρ

theorem frame_ideal : Cert.quiescent_DownDwIdeal := fun m ρ _ => Cert.DownDwIdeal.Gen.frame m ρ

theorem frame_reference : Cert.quiescent_DownDwRefIdeal := fun m ρ _ =>
  (θ_run Cert.DownDwRefIdeal.defs _ _).mono
    (fun r h => ⟨fun c => (h c).2, Idealize.ShloMosaic.sem_eq_zero_of_no_sems (by decide) r.2⟩)
    (Cert.DownDwRefIdeal.Value.run (F := Ideal) m ρ)

theorem algebraic : Cert.algebraic_DownDwIdeal_DownDwRefIdeal := by
  intro m ρ m' ρ' _ hag
  have hr := Cert.DownDwRefIdeal.Value.run (F := Ideal) m' ρ'
  refine ⟨fun c => Cert.Products.downDw (A0 m c) (A1 m c), ?_, ?_⟩
  · refine (θ_run _ _ _).mono (fun r h c => ?_) (Cert.DownDwIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.DownDwRefIdeal.Read.val_main_v6_eq, a0, a1, Cert.DownDwRefIdeal.Bwd.dw_eq] at h0
    exact ⟨h0, h1⟩

end Cert.Proof.DownDw

end
-- ==== Proof.OutDwRun.lean ====
/-
  The output projection's weight gradient over its whole grid, over extended reals: the sum over eight blocks of the
  arguments' rows.
-/
module

public import proofs.«01_k».proof.Proof.Gen.OutDwIdeal.Value
public import proofs.«01_k».proof.Proof.Products
public import Idealize.ShloMosaic.Lib.Pipeline.ValueKit

@[expose] public section

noncomputable section

namespace Cert.OutDwIdeal.Bwd

open Cert.OutDwIdeal Cert.OutDwIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val % 8, 0] ∧ win0_1.index t = ![t.val % 8, 0]
    ∧ win0_2.index t = ![0, 0, 0] :=
  (by decide +kernel : ∀ t : Fin grid0.N, _)

theorem lt (t : Fin cfg0.N) : t.val < 8 := lt_of_lt_of_eq t.isLt N_0

/-- Row `r` of the rows of point `t`. -/
def rowAt (t : Fin cfg0.N) (r : Fin 1024) : Fin 8192 := ⟨t.val % 8 * 1024 + r.val, by omega⟩

def leftB (t : Fin cfg0.N) (r : Fin 1024) (k : Fin 1024) : EReal := iblk m c 0 t (ix2 r k)
def rightB (t : Fin cfg0.N) (r : Fin 1024) (n : Fin 1024) : EReal := iblk m c 1 t (ix2 r n)

theorem leftB_eq (t : Fin cfg0.N) (r : Fin 1024) (k : Fin 1024) : leftB m c t r k = A0 m c (ix2 (rowAt t r) k) := by
  unfold leftB A0
  blk_ext [iblk, V, idx t, rowAt]

theorem rightB_eq (t : Fin cfg0.N) (r : Fin 1024) (n : Fin 1024) : rightB m c t r n = A1 m c (ix2 (rowAt t r) n) := by
  unfold rightB A1
  blk_ext [iblk, V, idx t, rowAt]

/-- What a point adds to its share. -/
theorem term_at (t : Fin cfg0.N) (k : Fin 1024) (n : Fin 1024) :
    k0_pay2 (iblk m c 0 t) (iblk m c 1 t) (ix3 0 k n)
      = ∑ r, (show EReal from A0 m c (ix2 (rowAt t r) k)) * A1 m c (ix2 (rowAt t r) n) := by
  have e : k0_pay2 (iblk m c 0 t) (iblk m c 1 t) (ix3 0 k n) = ∑ r, leftB m c t r k * rightB m c t r n := by
    pointwise [k0_pay2, k0_pay1]
    rfl
  exact e.trans (Finset.sum_congr rfl fun r _ => congrArg₂ (· * ·) (leftB_eq m c t r k) (rightB_eq m c t r n))

theorem flat (j : S1x1024x1024.Idx) : j = ix3 0 (j 1) (j 2) := by
  funext a
  match a with
  | 0 => exact Fin.ext (by have : (j 0).val < 1 := (j 0).isLt; show (j 0).val = 0; omega)
  | 1 => rfl
  | 2 => rfl

theorem step_at (a : Vec Ideal S1024x1024 .bf16) (b : Vec Ideal S1024x1024 .bf16) (v : Vec Ideal S1x1024x1024 .f32)
    (k : Fin 1024) (n : Fin 1024) : k0_pay3 a b v (ix3 0 k n) = v (ix3 0 k n) + k0_pay2 a b (ix3 0 k n) := by
  pointwise [k0_pay3, k0_pay2]

theorem final2 : (dats m 0 c).arrAt 2 cfg0.N = outDw (A0 m c) (A1 m c) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun t j => k0_pay2 (iblk m c 0 t) (iblk m c 1 t) j)
    (fun t h j => by
      have h1 : ¬1 ≤ t.val := by have := lt t; omega
      rw [outsAt0_A m c t h h1]
      frame_out
      exact (zero_add _).symm)
    (fun t h j => by
      have h1 : 1 ≤ t.val := by omega
      rw [outsAt0_B m c t h h1]
      frame_out
      rw [flat j]
      exact step_at _ _ _ (j 1) (j 2))
    t ((flush0_2 t).mp hf) y, zero_add]
  have hq : t.val % 8 = 7 := (flush0_2 t).mp hf
  have ht := lt t
  have e1 : (win0_2.blk t).view.emb y 1 = y 1 := Fin.ext (by blk_simp [idx t])
  have e2 : (win0_2.blk t).view.emb y 2 = y 2 := Fin.ext (by blk_simp [idx t])
  unfold outDw
  simp only [e1, e2]
  refine Eq.trans (Fin.sum_fin_congr fun s => (congrArg _ (flat y)).trans (term_at m c _ (y 1) (y 2)))
    (Fin.sum_mul_add_congr fun s r hl => ?_)
  have er : ∀ h, rowAt ⟨8 * (t.val / 8) + s.val, h⟩ r = ⟨s.val * 1024 + r.val, hl⟩ := fun h => Fin.ext (by
    show (8 * (t.val / 8) + s.val) % 8 * 1024 + r.val = s.val * 1024 + r.val
    omega)
  rw [er]

end Cert.OutDwIdeal.Bwd

end
-- ==== Proof.OutDwRef.lean ====
/-
  The reference of the output projection's weight gradient, over extended reals.
-/
module

public import proofs.«01_k».proof.Proof.Gen.OutDwRefIdeal.Read
public import proofs.«01_k».proof.Proof.Products
public import Idealize.ShloMosaic.Lib.Pipeline.ValueKit

@[expose] public section

noncomputable section

namespace Cert.OutDwRefIdeal.Bwd

open Cert.OutDwRefIdeal Cert.OutDwRefIdeal.Gen Cert.OutDwRefIdeal.Read Idealize.ShloMosaic
open Idealize.ShloMosaic.TcCoe Idealize.ShloMosaic.Tactic Idealize.SL.Sem Cert.Products

variable (x0 : Vec Ideal S8192x1024 .bf16) (x1 : Vec Ideal S8192x1024 .bf16)

theorem triple (j : S1x1024x1024.Idx) : j = ix3 0 (j 1) (j 2) := by
  funext a
  match a with
  | 0 => exact Fin.ext (by have : (j 0).val < 1 := (j 0).isLt; show (j 0).val = 0; omega)
  | 1 => rfl
  | 2 => rfl

theorem dw_eq : val_main_v6 (F := Ideal) x0 x1 = outDw x0 x1 := by
  funext j
  rw [triple j]
  pointwise [val_main_v6, val_main_v5, val_main_v4, val_main_v2, val_main_v0]
  exact Finset.sum_congr rfl fun t _ => mul_comm _ _

end Cert.OutDwRefIdeal.Bwd

end
-- ==== Proof.OutDwClaims.lean ====
/-
  The claims of the output projection's weight gradient.
-/
module

public import proofs.«01_k».proof.Defs
public import proofs.«01_k».proof.Proof.Gen.OutDw.Frame
public import proofs.«01_k».proof.Proof.Gen.OutDwRefIdeal.Run
public import proofs.«01_k».proof.Proof.OutDwRun
public import proofs.«01_k».proof.Proof.OutDwRef
public import Idealize.ShloMosaic.Lib.Claim
public import Idealize.ShloMosaic.Lib.Quiescent

@[expose] public section

noncomputable section

namespace Cert.Proof.OutDw

open Idealize.ShloMosaic Idealize.ShloMosaic.TcCoe Idealize.SL.Sem Cert.OutDwIdeal.Bwd

theorem frame_kernel : Cert.quiescent_OutDw := fun m ρ _ => Cert.OutDw.Gen.frame m ρ

theorem frame_ideal : Cert.quiescent_OutDwIdeal := fun m ρ _ => Cert.OutDwIdeal.Gen.frame m ρ

theorem frame_reference : Cert.quiescent_OutDwRefIdeal := fun m ρ _ =>
  (θ_run Cert.OutDwRefIdeal.defs _ _).mono
    (fun r h => ⟨fun c => (h c).2, Idealize.ShloMosaic.sem_eq_zero_of_no_sems (by decide) r.2⟩)
    (Cert.OutDwRefIdeal.Value.run (F := Ideal) m ρ)

theorem algebraic : Cert.algebraic_OutDwIdeal_OutDwRefIdeal := by
  intro m ρ m' ρ' _ hag
  have hr := Cert.OutDwRefIdeal.Value.run (F := Ideal) m' ρ'
  refine ⟨fun c => Cert.Products.outDw (A0 m c) (A1 m c), ?_, ?_⟩
  · refine (θ_run _ _ _).mono (fun r h c => ?_) (Cert.OutDwIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.OutDwRefIdeal.Read.val_main_v6_eq, a0, a1, Cert.OutDwRefIdeal.Bwd.dw_eq] at h0
    exact ⟨h0, h1⟩

end Cert.Proof.OutDw

end
-- ==== Proof.DownDxRun.lean ====
/-
  The gradient of the down-projection's argument over its whole grid, over extended reals: sixteen blocks of rows.
-/
module

public import proofs.«01_k».proof.Proof.Gen.DownDxIdeal.Value
public import proofs.«01_k».proof.Proof.Products
public import Idealize.ShloMosaic.Lib.Pipeline.ValueKit

@[expose] public section

noncomputable section

namespace Cert.DownDxIdeal.Bwd

open Cert.DownDxIdeal Cert.DownDxIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val, 0] ∧ win0_1.index t = ![0, 0, 0, 0] ∧ win0_2.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

def gradB (t : Fin cfg0.N) (r : Fin 512) (k : Fin 1024) : EReal := iblk m c 0 t (ix2 r k)
def weightB (t : Fin cfg0.N) (n : Fin 2816) (k : Fin 1024) : EReal := iblk m c 1 t (ix4 0 0 n k)

theorem gradB_eq (t : Fin cfg0.N) (r : Fin 512) (k : Fin 1024) : gradB m c t r k = A0 m c (ix2 (at16 t r) k) := by
  unfold gradB A0
  blk_ext [iblk, V, idx t, at16]

theorem weightB_eq (t : Fin cfg0.N) (n : Fin 2816) (k : Fin 1024) : weightB m c t n k = A1 m c (ix4 0 0 n k) := by
  unfold weightB A1
  blk_ext [iblk, V, idx t]

theorem block_at (t : Fin cfg0.N) (r : Fin 512) (n : Fin 2816) :
    k0_pay1 (iblk m c 0 t) (iblk m c 1 t) (ix2 r n)
      = ∑ k, (show EReal from A0 m c (ix2 (at16 t r) k)) * A1 m c (ix4 0 0 n k) := by
  have e : k0_pay1 (iblk m c 0 t) (iblk m c 1 t) (ix2 r n) = ∑ k, gradB m c t r k * weightB m c t n k := by
    pointwise [k0_pay1]
    rfl
  exact e.trans (Finset.sum_congr rfl fun k _ => congrArg₂ (· * ·) (gradB_eq m c t r k) (weightB_eq m c t n k))

theorem final2 : (dats m 0 c).arrAt 2 cfg0.N = downDx (A0 m c) (A1 m c) := by
  refine (dats m 0 c).arrAt_eq_of_covers 2 _ (by decide +kernel) fun t hf y => ?_
  blk_simp
  rw [after0_2]
  have e0 : (win0_2.blk t).view.emb y 0 = at16 t (y 0) := Fin.ext (by blk_simp [idx t, at16])
  have e1 : (win0_2.blk t).view.emb y 1 = y 1 := Fin.ext (by blk_simp [idx t])
  have ey : y = ix2 (y 0) (y 1) := by funext a; match a with | 0 => rfl | 1 => rfl
  unfold downDx
  rw [e0, e1]
  frame_out
  exact (congrArg _ ey).trans (block_at m c t (y 0) (y 1))

end Cert.DownDxIdeal.Bwd

end
-- ==== Proof.DownDxRef.lean ====
/-
  The reference of the gradient of the down-projection's argument, over extended reals.
-/
module

public import proofs.«01_k».proof.Proof.Gen.DownDxRefIdeal.Read
public import proofs.«01_k».proof.Proof.Products
public import Idealize.ShloMosaic.Lib.Pipeline.ValueKit

@[expose] public section

noncomputable section

namespace Cert.DownDxRefIdeal.Bwd

open Cert.DownDxRefIdeal Cert.DownDxRefIdeal.Gen Cert.DownDxRefIdeal.Read Idealize.ShloMosaic
open Idealize.ShloMosaic.TcCoe Idealize.ShloMosaic.Tactic Idealize.SL.Sem Cert.Products

variable (x0 : Vec Ideal S8192x1024 .bf16) (x1 : Vec Ideal S1x1x2816x1024 .bf16)

theorem pair (j : S8192x2816.Idx) : j = ix2 (j 0) (j 1) := by
  funext a
  match a with
  | 0 => rfl
  | 1 => rfl

theorem dx_eq : val_main_v5 (F := Ideal) x0 x1 = downDx x0 x1 := by
  funext j
  rw [pair j]
  pointwise [val_main_v5, val_main_v3, val_main_v1, val_main_v0]
  rfl

end Cert.DownDxRefIdeal.Bwd

end
-- ==== Proof.DownDxClaims.lean ====
/-
  The claims of the gradient of the down-projection's argument.
-/
module

public import proofs.«01_k».proof.Defs
public import proofs.«01_k».proof.Proof.Gen.DownDx.Frame
public import proofs.«01_k».proof.Proof.Gen.DownDxRefIdeal.Run
public import proofs.«01_k».proof.Proof.DownDxRun
public import proofs.«01_k».proof.Proof.DownDxRef
public import Idealize.ShloMosaic.Lib.Claim
public import Idealize.ShloMosaic.Lib.Quiescent

@[expose] public section

noncomputable section

namespace Cert.Proof.DownDx

open Idealize.ShloMosaic Idealize.ShloMosaic.TcCoe Idealize.SL.Sem Cert.DownDxIdeal.Bwd

theorem frame_kernel : Cert.quiescent_DownDx := fun m ρ _ => Cert.DownDx.Gen.frame m ρ

theorem frame_ideal : Cert.quiescent_DownDxIdeal := fun m ρ _ => Cert.DownDxIdeal.Gen.frame m ρ

theorem frame_reference : Cert.quiescent_DownDxRefIdeal := fun m ρ _ =>
  (θ_run Cert.DownDxRefIdeal.defs _ _).mono
    (fun r h => ⟨fun c => (h c).2, Idealize.ShloMosaic.sem_eq_zero_of_no_sems (by decide) r.2⟩)
    (Cert.DownDxRefIdeal.Value.run (F := Ideal) m ρ)

theorem algebraic : Cert.algebraic_DownDxIdeal_DownDxRefIdeal := by
  intro m ρ m' ρ' _ hag
  have hr := Cert.DownDxRefIdeal.Value.run (F := Ideal) m' ρ'
  refine ⟨fun c => Cert.Products.downDx (A0 m c) (A1 m c), ?_, ?_⟩
  · refine (θ_run _ _ _).mono (fun r h c => ?_) (Cert.DownDxIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.DownDxRefIdeal.Read.val_main_v5_eq, a0, a1, Cert.DownDxRefIdeal.Bwd.dx_eq] at h0
    exact ⟨h0, h1⟩

end Cert.Proof.DownDx

end
-- ==== Proof.OutDxRun.lean ====
/-
  The gradient of the output projection's argument over its whole grid, over extended reals: sixteen blocks of rows.
-/
module

public import proofs.«01_k».proof.Proof.Gen.OutDxIdeal.Value
public import proofs.«01_k».proof.Proof.Products
public import Idealize.ShloMosaic.Lib.Pipeline.ValueKit

@[expose] public section

noncomputable section

namespace Cert.OutDxIdeal.Bwd

open Cert.OutDxIdeal Cert.OutDxIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val, 0] ∧ win0_1.index t = ![0, 0, 0, 0] ∧ win0_2.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

def gradB (t : Fin cfg0.N) (r : Fin 512) (k : Fin 1024) : EReal := iblk m c 0 t (ix2 r k)
def weightB (t : Fin cfg0.N) (n : Fin 1024) (k : Fin 1024) : EReal := iblk m c 1 t (ix4 0 0 n k)

theorem gradB_eq (t : Fin cfg0.N) (r : Fin 512) (k : Fin 1024) : gradB m c t r k = A0 m c (ix2 (at16 t r) k) := by
  unfold gradB A0
  blk_ext [iblk, V, idx t, at16]

theorem weightB_eq (t : Fin cfg0.N) (n : Fin 1024) (k : Fin 1024) : weightB m c t n k = A1 m c (ix4 0 0 n k) := by
  unfold weightB A1
  blk_ext [iblk, V, idx t]

theorem block_at (t : Fin cfg0.N) (r : Fin 512) (n : Fin 1024) :
    k0_pay1 (iblk m c 0 t) (iblk m c 1 t) (ix2 r n)
      = ∑ k, (show EReal from A0 m c (ix2 (at16 t r) k)) * A1 m c (ix4 0 0 n k) := by
  have e : k0_pay1 (iblk m c 0 t) (iblk m c 1 t) (ix2 r n) = ∑ k, gradB m c t r k * weightB m c t n k := by
    pointwise [k0_pay1]
    rfl
  exact e.trans (Finset.sum_congr rfl fun k _ => congrArg₂ (· * ·) (gradB_eq m c t r k) (weightB_eq m c t n k))

theorem final2 : (dats m 0 c).arrAt 2 cfg0.N = outDx (A0 m c) (A1 m c) := by
  refine (dats m 0 c).arrAt_eq_of_covers 2 _ (by decide +kernel) fun t hf y => ?_
  blk_simp
  rw [after0_2]
  have e0 : (win0_2.blk t).view.emb y 0 = at16 t (y 0) := Fin.ext (by blk_simp [idx t, at16])
  have e1 : (win0_2.blk t).view.emb y 1 = y 1 := Fin.ext (by blk_simp [idx t])
  have ey : y = ix2 (y 0) (y 1) := by funext a; match a with | 0 => rfl | 1 => rfl
  unfold outDx
  rw [e0, e1]
  frame_out
  exact (congrArg _ ey).trans (block_at m c t (y 0) (y 1))

end Cert.OutDxIdeal.Bwd

end
-- ==== Proof.OutDxRef.lean ====
/-
  The reference of the gradient of the output projection's argument, over extended reals.
-/
module

public import proofs.«01_k».proof.Proof.Gen.OutDxRefIdeal.Read
public import proofs.«01_k».proof.Proof.Products
public import Idealize.ShloMosaic.Lib.Pipeline.ValueKit

@[expose] public section

noncomputable section

namespace Cert.OutDxRefIdeal.Bwd

open Cert.OutDxRefIdeal Cert.OutDxRefIdeal.Gen Cert.OutDxRefIdeal.Read Idealize.ShloMosaic
open Idealize.ShloMosaic.TcCoe Idealize.ShloMosaic.Tactic Idealize.SL.Sem Cert.Products

variable (x0 : Vec Ideal S8192x1024 .bf16) (x1 : Vec Ideal S1x1x1024x1024 .bf16)

theorem pair (j : S8192x1024.Idx) : j = ix2 (j 0) (j 1) := by
  funext a
  match a with
  | 0 => rfl
  | 1 => rfl

theorem dx_eq : val_main_v5 (F := Ideal) x0 x1 = outDx x0 x1 := by
  funext j
  rw [pair j]
  pointwise [val_main_v5, val_main_v3, val_main_v1, val_main_v0]
  rfl

end Cert.OutDxRefIdeal.Bwd

end
-- ==== Proof.OutDxClaims.lean ====
/-
  The claims of the gradient of the output projection's argument.
-/
module

public import proofs.«01_k».proof.Defs
public import proofs.«01_k».proof.Proof.Gen.OutDx.Frame
public import proofs.«01_k».proof.Proof.Gen.OutDxRefIdeal.Run
public import proofs.«01_k».proof.Proof.OutDxRun
public import proofs.«01_k».proof.Proof.OutDxRef
public import Idealize.ShloMosaic.Lib.Claim
public import Idealize.ShloMosaic.Lib.Quiescent

@[expose] public section

noncomputable section

namespace Cert.Proof.OutDx

open Idealize.ShloMosaic Idealize.ShloMosaic.TcCoe Idealize.SL.Sem Cert.OutDxIdeal.Bwd

theorem frame_kernel : Cert.quiescent_OutDx := fun m ρ _ => Cert.OutDx.Gen.frame m ρ

theorem frame_ideal : Cert.quiescent_OutDxIdeal := fun m ρ _ => Cert.OutDxIdeal.Gen.frame m ρ

theorem frame_reference : Cert.quiescent_OutDxRefIdeal := fun m ρ _ =>
  (θ_run Cert.OutDxRefIdeal.defs _ _).mono
    (fun r h => ⟨fun c => (h c).2, Idealize.ShloMosaic.sem_eq_zero_of_no_sems (by decide) r.2⟩)
    (Cert.OutDxRefIdeal.Value.run (F := Ideal) m ρ)

theorem algebraic : Cert.algebraic_OutDxIdeal_OutDxRefIdeal := by
  intro m ρ m' ρ' _ hag
  have hr := Cert.OutDxRefIdeal.Value.run (F := Ideal) m' ρ'
  refine ⟨fun c => Cert.Products.outDx (A0 m c) (A1 m c), ?_, ?_⟩
  · refine (θ_run _ _ _).mono (fun r h c => ?_) (Cert.OutDxIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.OutDxRefIdeal.Read.val_main_v5_eq, a0, a1, Cert.OutDxRefIdeal.Bwd.dx_eq] at h0
    exact ⟨h0, h1⟩

end Cert.Proof.OutDx

end
-- ==== Proof.InRun.lean ====
/-
  The input projection over its whole grid, over extended reals: four shares of the columns, four blocks of rows.
-/
module

public import proofs.«01_k».proof.Proof.Gen.InIdeal.Value
public import proofs.«01_k».proof.Proof.Products
public import Idealize.ShloMosaic.Lib.Pipeline.ValueKit

@[expose] public section

noncomputable section

namespace Cert.InIdeal.Fwd

open Cert.InIdeal Cert.InIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)

theorem idx : ∀ t : Fin cfg0.N, win0_0.index t = ![t.val % 4, 0] ∧ win0_1.index t = ![0, t.val / 4, 0, 0]
    ∧ win0_2.index t = ![0, t.val / 4] ∧ win0_3.index t = ![t.val % 4, t.val / 4] :=
  (by decide +kernel : ∀ t : Fin grid0.N, _)

theorem lt (t : Fin cfg0.N) : t.val < 16 := lt_of_lt_of_eq t.isLt N_0

/-- Row `r` of the rows of point `t`, and column `k` of its columns. -/
def rowAt (t : Fin cfg0.N) (r : Fin 2048) : Fin 8192 := ⟨t.val % 4 * 2048 + r.val, by omega⟩
def colAt (t : Fin cfg0.N) (k : Fin 384) : Fin 1536 := ⟨t.val / 4 * 384 + k.val, by have := lt t; omega⟩

def leftB (t : Fin cfg0.N) (r : Fin 2048) (k : Fin 1024) : EReal := iblk m c 0 t (ix2 r k)
def rightB (t : Fin cfg0.N) (k : Fin 1024) (n : Fin 384) : EReal := iblk m c 1 t (ix4 0 0 k n)
def biasB (t : Fin cfg0.N) (n : Fin 384) : EReal := iblk m c 2 t (ix2 0 n)

theorem leftB_eq (t : Fin cfg0.N) (r : Fin 2048) (k : Fin 1024) : leftB m c t r k = A0 m c (ix2 (rowAt t r) k) := by
  unfold leftB A0
  blk_ext [iblk, V, idx t, rowAt]

theorem rightB_eq (t : Fin cfg0.N) (k : Fin 1024) (n : Fin 384) : rightB m c t k n = inCol (A1 m c) k (colAt t n) := by
  have := lt t
  unfold inCol
  unfold rightB A1
  blk_ext [iblk, V, idx t, colAt] <;> omega

theorem biasB_eq (t : Fin cfg0.N) (n : Fin 384) : biasB m c t n = A2 m c (ix2 0 (colAt t n)) := by
  unfold biasB A2
  blk_ext [iblk, V, idx t, colAt]

theorem block_at (t : Fin cfg0.N) (r : Fin 2048) (n : Fin 384) :
    k0_pay1 (iblk m c 0 t) (iblk m c 1 t) (iblk m c 2 t) (ix2 r n)
      = ∑ k, (show EReal from A0 m c (ix2 (rowAt t r) k)) * inCol (A1 m c) k (colAt t n) + A2 m c (ix2 0 (colAt t n)) := by
  have e : k0_pay1 (iblk m c 0 t) (iblk m c 1 t) (iblk m c 2 t) (ix2 r n)
      = ∑ k, leftB m c t r k * rightB m c t k n + biasB m c t n := by
    pointwise [k0_pay1]
    rfl
  rw [e, biasB_eq]
  refine congrArg (· + _) (Finset.sum_congr rfl fun k _ => congrArg₂ (· * ·) (leftB_eq m c t r k) (rightB_eq m c t k n))

theorem final3 : (dats m 0 c).arrAt 3 cfg0.N = inFwd (A0 m c) (A1 m c) (A2 m c) := by
  refine (dats m 0 c).arrAt_eq_of_covers 3 _ (by decide +kernel) fun t hf y => ?_
  blk_simp
  rw [after0_3]
  have e0 : (win0_3.blk t).view.emb y 0 = rowAt t (y 0) := Fin.ext (by blk_simp [idx t, rowAt])
  have e1 : (win0_3.blk t).view.emb y 1 = colAt t (y 1) := Fin.ext (by blk_simp [idx t, colAt])
  have ey : y = ix2 (y 0) (y 1) := by funext a; match a with | 0 => rfl | 1 => rfl
  unfold inFwd
  rw [e0, e1]
  frame_out
  exact (congrArg _ ey).trans (block_at m c t (y 0) (y 1))

end Cert.InIdeal.Fwd

end
-- ==== Proof.InRef.lean ====
/-
  The reference of the input projection, over extended reals.
-/
module

public import proofs.«01_k».proof.Proof.Gen.InRefIdeal.Read
public import proofs.«01_k».proof.Proof.Products
public import Idealize.ShloMosaic.Lib.Pipeline.ValueKit

@[expose] public section

noncomputable section

namespace Cert.InRefIdeal.Fwd

open Cert.InRefIdeal Cert.InRefIdeal.Gen Cert.InRefIdeal.Read Idealize.ShloMosaic
open Idealize.ShloMosaic.TcCoe Idealize.ShloMosaic.Tactic Idealize.SL.Sem Cert.Products

variable (x0 : Vec Ideal S8192x1024 .bf16) (x1 : Vec Ideal S1x4x1024x384 .bf16) (x2 : Vec Ideal S1x1536 .f32)

theorem pair (j : S8192x1536.Idx) : j = ix2 (j 0) (j 1) := by
  funext a
  match a with
  | 0 => rfl
  | 1 => rfl

theorem fwd_eq : val_main_v7 (F := Ideal) x0 x1 x2 = inFwd x0 x1 x2 := by
  funext j
  rw [pair j]
  pointwise [val_main_v7, val_main_v6, val_main_v5, val_main_v4, val_main_v3, val_main_v2, val_main_v1, val_main_v0]
  rfl

end Cert.InRefIdeal.Fwd

end
-- ==== Proof.InClaims.lean ====
/-
  The claims of the input projection.
-/
module

public import proofs.«01_k».proof.Defs
public import proofs.«01_k».proof.Proof.Gen.In.Frame
public import proofs.«01_k».proof.Proof.Gen.InRefIdeal.Run
public import proofs.«01_k».proof.Proof.InRun
public import proofs.«01_k».proof.Proof.InRef
public import Idealize.ShloMosaic.Lib.Claim
public import Idealize.ShloMosaic.Lib.Quiescent

@[expose] public section

noncomputable section

namespace Cert.Proof.In

open Idealize.ShloMosaic Idealize.ShloMosaic.TcCoe Idealize.SL.Sem Cert.InIdeal.Fwd

theorem frame_kernel : Cert.quiescent_In := fun m ρ _ => Cert.In.Gen.frame m ρ

theorem frame_ideal : Cert.quiescent_InIdeal := fun m ρ _ => Cert.InIdeal.Gen.frame m ρ

theorem frame_reference : Cert.quiescent_InRefIdeal := fun m ρ _ =>
  (θ_run Cert.InRefIdeal.defs _ _).mono
    (fun r h => ⟨fun c => (h c).2, Idealize.ShloMosaic.sem_eq_zero_of_no_sems (by decide) r.2⟩)
    (Cert.InRefIdeal.Value.run (F := Ideal) m ρ)

theorem algebraic : Cert.algebraic_InIdeal_InRefIdeal := by
  intro m ρ m' ρ' _ hag
  have hr := Cert.InRefIdeal.Value.run (F := Ideal) m' ρ'
  refine ⟨fun c => Cert.Products.inFwd (A0 m c) (A1 m c) (A2 m c), ?_, ?_⟩
  · refine (θ_run _ _ _).mono (fun r h c => ?_) (Cert.InIdeal.Value.run_blocks (F := Ideal) m ρ)
    obtain ⟨h0, h1⟩ := h c
    exact ⟨h0.trans (final3 m c), h1⟩
  · refine (θ_run _ _ _).mono (fun r h c => ?_) hr
    obtain ⟨h0, h1⟩ := h c
    obtain ⟨a0, a1, a2⟩ := hag c
    rw [Cert.InRefIdeal.Read.val_main_v7_eq, a0, a1, a2, Cert.InRefIdeal.Fwd.fwd_eq] at h0
    exact ⟨h0, h1⟩

end Cert.Proof.In

end
-- ==== Proof.UpRun.lean ====
/-
  The up-projection over its whole grid, over extended reals: four shares of the columns, eight blocks of rows.
-/
module

public import proofs.«01_k».proof.Proof.Gen.UpIdeal.Value
public import proofs.«01_k».proof.Proof.Products
public import Idealize.ShloMosaic.Lib.Pipeline.ValueKit
public import Idealize.ShloMosaic.Lib.StableHlo.ReadAt

@[expose] public section

noncomputable section

namespace Cert.UpIdeal.Fwd

open Cert.UpIdeal Cert.UpIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![t.val % 8, 0] ∧ win0_1.index t = ![0, t.val / 8, 0, 0]
    ∧ win0_2.index t = ![0, t.val / 8] ∧ win0_3.index t = ![t.val % 8, t.val / 8] :=
  (by decide +kernel : ∀ t : Fin grid0.N, _)

theorem lt (t : Fin cfg0.N) : t.val < 32 := lt_of_lt_of_eq t.isLt N_0

/-- Row `r` of the rows of point `t`, and column `k` of its columns. -/
def rowAt (t : Fin cfg0.N) (r : Fin 1024) : Fin 8192 := ⟨t.val % 8 * 1024 + r.val, by omega⟩
def colAt (t : Fin cfg0.N) (k : Fin 1408) : Fin 5632 := ⟨t.val / 8 * 1408 + k.val, by have := lt t; omega⟩

/-- The bias the kernel is handed is zero. -/
theorem bias_read (k : Fin 5632) : (show EReal from V m c main_v0 (ix2 0 k)) = 0 := by
  unfold V
  after_reads_at

def leftB (t : Fin cfg0.N) (r : Fin 1024) (k : Fin 1024) : EReal := iblk m c 0 t (ix2 r k)
def rightB (t : Fin cfg0.N) (k : Fin 1024) (n : Fin 1408) : EReal := iblk m c 1 t (ix4 0 0 k n)
def biasB (t : Fin cfg0.N) (n : Fin 1408) : EReal := iblk m c 2 t (ix2 0 n)

theorem leftB_eq (t : Fin cfg0.N) (r : Fin 1024) (k : Fin 1024) : leftB m c t r k = A0 m c (ix2 (rowAt t r) k) := by
  rw [A0, ← V_main_arg0 m c]
  unfold leftB
  blk_ext [iblk, idx t, rowAt]

theorem rightB_eq (t : Fin cfg0.N) (k : Fin 1024) (n : Fin 1408) : rightB m c t k n = upCol (A1 m c) k (colAt t n) := by
  have := lt t
  unfold upCol
  rw [A1, ← V_main_arg1 m c]
  unfold rightB
  blk_ext [iblk, idx t, colAt] <;> omega

theorem biasB_eq (t : Fin cfg0.N) (n : Fin 1408) : biasB m c t n = 0 := by
  refine Eq.trans ?_ (bias_read m c (colAt t n))
  unfold biasB
  blk_ext [iblk, idx t, colAt]

theorem block_at (t : Fin cfg0.N) (r : Fin 1024) (n : Fin 1408) :
    k0_pay1 (iblk m c 0 t) (iblk m c 1 t) (iblk m c 2 t) (ix2 r n)
      = ∑ k, (show EReal from A0 m c (ix2 (rowAt t r) k)) * upCol (A1 m c) k (colAt t n) := by
  have e : k0_pay1 (iblk m c 0 t) (iblk m c 1 t) (iblk m c 2 t) (ix2 r n)
      = ∑ k, leftB m c t r k * rightB m c t k n + biasB m c t n := by
    pointwise [k0_pay1]
    rfl
  rw [e, biasB_eq]
  refine (add_zero _).trans (Finset.sum_congr rfl fun k _ => congrArg₂ (· * ·) (leftB_eq m c t r k) (rightB_eq m c t k n))

theorem final3 : (dats m 0 c).arrAt 3 cfg0.N = upFwd (A0 m c) (A1 m c) := by
  refine (dats m 0 c).arrAt_eq_of_covers 3 _ (by decide +kernel) fun t hf y => ?_
  blk_simp
  rw [after0_3]
  have e0 : (win0_3.blk t).view.emb y 0 = rowAt t (y 0) := Fin.ext (by blk_simp [idx t, rowAt])
  have e1 : (win0_3.blk t).view.emb y 1 = colAt t (y 1) := Fin.ext (by blk_simp [idx t, colAt])
  have ey : y = ix2 (y 0) (y 1) := by funext a; match a with | 0 => rfl | 1 => rfl
  unfold upFwd
  rw [e0, e1]
  frame_out
  exact (congrArg _ ey).trans (block_at m c t (y 0) (y 1))

end Cert.UpIdeal.Fwd

end
-- ==== Proof.UpRef.lean ====
/-
  The reference of the up-projection, over extended reals.
-/
module

public import proofs.«01_k».proof.Proof.Gen.UpRefIdeal.Read
public import proofs.«01_k».proof.Proof.Products
public import Idealize.ShloMosaic.Lib.Pipeline.ValueKit

@[expose] public section

noncomputable section

namespace Cert.UpRefIdeal.Fwd

open Cert.UpRefIdeal Cert.UpRefIdeal.Gen Cert.UpRefIdeal.Read Idealize.ShloMosaic
open Idealize.ShloMosaic.TcCoe Idealize.ShloMosaic.Tactic Idealize.SL.Sem Cert.Products

variable (x0 : Vec Ideal S8192x1024 .bf16) (x1 : Vec Ideal S1x4x1024x1408 .bf16)

theorem pair (j : S8192x5632.Idx) : j = ix2 (j 0) (j 1) := by
  funext a
  match a with
  | 0 => rfl
  | 1 => rfl

theorem fwd_eq : val_main_v5 (F := Ideal) x0 x1 = upFwd x0 x1 := by
  funext j
  rw [pair j]
  pointwise [val_main_v5, val_main_v4, val_main_v3, val_main_v2, val_main_v1, val_main_v0]
  rfl

end Cert.UpRefIdeal.Fwd

end
-- ==== Proof.UpClaims.lean ====
/-
  The claims of the up-projection.
-/
module

public import proofs.«01_k».proof.Defs
public import proofs.«01_k».proof.Proof.Gen.Up.Frame
public import proofs.«01_k».proof.Proof.Gen.UpRefIdeal.Run
public import proofs.«01_k».proof.Proof.UpRun
public import proofs.«01_k».proof.Proof.UpRef
public import Idealize.ShloMosaic.Lib.Claim
public import Idealize.ShloMosaic.Lib.Quiescent

@[expose] public section

noncomputable section

namespace Cert.Proof.Up

open Idealize.ShloMosaic Idealize.ShloMosaic.TcCoe Idealize.SL.Sem Cert.UpIdeal.Fwd

theorem frame_kernel : Cert.quiescent_Up := fun m ρ _ => Cert.Up.Gen.frame m ρ

theorem frame_ideal : Cert.quiescent_UpIdeal := fun m ρ _ => Cert.UpIdeal.Gen.frame m ρ

theorem frame_reference : Cert.quiescent_UpRefIdeal := fun m ρ _ =>
  (θ_run Cert.UpRefIdeal.defs _ _).mono
    (fun r h => ⟨fun c => (h c).2, Idealize.ShloMosaic.sem_eq_zero_of_no_sems (by decide) r.2⟩)
    (Cert.UpRefIdeal.Value.run (F := Ideal) m ρ)

theorem algebraic : Cert.algebraic_UpIdeal_UpRefIdeal := by
  intro m ρ m' ρ' _ hag
  have hr := Cert.UpRefIdeal.Value.run (F := Ideal) m' ρ'
  refine ⟨fun c => Cert.Products.upFwd (A0 m c) (A1 m c), ?_, ?_⟩
  · refine (θ_run _ _ _).mono (fun r h c => ?_) (Cert.UpIdeal.Value.run_blocks (F := Ideal) m ρ)
    obtain ⟨h0, h1⟩ := h c
    exact ⟨h0.trans (final3 m c), h1⟩
  · refine (θ_run _ _ _).mono (fun r h c => ?_) hr
    obtain ⟨h0, h1⟩ := h c
    obtain ⟨a0, a1⟩ := hag c
    rw [Cert.UpRefIdeal.Read.val_main_v5_eq, a0, a1, Cert.UpRefIdeal.Fwd.fwd_eq] at h0
    exact ⟨h0, h1⟩

end Cert.Proof.Up

end
-- ==== Proof.NormFwd.lean ====
/-
  The results of a normalisation's forward call, from the rows `h` it normalises, and the rows of the calls that end in one.
-/
module

public import proofs.«01_k».proof.Proof.Norm
public import proofs.«01_k».proof.Proof.Products

@[expose] public section

noncomputable section

namespace Cert.Norm

open Idealize.ShloMosaic Cert.Products

variable (h : Fin 8192 → Fin 1024 → EReal) (g b : Vec Ideal ⟨2, ![1, 1024]⟩ .f32)

/-- The normalised rows. -/
def resUnit : Vec Ideal ⟨2, ![8192, 1024]⟩ .f32 := fun i => unit (h (i 0)) (i 1)

/-- The root's reciprocals. -/
def resRecip : Vec Ideal ⟨2, ![8192, 1]⟩ .f32 := fun i => recip (h (i 0))

/-- The normalised rows, scaled and shifted. -/
def resNorm : Vec Ideal ⟨2, ![8192, 1024]⟩ .bf16 := fun i => unit (h (i 0)) (i 1) * g (ix2 0 (i 1)) + b (ix2 0 (i 1))

/-- The residual's part of a row: the previous normalisation's rows, scaled, shifted, and times the residual's factor. -/
def carried (xp : Vec Ideal ⟨2, ![8192, 1024]⟩ .f32) (gp bp : Vec Ideal ⟨2, ![1, 1024]⟩ .f32) (t : Fin 8192)
    (n : Fin 1024) : EReal :=
  alpha * ((show EReal from xp (ix2 t n)) * gp (ix2 0 n) + bp (ix2 0 n))

/-- The rows after the output projection. -/
def outRow (x : Vec Ideal ⟨2, ![8192, 1024]⟩ .bf16) (w : Vec Ideal ⟨3, ![1, 1024, 1024]⟩ .bf16)
    (bias : Vec Ideal ⟨2, ![1, 1024]⟩ .f32) (xp : Vec Ideal ⟨2, ![8192, 1024]⟩ .f32)
    (gp bp : Vec Ideal ⟨2, ![1, 1024]⟩ .f32) (t : Fin 8192) (n : Fin 1024) : EReal :=
  carried xp gp bp t n + (∑ k, (show EReal from x (ix2 t k)) * w (ix3 0 k n) + bias (ix2 0 n))

/-- The rows after the down-projection. -/
def downRow (x : Vec Ideal ⟨2, ![8192, 2816]⟩ .bf16) (w : Vec Ideal ⟨3, ![1, 2816, 1024]⟩ .bf16)
    (xp : Vec Ideal ⟨2, ![8192, 1024]⟩ .f32) (gp bp : Vec Ideal ⟨2, ![1, 1024]⟩ .f32) (t : Fin 8192) (n : Fin 1024) : EReal :=
  carried xp gp bp t n + ∑ k, (show EReal from x (ix2 t k)) * w (ix3 0 k n)

end Cert.Norm

end
-- ==== Proof.DownRun.lean ====
/-
  The down-projection, the residual and its normalisation over the whole grid, over extended reals.
-/
module

public import proofs.«01_k».proof.Proof.Gen.DownIdeal.Value
public import proofs.«01_k».proof.Proof.NormFwd
public import Idealize.ShloMosaic.Lib.Pipeline.ValueKit
public import Idealize.ShloMosaic.Lib.StableHlo.ReadAt

@[expose] public section

noncomputable section

namespace Cert.DownIdeal.Fwd

open Cert.DownIdeal Cert.DownIdeal.Gen Idealize.ShloMosaic Idealize.ShloMosaic.TcCoe Idealize.ShloMosaic.Tactic
open Idealize.SL.Sem Cert.Norm Cert.Products

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)

/-- The rows the call normalises. -/
abbrev hid := downRow (A0 m c) (A1 m c) (A2 m c) (A3 m c) (A4 m c)

theorem idx : ∀ t : Fin cfg0.N, win0_0.index t = ![t.val, 0] ∧ win0_1.index t = ![0, 0, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

/-- The bias the kernel is handed is zero. -/
theorem bias_read (k : Fin 1024) : (show EReal from V m c main_v0 (ix2 0 k)) = 0 := by
  unfold V
  after_reads_at

def xB (t : Fin cfg0.N) (r : Fin 512) (k : Fin 2816) : EReal := iblk m c 0 t (ix2 r k)
def wB (t : Fin cfg0.N) (k : Fin 2816) (n : Fin 1024) : EReal := iblk m c 1 t (ix3 0 k n)
def xpB (t : Fin cfg0.N) (r : Fin 512) (n : Fin 1024) : EReal := iblk m c 3 t (ix2 r n)
def biasB (t : Fin cfg0.N) (n : Fin 1024) : EReal := iblk m c 2 t (ix2 0 n)
def gpB (t : Fin cfg0.N) (n : Fin 1024) : EReal := iblk m c 4 t (ix2 0 n)
def bpB (t : Fin cfg0.N) (n : Fin 1024) : EReal := iblk m c 5 t (ix2 0 n)
def gB (t : Fin cfg0.N) (n : Fin 1024) : EReal := iblk m c 6 t (ix2 0 n)
def bB (t : Fin cfg0.N) (n : Fin 1024) : EReal := iblk m c 7 t (ix2 0 n)

theorem xB_eq (t : Fin cfg0.N) (r : Fin 512) (k : Fin 2816) : xB m c t r k = A0 m c (ix2 (at16 t r) k) := by
  rw [A0, ← V_main_arg0 m c]
  unfold xB
  blk_ext [iblk, idx t, at16]

theorem wB_eq (t : Fin cfg0.N) (k : Fin 2816) (n : Fin 1024) : wB m c t k n = A1 m c (ix3 0 k n) := by
  rw [A1, ← V_main_arg1 m c]
  unfold wB
  blk_ext [iblk, idx t]

theorem xpB_eq (t : Fin cfg0.N) (r : Fin 512) (n : Fin 1024) : xpB m c t r n = A2 m c (ix2 (at16 t r) n) := by
  rw [A2, ← V_main_arg2 m c]
  unfold xpB
  blk_ext [iblk, idx t, at16]

theorem biasB_eq (t : Fin cfg0.N) (n : Fin 1024) : biasB m c t n = 0 := by
  refine Eq.trans ?_ (bias_read m c n)
  unfold biasB
  blk_ext [iblk, idx t]

theorem gpB_eq (t : Fin cfg0.N) (n : Fin 1024) : gpB m c t n = A3 m c (ix2 0 n) := by
  rw [A3, ← V_main_arg3 m c]
  unfold gpB
  blk_ext [iblk, idx t]

theorem bpB_eq (t : Fin cfg0.N) (n : Fin 1024) : bpB m c t n = A4 m c (ix2 0 n) := by
  rw [A4, ← V_main_arg4 m c]
  unfold bpB
  blk_ext [iblk, idx t]

theorem gB_eq (t : Fin cfg0.N) (n : Fin 1024) : gB m c t n = A5 m c (ix2 0 n) := by
  rw [A5, ← V_main_arg5 m c]
  unfold gB
  blk_ext [iblk, idx t]

theorem bB_eq (t : Fin cfg0.N) (n : Fin 1024) : bB m c t n = A6 m c (ix2 0 n) := by
  rw [A6, ← V_main_arg6 m c]
  unfold bB
  blk_ext [iblk, idx t]

/-- The rows of a block. -/
def hidB (t : Fin cfg0.N) (r : Fin 512) (n : Fin 1024) : EReal :=
  alpha * (xpB m c t r n * gpB m c t n + bpB m c t n) + (∑ k, xB m c t r k * wB m c t k n + biasB m c t n)

theorem hidB_eq (t : Fin cfg0.N) (r : Fin 512) : hidB m c t r = hid m c (at16 t r) := by
  funext n
  unfold hidB
  simp only [xB_eq, wB_eq, xpB_eq, gpB_eq, bpB_eq, biasB_eq, add_zero]
  rfl

theorem cent_at (t : Fin cfg0.N) (r : Fin 512) (n : Fin 1024) :
    k0_pay2 (iblk m c 0 t) (iblk m c 1 t) (iblk m c 2 t) (iblk m c 3 t) (iblk m c 4 t) (iblk m c 5 t) (ix2 r n)
      = cent (hidB m c t r) n := by
  pointwise [k0_pay2]
  rfl

theorem recip_at (t : Fin cfg0.N) (r : Fin 512) :
    k0_pay3 (iblk m c 0 t) (iblk m c 1 t) (iblk m c 2 t) (iblk m c 3 t) (iblk m c 4 t) (iblk m c 5 t) (ix2 r 0)
      = recip (hid m c (at16 t r)) := by
  rw [← hidB_eq]
  pointwise [k0_pay3]
  simp only [cent_at]
  rfl

theorem unit_at (t : Fin cfg0.N) (r : Fin 512) (n : Fin 1024) :
    k0_pay4 (iblk m c 0 t) (iblk m c 1 t) (iblk m c 2 t) (iblk m c 3 t) (iblk m c 4 t) (iblk m c 5 t) (ix2 r n)
      = unit (hid m c (at16 t r)) n := by
  pointwise [k0_pay4]
  rw [cent_at, recip_at, hidB_eq]
  rfl

theorem norm_at (t : Fin cfg0.N) (r : Fin 512) (n : Fin 1024) :
    k0_pay1 (k0_pay4 (iblk m c 0 t) (iblk m c 1 t) (iblk m c 2 t) (iblk m c 3 t) (iblk m c 4 t) (iblk m c 5 t))
      (iblk m c 6 t) (iblk m c 7 t) (ix2 r n)
      = unit (hid m c (at16 t r)) n * A5 m c (ix2 0 n) + A6 m c (ix2 0 n) := by
  have e : k0_pay1 (k0_pay4 (iblk m c 0 t) (iblk m c 1 t) (iblk m c 2 t) (iblk m c 3 t) (iblk m c 4 t) (iblk m c 5 t))
      (iblk m c 6 t) (iblk m c 7 t) (ix2 r n)
      = k0_pay4 (iblk m c 0 t) (iblk m c 1 t) (iblk m c 2 t) (iblk m c 3 t) (iblk m c 4 t) (iblk m c 5 t) (ix2 r n)
        * gB m c t n + bB m c t n := by
    pointwise [k0_pay1]
    rfl
  exact e.trans (congrArg₂ (· + ·) (congrArg₂ (· * ·) (unit_at m c t r n) (gB_eq m c t n)) (bB_eq m c t n))

theorem final8 : (dats m 0 c).arrAt 8 cfg0.N = resUnit (hid m c) := by
  refine (dats m 0 c).arrAt_eq_of_covers 8 _ (by decide +kernel) fun t hf y => ?_
  blk_simp
  rw [after0_8]
  have e0 : (win0_8.blk t).view.emb y 0 = at16 t (y 0) := Fin.ext (by blk_simp [idx t, at16])
  have e1 : (win0_8.blk t).view.emb y 1 = y 1 := Fin.ext (by blk_simp [idx t])
  have ey : y = ix2 (y 0) (y 1) := by funext a; match a with | 0 => rfl | 1 => rfl
  unfold resUnit
  rw [e0, e1]
  frame_out
  exact (congrArg _ ey).trans (unit_at m c t (y 0) (y 1))

theorem final9 : (dats m 0 c).arrAt 9 cfg0.N = resRecip (hid m c) := by
  refine (dats m 0 c).arrAt_eq_of_covers 9 _ (by decide +kernel) fun t hf y => ?_
  blk_simp
  rw [after0_9]
  have e0 : (win0_9.blk t).view.emb y 0 = at16 t (y 0) := Fin.ext (by blk_simp [idx t, at16])
  have ey : y = ix2 (y 0) 0 := by
    funext a
    match a with
    | 0 => rfl
    | 1 => exact Fin.ext (by have : (y 1).val < 1 := (y 1).isLt; show (y 1).val = 0; omega)
  unfold resRecip
  rw [e0]
  frame_out
  exact (congrArg _ ey).trans (recip_at m c t (y 0))

theorem final10 : (dats m 0 c).arrAt 10 cfg0.N = resNorm (hid m c) (A5 m c) (A6 m c) := by
  refine (dats m 0 c).arrAt_eq_of_covers 10 _ (by decide +kernel) fun t hf y => ?_
  blk_simp
  rw [after0_10]
  have e0 : (win0_10.blk t).view.emb y 0 = at16 t (y 0) := Fin.ext (by blk_simp [idx t, at16])
  have e1 : (win0_10.blk t).view.emb y 1 = y 1 := Fin.ext (by blk_simp [idx t])
  have ey : y = ix2 (y 0) (y 1) := by funext a; match a with | 0 => rfl | 1 => rfl
  unfold resNorm
  rw [e0, e1]
  frame_out
  exact (congrArg _ ey).trans (norm_at m c t (y 0) (y 1))

end Cert.DownIdeal.Fwd

end
-- ==== Proof.DownRef.lean ====
/-
  The reference of the down-projection's call, over extended reals: its stages at an index, and its results.
-/
module

public import proofs.«01_k».proof.Proof.Gen.DownRefIdeal.Read
public import proofs.«01_k».proof.Proof.NormFwd
public import Idealize.ShloMosaic.Lib.Pipeline.ValueKit

@[expose] public section

noncomputable section

namespace Cert.DownRefIdeal.Fwd

open Cert.DownRefIdeal Cert.DownRefIdeal.Gen Cert.DownRefIdeal.Read Idealize.ShloMosaic
open Idealize.ShloMosaic.TcCoe Idealize.ShloMosaic.Tactic Idealize.SL.Sem Cert.Norm

variable (x0 : Vec Ideal S8192x2816 .bf16) (x1 : Vec Ideal S1x2816x1024 .bf16) (x2 : Vec Ideal S8192x1024 .f32)
  (x3 x4 x5 x6 : Vec Ideal S1x1024 .f32)

theorem hid_at (t : Fin 8192) (n : Fin 1024) : val_main_v10 (F := Ideal) x0 x1 x2 x3 x4 (ix2 t n) = downRow x0 x1 x2 x3 x4 t n := by
  pointwise [val_main_v10, val_main_v9, val_main_v8, val_main_v7, val_main_v6, val_main_v5, val_main_v4, val_main_cst, val_main_v3, val_main_v2, val_main_v1, val_main_v0]
  rfl

theorem cent_at (t : Fin 8192) (n : Fin 1024) : val_main_v26 (F := Ideal) x0 x1 x2 x3 x4 (ix2 t n) = cent (downRow x0 x1 x2 x3 x4 t) n := by
  pointwise [val_main_v26, val_main_v25, val_main_v14, val_main_v13, val_main_cst_1, val_main_v12, val_main_v11, val_main_cst_0]
  simp only [hid_at]
  rfl

theorem recip_at (t : Fin 8192) : val_main_v24 (F := Ideal) x0 x1 x2 x3 x4 (ix2 t 0) = recip (downRow x0 x1 x2 x3 x4 t) := by
  pointwise [val_main_v24, val_main_v23, val_main_v22, val_main_cst_4, val_main_v21, val_main_v20, val_main_cst_3, val_main_v19, val_main_v18, val_main_cst_2,
    val_main_v17, val_main_v16, val_main_v15, val_main_v14, val_main_v13, val_main_cst_1, val_main_v12, val_main_v11, val_main_cst_0]
  simp only [hid_at]
  rfl

theorem unit_at (t : Fin 8192) (n : Fin 1024) : val_main_v28 (F := Ideal) x0 x1 x2 x3 x4 (ix2 t n) = unit (downRow x0 x1 x2 x3 x4 t) n := by
  pointwise [val_main_v28, val_main_v27]
  rw [cent_at, recip_at]
  rfl

theorem cent2_at (t : Fin 8192) (n : Fin 1024) : val_main_v41 (F := Ideal) x0 x1 x2 x3 x4 (ix2 t n) = cent (downRow x0 x1 x2 x3 x4 t) n := by
  pointwise [val_main_v41, val_main_v40, val_main_v32, val_main_v31, val_main_cst_6, val_main_v30, val_main_v29, val_main_cst_5]
  simp only [hid_at]
  rfl

theorem recip2_at (t : Fin 8192) : val_main_v44 (F := Ideal) x0 x1 x2 x3 x4 (ix2 t 0) = recip (downRow x0 x1 x2 x3 x4 t) := by
  pointwise [val_main_v44, val_main_v43, val_main_v42, val_main_cst_9, val_main_v39, val_main_v38, val_main_cst_8, val_main_v37, val_main_v36, val_main_cst_7,
    val_main_v35, val_main_v34, val_main_v33, val_main_v32, val_main_v31, val_main_cst_6, val_main_v30, val_main_v29, val_main_cst_5]
  simp only [hid_at]
  rfl

theorem unit2_at (t : Fin 8192) (n : Fin 1024) : val_main_v46 (F := Ideal) x0 x1 x2 x3 x4 (ix2 t n) = unit (downRow x0 x1 x2 x3 x4 t) n := by
  pointwise [val_main_v46, val_main_v45]
  rw [cent2_at, recip2_at]
  rfl

theorem pair (j : S8192x1024.Idx) : j = ix2 (j 0) (j 1) := by
  funext a
  match a with
  | 0 => rfl
  | 1 => rfl

theorem column (j : S8192x1.Idx) : j = ix2 (j 0) 0 := by
  funext a
  match a with
  | 0 => rfl
  | 1 => exact Fin.ext (by have : (j 1).val < 1 := (j 1).isLt; show (j 1).val = 0; omega)

theorem unit_eq : val_main_v28 (F := Ideal) x0 x1 x2 x3 x4 = resUnit (downRow x0 x1 x2 x3 x4) := by
  funext j
  rw [pair j]
  exact unit_at x0 x1 x2 x3 x4 (j 0) (j 1)

theorem recip_eq : val_main_v24 (F := Ideal) x0 x1 x2 x3 x4 = resRecip (downRow x0 x1 x2 x3 x4) := by
  funext j
  rw [column j]
  exact recip_at x0 x1 x2 x3 x4 (j 0)

theorem norm_eq : val_main_v51 (F := Ideal) x0 x1 x2 x3 x4 x5 x6 = resNorm (downRow x0 x1 x2 x3 x4) x5 x6 := by
  funext j
  pointwise [val_main_v51, val_main_v50, val_main_v49, val_main_v48, val_main_v47]
  exact congrArg₂ (· + ·) (congrArg₂ (· * ·) ((congrArg _ (pair j)).trans (unit2_at x0 x1 x2 x3 x4 (j 0) (j 1))) rfl) rfl

end Cert.DownRefIdeal.Fwd

end
-- ==== Proof.DownClaims.lean ====
/-
  The claims of the down-projection's call.
-/
module

public import proofs.«01_k».proof.Defs
public import proofs.«01_k».proof.Proof.Gen.Down.Frame
public import proofs.«01_k».proof.Proof.Gen.DownRefIdeal.Run
public import proofs.«01_k».proof.Proof.DownRun
public import proofs.«01_k».proof.Proof.DownRef
public import Idealize.ShloMosaic.Lib.Claim
public import Idealize.ShloMosaic.Lib.Quiescent

@[expose] public section

noncomputable section

namespace Cert.Proof.Down

open Idealize.ShloMosaic Idealize.ShloMosaic.TcCoe Idealize.SL.Sem Cert.DownIdeal.Fwd

theorem frame_kernel : Cert.quiescent_Down := fun m ρ _ => Cert.Down.Gen.frame m ρ

theorem frame_ideal : Cert.quiescent_DownIdeal := fun m ρ _ => Cert.DownIdeal.Gen.frame m ρ

theorem frame_reference : Cert.quiescent_DownRefIdeal := fun m ρ _ =>
  (θ_run Cert.DownRefIdeal.defs _ _).mono
    (fun r h => ⟨fun c => (h c).2.2.2, Idealize.ShloMosaic.sem_eq_zero_of_no_sems (by decide) r.2⟩)
    (Cert.DownRefIdeal.Value.run (F := Ideal) m ρ)

theorem algebraic : Cert.algebraic_DownIdeal_DownRefIdeal := by
  intro m ρ m' ρ' _ hag
  have hr := Cert.DownRefIdeal.Value.run (F := Ideal) m' ρ'
  refine ⟨fun c => Cert.Norm.resUnit (hid m c), fun c => Cert.Norm.resRecip (hid m c), fun c => Cert.Norm.resNorm (hid m c) (A5 m c) (A6 m c), ?_, ?_⟩
  · refine (θ_run _ _ _).mono (fun r h c => ?_) (Cert.DownIdeal.Value.run_blocks (F := Ideal) m ρ)
    obtain ⟨h0, h1, h2, h3⟩ := h c
    exact ⟨h0.trans (final8 m c), h1.trans (final9 m c), h2.trans (final10 m c), h3⟩
  · refine (θ_run _ _ _).mono (fun r h c => ?_) hr
    obtain ⟨h0, h1, h2, h3⟩ := h c
    obtain ⟨a0, a1, a2, a3, a4, a5, a6⟩ := hag c
    rw [Cert.DownRefIdeal.Read.val_main_v28_eq, a0, a1, a2, a3, a4, Cert.DownRefIdeal.Fwd.unit_eq] at h0
    rw [Cert.DownRefIdeal.Read.val_main_v24_eq, a0, a1, a2, a3, a4, Cert.DownRefIdeal.Fwd.recip_eq] at h1
    rw [Cert.DownRefIdeal.Read.val_main_v51_eq, a0, a1, a2, a3, a4, a5, a6, Cert.DownRefIdeal.Fwd.norm_eq] at h2
    exact ⟨h0, h1, h2, h3⟩

end Cert.Proof.Down

end
-- ==== Proof.LnRun.lean ====
/-
  The first normalisation over its whole grid, over extended reals: sixteen blocks of rows.
-/
module

public import proofs.«01_k».proof.Proof.Gen.LnIdeal.Value
public import proofs.«01_k».proof.Proof.NormBwd
public import proofs.«01_k».proof.Proof.NormFwd
public import Idealize.ShloMosaic.Lib.Pipeline.ValueKit

@[expose] public section

noncomputable section

namespace Cert.LnIdeal.Fwd

open Cert.LnIdeal Cert.LnIdeal.Gen Idealize.ShloMosaic Idealize.ShloMosaic.TcCoe Idealize.ShloMosaic.Tactic
open Idealize.SL.Sem Cert.Norm

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

def rowB (t : Fin cfg0.N) (r : Fin 512) (k : Fin 1024) : EReal := iblk m c 0 t (ix2 r k)
def scaleB (t : Fin cfg0.N) (k : Fin 1024) : EReal := iblk m c 1 t (ix2 0 k)
def shiftB (t : Fin cfg0.N) (k : Fin 1024) : EReal := iblk m c 2 t (ix2 0 k)

theorem rowB_eq (t : Fin cfg0.N) (r : Fin 512) : rowB m c t r = row (A0 m c) (at16 t r) := by
  funext k
  unfold rowB row A0
  blk_ext [iblk, V, idx t, at16]

theorem scaleB_eq (t : Fin cfg0.N) (k : Fin 1024) : scaleB m c t k = A1 m c (ix2 0 k) := by
  unfold scaleB A1
  blk_ext [iblk, V, idx t]

theorem shiftB_eq (t : Fin cfg0.N) (k : Fin 1024) : shiftB m c t k = A2 m c (ix2 0 k) := by
  unfold shiftB A2
  blk_ext [iblk, V, idx t]

theorem unit_at (t : Fin cfg0.N) (r : Fin 512) (n : Fin 1024) :
    k0_pay3 (iblk m c 0 t) (ix2 r n) = unit (row (A0 m c) (at16 t r)) n := by
  have e : k0_pay3 (iblk m c 0 t) (ix2 r n) = unit (rowB m c t r) n := by
    pointwise [k0_pay3, k0_pay2, k0_pay1]
    rfl
  rw [e, rowB_eq]

theorem recip_at (t : Fin cfg0.N) (r : Fin 512) : k0_pay2 (iblk m c 0 t) (ix2 r 0) = recip (row (A0 m c) (at16 t r)) := by
  have e : k0_pay2 (iblk m c 0 t) (ix2 r 0) = recip (rowB m c t r) := by
    pointwise [k0_pay2, k0_pay1]
    rfl
  rw [e, rowB_eq]

theorem norm_at (t : Fin cfg0.N) (r : Fin 512) (n : Fin 1024) :
    k0_pay4 (iblk m c 0 t) (iblk m c 1 t) (iblk m c 2 t) (ix2 r n)
      = unit (row (A0 m c) (at16 t r)) n * A1 m c (ix2 0 n) + A2 m c (ix2 0 n) := by
  have e : k0_pay4 (iblk m c 0 t) (iblk m c 1 t) (iblk m c 2 t) (ix2 r n)
      = k0_pay3 (iblk m c 0 t) (ix2 r n) * scaleB m c t n + shiftB m c t n := by
    pointwise [k0_pay4, k0_pay3]
    rfl
  exact e.trans (congrArg₂ (· + ·) (congrArg₂ (· * ·) (unit_at m c t r n) (scaleB_eq m c t n)) (shiftB_eq m c t n))

theorem final3 : (dats m 0 c).arrAt 3 cfg0.N = resUnit (row (A0 m c)) := by
  refine (dats m 0 c).arrAt_eq_of_covers 3 _ (by decide +kernel) fun t hf y => ?_
  blk_simp
  rw [after0_3]
  have e0 : (win0_3.blk t).view.emb y 0 = at16 t (y 0) := Fin.ext (by blk_simp [idx t, at16])
  have e1 : (win0_3.blk t).view.emb y 1 = y 1 := Fin.ext (by blk_simp [idx t])
  have ey : y = ix2 (y 0) (y 1) := by funext a; match a with | 0 => rfl | 1 => rfl
  unfold resUnit
  rw [e0, e1]
  frame_out
  exact (congrArg _ ey).trans (unit_at m c t (y 0) (y 1))

theorem final4 : (dats m 0 c).arrAt 4 cfg0.N = resRecip (row (A0 m c)) := by
  refine (dats m 0 c).arrAt_eq_of_covers 4 _ (by decide +kernel) fun t hf y => ?_
  blk_simp
  rw [after0_4]
  have e0 : (win0_4.blk t).view.emb y 0 = at16 t (y 0) := Fin.ext (by blk_simp [idx t, at16])
  have ey : y = ix2 (y 0) 0 := by
    funext a
    match a with
    | 0 => rfl
    | 1 => exact Fin.ext (by have : (y 1).val < 1 := (y 1).isLt; show (y 1).val = 0; omega)
  unfold resRecip
  rw [e0]
  frame_out
  exact (congrArg _ ey).trans (recip_at m c t (y 0))

theorem final5 : (dats m 0 c).arrAt 5 cfg0.N = resNorm (row (A0 m c)) (A1 m c) (A2 m c) := by
  refine (dats m 0 c).arrAt_eq_of_covers 5 _ (by decide +kernel) fun t hf y => ?_
  blk_simp
  rw [after0_5]
  have e0 : (win0_5.blk t).view.emb y 0 = at16 t (y 0) := Fin.ext (by blk_simp [idx t, at16])
  have e1 : (win0_5.blk t).view.emb y 1 = y 1 := Fin.ext (by blk_simp [idx t])
  have ey : y = ix2 (y 0) (y 1) := by funext a; match a with | 0 => rfl | 1 => rfl
  unfold resNorm
  rw [e0, e1]
  frame_out
  exact (congrArg _ ey).trans (norm_at m c t (y 0) (y 1))

end Cert.LnIdeal.Fwd

end
-- ==== Proof.LnRef.lean ====
/-
  The reference of the first normalisation, over extended reals: its stages at an index, and its results.
-/
module

public import proofs.«01_k».proof.Proof.Gen.LnRefIdeal.Read
public import proofs.«01_k».proof.Proof.NormBwd
public import proofs.«01_k».proof.Proof.NormFwd
public import Idealize.ShloMosaic.Lib.Pipeline.ValueKit

@[expose] public section

noncomputable section

namespace Cert.LnRefIdeal.Fwd

open Cert.LnRefIdeal Cert.LnRefIdeal.Gen Cert.LnRefIdeal.Read Idealize.ShloMosaic
open Idealize.ShloMosaic.TcCoe Idealize.ShloMosaic.Tactic Idealize.SL.Sem Cert.Norm

variable (x0 : Vec Ideal S8192x1024 .f32) (x1 x2 : Vec Ideal S1x1024 .f32)

theorem cent_at (t : Fin 8192) (n : Fin 1024) : val_main_v15 (F := Ideal) x0 (ix2 t n) = cent (row x0 t) n := by
  pointwise [val_main_v15, val_main_v14, val_main_v3, val_main_v2, val_main_cst_0, val_main_v1, val_main_v0, val_main_cst]
  rfl

theorem recip_at (t : Fin 8192) : val_main_v13 (F := Ideal) x0 (ix2 t 0) = recip (row x0 t) := by
  pointwise [val_main_v13, val_main_v12, val_main_v11, val_main_cst_3, val_main_v10, val_main_v9, val_main_cst_2, val_main_v8, val_main_v7, val_main_cst_1,
    val_main_v6, val_main_v5, val_main_v4, val_main_v3, val_main_v2, val_main_cst_0, val_main_v1, val_main_v0, val_main_cst]
  rfl

theorem unit_at (t : Fin 8192) (n : Fin 1024) : val_main_v17 (F := Ideal) x0 (ix2 t n) = unit (row x0 t) n := by
  pointwise [val_main_v17, val_main_v16]
  rw [cent_at, recip_at]
  rfl

theorem cent2_at (t : Fin 8192) (n : Fin 1024) : val_main_v30 (F := Ideal) x0 (ix2 t n) = cent (row x0 t) n := by
  pointwise [val_main_v30, val_main_v29, val_main_v21, val_main_v20, val_main_cst_5, val_main_v19, val_main_v18, val_main_cst_4]
  rfl

theorem recip2_at (t : Fin 8192) : val_main_v33 (F := Ideal) x0 (ix2 t 0) = recip (row x0 t) := by
  pointwise [val_main_v33, val_main_v32, val_main_v31, val_main_cst_8, val_main_v28, val_main_v27, val_main_cst_7, val_main_v26, val_main_v25, val_main_cst_6,
    val_main_v24, val_main_v23, val_main_v22, val_main_v21, val_main_v20, val_main_cst_5, val_main_v19, val_main_v18, val_main_cst_4]
  rfl

theorem unit2_at (t : Fin 8192) (n : Fin 1024) : val_main_v35 (F := Ideal) x0 (ix2 t n) = unit (row x0 t) n := by
  pointwise [val_main_v35, val_main_v34]
  rw [cent2_at, recip2_at]
  rfl

theorem pair (j : S8192x1024.Idx) : j = ix2 (j 0) (j 1) := by
  funext a
  match a with
  | 0 => rfl
  | 1 => rfl

theorem column (j : S8192x1.Idx) : j = ix2 (j 0) 0 := by
  funext a
  match a with
  | 0 => rfl
  | 1 => exact Fin.ext (by have : (j 1).val < 1 := (j 1).isLt; show (j 1).val = 0; omega)

theorem unit_eq : val_main_v17 (F := Ideal) x0 = resUnit (row x0) := by
  funext j
  rw [pair j]
  exact unit_at x0 (j 0) (j 1)

theorem recip_eq : val_main_v13 (F := Ideal) x0 = resRecip (row x0) := by
  funext j
  rw [column j]
  exact recip_at x0 (j 0)

theorem norm_eq : val_main_v40 (F := Ideal) x0 x1 x2 = resNorm (row x0) x1 x2 := by
  funext j
  pointwise [val_main_v40, val_main_v39, val_main_v38, val_main_v37, val_main_v36]
  exact congrArg₂ (· + ·) (congrArg₂ (· * ·) ((congrArg _ (pair j)).trans (unit2_at x0 (j 0) (j 1))) rfl) rfl

end Cert.LnRefIdeal.Fwd

end
-- ==== Proof.LnClaims.lean ====
/-
  The claims of the first normalisation.
-/
module

public import proofs.«01_k».proof.Defs
public import proofs.«01_k».proof.Proof.Gen.Ln.Frame
public import proofs.«01_k».proof.Proof.Gen.LnRefIdeal.Run
public import proofs.«01_k».proof.Proof.LnRun
public import proofs.«01_k».proof.Proof.LnRef
public import Idealize.ShloMosaic.Lib.Claim
public import Idealize.ShloMosaic.Lib.Quiescent

@[expose] public section

noncomputable section

namespace Cert.Proof.Ln

open Idealize.ShloMosaic Idealize.ShloMosaic.TcCoe Idealize.SL.Sem Cert.LnIdeal.Fwd

theorem frame_kernel : Cert.quiescent_Ln := fun m ρ _ => Cert.Ln.Gen.frame m ρ

theorem frame_ideal : Cert.quiescent_LnIdeal := fun m ρ _ => Cert.LnIdeal.Gen.frame m ρ

theorem frame_reference : Cert.quiescent_LnRefIdeal := fun m ρ _ =>
  (θ_run Cert.LnRefIdeal.defs _ _).mono
    (fun r h => ⟨fun c => (h c).2.2.2, Idealize.ShloMosaic.sem_eq_zero_of_no_sems (by decide) r.2⟩)
    (Cert.LnRefIdeal.Value.run (F := Ideal) m ρ)

theorem algebraic : Cert.algebraic_LnIdeal_LnRefIdeal := by
  intro m ρ m' ρ' _ hag
  have hr := Cert.LnRefIdeal.Value.run (F := Ideal) m' ρ'
  refine ⟨fun c => Cert.Norm.resUnit (Cert.Norm.row (A0 m c)), fun c => Cert.Norm.resRecip (Cert.Norm.row (A0 m c)), fun c => Cert.Norm.resNorm (Cert.Norm.row (A0 m c)) (A1 m c) (A2 m c), ?_, ?_⟩
  · refine (θ_run _ _ _).mono (fun r h c => ?_) (Cert.LnIdeal.Value.run_blocks (F := Ideal) m ρ)
    obtain ⟨h0, h1, h2, h3⟩ := h c
    exact ⟨h0.trans (final3 m c), h1.trans (final4 m c), h2.trans (final5 m c), h3⟩
  · refine (θ_run _ _ _).mono (fun r h c => ?_) hr
    obtain ⟨h0, h1, h2, h3⟩ := h c
    obtain ⟨a0, a1, a2⟩ := hag c
    rw [Cert.LnRefIdeal.Read.val_main_v17_eq, a0, Cert.LnRefIdeal.Fwd.unit_eq] at h0
    rw [Cert.LnRefIdeal.Read.val_main_v13_eq, a0, Cert.LnRefIdeal.Fwd.recip_eq] at h1
    rw [Cert.LnRefIdeal.Read.val_main_v40_eq, a0, a1, a2, Cert.LnRefIdeal.Fwd.norm_eq] at h2
    exact ⟨h0, h1, h2, h3⟩

end Cert.Proof.Ln

end
-- ==== Proof.OutRun.lean ====
/-
  The output projection, the residual and its normalisation over the whole grid, over extended reals.
-/
module

public import proofs.«01_k».proof.Proof.Gen.OutIdeal.Value
public import proofs.«01_k».proof.Proof.NormFwd
public import Idealize.ShloMosaic.Lib.Pipeline.ValueKit

@[expose] public section

noncomputable section

namespace Cert.OutIdeal.Fwd

open Cert.OutIdeal Cert.OutIdeal.Gen Idealize.ShloMosaic Idealize.ShloMosaic.TcCoe Idealize.ShloMosaic.Tactic
open Idealize.SL.Sem Cert.Norm Cert.Products

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)

/-- The rows the call normalises. -/
abbrev hid := outRow (A0 m c) (A1 m c) (A2 m c) (A3 m c) (A4 m c) (A5 m c)

theorem idx : ∀ t : Fin cfg0.N, win0_0.index t = ![t.val, 0] ∧ win0_1.index t = ![0, 0, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

def xB (t : Fin cfg0.N) (r : Fin 512) (k : Fin 1024) : EReal := iblk m c 0 t (ix2 r k)
def wB (t : Fin cfg0.N) (k : Fin 1024) (n : Fin 1024) : EReal := iblk m c 1 t (ix3 0 k n)
def xpB (t : Fin cfg0.N) (r : Fin 512) (n : Fin 1024) : EReal := iblk m c 3 t (ix2 r n)
def biasB (t : Fin cfg0.N) (n : Fin 1024) : EReal := iblk m c 2 t (ix2 0 n)
def gpB (t : Fin cfg0.N) (n : Fin 1024) : EReal := iblk m c 4 t (ix2 0 n)
def bpB (t : Fin cfg0.N) (n : Fin 1024) : EReal := iblk m c 5 t (ix2 0 n)
def gB (t : Fin cfg0.N) (n : Fin 1024) : EReal := iblk m c 6 t (ix2 0 n)
def bB (t : Fin cfg0.N) (n : Fin 1024) : EReal := iblk m c 7 t (ix2 0 n)

theorem xB_eq (t : Fin cfg0.N) (r : Fin 512) (k : Fin 1024) : xB m c t r k = A0 m c (ix2 (at16 t r) k) := by
  unfold xB A0
  blk_ext [iblk, V, idx t, at16]

theorem wB_eq (t : Fin cfg0.N) (k : Fin 1024) (n : Fin 1024) : wB m c t k n = A1 m c (ix3 0 k n) := by
  unfold wB A1
  blk_ext [iblk, V, idx t]

theorem xpB_eq (t : Fin cfg0.N) (r : Fin 512) (n : Fin 1024) : xpB m c t r n = A3 m c (ix2 (at16 t r) n) := by
  unfold xpB A3
  blk_ext [iblk, V, idx t, at16]

theorem biasB_eq (t : Fin cfg0.N) (n : Fin 1024) : biasB m c t n = A2 m c (ix2 0 n) := by
  unfold biasB A2
  blk_ext [iblk, V, idx t]

theorem gpB_eq (t : Fin cfg0.N) (n : Fin 1024) : gpB m c t n = A4 m c (ix2 0 n) := by
  unfold gpB A4
  blk_ext [iblk, V, idx t]

theorem bpB_eq (t : Fin cfg0.N) (n : Fin 1024) : bpB m c t n = A5 m c (ix2 0 n) := by
  unfold bpB A5
  blk_ext [iblk, V, idx t]

theorem gB_eq (t : Fin cfg0.N) (n : Fin 1024) : gB m c t n = A6 m c (ix2 0 n) := by
  unfold gB A6
  blk_ext [iblk, V, idx t]

theorem bB_eq (t : Fin cfg0.N) (n : Fin 1024) : bB m c t n = A7 m c (ix2 0 n) := by
  unfold bB A7
  blk_ext [iblk, V, idx t]

/-- The rows of a block. -/
def hidB (t : Fin cfg0.N) (r : Fin 512) (n : Fin 1024) : EReal :=
  alpha * (xpB m c t r n * gpB m c t n + bpB m c t n) + (∑ k, xB m c t r k * wB m c t k n + biasB m c t n)

theorem hidB_eq (t : Fin cfg0.N) (r : Fin 512) : hidB m c t r = hid m c (at16 t r) := by
  funext n
  unfold hidB
  simp only [xB_eq, wB_eq, xpB_eq, gpB_eq, bpB_eq, biasB_eq]
  rfl

theorem cent_at (t : Fin cfg0.N) (r : Fin 512) (n : Fin 1024) :
    k0_pay2 (iblk m c 0 t) (iblk m c 1 t) (iblk m c 2 t) (iblk m c 3 t) (iblk m c 4 t) (iblk m c 5 t) (ix2 r n)
      = cent (hidB m c t r) n := by
  pointwise [k0_pay2]
  rfl

theorem recip_at (t : Fin cfg0.N) (r : Fin 512) :
    k0_pay3 (iblk m c 0 t) (iblk m c 1 t) (iblk m c 2 t) (iblk m c 3 t) (iblk m c 4 t) (iblk m c 5 t) (ix2 r 0)
      = recip (hid m c (at16 t r)) := by
  rw [← hidB_eq]
  pointwise [k0_pay3]
  simp only [cent_at]
  rfl

theorem unit_at (t : Fin cfg0.N) (r : Fin 512) (n : Fin 1024) :
    k0_pay4 (iblk m c 0 t) (iblk m c 1 t) (iblk m c 2 t) (iblk m c 3 t) (iblk m c 4 t) (iblk m c 5 t) (ix2 r n)
      = unit (hid m c (at16 t r)) n := by
  pointwise [k0_pay4]
  rw [cent_at, recip_at, hidB_eq]
  rfl

theorem norm_at (t : Fin cfg0.N) (r : Fin 512) (n : Fin 1024) :
    k0_pay1 (k0_pay4 (iblk m c 0 t) (iblk m c 1 t) (iblk m c 2 t) (iblk m c 3 t) (iblk m c 4 t) (iblk m c 5 t))
      (iblk m c 6 t) (iblk m c 7 t) (ix2 r n)
      = unit (hid m c (at16 t r)) n * A6 m c (ix2 0 n) + A7 m c (ix2 0 n) := by
  have e : k0_pay1 (k0_pay4 (iblk m c 0 t) (iblk m c 1 t) (iblk m c 2 t) (iblk m c 3 t) (iblk m c 4 t) (iblk m c 5 t))
      (iblk m c 6 t) (iblk m c 7 t) (ix2 r n)
      = k0_pay4 (iblk m c 0 t) (iblk m c 1 t) (iblk m c 2 t) (iblk m c 3 t) (iblk m c 4 t) (iblk m c 5 t) (ix2 r n)
        * gB m c t n + bB m c t n := by
    pointwise [k0_pay1]
    rfl
  exact e.trans (congrArg₂ (· + ·) (congrArg₂ (· * ·) (unit_at m c t r n) (gB_eq m c t n)) (bB_eq m c t n))

theorem final8 : (dats m 0 c).arrAt 8 cfg0.N = resUnit (hid m c) := by
  refine (dats m 0 c).arrAt_eq_of_covers 8 _ (by decide +kernel) fun t hf y => ?_
  blk_simp
  rw [after0_8]
  have e0 : (win0_8.blk t).view.emb y 0 = at16 t (y 0) := Fin.ext (by blk_simp [idx t, at16])
  have e1 : (win0_8.blk t).view.emb y 1 = y 1 := Fin.ext (by blk_simp [idx t])
  have ey : y = ix2 (y 0) (y 1) := by funext a; match a with | 0 => rfl | 1 => rfl
  unfold resUnit
  rw [e0, e1]
  frame_out
  exact (congrArg _ ey).trans (unit_at m c t (y 0) (y 1))

theorem final9 : (dats m 0 c).arrAt 9 cfg0.N = resRecip (hid m c) := by
  refine (dats m 0 c).arrAt_eq_of_covers 9 _ (by decide +kernel) fun t hf y => ?_
  blk_simp
  rw [after0_9]
  have e0 : (win0_9.blk t).view.emb y 0 = at16 t (y 0) := Fin.ext (by blk_simp [idx t, at16])
  have ey : y = ix2 (y 0) 0 := by
    funext a
    match a with
    | 0 => rfl
    | 1 => exact Fin.ext (by have : (y 1).val < 1 := (y 1).isLt; show (y 1).val = 0; omega)
  unfold resRecip
  rw [e0]
  frame_out
  exact (congrArg _ ey).trans (recip_at m c t (y 0))

theorem final10 : (dats m 0 c).arrAt 10 cfg0.N = resNorm (hid m c) (A6 m c) (A7 m c) := by
  refine (dats m 0 c).arrAt_eq_of_covers 10 _ (by decide +kernel) fun t hf y => ?_
  blk_simp
  rw [after0_10]
  have e0 : (win0_10.blk t).view.emb y 0 = at16 t (y 0) := Fin.ext (by blk_simp [idx t, at16])
  have e1 : (win0_10.blk t).view.emb y 1 = y 1 := Fin.ext (by blk_simp [idx t])
  have ey : y = ix2 (y 0) (y 1) := by funext a; match a with | 0 => rfl | 1 => rfl
  unfold resNorm
  rw [e0, e1]
  frame_out
  exact (congrArg _ ey).trans (norm_at m c t (y 0) (y 1))

end Cert.OutIdeal.Fwd

end
-- ==== Proof.OutRef.lean ====
/-
  The reference of the output projection's call, over extended reals: its stages at an index, and its results.
-/
module

public import proofs.«01_k».proof.Proof.Gen.OutRefIdeal.Read
public import proofs.«01_k».proof.Proof.NormFwd
public import Idealize.ShloMosaic.Lib.Pipeline.ValueKit

@[expose] public section

noncomputable section

namespace Cert.OutRefIdeal.Fwd

open Cert.OutRefIdeal Cert.OutRefIdeal.Gen Cert.OutRefIdeal.Read Idealize.ShloMosaic
open Idealize.ShloMosaic.TcCoe Idealize.ShloMosaic.Tactic Idealize.SL.Sem Cert.Norm

variable (x0 : Vec Ideal S8192x1024 .bf16) (x1 : Vec Ideal S1x1024x1024 .bf16) (x2 : Vec Ideal S1x1024 .f32)
  (x3 : Vec Ideal S8192x1024 .f32) (x4 x5 x6 x7 : Vec Ideal S1x1024 .f32)

theorem hid_at (t : Fin 8192) (n : Fin 1024) : val_main_v12 (F := Ideal) x0 x1 x2 x3 x4 x5 (ix2 t n) = outRow x0 x1 x2 x3 x4 x5 t n := by
  pointwise [val_main_v12, val_main_v11, val_main_v10, val_main_v9, val_main_v8, val_main_v7, val_main_v6, val_main_v5, val_main_v4, val_main_cst, val_main_v3, val_main_v2, val_main_v1, val_main_v0]
  rfl

theorem cent_at (t : Fin 8192) (n : Fin 1024) : val_main_v28 (F := Ideal) x0 x1 x2 x3 x4 x5 (ix2 t n) = cent (outRow x0 x1 x2 x3 x4 x5 t) n := by
  pointwise [val_main_v28, val_main_v27, val_main_v16, val_main_v15, val_main_cst_1, val_main_v14, val_main_v13, val_main_cst_0]
  simp only [hid_at]
  rfl

theorem recip_at (t : Fin 8192) : val_main_v26 (F := Ideal) x0 x1 x2 x3 x4 x5 (ix2 t 0) = recip (outRow x0 x1 x2 x3 x4 x5 t) := by
  pointwise [val_main_v26, val_main_v25, val_main_v24, val_main_cst_4, val_main_v23, val_main_v22, val_main_cst_3, val_main_v21, val_main_v20, val_main_cst_2,
    val_main_v19, val_main_v18, val_main_v17, val_main_v16, val_main_v15, val_main_cst_1, val_main_v14, val_main_v13, val_main_cst_0]
  simp only [hid_at]
  rfl

theorem unit_at (t : Fin 8192) (n : Fin 1024) : val_main_v30 (F := Ideal) x0 x1 x2 x3 x4 x5 (ix2 t n) = unit (outRow x0 x1 x2 x3 x4 x5 t) n := by
  pointwise [val_main_v30, val_main_v29]
  rw [cent_at, recip_at]
  rfl

theorem cent2_at (t : Fin 8192) (n : Fin 1024) : val_main_v43 (F := Ideal) x0 x1 x2 x3 x4 x5 (ix2 t n) = cent (outRow x0 x1 x2 x3 x4 x5 t) n := by
  pointwise [val_main_v43, val_main_v42, val_main_v34, val_main_v33, val_main_cst_6, val_main_v32, val_main_v31, val_main_cst_5]
  simp only [hid_at]
  rfl

theorem recip2_at (t : Fin 8192) : val_main_v46 (F := Ideal) x0 x1 x2 x3 x4 x5 (ix2 t 0) = recip (outRow x0 x1 x2 x3 x4 x5 t) := by
  pointwise [val_main_v46, val_main_v45, val_main_v44, val_main_cst_9, val_main_v41, val_main_v40, val_main_cst_8, val_main_v39, val_main_v38, val_main_cst_7,
    val_main_v37, val_main_v36, val_main_v35, val_main_v34, val_main_v33, val_main_cst_6, val_main_v32, val_main_v31, val_main_cst_5]
  simp only [hid_at]
  rfl

theorem unit2_at (t : Fin 8192) (n : Fin 1024) : val_main_v48 (F := Ideal) x0 x1 x2 x3 x4 x5 (ix2 t n) = unit (outRow x0 x1 x2 x3 x4 x5 t) n := by
  pointwise [val_main_v48, val_main_v47]
  rw [cent2_at, recip2_at]
  rfl

theorem pair (j : S8192x1024.Idx) : j = ix2 (j 0) (j 1) := by
  funext a
  match a with
  | 0 => rfl
  | 1 => rfl

theorem column (j : S8192x1.Idx) : j = ix2 (j 0) 0 := by
  funext a
  match a with
  | 0 => rfl
  | 1 => exact Fin.ext (by have : (j 1).val < 1 := (j 1).isLt; show (j 1).val = 0; omega)

theorem unit_eq : val_main_v30 (F := Ideal) x0 x1 x2 x3 x4 x5 = resUnit (outRow x0 x1 x2 x3 x4 x5) := by
  funext j
  rw [pair j]
  exact unit_at x0 x1 x2 x3 x4 x5 (j 0) (j 1)

theorem recip_eq : val_main_v26 (F := Ideal) x0 x1 x2 x3 x4 x5 = resRecip (outRow x0 x1 x2 x3 x4 x5) := by
  funext j
  rw [column j]
  exact recip_at x0 x1 x2 x3 x4 x5 (j 0)

theorem norm_eq : val_main_v53 (F := Ideal) x0 x1 x2 x3 x4 x5 x6 x7 = resNorm (outRow x0 x1 x2 x3 x4 x5) x6 x7 := by
  funext j
  pointwise [val_main_v53, val_main_v52, val_main_v51, val_main_v50, val_main_v49]
  exact congrArg₂ (· + ·) (congrArg₂ (· * ·) ((congrArg _ (pair j)).trans (unit2_at x0 x1 x2 x3 x4 x5 (j 0) (j 1))) rfl) rfl

end Cert.OutRefIdeal.Fwd

end
-- ==== Proof.OutClaims.lean ====
/-
  The claims of the output projection's call.
-/
module

public import proofs.«01_k».proof.Defs
public import proofs.«01_k».proof.Proof.Gen.Out.Frame
public import proofs.«01_k».proof.Proof.Gen.OutRefIdeal.Run
public import proofs.«01_k».proof.Proof.OutRun
public import proofs.«01_k».proof.Proof.OutRef
public import Idealize.ShloMosaic.Lib.Claim
public import Idealize.ShloMosaic.Lib.Quiescent

@[expose] public section

noncomputable section

namespace Cert.Proof.Out

open Idealize.ShloMosaic Idealize.ShloMosaic.TcCoe Idealize.SL.Sem Cert.OutIdeal.Fwd

theorem frame_kernel : Cert.quiescent_Out := fun m ρ _ => Cert.Out.Gen.frame m ρ

theorem frame_ideal : Cert.quiescent_OutIdeal := fun m ρ _ => Cert.OutIdeal.Gen.frame m ρ

theorem frame_reference : Cert.quiescent_OutRefIdeal := fun m ρ _ =>
  (θ_run Cert.OutRefIdeal.defs _ _).mono
    (fun r h => ⟨fun c => (h c).2.2.2, Idealize.ShloMosaic.sem_eq_zero_of_no_sems (by decide) r.2⟩)
    (Cert.OutRefIdeal.Value.run (F := Ideal) m ρ)

theorem algebraic : Cert.algebraic_OutIdeal_OutRefIdeal := by
  intro m ρ m' ρ' _ hag
  have hr := Cert.OutRefIdeal.Value.run (F := Ideal) m' ρ'
  refine ⟨fun c => Cert.Norm.resUnit (hid m c), fun c => Cert.Norm.resRecip (hid m c), fun c => Cert.Norm.resNorm (hid m c) (A6 m c) (A7 m c), ?_, ?_⟩
  · refine (θ_run _ _ _).mono (fun r h c => ?_) (Cert.OutIdeal.Value.run_blocks (F := Ideal) m ρ)
    obtain ⟨h0, h1, h2, h3⟩ := h c
    exact ⟨h0.trans (final8 m c), h1.trans (final9 m c), h2.trans (final10 m c), h3⟩
  · refine (θ_run _ _ _).mono (fun r h c => ?_) hr
    obtain ⟨h0, h1, h2, h3⟩ := h c
    obtain ⟨a0, a1, a2, a3, a4, a5, a6, a7⟩ := hag c
    rw [Cert.OutRefIdeal.Read.val_main_v30_eq, a0, a1, a2, a3, a4, a5, Cert.OutRefIdeal.Fwd.unit_eq] at h0
    rw [Cert.OutRefIdeal.Read.val_main_v26_eq, a0, a1, a2, a3, a4, a5, Cert.OutRefIdeal.Fwd.recip_eq] at h1
    rw [Cert.OutRefIdeal.Read.val_main_v53_eq, a0, a1, a2, a3, a4, a5, a6, a7, Cert.OutRefIdeal.Fwd.norm_eq] at h2
    exact ⟨h0, h1, h2, h3⟩

end Cert.Proof.Out

end
-- ==== Proof.AttnFwdRun.lean ====
/-
  The attention's forward kernel over its whole grid, over extended reals. A grid point takes the four heads one after
  another, as the backward kernel does, so its block is stated with that kernel's step.
-/
module

public import proofs.«01_k».proof.Proof.Gen.AttnFwdIdeal.Value
public import proofs.«01_k».proof.Proof.AttnBlock

@[expose] public section

noncomputable section

namespace Cert.AttnFwdIdeal.Fwd

open Cert.AttnFwdIdeal Cert.AttnFwdIdeal.Gen Idealize.ShloMosaic Idealize.ShloMosaic.TcCoe Idealize.ShloMosaic.Tactic
open Idealize.SL.Sem Cert.Heads
open Cert.KernelIdeal.Attn (headMask headMask_apply addQ addQ_apply probs probs_row mask_self mask_ne row zeroQ)

/-! ## One block -/

/-- The block's result: the four heads' terms, from zero. -/
def mixed (q : Vec Ideal S1024x256 .f32) (k v : Vec Ideal S256x256 .f32) : FVec Ideal S1024x256 .f32 :=
  addQ (headMask 3) (addQ (headMask 2) (addQ (headMask 1) (addQ (headMask 0) Cert.KernelIdeal.Gen.k0_pay4
    (probs q k 0) v) (probs q k 1) v) (probs q k 2) v) (probs q k 3) v

theorem mixed_row (q : Vec Ideal S1024x256 .f32) (k v : Vec Ideal S256x256 .f32) (t : Fin 1024) (c : Fin 256) :
    mixed q k v (ix2 t c) = attend (row q t) (row k) (row v) c := by
  simp only [mixed, addQ_apply, zeroQ, headMask_apply, probs_row]
  rw [sum_heads c (fun h => (∑ m, soft (score (row q t) (row k) h) m * v (ix2 m c)) * mask h c)
    fun b hb => by rw [mask_ne hb, mul_zero], mask_self, mul_one]
  rfl

variable (m : (ℓ : Loc nD τ sig) → Buf (Elt Ideal) ℓ) (c : Dev nD)

abbrev A0 := m ((c : Thread nD τ).loc main_arg0)
abbrev A1 := m ((c : Thread nD τ).loc main_arg1)

/-- A grid point's block of queries, and its keys and values. -/
abbrev qB (t : Fin cfg0.N) : Vec Ideal S1024x256 .f32 := iblk m c 0 t
abbrev kB (t : Fin cfg0.N) : Vec Ideal S256x256 .f32 :=
  View.ld (iblk m c 1 t) (Rect.unit ![0, 0] ![256, 256] inb_S256x512_S256x256_0_0)
abbrev vB (t : Fin cfg0.N) : Vec Ideal S256x256 .f32 :=
  View.ld (iblk m c 1 t) (Rect.unit ![0, 256] ![256, 256] inb_S256x512_S256x256_0_256)

theorem idx : ∀ t : Fin cfg0.N, win0_0.index t = ![t.val, 5] ∧ win0_1.index t = ![0, 0] ∧ win0_2.index t = ![t.val, 0] :=
  (by decide +kernel : ∀ t : Fin grid0.N, _)

/-- Row `r` of block `t`. -/
def at8 (t : Fin cfg0.N) (r : Fin 1024) : Fin 8192 :=
  ⟨t.val * 1024 + r.val, by have : t.val < 8 := lt_of_lt_of_eq t.isLt N_0; omega⟩

theorem qB_row (t : Fin cfg0.N) (r : Fin 1024) : row (qB m c t) r = qRow (A0 m c) (at8 t r) := by
  funext d
  unfold row qB qRow A0
  blk_ext [iblk, V, idx t, at8]

theorem kB_row (t : Fin cfg0.N) : row (kB m c t) = kRow (A1 m c) := by
  funext r d
  pointwise [row, kB, kRow, A1]
  blk_ext [iblk, V, idx t]

theorem vB_row (t : Fin cfg0.N) : row (vB m c t) = vRow (A1 m c) := by
  funext r d
  pointwise [row, vB, vRow, A1]
  blk_ext [iblk, V, idx t]

theorem mixed_at (t : Fin cfg0.N) (r : Fin 1024) (d : Fin 256) :
    mixed (qB m c t) (kB m c t) (vB m c t) (ix2 r d) = attend (qRow (A0 m c) (at8 t r)) (kRow (A1 m c)) (vRow (A1 m c)) d := by
  rw [mixed_row, qB_row, kB_row, vB_row]

/-! ## The whole result -/

theorem final2 : (dats m 0 c).arrAt 2 cfg0.N = resO (A0 m c) (A1 m c) := by
  refine (dats m 0 c).arrAt_eq_of_covers 2 _ (by decide +kernel) fun t hf y => ?_
  blk_simp
  rw [after0_2]
  have e0 : (win0_2.blk t).view.emb y 0 = at8 t (y 0) := Fin.ext (by blk_simp [idx t, at8])
  have e1 : (win0_2.blk t).view.emb y 1 = y 1 := Fin.ext (by blk_simp [idx t])
  have ey : y = ix2 (y 0) (y 1) := by funext a; match a with | 0 => rfl | 1 => rfl
  have eb : out0_2 (iblk m c 0 t) (iblk m c 1 t) = mixed (qB m c t) (kB m c t) (vB m c t) := by
    frame_out
    rfl
  unfold resO
  rw [e0, e1]
  exact (congrFun eb y).trans ((congrArg _ ey).trans (mixed_at m c t (y 0) (y 1)))

end Cert.AttnFwdIdeal.Fwd

end
-- ==== Proof.AttnFwdRef.lean ====
/-
  The reference of the attention's forward call, over extended reals: its stages at an index, and its result.
-/
module

public import proofs.«01_k».proof.Proof.Gen.AttnFwdRefIdeal.Read
public import proofs.«01_k».proof.Proof.Heads
public import Idealize.ShloMosaic.Lib.Pipeline.ValueKit

@[expose] public section

noncomputable section

namespace Cert.AttnFwdRefIdeal.Fwd

open Cert.AttnFwdRefIdeal Cert.AttnFwdRefIdeal.Gen Cert.AttnFwdRefIdeal.Read Idealize.ShloMosaic
open Idealize.ShloMosaic.TcCoe Idealize.ShloMosaic.Tactic Idealize.SL.Sem Cert.Heads

variable (q : Vec Ideal S8192x1536 .f32) (kv : Vec Ideal S256x512 .f32)

/-- The scores, in the order of the reference's arrays. -/
abbrev sc (h : Fin 4) (t : Fin 8192) : Fin 256 → EReal := score (qRow q t) (kRow kv) h

theorem score_at (h : Fin 4) (t : Fin 8192) (m : Fin 256) : val_main_v8 (F := Ideal) q kv (ix3 h t m) = sc q kv h t m := by
  pointwise [val_main_v8, val_main_v7, val_main_cst, val_main_v6, val_main_v1, val_main_v0, val_main_v4, val_main_v2]
  rfl

theorem max_at (h : Fin 4) (t : Fin 8192) :
    val_main_v9 (F := Ideal) q kv (ix2 h t) = Finset.univ.fold max ⊥ (sc q kv h t) := by
  pointwise [val_main_v9, val_main_cst_0]
  simp only [score_at]
  rw [show Ideal.ofBits .f32 0xFF800000#32 = ⊥ by simp [Ideal.ofBits, Ideal.ieee]]

theorem top_at (h : Fin 4) (t : Fin 8192) :
    val_main_v11 (F := Ideal) q kv (ix2 h t) = Finset.univ.fold max ⊥ (sc q kv h t) := by
  rw [val_main_v11_apply, val_main_v10_apply, val_main_cst_1_apply, max_at]
  refine Eq.trans (b := max (Ideal.ofBits .f32 0xFF800000#32) _) rfl ?_
  rw [show Ideal.ofBits .f32 0xFF800000#32 = ⊥ by simp [Ideal.ofBits, Ideal.ieee]]
  exact max_eq_right bot_le

theorem exp_at (h : Fin 4) (t : Fin 8192) (m : Fin 256) :
    val_main_v15 (F := Ideal) q kv (ix3 h t m) = expo (sc q kv h t) m := by
  pointwise [val_main_v15, val_main_v14, val_main_v13, val_main_v12]
  rw [score_at, top_at]
  rfl

theorem total_at (h : Fin 4) (t : Fin 8192) :
    val_main_v17 (F := Ideal) q kv (ix3 h t 0) = ∑ k, expo (sc q kv h t) k := by
  pointwise [val_main_v17, val_main_v16, val_main_cst_2]
  simp only [exp_at]

theorem soft_at (h : Fin 4) (t : Fin 8192) (m : Fin 256) :
    val_main_v19 (F := Ideal) q kv (ix3 h t m) = soft (sc q kv h t) m := by
  pointwise [val_main_v19, val_main_v18]
  rw [exp_at, total_at]
  rfl

theorem out_at (t : Fin 8192) (c : Fin 256) :
    val_main_v23 (F := Ideal) q kv (ix2 t c) = attend (qRow q t) (kRow kv) (vRow kv) c := by
  have e : val_main_v23 (F := Ideal) q kv (ix2 t c) = ∑ m, vRow kv m c * soft (sc q kv (head c) t) m := by
    pointwise [val_main_v23, val_main_v22, val_main_v21, val_main_v20, val_main_v5, val_main_v3]
    simp only [soft_at]
    rfl
  exact e.trans (Finset.sum_congr rfl fun m _ => mul_comm _ _)

theorem out_eq : val_main_v23 (F := Ideal) q kv = resO q kv := by
  funext i
  have ei : i = ix2 (i 0) (i 1) := by funext a; match a with | 0 => rfl | 1 => rfl
  exact (congrArg _ ei).trans (out_at q kv (i 0) (i 1))

end Cert.AttnFwdRefIdeal.Fwd

end
-- ==== Proof.AttnFwdClaims.lean ====
/-
  The claims of the attention's forward call.
-/
module

public import proofs.«01_k».proof.Defs
public import proofs.«01_k».proof.Proof.Gen.AttnFwd.Frame
public import proofs.«01_k».proof.Proof.Gen.AttnFwdRefIdeal.Run
public import proofs.«01_k».proof.Proof.AttnFwdRun
public import proofs.«01_k».proof.Proof.AttnFwdRef
public import Idealize.ShloMosaic.Lib.Claim
public import Idealize.ShloMosaic.Lib.Quiescent

@[expose] public section

noncomputable section

namespace Cert.Proof.AttnFwd

open Idealize.ShloMosaic Idealize.ShloMosaic.TcCoe Idealize.SL.Sem Cert.AttnFwdIdeal.Fwd

theorem frame_kernel : Cert.quiescent_AttnFwd := fun m ρ _ => Cert.AttnFwd.Gen.frame m ρ

theorem frame_ideal : Cert.quiescent_AttnFwdIdeal := fun m ρ _ => Cert.AttnFwdIdeal.Gen.frame m ρ

theorem frame_reference : Cert.quiescent_AttnFwdRefIdeal := fun m ρ _ =>
  (θ_run Cert.AttnFwdRefIdeal.defs _ _).mono
    (fun r h => ⟨fun c => (h c).2, Idealize.ShloMosaic.sem_eq_zero_of_no_sems (by decide) r.2⟩)
    (Cert.AttnFwdRefIdeal.Value.run (F := Ideal) m ρ)

theorem algebraic : Cert.algebraic_AttnFwdIdeal_AttnFwdRefIdeal := by
  intro m ρ m' ρ' _ hag
  have hr := Cert.AttnFwdRefIdeal.Value.run (F := Ideal) m' ρ'
  refine ⟨fun c => Cert.Heads.resO (A0 m c) (A1 m c), ?_, ?_⟩
  · refine (θ_run _ _ _).mono (fun r h c => ?_) (Cert.AttnFwdIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.AttnFwdRefIdeal.Read.val_main_v23_eq, a0, a1, Cert.AttnFwdRefIdeal.Fwd.out_eq] at h0
    exact ⟨h0, h1⟩

end Cert.Proof.AttnFwd

end
-- ==== Proof.KvRun.lean ====
/-
  The memory's projection, over extended reals: one grid point holds it whole.
-/
module

public import proofs.«01_k».proof.Proof.Gen.KvIdeal.Value
public import proofs.«01_k».proof.Proof.Products
public import Idealize.ShloMosaic.Lib.Pipeline.ValueKit
public import Idealize.ShloMosaic.Lib.StableHlo.ReadAt

@[expose] public section

noncomputable section

namespace Cert.KvIdeal.Fwd

open Cert.KvIdeal Cert.KvIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![0, 0] ∧ win0_1.index t = ![0, 0, 0, 0]
    ∧ win0_2.index t = ![0, 0] ∧ win0_3.index t = ![0, 0] :=
  (by decide +kernel : ∀ t : Fin grid0.N, _)

/-- The bias the kernel is handed is zero. -/
theorem bias_read (k : Fin 512) : (show EReal from V m c main_v0 (ix2 0 k)) = 0 := by
  unfold V
  after_reads_at

def leftB (t : Fin cfg0.N) (r : Fin 256) (k : Fin 1024) : EReal := iblk m c 0 t (ix2 r k)
def rightB (t : Fin cfg0.N) (k : Fin 1024) (n : Fin 512) : EReal := iblk m c 1 t (ix4 0 0 k n)
def biasB (t : Fin cfg0.N) (n : Fin 512) : EReal := iblk m c 2 t (ix2 0 n)

theorem leftB_eq (t : Fin cfg0.N) (r : Fin 256) (k : Fin 1024) : leftB m c t r k = A0 m c (ix2 r k) := by
  rw [A0, ← V_main_arg0 m c]
  unfold leftB
  blk_ext [iblk, idx t]

theorem rightB_eq (t : Fin cfg0.N) (k : Fin 1024) (n : Fin 512) : rightB m c t k n = A1 m c (ix4 0 0 k n) := by
  rw [A1, ← V_main_arg1 m c]
  unfold rightB
  blk_ext [iblk, idx t]

theorem biasB_eq (t : Fin cfg0.N) (n : Fin 512) : biasB m c t n = 0 := by
  refine Eq.trans ?_ (bias_read m c n)
  unfold biasB
  blk_ext [iblk, idx t]

theorem block_at (t : Fin cfg0.N) (r : Fin 256) (n : Fin 512) :
    k0_pay1 (iblk m c 0 t) (iblk m c 1 t) (iblk m c 2 t) (ix2 r n)
      = ∑ k, (show EReal from A0 m c (ix2 r k)) * A1 m c (ix4 0 0 k n) := by
  have e : k0_pay1 (iblk m c 0 t) (iblk m c 1 t) (iblk m c 2 t) (ix2 r n)
      = ∑ k, leftB m c t r k * rightB m c t k n + biasB m c t n := by
    pointwise [k0_pay1]
    rfl
  rw [e, biasB_eq]
  refine (add_zero _).trans (Finset.sum_congr rfl fun k _ => congrArg₂ (· * ·) (leftB_eq m c t r k) (rightB_eq m c t k n))

theorem final3 : (dats m 0 c).arrAt 3 cfg0.N = kvFwd (A0 m c) (A1 m c) := by
  refine (dats m 0 c).arrAt_eq_of_covers 3 _ (by decide +kernel) fun t hf y => ?_
  blk_simp
  rw [after0_3]
  have e0 : (win0_3.blk t).view.emb y 0 = y 0 := Fin.ext (by blk_simp [idx t])
  have e1 : (win0_3.blk t).view.emb y 1 = y 1 := Fin.ext (by blk_simp [idx t])
  have ey : y = ix2 (y 0) (y 1) := by funext a; match a with | 0 => rfl | 1 => rfl
  unfold kvFwd
  rw [e0, e1]
  frame_out
  exact (congrArg _ ey).trans (block_at m c t (y 0) (y 1))

end Cert.KvIdeal.Fwd

end
-- ==== Proof.KvRef.lean ====
/-
  The reference of the memory's projection, over extended reals.
-/
module

public import proofs.«01_k».proof.Proof.Gen.KvRefIdeal.Read
public import proofs.«01_k».proof.Proof.Products
public import Idealize.ShloMosaic.Lib.Pipeline.ValueKit

@[expose] public section

noncomputable section

namespace Cert.KvRefIdeal.Fwd

open Cert.KvRefIdeal Cert.KvRefIdeal.Gen Cert.KvRefIdeal.Read Idealize.ShloMosaic
open Idealize.ShloMosaic.TcCoe Idealize.ShloMosaic.Tactic Idealize.SL.Sem Cert.Products

variable (x0 : Vec Ideal S256x1024 .f32) (x1 : Vec Ideal S1x1x1024x512 .bf16)

theorem fwd_eq : val_main_v2 (F := Ideal) x0 x1 = kvFwd x0 x1 := by
  funext j
  have ej : j = ix2 (j 0) (j 1) := by funext a; match a with | 0 => rfl | 1 => rfl
  rw [ej]
  pointwise [val_main_v2, val_main_v1, val_main_v0]
  rfl

end Cert.KvRefIdeal.Fwd

end
-- ==== Proof.KvClaims.lean ====
/-
  The claims of the memory's projection.
-/
module

public import proofs.«01_k».proof.Defs
public import proofs.«01_k».proof.Proof.Gen.Kv.Frame
public import proofs.«01_k».proof.Proof.Gen.KvRefIdeal.Run
public import proofs.«01_k».proof.Proof.KvRun
public import proofs.«01_k».proof.Proof.KvRef
public import Idealize.ShloMosaic.Lib.Claim
public import Idealize.ShloMosaic.Lib.Quiescent

@[expose] public section

noncomputable section

namespace Cert.Proof.Kv

open Idealize.ShloMosaic Idealize.ShloMosaic.TcCoe Idealize.SL.Sem Cert.KvIdeal.Fwd

theorem frame_kernel : Cert.quiescent_Kv := fun m ρ _ => Cert.Kv.Gen.frame m ρ

theorem frame_ideal : Cert.quiescent_KvIdeal := fun m ρ _ => Cert.KvIdeal.Gen.frame m ρ

theorem frame_reference : Cert.quiescent_KvRefIdeal := fun m ρ _ =>
  (θ_run Cert.KvRefIdeal.defs _ _).mono
    (fun r h => ⟨fun c => (h c).2, Idealize.ShloMosaic.sem_eq_zero_of_no_sems (by decide) r.2⟩)
    (Cert.KvRefIdeal.Value.run (F := Ideal) m ρ)

theorem algebraic : Cert.algebraic_KvIdeal_KvRefIdeal := by
  intro m ρ m' ρ' _ hag
  have hr := Cert.KvRefIdeal.Value.run (F := Ideal) m' ρ'
  refine ⟨fun c => Cert.Products.kvFwd (A0 m c) (A1 m c), ?_, ?_⟩
  · refine (θ_run _ _ _).mono (fun r h c => ?_) (Cert.KvIdeal.Value.run_blocks (F := Ideal) m ρ)
    obtain ⟨h0, h1⟩ := h c
    exact ⟨h0.trans (final3 m c), h1⟩
  · refine (θ_run _ _ _).mono (fun r h c => ?_) hr
    obtain ⟨h0, h1⟩ := h c
    obtain ⟨a0, a1⟩ := hag c
    rw [Cert.KvRefIdeal.Read.val_main_v2_eq, a0, a1, Cert.KvRefIdeal.Fwd.fwd_eq] at h0
    exact ⟨h0, h1⟩

end Cert.Proof.Kv

end
-- ==== Proof.KvDwRun.lean ====
/-
  The gradient of the weights of the memory's projection, over extended reals: one grid point holds it whole.
-/
module

public import proofs.«01_k».proof.Proof.Gen.KvDwIdeal.Value
public import proofs.«01_k».proof.Proof.Products
public import Idealize.ShloMosaic.Lib.Pipeline.ValueKit

@[expose] public section

noncomputable section

namespace Cert.KvDwIdeal.Bwd

open Cert.KvDwIdeal Cert.KvDwIdeal.Gen Idealize.ShloMosaic Idealize.ShloMosaic.TcCoe Idealize.ShloMosaic.Tactic
open Idealize.SL.Sem Cert.Products

variable (m : (ℓ : Loc nD τ sig) → Buf (Elt Ideal) ℓ) (c : Dev nD)

abbrev A0 := m ((c : Thread nD τ).loc main_arg0)
abbrev A1 := m ((c : Thread nD τ).loc main_arg1)

theorem idx : ∀ t : Fin cfg0.N, win0_0.index t = ![0, 0] ∧ win0_1.index t = ![0, 0] ∧ win0_2.index t = ![0, 0, 0] :=
  (by decide +kernel : ∀ t : Fin grid0.N, _)

def leftB (t : Fin cfg0.N) (r : Fin 256) (k : Fin 1024) : EReal := iblk m c 0 t (ix2 r k)
def rightB (t : Fin cfg0.N) (r : Fin 256) (n : Fin 512) : EReal := iblk m c 1 t (ix2 r n)

theorem leftB_eq (t : Fin cfg0.N) (r : Fin 256) (k : Fin 1024) : leftB m c t r k = A0 m c (ix2 r k) := by
  unfold leftB A0
  blk_ext [iblk, V, idx t]

theorem rightB_eq (t : Fin cfg0.N) (r : Fin 256) (n : Fin 512) : rightB m c t r n = A1 m c (ix2 r n) := by
  unfold rightB A1
  blk_ext [iblk, V, idx t]

theorem block_at (t : Fin cfg0.N) (k : Fin 1024) (n : Fin 512) :
    k0_pay2 (iblk m c 0 t) (iblk m c 1 t) (ix3 0 k n)
      = ∑ r, (show EReal from A0 m c (ix2 r k)) * A1 m c (ix2 r n) := by
  have e : k0_pay2 (iblk m c 0 t) (iblk m c 1 t) (ix3 0 k n) = ∑ r, leftB m c t r k * rightB m c t r n := by
    pointwise [k0_pay2, k0_pay1]
    rfl
  exact e.trans (Finset.sum_congr rfl fun r _ => congrArg₂ (· * ·) (leftB_eq m c t r k) (rightB_eq m c t r n))

theorem flat (j : S1x1024x512.Idx) : j = ix3 0 (j 1) (j 2) := by
  funext a
  match a with
  | 0 => exact Fin.ext (by have : (j 0).val < 1 := (j 0).isLt; show (j 0).val = 0; omega)
  | 1 => rfl
  | 2 => rfl

theorem final2 : (dats m 0 c).arrAt 2 cfg0.N = kvDw (A0 m c) (A1 m c) := by
  refine (dats m 0 c).arrAt_eq_of_covers 2 _ (by decide +kernel) fun t hf y => ?_
  blk_simp
  rw [after0_2]
  have e1 : (win0_2.blk t).view.emb y 1 = y 1 := Fin.ext (by blk_simp [idx t])
  have e2 : (win0_2.blk t).view.emb y 2 = y 2 := Fin.ext (by blk_simp [idx t])
  unfold kvDw
  rw [e1, e2]
  unfold outsAt0
  frame_out
  exact (congrArg _ (flat y)).trans (block_at m c t (y 1) (y 2))

end Cert.KvDwIdeal.Bwd

end
-- ==== Proof.KvDwRef.lean ====
/-
  The reference of the gradient of the weights of the memory's projection, over extended reals.
-/
module

public import proofs.«01_k».proof.Proof.Gen.KvDwRefIdeal.Read
public import proofs.«01_k».proof.Proof.Products
public import Idealize.ShloMosaic.Lib.Pipeline.ValueKit

@[expose] public section

noncomputable section

namespace Cert.KvDwRefIdeal.Bwd

open Cert.KvDwRefIdeal Cert.KvDwRefIdeal.Gen Cert.KvDwRefIdeal.Read Idealize.ShloMosaic
open Idealize.ShloMosaic.TcCoe Idealize.ShloMosaic.Tactic Idealize.SL.Sem Cert.Products

variable (x0 : Vec Ideal S256x1024 .f32) (x1 : Vec Ideal S256x512 .f32)

theorem triple (j : S1x1024x512.Idx) : j = ix3 0 (j 1) (j 2) := by
  funext a
  match a with
  | 0 => exact Fin.ext (by have : (j 0).val < 1 := (j 0).isLt; show (j 0).val = 0; omega)
  | 1 => rfl
  | 2 => rfl

theorem dw_eq : val_main_v4 (F := Ideal) x0 x1 = kvDw x0 x1 := by
  funext j
  rw [triple j]
  pointwise [val_main_v4, val_main_v3, val_main_v2]
  exact Finset.sum_congr rfl fun t _ => mul_comm _ _

end Cert.KvDwRefIdeal.Bwd

end
-- ==== Proof.KvDwClaims.lean ====
/-
  The claims of the gradient of the weights of the memory's projection.
-/
module

public import proofs.«01_k».proof.Defs
public import proofs.«01_k».proof.Proof.Gen.KvDw.Frame
public import proofs.«01_k».proof.Proof.Gen.KvDwRefIdeal.Run
public import proofs.«01_k».proof.Proof.KvDwRun
public import proofs.«01_k».proof.Proof.KvDwRef
public import Idealize.ShloMosaic.Lib.Claim
public import Idealize.ShloMosaic.Lib.Quiescent

@[expose] public section

noncomputable section

namespace Cert.Proof.KvDw

open Idealize.ShloMosaic Idealize.ShloMosaic.TcCoe Idealize.SL.Sem Cert.KvDwIdeal.Bwd

theorem frame_kernel : Cert.quiescent_KvDw := fun m ρ _ => Cert.KvDw.Gen.frame m ρ

theorem frame_ideal : Cert.quiescent_KvDwIdeal := fun m ρ _ => Cert.KvDwIdeal.Gen.frame m ρ

theorem frame_reference : Cert.quiescent_KvDwRefIdeal := fun m ρ _ =>
  (θ_run Cert.KvDwRefIdeal.defs _ _).mono
    (fun r h => ⟨fun c => (h c).2, Idealize.ShloMosaic.sem_eq_zero_of_no_sems (by decide) r.2⟩)
    (Cert.KvDwRefIdeal.Value.run (F := Ideal) m ρ)

theorem algebraic : Cert.algebraic_KvDwIdeal_KvDwRefIdeal := by
  intro m ρ m' ρ' _ hag
  have hr := Cert.KvDwRefIdeal.Value.run (F := Ideal) m' ρ'
  refine ⟨fun c => Cert.Products.kvDw (A0 m c) (A1 m c), ?_, ?_⟩
  · refine (θ_run _ _ _).mono (fun r h c => ?_) (Cert.KvDwIdeal.Value.run_blocks (F := Ideal) m ρ)
    obtain ⟨h0, h1⟩ := h c
    exact ⟨h0.trans (final2 m c), h1⟩
  · refine (θ_run _ _ _).mono (fun r h c => ?_) hr
    obtain ⟨h0, h1⟩ := h c
    obtain ⟨a0, a1⟩ := hag c
    rw [Cert.KvDwRefIdeal.Read.val_main_v4_eq, a0, a1, Cert.KvDwRefIdeal.Bwd.dw_eq] at h0
    exact ⟨h0, h1⟩

end Cert.Proof.KvDw

end
-- ==== Proof.Conv.lean ====
/-
  The causal convolution over 31 rows of a gated array, the norm over groups of 64 columns and the activation, over
  extended reals, one row at a time. A group's mean is the sum of its columns divided by 64; the lemmas say that for a
  real row it is the product with the matrix of means, also when the row is split in three parts for that product.
-/
module

public import proofs.«01_k».proof.Proof.Heads
public import proofs.«01_k».proof.Proof.Norm
public import proofs.«01_k».proof.Proof.Finite

@[expose] public section

noncomputable section

namespace Cert.Conv

open Idealize.ShloMosaic Cert.Heads Cert.Finite
open scoped BigOperators

/-! ## The norm over groups -/

/-- The columns of a group, and one divided by them. -/
def size : EReal := Ideal.ofBits .f32 0x42800000#32
def part : EReal := Ideal.ofBits .bf16 0x3C80#16

theorem size_eq : size = ((64 : ℝ) : EReal) := by
  simp [size, Ideal.ofBits, Ideal.ieee]; rw [← EReal.coe_mul]; norm_num

theorem part_eq : part = ((1 / 64 : ℝ) : EReal) := by
  simp [part, Ideal.ofBits, Ideal.ieee]; rw [← EReal.coe_mul]; norm_num

/-- The mean of a group of a row. -/
def avg (x : Fin 256 → EReal) (h : Fin 4) : EReal := Ideal.div (∑ d, x (col h d)) size

/-- A row less its groups' means. -/
def cent (x : Fin 256 → EReal) (c : Fin 256) : EReal := x c - avg x (head c)

/-- The variance of a group and the constant. -/
def spread (x : Fin 256 → EReal) (h : Fin 4) : EReal := avg (fun c => cent x c * cent x c) h + Norm.eps

/-- The row normalised over its groups. -/
def unit (x : Fin 256 → EReal) (c : Fin 256) : EReal := cent x c * Ideal.rsqrt (spread x (head c))

theorem avg_eq (x : Fin 256 → EReal) (h : Fin 4) : avg x h = (∑ d, x (col h d)) * part := by
  rw [avg, size_eq, part_eq, Ideal.div_coe (by norm_num)]

theorem avg_real (x : Fin 256 → EReal) (hx : ∀ c, IsReal (x c)) (h : Fin 4) : IsReal (avg x h) := by
  rw [avg_eq]
  exact (IsReal.sum _ _ fun d _ => hx _).mul ⟨_, part_eq⟩

/-- A row's product with a matrix, the row in three parts: the row, what is left of it, and what is left of that. -/
def three (x : Fin 256 → EReal) (p : Fin 256 → Fin 256 → EReal) (c : Fin 256) : EReal :=
  (∑ k, x k * p k c + ∑ k, (x k - x k) * p k c) + ∑ k, ((x k - x k) - (x k - x k)) * p k c

/-- The matrix of the groups' means. -/
def means (k c : Fin 256) : EReal := if head k = head c then part else 0

theorem sub_self_real {x : EReal} : IsReal x → x - x = 0
  | ⟨a, ha⟩ => by rw [ha, ← EReal.coe_sub, sub_self, EReal.coe_zero]

/-- Of a real row, the first part is the row and the others vanish; the product with the matrix of means is the mean. -/
theorem three_eq (x : Fin 256 → EReal) (hx : ∀ c, IsReal (x c)) (c : Fin 256) : three x means c = avg x (head c) := by
  have z : ∀ k, x k - x k = 0 := fun k => sub_self_real (hx k)
  have z0 : (0 : EReal) - 0 = 0 := by simp
  simp only [three, z, z0, zero_mul, Finset.sum_const_zero, add_zero]
  have e : ∀ k, x k * means k c = x k * mask (head c) k * part := fun k => by
    unfold means mask
    by_cases h : head k = head c
    · rw [if_pos h, if_pos h, mul_one]
    · rw [if_neg h, if_neg h, mul_zero, zero_mul]
  have hr : ∀ k, ∃ a : ℝ, x k = a := hx
  choose a ha using hr
  rw [avg_eq]
  simp only [e]
  rw [sum_mask (head c) x fun _ => part, part_eq]
  simp only [ha, ← EReal.coe_mul, ← Norm.coe_sum]
  rw [Finset.sum_mul]

/-- The row normalised over its groups, the means by products of three parts. -/
def unitThree (x : Fin 256 → EReal) (p : Fin 256 → Fin 256 → EReal) (c : Fin 256) : EReal :=
  (x c - three x p c)
    * Ideal.rsqrt (three (fun k => (x k - three x p k) * (x k - three x p k)) p c + Norm.eps)

theorem unitThree_eq (x : Fin 256 → EReal) (hx : ∀ c, IsReal (x c)) (c : Fin 256) : unitThree x means c = unit x c := by
  have hc : ∀ k, IsReal (cent x k) := fun k => (hx k).sub (avg_real x hx _)
  have e : (fun k => (x k - three x means k) * (x k - three x means k)) = fun k => cent x k * cent x k :=
    funext fun k => by rw [three_eq x hx]; rfl
  rw [unitThree, e, three_eq _ (fun k => (hc k).mul (hc k)), three_eq x hx]
  rfl

/-! ## The gate and the convolution -/

/-- The logistic function. -/
def sig (x : EReal) : EReal := Ideal.div 1 (1 + Ideal.exp (0 - x))

theorem sig_real (x : EReal) : IsReal (sig x) := by
  have h : ∀ y : EReal, (y = ⊤ ∨ ∃ r : ℝ, 0 ≤ r ∧ y = r) → IsReal (Ideal.div 1 (1 + y)) := by
    rintro y (rfl | ⟨r, hr, rfl⟩)
    · refine ⟨0, ?_⟩
      have : (1 : EReal) + ⊤ = ⊤ := by rw [← EReal.coe_one]; exact EReal.coe_add_top 1
      rw [this]; simp [Ideal.div]
    · refine ⟨1 * (1 / (1 + r)), ?_⟩
      rw [← EReal.coe_one, ← EReal.coe_add, Ideal.div_coe (by positivity), ← EReal.coe_mul]
  apply h
  induction 0 - x using EReal.rec with
  | bot => exact .inr ⟨0, le_refl _, rfl⟩
  | top => exact .inl rfl
  | coe r => exact .inr ⟨Real.exp r, (Real.exp_pos r).le, rfl⟩

/-- The row of a column that tap `k` of the convolution reads at row `t`: zero before the first row. -/
def past (u : Fin 8192 → EReal) (t : Fin 8192) (k : Fin 31) : EReal :=
  if h : 30 ≤ k.val + t.val then u ⟨k.val + t.val - 30, by omega⟩ else 0

theorem past_zero (u : Fin 8192 → EReal) (t : Fin 8192) :
    past u t 0 = if h : 30 ≤ t.val then u ⟨t.val - 30, by omega⟩ else 0 := by
  simp only [past, Fin.val_zero, Nat.zero_add]

/-- The causal convolution of a column. -/
def conv (w : Fin 31 → EReal) (b : EReal) (u : Fin 8192 → EReal) (t : Fin 8192) : EReal := b + ∑ k, w k * past u t k

theorem conv_real (w : Fin 31 → EReal) (b : EReal) (u : Fin 8192 → EReal) (hw : ∀ k, IsReal (w k)) (hb : IsReal b)
    (hu : ∀ t, IsReal (u t)) (t : Fin 8192) : IsReal (conv w b u t) := by
  refine hb.add (IsReal.sum _ _ fun k _ => (hw k).mul ?_)
  unfold past
  split
  · exact hu _
  · exact ⟨0, rfl⟩

/-- The convolution, the bias added last, the taps in order. -/
theorem conv_taps (w : Fin 31 → EReal) (b : EReal) (u : Fin 8192 → EReal) (t : Fin 8192) :
    conv w b u t = (∑ k, past u t k * w k) + b := by
  rw [conv, add_comm]
  exact congrArg (· + b) (Finset.sum_congr rfl fun k _ => mul_comm _ _)

/-- Terms added one by one to a first one. -/
def addUp : (n : ℕ) → EReal → (Fin n → EReal) → EReal
  | 0, a, _ => a
  | n + 1, a, f => addUp n a (fun k => f k.castSucc) + f (Fin.last n)

theorem addUp_eq (n : ℕ) (a : EReal) (f : Fin n → EReal) : addUp n a f = a + ∑ k, f k := by
  induction n with
  | zero => simp [addUp]
  | succ n ih => rw [addUp, ih, Fin.sum_univ_castSucc, add_assoc]

/-! ## The branch's rows -/

section Rows

variable (x : Vec Ideal ⟨2, ![8192, 1536]⟩ .f32) (w : Vec Ideal ⟨2, ![31, 256]⟩ .f32)
  (b g s : Vec Ideal ⟨2, ![1, 256]⟩ .f32) (p : Vec Ideal ⟨3, ![1, 256, 256]⟩ .bf16) (q : Vec Ideal ⟨2, ![1, 256]⟩ .f32)

/-- The gated values, from columns 256 to 511 and 512 to 767 of the input projection. -/
def gated (t : Fin 8192) (c : Fin 256) : EReal :=
  (show EReal from x (ix2 t ⟨256 + c.val, by omega⟩)) * sig (x (ix2 t ⟨512 + c.val, by omega⟩))

/-- Their convolution. -/
def rows (t : Fin 8192) (c : Fin 256) : EReal :=
  conv (fun k => w (ix2 k c)) (b (ix2 0 c)) (fun t => gated x t c) t

/-- Scaled, shifted and through the activation, from the normalised row `u`. -/
def actOf (u : Fin 256 → EReal) (c : Fin 256) : EReal :=
  (u c * (show EReal from g (ix2 0 c)) + (show EReal from s (ix2 0 c)))
    * sig (u c * (show EReal from g (ix2 0 c)) + (show EReal from s (ix2 0 c)))

/-- The product with the last weights and its bias. -/
def lastOf (u : Fin 256 → EReal) (j : Fin 256) : EReal :=
  (∑ c, actOf g s u c * (show EReal from p (ix3 0 c j))) + (show EReal from q (ix2 0 j))

/-- The branch's two results: the convolution's rows, and the branch. -/
def resH : Vec Ideal ⟨2, ![8192, 256]⟩ .f32 := fun i => rows x w b (i 0) (i 1)
def resY : Vec Ideal ⟨2, ![8192, 256]⟩ .bf16 := fun i => lastOf g s p q (unit (rows x w b (i 0))) (i 1)

theorem rows_real (hx : ∀ (t : Fin 8192) (c : Fin 256), IsReal (x (ix2 t ⟨256 + c.val, by omega⟩)))
    (hw : ∀ (k : Fin 31) (c : Fin 256), IsReal (w (ix2 k c))) (hb : ∀ c : Fin 256, IsReal (b (ix2 0 c)))
    (t : Fin 8192) (c : Fin 256) : IsReal (rows x w b t c) :=
  conv_real _ _ _ (fun k => hw k c) (hb c) (fun t => (hx t c).mul (sig_real _)) t

end Rows

end Cert.Conv

end
-- ==== Proof.CvFwdRun.lean ====
/-
  The branch's forward kernel over its whole grid, over extended reals. A grid point writes its gated rows under the 32
  rows kept of the point before (zero at the first), adds the 31 taps up from that array, and keeps its own last rows.
-/
module

public import proofs.«01_k».proof.Proof.Gen.CvFwdIdeal.Value
public import proofs.«01_k».proof.Proof.Conv
public import Idealize.ShloMosaic.Lib.Pipeline.ValueKit
public import Idealize.ShloMosaic.Lib.Pipeline.ReadBack
public import Idealize.ShloMosaic.Lib.StableHlo.ReadAt

@[expose] public section

noncomputable section

namespace Cert.CvFwdIdeal.Fwd

open Cert.CvFwdIdeal Cert.CvFwdIdeal.Gen Idealize.ShloMosaic Idealize.ShloMosaic.TcCoe Idealize.ShloMosaic.Tactic
open Idealize.SL.Sem Cert.Heads Cert.Conv Cert.Finite
open scoped BigOperators

/-! ## The array of kept rows and gated rows -/

/-- The kept rows `z` over the gated rows `u`. -/
def stack (z : Vec Ideal S32x256 .f32) (u : Vec Ideal S512x256 .f32) : Vec Ideal S544x256 .f32 := fun i =>
  if h : 32 ≤ (i 0).val then u (ix2 ⟨(i 0).val - 32, by have := (i 0).isLt; change _ < 544 at this; omega⟩ (i 1))
  else z (ix2 ⟨(i 0).val, by omega⟩ (i 1))

theorem stack_low (z : Vec Ideal S32x256 .f32) (u : Vec Ideal S512x256 .f32) (x : S512x256.Idx) :
    stack z u ((Rect.unit (s := S544x256) ![32, 0] ![512, 256] inb_S544x256_S512x256_32_0).emb x) = u x := by
  unfold stack
  rw [dif_pos (by show 32 ≤ 32 + 1 * (x 0).val; omega)]
  congr 1
  funext a
  match a with
  | 0 => exact Fin.ext (by show 32 + 1 * (x 0).val - 32 = (x 0).val; omega)
  | 1 => exact Fin.ext (by show 0 + 1 * (x 1).val = (x 1).val; omega)

theorem stack_high (z : Vec Ideal S32x256 .f32) (u : Vec Ideal S512x256 .f32) (x : S32x256.Idx) :
    stack z u ((Rect.unit (s := S544x256) ![0, 0] ![32, 256] inb_S544x256_S32x256_0_0).emb x) = z x := by
  unfold stack
  have hx : (x 0).val < 32 := (x 0).isLt
  rw [dif_neg (by show ¬ 32 ≤ 0 + 1 * (x 0).val; omega)]
  congr 1
  funext a
  match a with
  | 0 => exact Fin.ext (by show 0 + 1 * (x 0).val = (x 0).val; omega)
  | 1 => exact Fin.ext (by show 0 + 1 * (x 1).val = (x 1).val; omega)

/-- A row of the array is one of the gated rows, or one of the kept. -/
theorem row_cases (y : S544x256.Idx) : (∃ x, (Rect.unit (s := S544x256) ![32, 0] ![512, 256] inb_S544x256_S512x256_32_0).emb x = y) ∨
    (¬32 ≤ (y 0).val ∧ ∃ x, (Rect.unit (s := S544x256) ![0, 0] ![32, 256] inb_S544x256_S32x256_0_0).emb x = y) := by
  have h0 : (y 0).val < 544 := (y 0).isLt
  by_cases h : 32 ≤ (y 0).val
  · refine .inl ⟨ix2 ⟨(y 0).val - 32, by omega⟩ (y 1), funext fun a => ?_⟩
    match a with
    | 0 => exact Fin.ext (by show 32 + 1 * ((y 0).val - 32) = (y 0).val; omega)
    | 1 => exact Fin.ext (by show 0 + 1 * (y 1).val = (y 1).val; omega)
  · refine .inr ⟨h, ix2 ⟨(y 0).val, by omega⟩ (y 1), funext fun a => ?_⟩
    match a with
    | 0 => exact Fin.ext (by show 0 + 1 * (y 0).val = (y 0).val; omega)
    | 1 => exact Fin.ext (by show 0 + 1 * (y 1).val = (y 1).val; omega)

theorem not_low {y : S544x256.Idx} (h : ¬32 ≤ (y 0).val) :
    y ∉ (Rect.unit (s := S544x256) ![32, 0] ![512, 256] inb_S544x256_S512x256_32_0).set := by
  rw [Rect.mem_set_unit]
  intro k
  have h0 : 32 ≤ (y 0).val := (k 0).1
  exact h h0

/-- Two stores leave the array of their rows. -/
theorem canon_stack (z : Vec Ideal S32x256 .f32) (u : Vec Ideal S512x256 .f32) :
    View.canon (Val := Elt Ideal) (e := .f32)
      [⟨Rect.unit ![32, 0] ![512, 256] inb_S544x256_S512x256_32_0, u⟩,
        ⟨Rect.unit ![0, 0] ![32, 256] inb_S544x256_S32x256_0_0, z⟩] = stack z u := by
  funext y
  rcases row_cases y with ⟨x, rfl⟩ | ⟨h, x, hx⟩
  · rw [View.canon_cons_emb, stack_low]
  · have e := View.canon_cons_of_not_mem (Val := Elt Ideal) (e := .f32)
      ⟨Rect.unit (s := S544x256) ![32, 0] ![512, 256] inb_S544x256_S512x256_32_0, u⟩
      [⟨Rect.unit ![0, 0] ![32, 256] inb_S544x256_S32x256_0_0, z⟩] (not_low h)
    rw [e, ← hx, View.canon_cons_emb, stack_high]

section Views

variable {sg : RefSig} {κ : Kind} {sp : Space} (v : View sg κ sp S544x256 .f32)

/-- The gated rows stored over an array leave the array of its first rows and of them. -/
theorem write_stack (f : v.ty.Contents (Elt Ideal)) (u : Vec Ideal S512x256 .f32) :
    View.read (Elt Ideal) v (v.writes (Elt Ideal) f
      [⟨Rect.unit ![32, 0] ![512, 256] inb_S544x256_S512x256_32_0, u⟩]) =
    stack (View.ld (View.read (Elt Ideal) v f)
      (Rect.unit ![0, 0] ![32, 256] inb_S544x256_S32x256_0_0)) u := by
  funext y
  rcases row_cases y with ⟨x, rfl⟩ | ⟨h, x, rfl⟩
  · rw [stack_low]
    exact View.read_writes_cons_emb _ _ _ _ _ _
  · rw [stack_high]
    exact View.read_writes_cons_miss _ _ _ _ _ (not_low h)

/-- A load of the gated rows after their store. -/
theorem load_low (z : Vec Ideal S32x256 .f32) (u : Vec Ideal S512x256 .f32) :
    v.readCov (Val := Elt Ideal) [⟨Rect.unit ![32, 0] ![512, 256] inb_S544x256_S512x256_32_0, u⟩]
      (Rect.unit ![32, 0] ![512, 256] inb_S544x256_S512x256_32_0).toLoadRect =
    View.ld (stack z u) (Rect.unit ![32, 0] ![512, 256] inb_S544x256_S512x256_32_0) := by
  rw [View.readCov_eq_canon']
  funext x
  exact (View.canon_cons_emb _ _ _ _).trans (stack_low z u x).symm

/-- A load of the last of them. -/
theorem load_last (z : Vec Ideal S32x256 .f32) (u : Vec Ideal S512x256 .f32) :
    v.readCov (Val := Elt Ideal) [⟨Rect.unit ![32, 0] ![512, 256] inb_S544x256_S512x256_32_0, u⟩]
      (Rect.unit ![512, 0] ![32, 256] inb_S544x256_S32x256_512_0).toLoadRect =
    View.ld (stack z u) (Rect.unit ![512, 0] ![32, 256] inb_S544x256_S32x256_512_0) := by
  rw [View.readCov_eq_canon']
  funext x
  have hx : (x 0).val < 32 := (x 0).isLt
  have e : (Rect.unit (s := S544x256) ![512, 0] ![32, 256] inb_S544x256_S32x256_512_0).emb x =
      (Rect.unit (s := S544x256) ![32, 0] ![512, 256] inb_S544x256_S512x256_32_0).emb
        (ix2 ⟨480 + (x 0).val, by omega⟩ (x 1)) := by
    funext a
    match a with
    | 0 => exact Fin.ext (by show 512 + 1 * (x 0).val = 32 + 1 * (480 + (x 0).val); omega)
    | 1 => rfl
  show View.canon _ ((Rect.unit (s := S544x256) ![512, 0] ![32, 256] inb_S544x256_S32x256_512_0).emb x) =
    stack z u ((Rect.unit (s := S544x256) ![512, 0] ![32, 256] inb_S544x256_S32x256_512_0).emb x)
  rw [e]
  exact (View.canon_cons_emb _ _ _ _).trans (stack_low z u _).symm

/-- A load of any rows after both stores. -/
theorem load_both (z : Vec Ideal S32x256 .f32) (u : Vec Ideal S512x256 .f32) (r : Rect S544x256) :
    v.readCov (Val := Elt Ideal) [⟨Rect.unit ![32, 0] ![512, 256] inb_S544x256_S512x256_32_0, u⟩,
        ⟨Rect.unit ![0, 0] ![32, 256] inb_S544x256_S32x256_0_0, z⟩] r.toLoadRect = View.ld (stack z u) r := by
  rw [View.readCov_eq_canon', canon_stack]

end Views

/-! ## One block -/

/-- The block of the convolution, from the bias, the taps and the array. -/
def mixOf (b : Vec Ideal S1x256 .f32) (w : Vec Ideal S32x256 .f32) (e : Vec Ideal S544x256 .f32) : FVec Ideal S512x256 .f32 :=
  k0_pay9 (k0_pay8 (k0_pay7 (k0_pay6 (k0_pay5 (k0_pay4 b
    (View.ld w (Rect.unit ![0, 0] ![1, 256] inb_S32x256_S1x256_0_0)) (View.ld e (Rect.unit ![2, 0] ![512, 256] inb_S544x256_S512x256_2_0))
    (View.ld w (Rect.unit ![1, 0] ![1, 256] inb_S32x256_S1x256_1_0)) (View.ld e (Rect.unit ![3, 0] ![512, 256] inb_S544x256_S512x256_3_0)))
    (View.ld w (Rect.unit ![2, 0] ![1, 256] inb_S32x256_S1x256_2_0)) (View.ld e (Rect.unit ![4, 0] ![512, 256] inb_S544x256_S512x256_4_0))
    (View.ld w (Rect.unit ![3, 0] ![1, 256] inb_S32x256_S1x256_3_0)) (View.ld e (Rect.unit ![5, 0] ![512, 256] inb_S544x256_S512x256_5_0))
    (View.ld w (Rect.unit ![4, 0] ![1, 256] inb_S32x256_S1x256_4_0)) (View.ld e (Rect.unit ![6, 0] ![512, 256] inb_S544x256_S512x256_6_0))
    (View.ld w (Rect.unit ![5, 0] ![1, 256] inb_S32x256_S1x256_5_0)) (View.ld e (Rect.unit ![7, 0] ![512, 256] inb_S544x256_S512x256_7_0))
    (View.ld w (Rect.unit ![6, 0] ![1, 256] inb_S32x256_S1x256_6_0)) (View.ld e (Rect.unit ![8, 0] ![512, 256] inb_S544x256_S512x256_8_0))
    (View.ld w (Rect.unit ![7, 0] ![1, 256] inb_S32x256_S1x256_7_0)) (View.ld e (Rect.unit ![9, 0] ![512, 256] inb_S544x256_S512x256_9_0)))
    (View.ld w (Rect.unit ![8, 0] ![1, 256] inb_S32x256_S1x256_8_0)) (View.ld e (Rect.unit ![10, 0] ![512, 256] inb_S544x256_S512x256_10_0))
    (View.ld w (Rect.unit ![9, 0] ![1, 256] inb_S32x256_S1x256_9_0)) (View.ld e (Rect.unit ![11, 0] ![512, 256] inb_S544x256_S512x256_11_0))
    (View.ld w (Rect.unit ![10, 0] ![1, 256] inb_S32x256_S1x256_10_0)) (View.ld e (Rect.unit ![12, 0] ![512, 256] inb_S544x256_S512x256_12_0))
    (View.ld w (Rect.unit ![11, 0] ![1, 256] inb_S32x256_S1x256_11_0)) (View.ld e (Rect.unit ![13, 0] ![512, 256] inb_S544x256_S512x256_13_0))
    (View.ld w (Rect.unit ![12, 0] ![1, 256] inb_S32x256_S1x256_12_0)) (View.ld e (Rect.unit ![14, 0] ![512, 256] inb_S544x256_S512x256_14_0))
    (View.ld w (Rect.unit ![13, 0] ![1, 256] inb_S32x256_S1x256_13_0)) (View.ld e (Rect.unit ![15, 0] ![512, 256] inb_S544x256_S512x256_15_0)))
    (View.ld w (Rect.unit ![14, 0] ![1, 256] inb_S32x256_S1x256_14_0)) (View.ld e (Rect.unit ![16, 0] ![512, 256] inb_S544x256_S512x256_16_0))
    (View.ld w (Rect.unit ![15, 0] ![1, 256] inb_S32x256_S1x256_15_0)) (View.ld e (Rect.unit ![17, 0] ![512, 256] inb_S544x256_S512x256_17_0))
    (View.ld w (Rect.unit ![16, 0] ![1, 256] inb_S32x256_S1x256_16_0)) (View.ld e (Rect.unit ![18, 0] ![512, 256] inb_S544x256_S512x256_18_0))
    (View.ld w (Rect.unit ![17, 0] ![1, 256] inb_S32x256_S1x256_17_0)) (View.ld e (Rect.unit ![19, 0] ![512, 256] inb_S544x256_S512x256_19_0))
    (View.ld w (Rect.unit ![18, 0] ![1, 256] inb_S32x256_S1x256_18_0)) (View.ld e (Rect.unit ![20, 0] ![512, 256] inb_S544x256_S512x256_20_0))
    (View.ld w (Rect.unit ![19, 0] ![1, 256] inb_S32x256_S1x256_19_0)) (View.ld e (Rect.unit ![21, 0] ![512, 256] inb_S544x256_S512x256_21_0)))
    (View.ld w (Rect.unit ![20, 0] ![1, 256] inb_S32x256_S1x256_20_0)) (View.ld e (Rect.unit ![22, 0] ![512, 256] inb_S544x256_S512x256_22_0))
    (View.ld w (Rect.unit ![21, 0] ![1, 256] inb_S32x256_S1x256_21_0)) (View.ld e (Rect.unit ![23, 0] ![512, 256] inb_S544x256_S512x256_23_0))
    (View.ld w (Rect.unit ![22, 0] ![1, 256] inb_S32x256_S1x256_22_0)) (View.ld e (Rect.unit ![24, 0] ![512, 256] inb_S544x256_S512x256_24_0))
    (View.ld w (Rect.unit ![23, 0] ![1, 256] inb_S32x256_S1x256_23_0)) (View.ld e (Rect.unit ![25, 0] ![512, 256] inb_S544x256_S512x256_25_0))
    (View.ld w (Rect.unit ![24, 0] ![1, 256] inb_S32x256_S1x256_24_0)) (View.ld e (Rect.unit ![26, 0] ![512, 256] inb_S544x256_S512x256_26_0))
    (View.ld w (Rect.unit ![25, 0] ![1, 256] inb_S32x256_S1x256_25_0)) (View.ld e (Rect.unit ![27, 0] ![512, 256] inb_S544x256_S512x256_27_0)))
    (View.ld w (Rect.unit ![26, 0] ![1, 256] inb_S32x256_S1x256_26_0)) (View.ld e (Rect.unit ![28, 0] ![512, 256] inb_S544x256_S512x256_28_0))
    (View.ld w (Rect.unit ![27, 0] ![1, 256] inb_S32x256_S1x256_27_0)) (View.ld e (Rect.unit ![29, 0] ![512, 256] inb_S544x256_S512x256_29_0))
    (View.ld w (Rect.unit ![28, 0] ![1, 256] inb_S32x256_S1x256_28_0)) (View.ld e (Rect.unit ![30, 0] ![512, 256] inb_S544x256_S512x256_30_0))
    (View.ld w (Rect.unit ![29, 0] ![1, 256] inb_S32x256_S1x256_29_0)) (View.ld e (Rect.unit ![31, 0] ![512, 256] inb_S544x256_S512x256_31_0))
    (View.ld w (Rect.unit ![30, 0] ![1, 256] inb_S32x256_S1x256_30_0)) (View.ld e (Rect.unit ![32, 0] ![512, 256] inb_S544x256_S512x256_32_0))

/-- The block of the branch, from that of the convolution. -/
def lastB (z : FVec Ideal S512x256 .f32) (p : Vec Ideal S256x256 .bf16) (g s : Vec Ideal S1x256 .f32)
    (v : Vec Ideal S1x256x256 .bf16) (q : Vec Ideal S1x256 .f32) : FVec Ideal S512x256 .bf16 :=
  k0_pay1 (k0_pay11 z p g s) (k0_pay12 z p g s) k0_pay13 v q

theorem mixOf_apply (b : Vec Ideal S1x256 .f32) (w : Vec Ideal S32x256 .f32) (e : Vec Ideal S544x256 .f32) (r : Fin 512)
    (c : Fin 256) : mixOf b w e (ix2 r c) = (b (ix2 0 c) : EReal)
      + ∑ k : Fin 31, (w (ix2 ⟨k.val, by omega⟩ c) : EReal) * e (ix2 ⟨k.val + 2 + r.val, by omega⟩ c) := by
  rw [← addUp_eq]
  pointwise [mixOf, k0_pay4, k0_pay5, k0_pay6, k0_pay7, k0_pay8, k0_pay9]
  rfl

theorem kept_row (z : Vec Ideal S32x256 .f32) (u : Vec Ideal S512x256 .f32) (r : Fin 32) (d : Fin 256) :
    k0_pay10 (View.ld (stack z u) (Rect.unit ![512, 0] ![32, 256] inb_S544x256_S32x256_512_0)) (ix2 r d) =
      u (ix2 ⟨480 + r.val, by omega⟩ d) := by
  pointwise [k0_pay10]
  unfold stack
  rw [dif_pos (by show 32 ≤ 512 + r.val; omega)]
  congr 1
  exact congrArg (fun a => ix2 a d) (Fin.ext (by show 512 + r.val - 32 = 480 + r.val; omega))

theorem gate_apply (x y : Vec Ideal S512x256 .f32) (r : Fin 512) (d : Fin 256) :
    k0_pay3 x y (ix2 r d) = (x (ix2 r d) : EReal) * Cert.Conv.sig (y (ix2 r d)) := by
  pointwise [k0_pay3]
  rfl

theorem norm_apply (z : FVec Ideal S512x256 .f32) (p : Vec Ideal S256x256 .bf16) (g s : Vec Ideal S1x256 .f32)
    (r : Fin 512) (d : Fin 256) : k0_pay11 z p g s (ix2 r d) =
      unitThree (fun k => z (ix2 r k)) (fun k j => p (ix2 k j)) d * (g (ix2 0 d) : EReal) + (s (ix2 0 d) : EReal) := by
  pointwise [k0_pay11]
  rfl

theorem last_apply (z : FVec Ideal S512x256 .f32) (p : Vec Ideal S256x256 .bf16) (g s : Vec Ideal S1x256 .f32)
    (v : Vec Ideal S1x256x256 .bf16) (q : Vec Ideal S1x256 .f32) (r : Fin 512) (j : Fin 256) :
    lastB z p g s v q (ix2 r j) = lastOf g s v q (unitThree (fun k => z (ix2 r k)) fun k j => p (ix2 k j)) j := by
  pointwise [lastB, k0_pay1, k0_pay12, k0_pay13]
  simp only [norm_apply]
  rfl

variable (m : (ℓ : Loc nD τ sig) → Buf (Elt Ideal) ℓ) (c : Dev nD)

/-- A grid point's gated rows. -/
abbrev gateB (t : Fin cfg0.N) : FVec Ideal S512x256 .f32 := k0_pay3 (iblk m c 0 t) (iblk m c 1 t)

/-- The rows kept for a grid point. -/
def keptB (t : Fin cfg0.N) : Vec Ideal S32x256 .f32 :=
  if t.val % 16 = 0 then (k0_pay2 (F := Ideal)) else View.ld (outsAt0 m c (t.val - 1) (Nat.lt_of_le_of_lt (Nat.sub_le _ _) t.isLt)).2.2
    (Rect.unit ![0, 0] ![32, 256] inb_S544x256_S32x256_0_0)

abbrev mixB (t : Fin cfg0.N) : FVec Ideal S512x256 .f32 :=
  mixOf (iblk m c 3 t) (iblk m c 2 t) (stack (keptB m c t) (gateB m c t))

theorem mix_block (t : Fin cfg0.N) : (outsAt0 m c t.val t.isLt).2.1 = mixB m c t := by
  by_cases h : t.val % 16 = 0
  · rw [outsAt0_A m c t h, mixB, keptB, if_pos h]
    frame_out
    simp only [load_both]
    rfl
  · rw [outsAt0_B m c t h, mixB, keptB, if_neg h]
    frame_out
    rw [load_low _ (View.ld (outsAt0 m c (t.val - 1) (Nat.lt_of_le_of_lt (Nat.sub_le _ _) t.isLt)).2.2
      (Rect.unit ![0, 0] ![32, 256] inb_S544x256_S32x256_0_0))]
    simp only [write_stack, read_unread_whole]
    rfl

theorem last_block (t : Fin cfg0.N) : (outsAt0 m c t.val t.isLt).1 =
    lastB (mixB m c t) (iblk m c 6 t) (iblk m c 4 t) (iblk m c 5 t) (iblk m c 7 t) (iblk m c 8 t) := by
  by_cases h : t.val % 16 = 0
  · rw [outsAt0_A m c t h, mixB, keptB, if_pos h]
    frame_out
    simp only [load_both]
    rfl
  · rw [outsAt0_B m c t h, mixB, keptB, if_neg h]
    frame_out
    rw [load_low _ (View.ld (outsAt0 m c (t.val - 1) (Nat.lt_of_le_of_lt (Nat.sub_le _ _) t.isLt)).2.2
      (Rect.unit ![0, 0] ![32, 256] inb_S544x256_S32x256_0_0))]
    simp only [write_stack, read_unread_whole]
    rfl

/-- A grid point keeps its last 32 gated rows. -/
theorem kept_block (t : Fin cfg0.N) (r : Fin 32) (d : Fin 256) :
    (outsAt0 m c t.val t.isLt).2.2 ((Rect.unit (s := S544x256) ![0, 0] ![32, 256] inb_S544x256_S32x256_0_0).emb (ix2 r d)) =
      gateB m c t (ix2 ⟨480 + r.val, by omega⟩ d) := by
  by_cases h : t.val % 16 = 0
  · rw [outsAt0_A m c t h]
    frame_out
    rw [View.canon_cons_emb]
    simp only [load_both]
    exact kept_row _ _ r d
  · rw [outsAt0_B m c t h]
    frame_out
    rw [View.canon_cons_emb, load_last _ (k0_pay2 (F := Ideal))]
    exact kept_row _ _ r d

/-! ## The blocks are rows of the arrays -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)

theorem idx : ∀ t : Fin cfg0.N, win0_0.index t = ![t.val, 1] ∧ win0_1.index t = ![t.val, 2] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![t.val, 0]
    ∧ win0_10.index t = ![t.val, 0] :=
  (by decide +kernel : ∀ t : Fin grid0.N, _)

/-- Row `r` of block `t`. -/
def at16 (t : Fin cfg0.N) (r : Fin 512) : Fin 8192 :=
  ⟨t.val * 512 + r.val, by have : t.val < 16 := lt_of_lt_of_eq t.isLt N_0; omega⟩

/-- The taps the kernel is handed. -/
theorem taps_read (k : Fin 31) (d : Fin 256) :
    (show EReal from V m c main_v0 (ix2 ⟨k.val, by omega⟩ d)) = A1 m c (ix2 k d) := by
  unfold V
  after_reads_at

/-- The floor of an integer quotient, as the host computes it; by 64, of a column, it is the column's group. -/
def groupWord (n w : BitVec 32) : BitVec 32 :=
  Scalar.select
    (IntOp.andi
      (IntOp.cmpi .ne (if n = 0 then 0 else if n.msb = true then -1 else 1 : BitVec 32)
        (if w = 0 then 0 else if w.msb = true then -1 else 1))
      (IntOp.cmpi .ne (IntOp.remsi .host n w) 0#32))
    (IntOp.subi (IntOp.divsi .host n w) 1#32)
    (IntOp.divsi .host n w)

theorem group_word : ∀ k : Fin 256, groupWord (BitVec.ofNat 32 k.val) 64#32 = BitVec.ofNat 32 (head k).val := by
  decide +kernel

theorem same_word : ∀ a b : Fin 4, IntOp.cmpi CmpIPredicate.eq (BitVec.ofNat 32 a.val) (BitVec.ofNat 32 b.val) =
    if a = b then 1#1 else 0#1 := by
  decide

/-- The matrix of means the kernel is handed. -/
theorem means_read (k d : Fin 256) : (show EReal from V m c main_v10 (ix2 k d)) = means k d := by
  unfold V
  after_reads_at
  change (show EReal from FloatOps.uitofp (F := Ideal) .bf16 (IntOp.cmpi .eq (groupWord (BitVec.ofNat 32 k.val) 64#32)
    (groupWord (BitVec.ofNat 32 d.val) 64#32))) * part = means k d
  rw [group_word, group_word, same_word]
  unfold means
  by_cases h : head k = head d
  · rw [if_pos h, if_pos h]
    show (((1#1 : BitVec 1).toNat : ℝ) : EReal) * part = part
    simp
  · rw [if_neg h, if_neg h]
    show (((0#1 : BitVec 1).toNat : ℝ) : EReal) * part = 0
    simp

def vB (t : Fin cfg0.N) (r : Fin 512) (d : Fin 256) : EReal := iblk m c 0 t (ix2 r d)
def gB (t : Fin cfg0.N) (r : Fin 512) (d : Fin 256) : EReal := iblk m c 1 t (ix2 r d)
def wB (t : Fin cfg0.N) (k : Fin 31) (d : Fin 256) : EReal := iblk m c 2 t (ix2 ⟨k.val, by omega⟩ d)
def bB (t : Fin cfg0.N) (d : Fin 256) : EReal := iblk m c 3 t (ix2 0 d)
def pB (t : Fin cfg0.N) (k d : Fin 256) : EReal := iblk m c 6 t (ix2 k d)

theorem vB_at (t : Fin cfg0.N) (r : Fin 512) (d : Fin 256) :
    vB m c t r d = A0 m c (ix2 (at16 t r) ⟨256 + d.val, by omega⟩) := by
  rw [A0, ← V_main_arg0 m c]
  unfold vB
  blk_ext [iblk, idx t, at16]

theorem gB_at (t : Fin cfg0.N) (r : Fin 512) (d : Fin 256) :
    gB m c t r d = A0 m c (ix2 (at16 t r) ⟨512 + d.val, by omega⟩) := by
  rw [A0, ← V_main_arg0 m c]
  unfold gB
  blk_ext [iblk, idx t, at16]

theorem wB_at (t : Fin cfg0.N) (k : Fin 31) (d : Fin 256) : wB m c t k d = A1 m c (ix2 k d) := by
  refine Eq.trans ?_ (taps_read m c k d)
  unfold wB
  blk_ext [iblk, idx t]

theorem bB_at (t : Fin cfg0.N) (d : Fin 256) : bB m c t d = A2 m c (ix2 0 d) := by
  rw [A2, ← V_main_arg2 m c]
  unfold bB
  blk_ext [iblk, idx t]

theorem pB_at (t : Fin cfg0.N) (k d : Fin 256) : pB m c t k d = means k d := by
  refine Eq.trans ?_ (means_read m c k d)
  unfold pB
  blk_ext [iblk, idx t]

theorem scale_at (t : Fin cfg0.N) (d : Fin 256) :
    (show EReal from (iblk m c 4 t : Vec Ideal S1x256 .f32) (ix2 0 d)) = A3 m c (ix2 0 d) := by
  rw [A3, ← V_main_arg3 m c]
  blk_ext [iblk, idx t]

theorem shift_at (t : Fin cfg0.N) (d : Fin 256) :
    (show EReal from (iblk m c 5 t : Vec Ideal S1x256 .f32) (ix2 0 d)) = A4 m c (ix2 0 d) := by
  rw [A4, ← V_main_arg4 m c]
  blk_ext [iblk, idx t]

theorem weight_at (t : Fin cfg0.N) (k j : Fin 256) :
    (show EReal from (iblk m c 7 t : Vec Ideal S1x256x256 .bf16) (ix3 0 k j)) = A5 m c (ix3 0 k j) := by
  rw [A5, ← V_main_arg5 m c]
  blk_ext [iblk, idx t]

theorem bias_at (t : Fin cfg0.N) (j : Fin 256) :
    (show EReal from (iblk m c 8 t : Vec Ideal S1x256 .f32) (ix2 0 j)) = A6 m c (ix2 0 j) := by
  rw [A6, ← V_main_arg6 m c]
  blk_ext [iblk, idx t]

theorem gate_at (t : Fin cfg0.N) (r : Fin 512) (d : Fin 256) :
    gateB m c t (ix2 r d) = gated (A0 m c) (at16 t r) d := by
  refine (gate_apply _ _ r d).trans ?_
  unfold gated
  rw [← vB_at, ← gB_at]
  rfl

/-- What tap `k` reads for row `r` of a block. -/
theorem stack_at (t : Fin cfg0.N) (k : Fin 31) (r : Fin 512) (d : Fin 256) :
    stack (keptB m c t) (gateB m c t) (ix2 ⟨k.val + 2 + r.val, by omega⟩ d) =
      past (fun i => gated (A0 m c) i d) (at16 t r) k := by
  have ht : t.val < 16 := lt_of_lt_of_eq t.isLt N_0
  unfold stack past
  by_cases h : 32 ≤ k.val + 2 + r.val
  · rw [dif_pos (by exact h), dif_pos (by show 30 ≤ k.val + (t.val * 512 + r.val); omega)]
    refine (gate_at m c t _ d).trans (congrArg (fun i => gated (A0 m c) i d) (Fin.ext ?_))
    show t.val * 512 + (k.val + 2 + r.val - 32) = k.val + (t.val * 512 + r.val) - 30
    omega
  · rw [dif_neg (by exact h)]
    unfold keptB
    by_cases h0 : t.val % 16 = 0
    · rw [if_pos h0, dif_neg (by show ¬30 ≤ k.val + (t.val * 512 + r.val); omega)]
      pointwise [k0_pay2]
    · rw [if_neg h0, dif_pos (by show 30 ≤ k.val + (t.val * 512 + r.val); omega)]
      refine (kept_block m c ⟨t.val - 1, by omega⟩ ⟨k.val + 2 + r.val, by omega⟩ d).trans
        ((gate_at m c _ _ d).trans (congrArg (fun i => gated (A0 m c) i d) (Fin.ext ?_)))
      show (t.val - 1) * 512 + (480 + (k.val + 2 + r.val)) = k.val + (t.val * 512 + r.val) - 30
      omega

theorem mix_at (t : Fin cfg0.N) (r : Fin 512) (d : Fin 256) :
    mixB m c t (ix2 r d) = rows (A0 m c) (A1 m c) (A2 m c) (at16 t r) d := by
  refine (mixOf_apply _ _ _ r d).trans ?_
  simp only [stack_at]
  unfold rows conv
  simp only [← wB_at m c t, ← bB_at m c t]
  rfl

/-! ## The two results -/

theorem conv_eq : (dats m 0 c).arrAt 10 cfg0.N = resH (A0 m c) (A1 m c) (A2 m c) := by
  refine (dats m 0 c).arrAt_eq_of_covers 10 _ (by decide +kernel) fun t hf y => ?_
  blk_simp
  rw [after0_10, mix_block]
  have e0 : (win0_10.blk t).view.emb y 0 = at16 t (y 0) := Fin.ext (by blk_simp [idx t, at16])
  have e1 : (win0_10.blk t).view.emb y 1 = y 1 := Fin.ext (by blk_simp [idx t])
  have ey : y = ix2 (y 0) (y 1) := by funext a; match a with | 0 => rfl | 1 => rfl
  unfold resH
  rw [e0, e1]
  exact (congrArg _ ey).trans (mix_at m c t (y 0) (y 1))

/-- The convolution's weights, its bias and the values before the gate are real. -/
structure Given : Prop where
  x : ∀ (t : Fin 8192) (k : Fin 256), IsReal (A0 m c (ix2 t ⟨256 + k.val, by omega⟩))
  w : ∀ (k : Fin 31) (d : Fin 256), IsReal (A1 m c (ix2 k d))
  b : ∀ d : Fin 256, IsReal (A2 m c (ix2 0 d))

theorem last_at (H : Given m c) (t : Fin cfg0.N) (r : Fin 512) (j : Fin 256) :
    lastB (mixB m c t) (iblk m c 6 t) (iblk m c 4 t) (iblk m c 5 t) (iblk m c 7 t) (iblk m c 8 t) (ix2 r j) =
      lastOf (A3 m c) (A4 m c) (A5 m c) (A6 m c) (unit (rows (A0 m c) (A1 m c) (A2 m c) (at16 t r))) j := by
  refine (last_apply _ _ _ _ _ _ r j).trans ?_
  have ex : (fun k => mixB m c t (ix2 r k)) = rows (A0 m c) (A1 m c) (A2 m c) (at16 t r) := funext fun k => mix_at m c t r k
  have ep : (fun k j => pB m c t k j) = means := funext fun k => funext fun j => pB_at m c t k j
  have eu : unitThree (fun k => mixB m c t (ix2 r k)) (fun k j => pB m c t k j) =
      unit (rows (A0 m c) (A1 m c) (A2 m c) (at16 t r)) := by
    rw [ex, ep]
    exact funext fun k => unitThree_eq _ (rows_real _ _ _ H.x H.w H.b _) k
  refine (congrArg (fun u => lastOf _ _ _ _ u j) eu).trans ?_
  unfold lastOf actOf
  simp only [scale_at, shift_at, weight_at, bias_at]

theorem branch_eq (H : Given m c) : (dats m 0 c).arrAt 9 cfg0.N =
    resY (A0 m c) (A1 m c) (A2 m c) (A3 m c) (A4 m c) (A5 m c) (A6 m c) := by
  refine (dats m 0 c).arrAt_eq_of_covers 9 _ (by decide +kernel) fun t hf y => ?_
  blk_simp
  rw [after0_9, last_block]
  have e0 : (win0_9.blk t).view.emb y 0 = at16 t (y 0) := Fin.ext (by blk_simp [idx t, at16])
  have e1 : (win0_9.blk t).view.emb y 1 = y 1 := Fin.ext (by blk_simp [idx t])
  have ey : y = ix2 (y 0) (y 1) := by funext a; match a with | 0 => rfl | 1 => rfl
  unfold resY
  rw [e0, e1]
  exact (congrArg _ ey).trans (last_at m c H t (y 0) (y 1))

end Cert.CvFwdIdeal.Fwd

end
-- ==== Proof.CvFwdRef.lean ====
/-
  The reference of the gated convolution branch, over extended reals: its stages at an index, and its results.
-/
module

public import proofs.«01_k».proof.Proof.Gen.CvFwdRefIdeal.Read
public import proofs.«01_k».proof.Proof.Conv
public import Idealize.ShloMosaic.Lib.Pipeline.ValueKit

@[expose] public section

noncomputable section

namespace Cert.CvFwdRefIdeal.Fwd

open Cert.CvFwdRefIdeal Cert.CvFwdRefIdeal.Gen Cert.CvFwdRefIdeal.Read Idealize.ShloMosaic
open Idealize.ShloMosaic.TcCoe Idealize.ShloMosaic.Tactic Idealize.SL.Sem Cert.Heads Cert.Conv

variable (x : Vec Ideal S8192x1536 .f32) (w : Vec Ideal S31x256 .f32) (b g s : Vec Ideal S1x256 .f32)
  (p : Vec Ideal S1x256x256 .bf16) (q : Vec Ideal S1x256 .f32)

theorem one_eq : Ideal.ofBits .f32 0x3F800000#32 = 1 := by
  simp [Ideal.ofBits, Ideal.ieee]; rw [← EReal.coe_mul]; norm_num

theorem gated_at (t : Fin 8192) (c : Fin 256) : val_main_v8 (F := Ideal) x (ix2 t c) = gated x t c := by
  pointwise [val_main_v8, val_main_v7, val_main_v6, val_main_cst_0, val_main_v5, val_main_v4, val_main_cst, val_main_v3,
    val_main_v2, val_main_v1, val_main_v0]
  unfold gated Cert.Conv.sig
  rw [zero_sub]

/-- The gated rows below thirty rows of zeros. -/
theorem window_at (r : Fin 8222) (c : Fin 256) :
    val_main_v10 (F := Ideal) x (ix2 r c) = if h : 30 ≤ r.val then gated x ⟨r.val - 30, by omega⟩ c else 0 := by
  by_cases h : 30 ≤ r.val
  · rw [dif_pos h, ← gated_at]
    pointwise [val_main_v10]
    exact dif_neg (not_lt.mpr h)
  · rw [dif_neg h]
    pointwise [val_main_v10, val_main_v9, val_main_cst_1]
    exact dif_pos (not_le.mp h)

theorem taps_at (t : Fin 8192) (c : Fin 256) :
    val_main_v164 (F := Ideal) x w (ix2 t c)
      = addUp 30 (past (fun t => gated x t c) t 0 * (show EReal from w (ix2 0 c)))
        fun k => past (fun t => gated x t c) t k.succ * (show EReal from w (ix2 k.succ c)) := by
  pointwise [
    val_main_v164, val_main_v163, val_main_v162, val_main_v161, val_main_v160, val_main_v159, val_main_v158,
    val_main_v157, val_main_v156, val_main_v155, val_main_v154, val_main_v153, val_main_v152, val_main_v151,
    val_main_v150, val_main_v149, val_main_v148, val_main_v147, val_main_v146, val_main_v145, val_main_v144,
    val_main_v143, val_main_v142, val_main_v141, val_main_v140, val_main_v139, val_main_v138, val_main_v137,
    val_main_v136, val_main_v135, val_main_v134, val_main_v133, val_main_v132, val_main_v131, val_main_v130,
    val_main_v129, val_main_v128, val_main_v127, val_main_v126, val_main_v125, val_main_v124, val_main_v123,
    val_main_v122, val_main_v121, val_main_v120, val_main_v119, val_main_v118, val_main_v117, val_main_v116,
    val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_v98, val_main_v97, val_main_v96, val_main_v95,
    val_main_v94, val_main_v93, val_main_v92, val_main_v91, val_main_v90, val_main_v89, val_main_v88, val_main_v87,
    val_main_v86, val_main_v85, val_main_v84, val_main_v83, val_main_v82, val_main_v81, val_main_v80, val_main_v79,
    val_main_v78, val_main_v77, val_main_v76, val_main_v75, val_main_v74, val_main_v73, val_main_v72, val_main_v71,
    val_main_v70, val_main_v69, val_main_v68, val_main_v67, val_main_v66, val_main_v65, val_main_v64, val_main_v63,
    val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11]
  simp only [window_at]
  rw [past_zero]
  rfl

theorem rows_at (t : Fin 8192) (c : Fin 256) : val_main_v166 (F := Ideal) x w b (ix2 t c) = rows x w b t c := by
  pointwise [val_main_v166, val_main_v165]
  rw [taps_at, addUp_eq, rows, conv_taps, Fin.sum_univ_succ]
  rfl

theorem group_at (t : Fin 8192) (h : Fin 4) (d : Fin 64) :
    val_main_v167 (F := Ideal) x w b (ix3 t h d) = rows x w b t (col h d) := by
  rw [← rows_at]
  pointwise [val_main_v167]
  rfl

theorem avg_at (t : Fin 8192) (h : Fin 4) :
    val_main_v171 (F := Ideal) x w b (ix3 t h 0) = avg (rows x w b t) h := by
  pointwise [val_main_v171, val_main_v170, val_main_cst_3, val_main_v169, val_main_v168, val_main_cst_2]
  simp only [group_at]
  rfl

theorem cent_at (t : Fin 8192) (h : Fin 4) (d : Fin 64) :
    val_main_v173 (F := Ideal) x w b (ix3 t h d) = cent (rows x w b t) (col h d) := by
  pointwise [val_main_v173, val_main_v172]
  rw [group_at, avg_at, cent, head_col]

theorem cent_at' (t : Fin 8192) (h : Fin 4) (d : Fin 64) :
    val_main_v180 (F := Ideal) x w b (ix3 t h d) = cent (rows x w b t) (col h d) := by
  pointwise [val_main_v180, val_main_v179]
  rw [group_at, avg_at, cent, head_col]

theorem spread_at (t : Fin 8192) (h : Fin 4) :
    val_main_v182 (F := Ideal) x w b (ix3 t h 0) = spread (rows x w b t) h := by
  pointwise [val_main_v182, val_main_v181, val_main_cst_6, val_main_v178, val_main_v177, val_main_cst_5, val_main_v176,
    val_main_v175, val_main_cst_4, val_main_v174]
  simp only [cent_at]
  rfl

theorem norm_at (t : Fin 8192) (h : Fin 4) (d : Fin 64) :
    val_main_v185 (F := Ideal) x w b (ix3 t h d) = unit (rows x w b t) (col h d) := by
  pointwise [val_main_v185, val_main_v184, val_main_v183]
  rw [cent_at', spread_at, unit, head_col]

theorem unit_at (t : Fin 8192) (c : Fin 256) : val_main_v186 (F := Ideal) x w b (ix2 t c) = unit (rows x w b t) c := by
  have e : val_main_v186 (F := Ideal) x w b (ix2 t c) = val_main_v185 (F := Ideal) x w b (ix3 t (head c) (within c)) := by
    pointwise [val_main_v186]
    rfl
  rw [e, norm_at, col_head]

theorem act_at (t : Fin 8192) (c : Fin 256) :
    val_main_v191 (F := Ideal) x w b g s (ix2 t c) = actOf g s (unit (rows x w b t)) c := by
  pointwise [val_main_v191, val_main_call0_v5, val_main_call0_v4, val_main_call0_cst_0, val_main_call0_v3,
    val_main_call0_v2, val_main_call0_cst, val_main_call0_v1, val_main_call0_v0, val_main_v190, val_main_v189,
    val_main_v188, val_main_v187]
  rw [unit_at]
  unfold actOf Cert.Conv.sig
  rw [zero_sub]

theorem out_at (t : Fin 8192) (j : Fin 256) :
    val_main_v197 (F := Ideal) x w b g s p q (ix2 t j) = lastOf g s p q (unit (rows x w b t)) j := by
  pointwise [val_main_v197, val_main_v196, val_main_v195, val_main_v194, val_main_v193, val_main_v192]
  simp only [act_at]
  rfl

theorem out_eq : val_main_v197 (F := Ideal) x w b g s p q = resY x w b g s p q := by
  funext i
  have ei : i = ix2 (i 0) (i 1) := by funext a; match a with | 0 => rfl | 1 => rfl
  exact (congrArg _ ei).trans (out_at x w b g s p q (i 0) (i 1))

theorem rows_eq : val_main_v166 (F := Ideal) x w b = resH x w b := by
  funext i
  have ei : i = ix2 (i 0) (i 1) := by funext a; match a with | 0 => rfl | 1 => rfl
  exact (congrArg _ ei).trans (rows_at x w b (i 0) (i 1))

end Cert.CvFwdRefIdeal.Fwd

end
-- ==== Proof.CvFwdPre.lean ====
/-
  The precondition of the convolution branch's forward call read: the convolution's operands are real.
-/
module

public import proofs.«01_k».proof.Pre_finite_cv_fwd
public import proofs.«01_k».proof.Proof.Conv
public import Idealize.ShloMosaic.Lib.ReduceAll
public import Idealize.ShloMosaic.Lib.Decide

@[expose] public section

noncomputable section

namespace Cert.CvFwdPre

open Idealize.ShloMosaic Cert.Pre_finite_cv_fwd Cert.Finite

instance facts : Cert.Pre_finite_cv_fwd.Facts where
  slices_S8192x1536_S8192x256_0_256 := by decide
  bcast_S_S8192x256 := by decide
  reducesTo_S8192x256_S_d0_1 := by decide
  h_S_ := by decide
  bcast_S_S31x256 := by decide
  reducesTo_S31x256_S_d0_1 := by decide
  bcast_S_S1x256 := by decide
  reducesTo_S1x256_S_d0_1 := by decide

variable (x0 : Vec Ideal S8192x1536 .f32) (x1 : Vec Ideal S31x256 .f32) (x2 x3 x4 : Vec Ideal S1x256 .f32)
  (x5 : Vec Ideal S1x256x256 .bf16) (x6 : Vec Ideal S1x256 .f32)

theorem parts (h : fn (F := Ideal) x0 x1 x2 x3 x4 x5 x6 = fun _ => 1#1) :
    (∀ (t : Fin 8192) (d : Fin 256), IsReal (x0 (ix2 t ⟨256 + d.val, by omega⟩))) ∧
      (∀ (k : Fin 31) (d : Fin 256), IsReal (x1 (ix2 k d))) ∧ ∀ d : Fin 256, IsReal (x2 (ix2 0 d)) := by
  have h0 := congrFun h (fun a => a.elim0)
  obtain ⟨h1, h3⟩ := and_one h0
  obtain ⟨h1, h2⟩ := and_one h1
  haveI : Subsingleton S_.Idx := ⟨fun a b => funext fun i => i.elim0⟩
  refine ⟨fun t d => ?_, fun k d => real_of_lt _ _ rfl (Host.reduce_andi_all _ _ _ _ _ h2 (ix2 k d)),
    fun d => real_of_lt _ _ rfl (Host.reduce_andi_all _ _ _ _ _ h3 (ix2 0 d))⟩
  have e := real_of_lt _ _ rfl (Host.reduce_andi_all _ _ _ _ _ h1 (ix2 t d))
  have ei : extractStridedSlice S8192x256 ![0, 256] x0 facts.slices_S8192x1536_S8192x256_0_256 (ix2 t d) =
      x0 (ix2 t ⟨256 + d.val, by omega⟩) := by
    pointwise []
  exact ei ▸ e

end Cert.CvFwdPre

end
-- ==== Proof.CvFwdClaims.lean ====
/-
  The claims of the convolution branch's forward call.
-/
module

public import proofs.«01_k».proof.Defs
public import proofs.«01_k».proof.Proof.Gen.CvFwd.Frame
public import proofs.«01_k».proof.Proof.Gen.CvFwdRefIdeal.Run
public import proofs.«01_k».proof.Proof.CvFwdRun
public import proofs.«01_k».proof.Proof.CvFwdRef
public import proofs.«01_k».proof.Proof.CvFwdPre
public import Idealize.ShloMosaic.Lib.Claim
public import Idealize.ShloMosaic.Lib.Quiescent

@[expose] public section

noncomputable section

namespace Cert.Proof.CvFwd

open Idealize.ShloMosaic Idealize.ShloMosaic.TcCoe Idealize.SL.Sem Cert.CvFwdIdeal.Fwd Cert.CvFwdRefIdeal.Fwd

theorem frame_kernel : Cert.quiescent_CvFwd := fun m ρ _ => Cert.CvFwd.Gen.frame m ρ

theorem frame_ideal : Cert.quiescent_CvFwdIdeal := fun m ρ _ => Cert.CvFwdIdeal.Gen.frame m ρ

theorem frame_ideal_pre : Cert.quiescent_CvFwdIdeal_pre_finite_cv_fwd := fun m ρ _ => Cert.CvFwdIdeal.Gen.frame m ρ

theorem frame_reference : Cert.quiescent_CvFwdRefIdeal := fun m ρ _ =>
  (θ_run Cert.CvFwdRefIdeal.defs _ _).mono
    (fun r h => ⟨fun c => (h c).2.2, Idealize.ShloMosaic.sem_eq_zero_of_no_sems (by decide) r.2⟩)
    (Cert.CvFwdRefIdeal.Value.run (F := Ideal) m ρ)

theorem frame_reference_pre : Cert.quiescent_CvFwdRefIdeal_pre_finite_cv_fwd := fun m ρ _ => frame_reference m ρ trivial

theorem algebraic : Cert.algebraic_CvFwdIdeal_CvFwdRefIdeal_pre_finite_cv_fwd := by
  intro m ρ m' ρ' hpre hag
  have hr := Cert.CvFwdRefIdeal.Value.run (F := Ideal) m' ρ'
  refine ⟨fun c => Cert.Conv.resY (A0 m c) (A1 m c) (A2 m c) (A3 m c) (A4 m c) (A5 m c) (A6 m c),
    fun c => Cert.Conv.resH (A0 m c) (A1 m c) (A2 m c), ?_, ?_⟩
  · refine (θ_run _ _ _).mono (fun r h c => ?_) (Cert.CvFwdIdeal.Value.run_blocks (F := Ideal) m ρ)
    obtain ⟨h0, h1, h2⟩ := h c
    obtain ⟨p0, p1, p2⟩ := Cert.CvFwdPre.parts _ _ _ _ _ _ _ (hpre c)
    exact ⟨h0.trans (branch_eq m c ⟨p0, p1, p2⟩), h1.trans (conv_eq m c), h2⟩
  · refine (θ_run _ _ _).mono (fun r h c => ?_) hr
    obtain ⟨h0, h1, h2⟩ := h c
    obtain ⟨a0, a1, a2, a3, a4, a5, a6⟩ := hag c
    refine ⟨(h0.trans (Cert.CvFwdRefIdeal.Read.val_main_v197_eq _)).trans ?_,
      (h1.trans (Cert.CvFwdRefIdeal.Read.val_main_v166_eq _)).trans ?_, h2⟩
    · rw [out_eq]
      exact congr (congr (congr (congr (congr (congr (congrArg Cert.Conv.resY a0) a1) a2) a3) a4) a5) a6
    · rw [rows_eq]
      exact congr (congr (congrArg Cert.Conv.resH a0) a1) a2

end Cert.Proof.CvFwd

end
-- ==== Proof.Adam.lean ====
/-
  One step of AdamW for one weight, over extended reals, with the step's constants as both programs carry them.
-/
module

public import Idealize.ShloMosaic.PureOps.Ideal
public import Idealize.ShloMosaic.Lib.Pointwise

@[expose] public section

noncomputable section

namespace Cert.Adam

open Idealize.ShloMosaic

/-- The new first moment of a gradient `g`. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight `w`: the corrected first moment over the root of the corrected second, and the decay. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

variable {s : Shape} (w g m v : Vec Ideal s .f32)

def resFirst : Vec Ideal s .f32 := fun i => first (g i) (m i)

def resSecond : Vec Ideal s .f32 := fun i => second (g i) (v i)

def resChange : Vec Ideal s .f32 := fun i => change (w i) (g i) (m i) (v i)

end Cert.Adam

end
-- ==== Proof.AdamInRun.lean ====
/-
  The AdamW step of the input projection over its whole grid, over extended reals: 4 blocks of 512 rows.
-/
module

public import proofs.«01_k».proof.Proof.Gen.AdamInIdeal.Value
public import proofs.«01_k».proof.Proof.Adam
public import Idealize.ShloMosaic.Lib.Pipeline.ValueKit

@[expose] public section

noncomputable section

namespace Cert.AdamInIdeal.Fwd

open Cert.AdamInIdeal Cert.AdamInIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 512) : Fin 2048 :=
  ⟨t.val * 512 + r.val, by have : t.val < 4 := lt_of_lt_of_eq t.isLt N_0; omega⟩

def weightB (t : Fin cfg0.N) (r : Fin 512) (n : Fin 384) : EReal := iblk m c 0 t (ix2 r n)
def gradB (t : Fin cfg0.N) (r : Fin 512) (n : Fin 384) : EReal := iblk m c 1 t (ix2 r n)
def firstB (t : Fin cfg0.N) (r : Fin 512) (n : Fin 384) : EReal := iblk m c 2 t (ix2 r n)
def secondB (t : Fin cfg0.N) (r : Fin 512) (n : Fin 384) : EReal := iblk m c 3 t (ix2 r n)

theorem weightB_eq (t : Fin cfg0.N) (r : Fin 512) (n : Fin 384) : weightB m c t r n = A0 m c (ix2 (rowAt t r) n) := by
  unfold weightB A0
  blk_ext [iblk, V, idx t, rowAt]

theorem gradB_eq (t : Fin cfg0.N) (r : Fin 512) (n : Fin 384) : gradB m c t r n = A1 m c (ix2 (rowAt t r) n) := by
  unfold gradB A1
  blk_ext [iblk, V, idx t, rowAt]

theorem firstB_eq (t : Fin cfg0.N) (r : Fin 512) (n : Fin 384) : firstB m c t r n = A2 m c (ix2 (rowAt t r) n) := by
  unfold firstB A2
  blk_ext [iblk, V, idx t, rowAt]

theorem secondB_eq (t : Fin cfg0.N) (r : Fin 512) (n : Fin 384) : secondB m c t r n = A3 m c (ix2 (rowAt t r) n) := by
  unfold secondB A3
  blk_ext [iblk, V, idx t, rowAt]

theorem first_at (t : Fin cfg0.N) (r : Fin 512) (n : Fin 384) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 512) (n : Fin 384) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 512) (n : Fin 384) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamInIdeal.Fwd

end
-- ==== Proof.AdamInClaims.lean ====
/-
  The claims of the AdamW step of the input projection.
-/
module

public import proofs.«01_k».proof.Defs
public import proofs.«01_k».proof.Proof.Gen.AdamIn.Frame
public import proofs.«01_k».proof.Proof.Gen.AdamInRefIdeal.Read
public import proofs.«01_k».proof.Proof.AdamInRun
public import Idealize.ShloMosaic.Lib.Claim
public import Idealize.ShloMosaic.Lib.Quiescent

@[expose] public section

noncomputable section

namespace Cert.AdamInRefIdeal.Fwd

open Cert.AdamInRefIdeal Cert.AdamInRefIdeal.Gen Cert.AdamInRefIdeal.Read Idealize.ShloMosaic
open Idealize.ShloMosaic.TcCoe Idealize.ShloMosaic.Tactic Idealize.SL.Sem Cert.Adam

variable (x0 x1 x2 x3 : Vec Ideal S2048x384 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamInRefIdeal.Fwd

namespace Cert.Proof.AdamIn

open Idealize.ShloMosaic Idealize.ShloMosaic.TcCoe Idealize.SL.Sem Cert.AdamInIdeal.Fwd

theorem frame_kernel : Cert.quiescent_AdamIn := fun m ρ _ => Cert.AdamIn.Gen.frame m ρ

theorem frame_ideal : Cert.quiescent_AdamInIdeal := fun m ρ _ => Cert.AdamInIdeal.Gen.frame m ρ

theorem frame_reference : Cert.quiescent_AdamInRefIdeal := fun m ρ _ =>
  (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

theorem algebraic : Cert.algebraic_AdamInIdeal_AdamInRefIdeal := by
  intro m ρ m' ρ' _ hag
  have hr := Cert.AdamInRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamInIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamInRefIdeal.Read.val_main_v23_eq, a0, a1, a2, a3, Cert.AdamInRefIdeal.Fwd.change_eq] at h0
    rw [Cert.AdamInRefIdeal.Read.val_main_v4_eq, a1, a2, Cert.AdamInRefIdeal.Fwd.first_eq] at h1
    rw [Cert.AdamInRefIdeal.Read.val_main_v10_eq, a1, a3, Cert.AdamInRefIdeal.Fwd.second_eq] at h2
    exact ⟨h0, h1, h2, h3.trans a1, h4⟩

end Cert.Proof.AdamIn

end
-- ==== Proof.AdamKvRun.lean ====
/-
  The AdamW step of the keys' and values' projection over its whole grid, over extended reals: 1 block of 512 rows.
-/
module

public import proofs.«01_k».proof.Proof.Gen.AdamKvIdeal.Value
public import proofs.«01_k».proof.Proof.Adam
public import Idealize.ShloMosaic.Lib.Pipeline.ValueKit

@[expose] public section

noncomputable section

namespace Cert.AdamKvIdeal.Fwd

open Cert.AdamKvIdeal Cert.AdamKvIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 512) : Fin 512 :=
  ⟨t.val * 512 + r.val, by have : t.val < 1 := lt_of_lt_of_eq t.isLt N_0; omega⟩

def weightB (t : Fin cfg0.N) (r : Fin 512) (n : Fin 512) : EReal := iblk m c 0 t (ix2 r n)
def gradB (t : Fin cfg0.N) (r : Fin 512) (n : Fin 512) : EReal := iblk m c 1 t (ix2 r n)
def firstB (t : Fin cfg0.N) (r : Fin 512) (n : Fin 512) : EReal := iblk m c 2 t (ix2 r n)
def secondB (t : Fin cfg0.N) (r : Fin 512) (n : Fin 512) : EReal := iblk m c 3 t (ix2 r n)

theorem weightB_eq (t : Fin cfg0.N) (r : Fin 512) (n : Fin 512) : weightB m c t r n = A0 m c (ix2 (rowAt t r) n) := by
  unfold weightB A0
  blk_ext [iblk, V, idx t, rowAt]

theorem gradB_eq (t : Fin cfg0.N) (r : Fin 512) (n : Fin 512) : gradB m c t r n = A1 m c (ix2 (rowAt t r) n) := by
  unfold gradB A1
  blk_ext [iblk, V, idx t, rowAt]

theorem firstB_eq (t : Fin cfg0.N) (r : Fin 512) (n : Fin 512) : firstB m c t r n = A2 m c (ix2 (rowAt t r) n) := by
  unfold firstB A2
  blk_ext [iblk, V, idx t, rowAt]

theorem secondB_eq (t : Fin cfg0.N) (r : Fin 512) (n : Fin 512) : secondB m c t r n = A3 m c (ix2 (rowAt t r) n) := by
  unfold secondB A3
  blk_ext [iblk, V, idx t, rowAt]

theorem first_at (t : Fin cfg0.N) (r : Fin 512) (n : Fin 512) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 512) (n : Fin 512) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 512) (n : Fin 512) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamKvIdeal.Fwd

end
-- ==== Proof.AdamKvClaims.lean ====
/-
  The claims of the AdamW step of the keys' and values' projection.
-/
module

public import proofs.«01_k».proof.Defs
public import proofs.«01_k».proof.Proof.Gen.AdamKv.Frame
public import proofs.«01_k».proof.Proof.Gen.AdamKvRefIdeal.Read
public import proofs.«01_k».proof.Proof.AdamKvRun
public import Idealize.ShloMosaic.Lib.Claim
public import Idealize.ShloMosaic.Lib.Quiescent

@[expose] public section

noncomputable section

namespace Cert.AdamKvRefIdeal.Fwd

open Cert.AdamKvRefIdeal Cert.AdamKvRefIdeal.Gen Cert.AdamKvRefIdeal.Read Idealize.ShloMosaic
open Idealize.ShloMosaic.TcCoe Idealize.ShloMosaic.Tactic Idealize.SL.Sem Cert.Adam

variable (x0 x1 x2 x3 : Vec Ideal S512x512 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamKvRefIdeal.Fwd

namespace Cert.Proof.AdamKv

open Idealize.ShloMosaic Idealize.ShloMosaic.TcCoe Idealize.SL.Sem Cert.AdamKvIdeal.Fwd

theorem frame_kernel : Cert.quiescent_AdamKv := fun m ρ _ => Cert.AdamKv.Gen.frame m ρ

theorem frame_ideal : Cert.quiescent_AdamKvIdeal := fun m ρ _ => Cert.AdamKvIdeal.Gen.frame m ρ

theorem frame_reference : Cert.quiescent_AdamKvRefIdeal := fun m ρ _ =>
  (θ_run Cert.AdamKvRefIdeal.defs _ _).mono
    (fun r h => ⟨fun c => (h c).2.2.2.2, Idealize.ShloMosaic.sem_eq_zero_of_no_sems (by decide) r.2⟩)
    (Cert.AdamKvRefIdeal.Value.run (F := Ideal) m ρ)

theorem algebraic : Cert.algebraic_AdamKvIdeal_AdamKvRefIdeal := by
  intro m ρ m' ρ' _ hag
  have hr := Cert.AdamKvRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamKvIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamKvRefIdeal.Read.val_main_v23_eq, a0, a1, a2, a3, Cert.AdamKvRefIdeal.Fwd.change_eq] at h0
    rw [Cert.AdamKvRefIdeal.Read.val_main_v4_eq, a1, a2, Cert.AdamKvRefIdeal.Fwd.first_eq] at h1
    rw [Cert.AdamKvRefIdeal.Read.val_main_v10_eq, a1, a3, Cert.AdamKvRefIdeal.Fwd.second_eq] at h2
    exact ⟨h0, h1, h2, h3.trans a1, h4⟩

end Cert.Proof.AdamKv

end
-- ==== Proof.AdamOutRun.lean ====
/-
  The AdamW step of the output projection over its whole grid, over extended reals: 2 blocks of 256 rows.
-/
module

public import proofs.«01_k».proof.Proof.Gen.AdamOutIdeal.Value
public import proofs.«01_k».proof.Proof.Adam
public import Idealize.ShloMosaic.Lib.Pipeline.ValueKit

@[expose] public section

noncomputable section

namespace Cert.AdamOutIdeal.Fwd

open Cert.AdamOutIdeal Cert.AdamOutIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 256) : Fin 512 :=
  ⟨t.val * 256 + r.val, by have : t.val < 2 := lt_of_lt_of_eq t.isLt N_0; omega⟩

def weightB (t : Fin cfg0.N) (r : Fin 256) (n : Fin 1024) : EReal := iblk m c 0 t (ix2 r n)
def gradB (t : Fin cfg0.N) (r : Fin 256) (n : Fin 1024) : EReal := iblk m c 1 t (ix2 r n)
def firstB (t : Fin cfg0.N) (r : Fin 256) (n : Fin 1024) : EReal := iblk m c 2 t (ix2 r n)
def secondB (t : Fin cfg0.N) (r : Fin 256) (n : Fin 1024) : EReal := iblk m c 3 t (ix2 r n)

theorem weightB_eq (t : Fin cfg0.N) (r : Fin 256) (n : Fin 1024) : weightB m c t r n = A0 m c (ix2 (rowAt t r) n) := by
  unfold weightB A0
  blk_ext [iblk, V, idx t, rowAt]

theorem gradB_eq (t : Fin cfg0.N) (r : Fin 256) (n : Fin 1024) : gradB m c t r n = A1 m c (ix2 (rowAt t r) n) := by
  unfold gradB A1
  blk_ext [iblk, V, idx t, rowAt]

theorem firstB_eq (t : Fin cfg0.N) (r : Fin 256) (n : Fin 1024) : firstB m c t r n = A2 m c (ix2 (rowAt t r) n) := by
  unfold firstB A2
  blk_ext [iblk, V, idx t, rowAt]

theorem secondB_eq (t : Fin cfg0.N) (r : Fin 256) (n : Fin 1024) : secondB m c t r n = A3 m c (ix2 (rowAt t r) n) := by
  unfold secondB A3
  blk_ext [iblk, V, idx t, rowAt]

theorem first_at (t : Fin cfg0.N) (r : Fin 256) (n : Fin 1024) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 256) (n : Fin 1024) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 256) (n : Fin 1024) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamOutIdeal.Fwd

end
-- ==== Proof.AdamOutClaims.lean ====
/-
  The claims of the AdamW step of the output projection.
-/
module

public import proofs.«01_k».proof.Defs
public import proofs.«01_k».proof.Proof.Gen.AdamOut.Frame
public import proofs.«01_k».proof.Proof.Gen.AdamOutRefIdeal.Read
public import proofs.«01_k».proof.Proof.AdamOutRun
public import Idealize.ShloMosaic.Lib.Claim
public import Idealize.ShloMosaic.Lib.Quiescent

@[expose] public section

noncomputable section

namespace Cert.AdamOutRefIdeal.Fwd

open Cert.AdamOutRefIdeal Cert.AdamOutRefIdeal.Gen Cert.AdamOutRefIdeal.Read Idealize.ShloMosaic
open Idealize.ShloMosaic.TcCoe Idealize.ShloMosaic.Tactic Idealize.SL.Sem Cert.Adam

variable (x0 x1 x2 x3 : Vec Ideal S512x1024 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamOutRefIdeal.Fwd

namespace Cert.Proof.AdamOut

open Idealize.ShloMosaic Idealize.ShloMosaic.TcCoe Idealize.SL.Sem Cert.AdamOutIdeal.Fwd

theorem frame_kernel : Cert.quiescent_AdamOut := fun m ρ _ => Cert.AdamOut.Gen.frame m ρ

theorem frame_ideal : Cert.quiescent_AdamOutIdeal := fun m ρ _ => Cert.AdamOutIdeal.Gen.frame m ρ

theorem frame_reference : Cert.quiescent_AdamOutRefIdeal := fun m ρ _ =>
  (θ_run Cert.AdamOutRefIdeal.defs _ _).mono
    (fun r h => ⟨fun c => (h c).2.2.2.2, Idealize.ShloMosaic.sem_eq_zero_of_no_sems (by decide) r.2⟩)
    (Cert.AdamOutRefIdeal.Value.run (F := Ideal) m ρ)

theorem algebraic : Cert.algebraic_AdamOutIdeal_AdamOutRefIdeal := by
  intro m ρ m' ρ' _ hag
  have hr := Cert.AdamOutRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamOutIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamOutRefIdeal.Read.val_main_v23_eq, a0, a1, a2, a3, Cert.AdamOutRefIdeal.Fwd.change_eq] at h0
    rw [Cert.AdamOutRefIdeal.Read.val_main_v4_eq, a1, a2, Cert.AdamOutRefIdeal.Fwd.first_eq] at h1
    rw [Cert.AdamOutRefIdeal.Read.val_main_v10_eq, a1, a3, Cert.AdamOutRefIdeal.Fwd.second_eq] at h2
    exact ⟨h0, h1, h2, h3.trans a1, h4⟩

end Cert.Proof.AdamOut

end
-- ==== Proof.AdamUpRun.lean ====
/-
  The AdamW step of the up projection over its whole grid, over extended reals: 16 blocks of 128 rows.
-/
module

public import proofs.«01_k».proof.Proof.Gen.AdamUpIdeal.Value
public import proofs.«01_k».proof.Proof.Adam
public import Idealize.ShloMosaic.Lib.Pipeline.ValueKit

@[expose] public section

noncomputable section

namespace Cert.AdamUpIdeal.Fwd

open Cert.AdamUpIdeal Cert.AdamUpIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 128) : Fin 2048 :=
  ⟨t.val * 128 + r.val, by have : t.val < 16 := lt_of_lt_of_eq t.isLt N_0; omega⟩

def weightB (t : Fin cfg0.N) (r : Fin 128) (n : Fin 1408) : EReal := iblk m c 0 t (ix2 r n)
def gradB (t : Fin cfg0.N) (r : Fin 128) (n : Fin 1408) : EReal := iblk m c 1 t (ix2 r n)
def firstB (t : Fin cfg0.N) (r : Fin 128) (n : Fin 1408) : EReal := iblk m c 2 t (ix2 r n)
def secondB (t : Fin cfg0.N) (r : Fin 128) (n : Fin 1408) : EReal := iblk m c 3 t (ix2 r n)

theorem weightB_eq (t : Fin cfg0.N) (r : Fin 128) (n : Fin 1408) : weightB m c t r n = A0 m c (ix2 (rowAt t r) n) := by
  unfold weightB A0
  blk_ext [iblk, V, idx t, rowAt]

theorem gradB_eq (t : Fin cfg0.N) (r : Fin 128) (n : Fin 1408) : gradB m c t r n = A1 m c (ix2 (rowAt t r) n) := by
  unfold gradB A1
  blk_ext [iblk, V, idx t, rowAt]

theorem firstB_eq (t : Fin cfg0.N) (r : Fin 128) (n : Fin 1408) : firstB m c t r n = A2 m c (ix2 (rowAt t r) n) := by
  unfold firstB A2
  blk_ext [iblk, V, idx t, rowAt]

theorem secondB_eq (t : Fin cfg0.N) (r : Fin 128) (n : Fin 1408) : secondB m c t r n = A3 m c (ix2 (rowAt t r) n) := by
  unfold secondB A3
  blk_ext [iblk, V, idx t, rowAt]

theorem first_at (t : Fin cfg0.N) (r : Fin 128) (n : Fin 1408) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 128) (n : Fin 1408) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 128) (n : Fin 1408) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamUpIdeal.Fwd

end
-- ==== Proof.AdamUpClaims.lean ====
/-
  The claims of the AdamW step of the up projection.
-/
module

public import proofs.«01_k».proof.Defs
public import proofs.«01_k».proof.Proof.Gen.AdamUp.Frame
public import proofs.«01_k».proof.Proof.Gen.AdamUpRefIdeal.Read
public import proofs.«01_k».proof.Proof.AdamUpRun
public import Idealize.ShloMosaic.Lib.Claim
public import Idealize.ShloMosaic.Lib.Quiescent

@[expose] public section

noncomputable section

namespace Cert.AdamUpRefIdeal.Fwd

open Cert.AdamUpRefIdeal Cert.AdamUpRefIdeal.Gen Cert.AdamUpRefIdeal.Read Idealize.ShloMosaic
open Idealize.ShloMosaic.TcCoe Idealize.ShloMosaic.Tactic Idealize.SL.Sem Cert.Adam

variable (x0 x1 x2 x3 : Vec Ideal S2048x1408 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamUpRefIdeal.Fwd

namespace Cert.Proof.AdamUp

open Idealize.ShloMosaic Idealize.ShloMosaic.TcCoe Idealize.SL.Sem Cert.AdamUpIdeal.Fwd

theorem frame_kernel : Cert.quiescent_AdamUp := fun m ρ _ => Cert.AdamUp.Gen.frame m ρ

theorem frame_ideal : Cert.quiescent_AdamUpIdeal := fun m ρ _ => Cert.AdamUpIdeal.Gen.frame m ρ

theorem frame_reference : Cert.quiescent_AdamUpRefIdeal := fun m ρ _ =>
  (θ_run Cert.AdamUpRefIdeal.defs _ _).mono
    (fun r h => ⟨fun c => (h c).2.2.2.2, Idealize.ShloMosaic.sem_eq_zero_of_no_sems (by decide) r.2⟩)
    (Cert.AdamUpRefIdeal.Value.run (F := Ideal) m ρ)

theorem algebraic : Cert.algebraic_AdamUpIdeal_AdamUpRefIdeal := by
  intro m ρ m' ρ' _ hag
  have hr := Cert.AdamUpRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamUpIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamUpRefIdeal.Read.val_main_v23_eq, a0, a1, a2, a3, Cert.AdamUpRefIdeal.Fwd.change_eq] at h0
    rw [Cert.AdamUpRefIdeal.Read.val_main_v4_eq, a1, a2, Cert.AdamUpRefIdeal.Fwd.first_eq] at h1
    rw [Cert.AdamUpRefIdeal.Read.val_main_v10_eq, a1, a3, Cert.AdamUpRefIdeal.Fwd.second_eq] at h2
    exact ⟨h0, h1, h2, h3.trans a1, h4⟩

end Cert.Proof.AdamUp

end
-- ==== Proof.AdamDownRun.lean ====
/-
  The AdamW step of the down projection over its whole grid, over extended reals: 8 blocks of 176 rows.
-/
module

public import proofs.«01_k».proof.Proof.Gen.AdamDownIdeal.Value
public import proofs.«01_k».proof.Proof.Adam
public import Idealize.ShloMosaic.Lib.Pipeline.ValueKit

@[expose] public section

noncomputable section

namespace Cert.AdamDownIdeal.Fwd

open Cert.AdamDownIdeal Cert.AdamDownIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 176) : Fin 1408 :=
  ⟨t.val * 176 + r.val, by have : t.val < 8 := lt_of_lt_of_eq t.isLt N_0; omega⟩

def weightB (t : Fin cfg0.N) (r : Fin 176) (n : Fin 1024) : EReal := iblk m c 0 t (ix2 r n)
def gradB (t : Fin cfg0.N) (r : Fin 176) (n : Fin 1024) : EReal := iblk m c 1 t (ix2 r n)
def firstB (t : Fin cfg0.N) (r : Fin 176) (n : Fin 1024) : EReal := iblk m c 2 t (ix2 r n)
def secondB (t : Fin cfg0.N) (r : Fin 176) (n : Fin 1024) : EReal := iblk m c 3 t (ix2 r n)

theorem weightB_eq (t : Fin cfg0.N) (r : Fin 176) (n : Fin 1024) : weightB m c t r n = A0 m c (ix2 (rowAt t r) n) := by
  unfold weightB A0
  blk_ext [iblk, V, idx t, rowAt]

theorem gradB_eq (t : Fin cfg0.N) (r : Fin 176) (n : Fin 1024) : gradB m c t r n = A1 m c (ix2 (rowAt t r) n) := by
  unfold gradB A1
  blk_ext [iblk, V, idx t, rowAt]

theorem firstB_eq (t : Fin cfg0.N) (r : Fin 176) (n : Fin 1024) : firstB m c t r n = A2 m c (ix2 (rowAt t r) n) := by
  unfold firstB A2
  blk_ext [iblk, V, idx t, rowAt]

theorem secondB_eq (t : Fin cfg0.N) (r : Fin 176) (n : Fin 1024) : secondB m c t r n = A3 m c (ix2 (rowAt t r) n) := by
  unfold secondB A3
  blk_ext [iblk, V, idx t, rowAt]

theorem first_at (t : Fin cfg0.N) (r : Fin 176) (n : Fin 1024) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 176) (n : Fin 1024) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 176) (n : Fin 1024) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamDownIdeal.Fwd

end
-- ==== Proof.AdamDownClaims.lean ====
/-
  The claims of the AdamW step of the down projection.
-/
module

public import proofs.«01_k».proof.Defs
public import proofs.«01_k».proof.Proof.Gen.AdamDown.Frame
public import proofs.«01_k».proof.Proof.Gen.AdamDownRefIdeal.Read
public import proofs.«01_k».proof.Proof.AdamDownRun
public import Idealize.ShloMosaic.Lib.Claim
public import Idealize.ShloMosaic.Lib.Quiescent

@[expose] public section

noncomputable section

namespace Cert.AdamDownRefIdeal.Fwd

open Cert.AdamDownRefIdeal Cert.AdamDownRefIdeal.Gen Cert.AdamDownRefIdeal.Read Idealize.ShloMosaic
open Idealize.ShloMosaic.TcCoe Idealize.ShloMosaic.Tactic Idealize.SL.Sem Cert.Adam

variable (x0 x1 x2 x3 : Vec Ideal S1408x1024 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamDownRefIdeal.Fwd

namespace Cert.Proof.AdamDown

open Idealize.ShloMosaic Idealize.ShloMosaic.TcCoe Idealize.SL.Sem Cert.AdamDownIdeal.Fwd

theorem frame_kernel : Cert.quiescent_AdamDown := fun m ρ _ => Cert.AdamDown.Gen.frame m ρ

theorem frame_ideal : Cert.quiescent_AdamDownIdeal := fun m ρ _ => Cert.AdamDownIdeal.Gen.frame m ρ

theorem frame_reference : Cert.quiescent_AdamDownRefIdeal := fun m ρ _ =>
  (θ_run Cert.AdamDownRefIdeal.defs _ _).mono
    (fun r h => ⟨fun c => (h c).2.2.2.2, Idealize.ShloMosaic.sem_eq_zero_of_no_sems (by decide) r.2⟩)
    (Cert.AdamDownRefIdeal.Value.run (F := Ideal) m ρ)

theorem algebraic : Cert.algebraic_AdamDownIdeal_AdamDownRefIdeal := by
  intro m ρ m' ρ' _ hag
  have hr := Cert.AdamDownRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamDownIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamDownRefIdeal.Read.val_main_v23_eq, a0, a1, a2, a3, Cert.AdamDownRefIdeal.Fwd.change_eq] at h0
    rw [Cert.AdamDownRefIdeal.Read.val_main_v4_eq, a1, a2, Cert.AdamDownRefIdeal.Fwd.first_eq] at h1
    rw [Cert.AdamDownRefIdeal.Read.val_main_v10_eq, a1, a3, Cert.AdamDownRefIdeal.Fwd.second_eq] at h2
    exact ⟨h0, h1, h2, h3.trans a1, h4⟩

end Cert.Proof.AdamDown

end
-- ==== Proof.AdamGroupRun.lean ====
/-
  The AdamW step of a mixer's last product over its whole grid, over extended reals: 1 block of 128 rows.
-/
module

public import proofs.«01_k».proof.Proof.Gen.AdamGroupIdeal.Value
public import proofs.«01_k».proof.Proof.Adam
public import Idealize.ShloMosaic.Lib.Pipeline.ValueKit

@[expose] public section

noncomputable section

namespace Cert.AdamGroupIdeal.Fwd

open Cert.AdamGroupIdeal Cert.AdamGroupIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 128) : Fin 128 :=
  ⟨t.val * 128 + r.val, by have : t.val < 1 := lt_of_lt_of_eq t.isLt N_0; omega⟩

def weightB (t : Fin cfg0.N) (r : Fin 128) (n : Fin 256) : EReal := iblk m c 0 t (ix2 r n)
def gradB (t : Fin cfg0.N) (r : Fin 128) (n : Fin 256) : EReal := iblk m c 1 t (ix2 r n)
def firstB (t : Fin cfg0.N) (r : Fin 128) (n : Fin 256) : EReal := iblk m c 2 t (ix2 r n)
def secondB (t : Fin cfg0.N) (r : Fin 128) (n : Fin 256) : EReal := iblk m c 3 t (ix2 r n)

theorem weightB_eq (t : Fin cfg0.N) (r : Fin 128) (n : Fin 256) : weightB m c t r n = A0 m c (ix2 (rowAt t r) n) := by
  unfold weightB A0
  blk_ext [iblk, V, idx t, rowAt]

theorem gradB_eq (t : Fin cfg0.N) (r : Fin 128) (n : Fin 256) : gradB m c t r n = A1 m c (ix2 (rowAt t r) n) := by
  unfold gradB A1
  blk_ext [iblk, V, idx t, rowAt]

theorem firstB_eq (t : Fin cfg0.N) (r : Fin 128) (n : Fin 256) : firstB m c t r n = A2 m c (ix2 (rowAt t r) n) := by
  unfold firstB A2
  blk_ext [iblk, V, idx t, rowAt]

theorem secondB_eq (t : Fin cfg0.N) (r : Fin 128) (n : Fin 256) : secondB m c t r n = A3 m c (ix2 (rowAt t r) n) := by
  unfold secondB A3
  blk_ext [iblk, V, idx t, rowAt]

theorem first_at (t : Fin cfg0.N) (r : Fin 128) (n : Fin 256) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 128) (n : Fin 256) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 128) (n : Fin 256) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamGroupIdeal.Fwd

end
-- ==== Proof.AdamGroupClaims.lean ====
/-
  The claims of the AdamW step of a mixer's last product.
-/
module

public import proofs.«01_k».proof.Defs
public import proofs.«01_k».proof.Proof.Gen.AdamGroup.Frame
public import proofs.«01_k».proof.Proof.Gen.AdamGroupRefIdeal.Read
public import proofs.«01_k».proof.Proof.AdamGroupRun
public import Idealize.ShloMosaic.Lib.Claim
public import Idealize.ShloMosaic.Lib.Quiescent

@[expose] public section

noncomputable section

namespace Cert.AdamGroupRefIdeal.Fwd

open Cert.AdamGroupRefIdeal Cert.AdamGroupRefIdeal.Gen Cert.AdamGroupRefIdeal.Read Idealize.ShloMosaic
open Idealize.ShloMosaic.TcCoe Idealize.ShloMosaic.Tactic Idealize.SL.Sem Cert.Adam

variable (x0 x1 x2 x3 : Vec Ideal S128x256 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamGroupRefIdeal.Fwd

namespace Cert.Proof.AdamGroup

open Idealize.ShloMosaic Idealize.ShloMosaic.TcCoe Idealize.SL.Sem Cert.AdamGroupIdeal.Fwd

theorem frame_kernel : Cert.quiescent_AdamGroup := fun m ρ _ => Cert.AdamGroup.Gen.frame m ρ

theorem frame_ideal : Cert.quiescent_AdamGroupIdeal := fun m ρ _ => Cert.AdamGroupIdeal.Gen.frame m ρ

theorem frame_reference : Cert.quiescent_AdamGroupRefIdeal := fun m ρ _ =>
  (θ_run Cert.AdamGroupRefIdeal.defs _ _).mono
    (fun r h => ⟨fun c => (h c).2.2.2.2, Idealize.ShloMosaic.sem_eq_zero_of_no_sems (by decide) r.2⟩)
    (Cert.AdamGroupRefIdeal.Value.run (F := Ideal) m ρ)

theorem algebraic : Cert.algebraic_AdamGroupIdeal_AdamGroupRefIdeal := by
  intro m ρ m' ρ' _ hag
  have hr := Cert.AdamGroupRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamGroupIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamGroupRefIdeal.Read.val_main_v23_eq, a0, a1, a2, a3, Cert.AdamGroupRefIdeal.Fwd.change_eq] at h0
    rw [Cert.AdamGroupRefIdeal.Read.val_main_v4_eq, a1, a2, Cert.AdamGroupRefIdeal.Fwd.first_eq] at h1
    rw [Cert.AdamGroupRefIdeal.Read.val_main_v10_eq, a1, a3, Cert.AdamGroupRefIdeal.Fwd.second_eq] at h2
    exact ⟨h0, h1, h2, h3.trans a1, h4⟩

end Cert.Proof.AdamGroup

end
-- ==== Proof.AdamSmallRun.lean ====
/-
  The AdamW step of the packed small weights over its whole grid, over extended reals: 1 block of 1920 rows.
-/
module

public import proofs.«01_k».proof.Proof.Gen.AdamSmallIdeal.Value
public import proofs.«01_k».proof.Proof.Adam
public import Idealize.ShloMosaic.Lib.Pipeline.ValueKit

@[expose] public section

noncomputable section

namespace Cert.AdamSmallIdeal.Fwd

open Cert.AdamSmallIdeal Cert.AdamSmallIdeal.Gen Idealize.ShloMosaic Idealize.ShloMosaic.TcCoe Idealize.ShloMosaic.Tactic
open Idealize.SL.Sem Cert.Adam

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Row `r` of block `t`. -/
def rowAt (t : Fin cfg0.N) (r : Fin 1920) : Fin 1920 :=
  ⟨t.val * 1920 + r.val, by have : t.val < 1 := lt_of_lt_of_eq t.isLt N_0; omega⟩

def weightB (t : Fin cfg0.N) (r : Fin 1920) (n : Fin 128) : EReal := iblk m c 0 t (ix2 r n)
def gradB (t : Fin cfg0.N) (r : Fin 1920) (n : Fin 128) : EReal := iblk m c 1 t (ix2 r n)
def firstB (t : Fin cfg0.N) (r : Fin 1920) (n : Fin 128) : EReal := iblk m c 2 t (ix2 r n)
def secondB (t : Fin cfg0.N) (r : Fin 1920) (n : Fin 128) : EReal := iblk m c 3 t (ix2 r n)

theorem weightB_eq (t : Fin cfg0.N) (r : Fin 1920) (n : Fin 128) : weightB m c t r n = A0 m c (ix2 (rowAt t r) n) := by
  unfold weightB A0
  blk_ext [iblk, V, idx t, rowAt]

theorem gradB_eq (t : Fin cfg0.N) (r : Fin 1920) (n : Fin 128) : gradB m c t r n = A1 m c (ix2 (rowAt t r) n) := by
  unfold gradB A1
  blk_ext [iblk, V, idx t, rowAt]

theorem firstB_eq (t : Fin cfg0.N) (r : Fin 1920) (n : Fin 128) : firstB m c t r n = A2 m c (ix2 (rowAt t r) n) := by
  unfold firstB A2
  blk_ext [iblk, V, idx t, rowAt]

theorem secondB_eq (t : Fin cfg0.N) (r : Fin 1920) (n : Fin 128) : secondB m c t r n = A3 m c (ix2 (rowAt t r) n) := by
  unfold secondB A3
  blk_ext [iblk, V, idx t, rowAt]

theorem first_at (t : Fin cfg0.N) (r : Fin 1920) (n : Fin 128) :
    k0_pay1 (iblk m c 1 t) (iblk m c 2 t) (ix2 r n) = resFirst (A1 m c) (A2 m c) (ix2 (rowAt t r) n) := by
  have e : k0_pay1 (iblk m c 1 t) (iblk m c 2 t) (ix2 r n) = first (gradB m c t r n) (firstB m c t r n) := by
    pointwise [k0_pay1]
    rfl
  rw [e, gradB_eq, firstB_eq]
  rfl

theorem second_at (t : Fin cfg0.N) (r : Fin 1920) (n : Fin 128) :
    k0_pay2 (iblk m c 1 t) (iblk m c 3 t) (ix2 r n) = resSecond (A1 m c) (A3 m c) (ix2 (rowAt t r) n) := by
  have e : k0_pay2 (iblk m c 1 t) (iblk m c 3 t) (ix2 r n) = second (gradB m c t r n) (secondB m c t r n) := by
    pointwise [k0_pay2]
    rfl
  rw [e, gradB_eq, secondB_eq]
  rfl

theorem change_at (t : Fin cfg0.N) (r : Fin 1920) (n : Fin 128) :
    k0_pay3 (iblk m c 1 t) (iblk m c 2 t) (iblk m c 3 t) (iblk m c 0 t) (ix2 r n)
      = resChange (A0 m c) (A1 m c) (A2 m c) (A3 m c) (ix2 (rowAt t r) n) := by
  have e : k0_pay3 (iblk m c 1 t) (iblk m c 2 t) (iblk m c 3 t) (iblk m c 0 t) (ix2 r n)
      = change (weightB m c t r n) (gradB m c t r n) (firstB m c t r n) (secondB m c t r n) := by
    pointwise [k0_pay3, k0_pay2, k0_pay1]
    rfl
  rw [e, weightB_eq, gradB_eq, firstB_eq, secondB_eq]
  rfl

theorem final4 : (dats m 0 c).arrAt 4 cfg0.N = resChange (A0 m c) (A1 m c) (A2 m c) (A3 m c) := by
  refine (dats m 0 c).arrAt_eq_of_covers 4 _ (by decide +kernel) fun t hf y => ?_
  blk_simp
  rw [after0_4]
  have e0 : (win0_4.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (change_at m c t (y 0) (y 1))

theorem final5 : (dats m 0 c).arrAt 5 cfg0.N = resFirst (A1 m c) (A2 m c) := by
  refine (dats m 0 c).arrAt_eq_of_covers 5 _ (by decide +kernel) fun t hf y => ?_
  blk_simp
  rw [after0_5]
  have e0 : (win0_5.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (first_at m c t (y 0) (y 1))

theorem final6 : (dats m 0 c).arrAt 6 cfg0.N = resSecond (A1 m c) (A3 m c) := by
  refine (dats m 0 c).arrAt_eq_of_covers 6 _ (by decide +kernel) fun t hf y => ?_
  blk_simp
  rw [after0_6]
  have e0 : (win0_6.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (second_at m c t (y 0) (y 1))

theorem final7 : (dats m 0 c).arrAt 7 cfg0.N = A1 m c := by
  refine (dats m 0 c).arrAt_eq_of_covers 7 _ (by decide +kernel) fun t hf y => ?_
  blk_simp
  rw [after0_7]
  have e0 : (win0_7.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (gradB_eq m c t (y 0) (y 1))

end Cert.AdamSmallIdeal.Fwd

end
-- ==== Proof.AdamSmallClaims.lean ====
/-
  The claims of the AdamW step of the packed small weights.
-/
module

public import proofs.«01_k».proof.Defs
public import proofs.«01_k».proof.Proof.Gen.AdamSmall.Frame
public import proofs.«01_k».proof.Proof.Gen.AdamSmallRefIdeal.Read
public import proofs.«01_k».proof.Proof.AdamSmallRun
public import Idealize.ShloMosaic.Lib.Claim
public import Idealize.ShloMosaic.Lib.Quiescent

@[expose] public section

noncomputable section

namespace Cert.AdamSmallRefIdeal.Fwd

open Cert.AdamSmallRefIdeal Cert.AdamSmallRefIdeal.Gen Cert.AdamSmallRefIdeal.Read Idealize.ShloMosaic
open Idealize.ShloMosaic.TcCoe Idealize.ShloMosaic.Tactic Idealize.SL.Sem Cert.Adam

variable (x0 x1 x2 x3 : Vec Ideal S1920x128 .f32)

theorem first_eq : val_main_v4 (F := Ideal) x1 x2 = resFirst x1 x2 := by
  funext j
  pointwise [val_main_v4, val_main_v3, val_main_v2, val_main_cst_0, val_main_v1, val_main_v0, val_main_cst]
  rfl

theorem second_eq : val_main_v10 (F := Ideal) x1 x3 = resSecond x1 x3 := by
  funext j
  pointwise [val_main_v10, val_main_v9, val_main_v8, val_main_cst_2, val_main_v7, val_main_v6, val_main_v5, val_main_cst_1]
  rfl

theorem change_eq : val_main_v23 (F := Ideal) x0 x1 x2 x3 = resChange x0 x1 x2 x3 := by
  funext j
  pointwise [val_main_v23, val_main_v22, val_main_cst_7, val_main_v21, val_main_v20, val_main_v19, val_main_cst_6,
    val_main_v18, val_main_v17, val_main_v16, val_main_cst_5, val_main_v15, val_main_v14, val_main_v13, val_main_cst_4,
    val_main_v12, val_main_v11, val_main_cst_3]
  rw [first_eq, second_eq]
  rfl

end Cert.AdamSmallRefIdeal.Fwd

namespace Cert.Proof.AdamSmall

open Idealize.ShloMosaic Idealize.ShloMosaic.TcCoe Idealize.SL.Sem Cert.AdamSmallIdeal.Fwd

theorem frame_kernel : Cert.quiescent_AdamSmall := fun m ρ _ => Cert.AdamSmall.Gen.frame m ρ

theorem frame_ideal : Cert.quiescent_AdamSmallIdeal := fun m ρ _ => Cert.AdamSmallIdeal.Gen.frame m ρ

theorem frame_reference : Cert.quiescent_AdamSmallRefIdeal := fun m ρ _ =>
  (θ_run Cert.AdamSmallRefIdeal.defs _ _).mono
    (fun r h => ⟨fun c => (h c).2.2.2.2, Idealize.ShloMosaic.sem_eq_zero_of_no_sems (by decide) r.2⟩)
    (Cert.AdamSmallRefIdeal.Value.run (F := Ideal) m ρ)

theorem algebraic : Cert.algebraic_AdamSmallIdeal_AdamSmallRefIdeal := by
  intro m ρ m' ρ' _ hag
  have hr := Cert.AdamSmallRefIdeal.Value.run (F := Ideal) m' ρ'
  refine ⟨fun c => Cert.Adam.resChange (A0 m c) (A1 m c) (A2 m c) (A3 m c), fun c => Cert.Adam.resFirst (A1 m c) (A2 m c),
    fun c => Cert.Adam.resSecond (A1 m c) (A3 m c), fun c => A1 m c, ?_, ?_⟩
  · refine (θ_run _ _ _).mono (fun r h c => ?_) (Cert.AdamSmallIdeal.Value.run_blocks (F := Ideal) m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) hr
    obtain ⟨h0, h1, h2, h3, h4⟩ := h c
    obtain ⟨a0, a1, a2, a3⟩ := hag c
    rw [Cert.AdamSmallRefIdeal.Read.val_main_v23_eq, a0, a1, a2, a3, Cert.AdamSmallRefIdeal.Fwd.change_eq] at h0
    rw [Cert.AdamSmallRefIdeal.Read.val_main_v4_eq, a1, a2, Cert.AdamSmallRefIdeal.Fwd.first_eq] at h1
    rw [Cert.AdamSmallRefIdeal.Read.val_main_v10_eq, a1, a3, Cert.AdamSmallRefIdeal.Fwd.second_eq] at h2
    exact ⟨h0, h1, h2, h3.trans a1, h4⟩

end Cert.Proof.AdamSmall

end
-- ==== Proof.SumDevicesRun.lean ====
/-
  The sum of the devices' packed small gradients over its whole grid, over extended reals: two blocks of rows.
-/
module

public import proofs.«01_k».proof.Proof.Gen.SumDevicesIdeal.Value
public import Idealize.ShloMosaic.Lib.Pointwise
public import Idealize.ShloMosaic.Lib.Pipeline.ValueKit

@[expose] public section

noncomputable section

namespace Cert.SumDevicesIdeal.Fwd

open Cert.SumDevicesIdeal Cert.SumDevicesIdeal.Gen Idealize.ShloMosaic Idealize.ShloMosaic.TcCoe Idealize.ShloMosaic.Tactic
open Idealize.SL.Sem

variable (m : (ℓ : Loc nD τ sig) → Buf (Elt Ideal) ℓ) (c : Dev nD)

abbrev A0 := m ((c : Thread nD τ).loc main_arg0)

/-- The sum over the devices. -/
def total (x : Vec Ideal ⟨3, ![8, 2224, 128]⟩ .f32) : Vec Ideal ⟨2, ![2224, 128]⟩ .f32 :=
  fun i => ∑ k : Fin 8, (show EReal from x (ix3 k (i 0) (i 1)))

theorem idx : ∀ t : Fin cfg0.N, win0_0.index t = ![0, t.val, 0] ∧ win0_1.index t = ![t.val, 0] :=
  (by decide +kernel : ∀ t : Fin grid0.N, _)

/-- Row `r` of block `t`. -/
def rowAt (t : Fin cfg0.N) (r : Fin 1112) : Fin 2224 :=
  ⟨t.val * 1112 + r.val, by have : t.val < 2 := lt_of_lt_of_eq t.isLt N_0; omega⟩

def partB (t : Fin cfg0.N) (k : Fin 8) (r : Fin 1112) (n : Fin 128) : EReal := iblk m c 0 t (ix3 k r n)

theorem partB_eq (t : Fin cfg0.N) (k : Fin 8) (r : Fin 1112) (n : Fin 128) :
    partB m c t k r n = A0 m c (ix3 k (rowAt t r) n) := by
  unfold partB A0
  blk_ext [iblk, V, idx t, rowAt]

/-- A block's sum. -/
def totalB (t : Fin cfg0.N) : FVec Ideal S1112x128 .f32 :=
  k0_pay1 (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5)
    (View.ld (iblk m c 0 t) r0_6) (View.ld (iblk m c 0 t) r0_7)

theorem total_at (t : Fin cfg0.N) (r : Fin 1112) (n : Fin 128) :
    totalB m c t (ix2 r n) = total (A0 m c) (ix2 (rowAt t r) n) := by
  have e : totalB m c t (ix2 r n) = partB m c t 0 r n + partB m c t 1 r n + partB m c t 2 r n + partB m c t 3 r n
      + partB m c t 4 r n + partB m c t 5 r n + partB m c t 6 r n + partB m c t 7 r n := by
    pointwise [totalB, k0_pay1]
    rfl
  refine e.trans ((Fin.sum_univ_eight fun k => partB m c t k r n).symm.trans ?_)
  exact Finset.sum_congr rfl fun k _ => partB_eq m c t k r n

theorem final1 : (dats m 0 c).arrAt 1 cfg0.N = total (A0 m c) := by
  refine (dats m 0 c).arrAt_eq_of_covers 1 _ (by decide +kernel) fun t hf y => ?_
  blk_simp
  rw [after0_1]
  have e0 : (win0_1.blk t).view.emb y = ix2 (rowAt t (y 0)) (y 1) := by
    funext a
    match a with
    | 0 => exact Fin.ext (by blk_simp [idx t, rowAt])
    | 1 => exact Fin.ext (by blk_simp [idx t])
  have ey : y = ix2 (y 0) (y 1) := by funext a; match a with | 0 => rfl | 1 => rfl
  rw [e0]
  frame_out
  exact (congrArg _ ey).trans (total_at m c t (y 0) (y 1))

end Cert.SumDevicesIdeal.Fwd

end
-- ==== Proof.SumDevicesClaims.lean ====
/-
  The claims of the sum of the devices' packed small gradients.
-/
module

public import proofs.«01_k».proof.Defs
public import proofs.«01_k».proof.Proof.Gen.SumDevices.Frame
public import proofs.«01_k».proof.Proof.Gen.SumDevicesRefIdeal.Read
public import proofs.«01_k».proof.Proof.SumDevicesRun
public import Idealize.ShloMosaic.Lib.Claim
public import Idealize.ShloMosaic.Lib.Quiescent

@[expose] public section

noncomputable section

namespace Cert.Proof.SumDevices

open Idealize.ShloMosaic Idealize.ShloMosaic.TcCoe Idealize.ShloMosaic.Tactic Idealize.SL.Sem Cert.SumDevicesIdeal.Fwd

open Cert.SumDevicesRefIdeal.Read in
theorem reference_eq (x : Vec Ideal ⟨3, ![8, 2224, 128]⟩ .f32) : val_main_v0 (F := Ideal) x = total x := by
  funext j
  pointwise [val_main_v0, val_main_cst]
  rfl

theorem frame_kernel : Cert.quiescent_SumDevices := fun m ρ _ => Cert.SumDevices.Gen.frame m ρ

theorem frame_ideal : Cert.quiescent_SumDevicesIdeal := fun m ρ _ => Cert.SumDevicesIdeal.Gen.frame m ρ

theorem frame_reference : Cert.quiescent_SumDevicesRefIdeal := fun m ρ _ =>
  (θ_run Cert.SumDevicesRefIdeal.defs _ _).mono
    (fun r h => ⟨fun c => (h c).2, Idealize.ShloMosaic.sem_eq_zero_of_no_sems (by decide) r.2⟩)
    (Cert.SumDevicesRefIdeal.Value.run (F := Ideal) m ρ)

theorem algebraic : Cert.algebraic_SumDevicesIdeal_SumDevicesRefIdeal := by
  intro m ρ m' ρ' _ hag
  refine ⟨fun c => total (A0 m c), ?_, ?_⟩
  · refine (θ_run _ _ _).mono (fun r h c => ?_) (Cert.SumDevicesIdeal.Value.run_blocks (F := Ideal) m ρ)
    exact ⟨(h c).1.trans (final1 m c), (h c).2⟩
  · refine (θ_run _ _ _).mono (fun r h c => ?_) (Cert.SumDevicesRefIdeal.Value.run (F := Ideal) m' ρ')
    obtain ⟨h0, h1⟩ := h c
    rw [Cert.SumDevicesRefIdeal.Read.val_main_v0_eq, hag c, reference_eq] at h0
    exact ⟨h0, h1⟩

end Cert.Proof.SumDevices

end
-- ==== Proof.AddHalves.lean ====
/-
  The addition of one half of a gradient's rows to the same half received from the other core, over extended reals:
  every chip's share has `2 h` rows, and the core's number says which half is its own.
-/
module

public import Idealize.ShloMosaic.PureOps.Ideal
public import Idealize.ShloMosaic.Lib.Pointwise

@[expose] public section

noncomputable section

namespace Cert.AddHalves

open Idealize.ShloMosaic

/-- Row `r` of half `k`. -/
def rowOf {h : ℕ} (k : Fin 2) (r : Fin h) : Fin (h * 2) :=
  ⟨k.val * h + r.val, by have := r.isLt; have := k.isLt; nlinarith⟩

/-- Half `k` of `x` and `y` added. -/
def added {h n : ℕ} (k : Fin 2) (x : Vec Ideal ⟨3, ![4, h * 2, n]⟩ .f32) (y : Vec Ideal ⟨3, ![4, h, n]⟩ .f32) :
    Vec Ideal ⟨3, ![4, h, n]⟩ .bf16 :=
  fun i => (show EReal from x (ix3 (i 0) (rowOf k (i 1)) (i 2))) + (show EReal from y i)

/-- The block of the gradient that a grid point reads, for a word `w` of the table and `p` blocks to a half. -/
def place (p w : BitVec 32) (a b : ℕ) : Fin 3 → ℕ :=
  ![(BitVec.ofNat 32 a).toNat, (Scalar.addi (Scalar.muli w p) (BitVec.ofNat 32 b)).toNat, 0]

/-- A word that is at least 0 and at most 1, read signed, is a core's number. -/
theorem core_of_bounds (w : BitVec 32) (h : IntOp.andi (IntOp.cmpi .sge w 0#32) (IntOp.cmpi .sle w 1#32) = 1#1) :
    ∃ k : Fin 2, w = BitVec.ofNat 32 k.val := by
  have hb : (0#32).sle w = true ∧ w.sle 1#32 = true := by
    revert h
    simp only [IntOp.andi, IntOp.cmpi]
    cases (0#32).sle w <;> cases w.sle 1#32 <;> simp
  obtain ⟨h0, h1⟩ := hb
  have h0' : 0 ≤ w.toInt := by simpa [BitVec.sle] using h0
  have h1' : w.toInt ≤ 1 := by simpa [BitVec.sle] using h1
  rcases (by omega : w.toInt = 0 ∨ w.toInt = 1) with e | e
  · exact ⟨0, BitVec.eq_of_toInt_eq (by rw [e]; rfl)⟩
  · exact ⟨1, BitVec.eq_of_toInt_eq (by rw [e]; rfl)⟩

end Cert.AddHalves

end
-- ==== Proof.AddInPre.lean ====
/-
  The core's number in the addition of the halves of the gradient of the first projection: the precondition says that it is 0 or 1, and
  then every block that is read lies inside its array.
-/
module

public import proofs.«01_k».proof.Pre_core_number_in
public import proofs.«01_k».proof.Proof.Gen.AddIn.Frame
public import proofs.«01_k».proof.Proof.AddHalves

@[expose] public section

noncomputable section

namespace Cert.AddInPre

open Cert.AddHalves Idealize.ShloMosaic

theorem facts : Cert.Pre_core_number_in.Facts where
  bcast_S_S1 := by decide

instance : Cert.Pre_core_number_in.Facts := facts

theorem core {F : FTy → Type} [FloatOps F] (x : FVec F ⟨3, ![4, 1024, 384]⟩ .f32) (y : FVec F ⟨3, ![4, 512, 384]⟩ .f32)
    (z : IVec ⟨1, ![1]⟩ 32) (h : Cert.Pre_core_number_in.fn x y z = fun _ => 1#1) :
    ∃ k : Fin 2, z (ix1 0) = BitVec.ofNat 32 k.val :=
  core_of_bounds _ (congrFun h (ix1 0))

end Cert.AddInPre

namespace Cert.AddIn.Fwd

open Cert.AddIn Cert.AddIn.Gen Cert.AddHalves Idealize.ShloMosaic Idealize.ShloMosaic.TcCoe

theorem place_inside : ∀ (k : Fin 2) (a : Fin 4) (b : Fin 1) (d : Fin 3),
    (place 1#32 (BitVec.ofNat 32 k.val) a.val b.val d + 1) * S1x512x384.size d ≤ S4x1024x384.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddIn.Fwd

end
-- ==== Proof.AddInRun.lean ====
/-
  The addition of the halves of the gradient of the first projection over its whole grid, over extended reals.
-/
module

public import proofs.«01_k».proof.Proof.Gen.AddInIdeal.Frame
public import proofs.«01_k».proof.Proof.AddHalves
public import Idealize.ShloMosaic.Lib.Pointwise
public import Idealize.ShloMosaic.Lib.Pipeline.ValueKit

@[expose] public section

noncomputable section

namespace Cert.AddInIdeal.Fwd

open Cert.AddInIdeal Cert.AddInIdeal.Gen Cert.AddHalves Idealize.ShloMosaic Idealize.ShloMosaic.TcCoe Idealize.ShloMosaic.Tactic
open Idealize.SL.Sem

theorem place_inside : ∀ (k : Fin 2) (a : Fin 4) (b : Fin 1) (d : Fin 3),
    (place 1#32 (BitVec.ofNat 32 k.val) a.val b.val d + 1) * S1x512x384.size d ≤ S4x1024x384.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 1#32 (BitVec.ofNat 32 k.val) (grid0.coords t 0).val (grid0.coords t 1).val
      = ![t.val / 1, k.val * 1 + t.val % 1, 0] := by
  decide +kernel

theorem idx1 : ∀ t : Fin grid0.N, cc0_transform_1 (grid0.coords t) = ![t.val / 1, t.val % 1, 0] := by decide +kernel
theorem idx2 : ∀ t : Fin grid0.N, cc0_transform_2 (grid0.coords t) = ![t.val / 1, t.val % 1, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 1, by have : t.val < 4 := lt_of_lt_of_eq t.isLt N_0; omega⟩

/-- Row `r` of block `t` in the half. -/
def rowAt (t : Fin grid0.N) (r : Fin 512) : Fin 512 := ⟨t.val % 1 * 512 + r.val, by omega⟩

include hk in
theorem idx0 (t : Fin (cfgM m hO).N) :
    ((cfgM m hO).win 0).index t = ![t.val / 1, k.val * 1 + t.val % 1, 0] := by
  refine (transform m _).trans ?_
  rw [hk]
  exact place_core k t

theorem covers : ((cfgM m hO).win 2).Covers := by
  refine ⟨(by decide : ∀ a : Fin 3, 0 < S1x512x384.size a), fun β => ?_⟩
  have h : ∀ (a : Fin 4) (b : Fin 1), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 1 := by
    show (512 + 512 - 1) / 512 = 1
    decide
  have n2 : ((cfgM m hO).win 2).nblk (2 : Fin 3) = 1 := by
    show (384 + 384 - 1) / 384 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x512x384.Idx) :
    (((cfgM m hO).win 0).blk t).view.emb y = (ix3 (chipAt t) (rowOf k (rowAt t (y 1))) (y 2) : S4x1024x384.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 1 * 1 + (y 0).val = t.val / 1
    have : (y 0).val < 1 := (y 0).isLt
    omega
  | 1 =>
    show (k.val * 1 + t.val % 1) * 512 + (y 1).val = k.val * 512 + (t.val % 1 * 512 + (y 1).val)
    omega
  | 2 =>
    show 0 * 384 + (y 2).val = (y 2).val
    omega

/-- An index of a block of the received half, in the array. -/
theorem emb1 (t : Fin (cfgM m hO).N) (y : S1x512x384.Idx) :
    (((cfgM m hO).win 1).blk t).view.emb y = (ix3 (chipAt t) (rowAt t (y 1)) (y 2) : S4x512x384.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 1 * 1 + (y 0).val = t.val / 1
    have : (y 0).val < 1 := (y 0).isLt
    omega
  | 1 => rfl
  | 2 =>
    show 0 * 384 + (y 2).val = (y 2).val
    omega

/-- An index of a block of the sum, in the array. -/
theorem emb2 (t : Fin (cfgM m hO).N) (y : S1x512x384.Idx) :
    (((cfgM m hO).win 2).blk t).view.emb y = (ix3 (chipAt t) (rowAt t (y 1)) (y 2) : S4x512x384.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 1 * 1 + (y 0).val = t.val / 1
    have : (y 0).val < 1 := (y 0).isLt
    omega
  | 1 => rfl
  | 2 =>
    show 0 * 384 + (y 2).val = (y 2).val
    omega

theorem pay_at (u v : FVec Ideal S1x512x384 .f32) (y : S1x512x384.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x512x384.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddInIdeal.Fwd

end
-- ==== Proof.AddInClaims.lean ====
/-
  The claims of the addition of the halves of the gradient of the first projection.
-/
module

public import proofs.«01_k».proof.Defs
public import proofs.«01_k».proof.Proof.Gen.AddInRefIdeal.Read
public import proofs.«01_k».proof.Proof.AddInPre
public import proofs.«01_k».proof.Proof.AddInRun
public import Idealize.ShloMosaic.Lib.Claim
public import Idealize.ShloMosaic.Lib.Quiescent

@[expose] public section

noncomputable section

namespace Cert.Proof.AddIn

open Idealize.ShloMosaic Idealize.ShloMosaic.TcCoe Idealize.ShloMosaic.Tactic Idealize.SL.Sem Cert.AddInIdeal.Fwd Cert.AddHalves

open Cert.AddInRefIdeal.Read in
/-- The half that the core's number selects. -/
theorem half_eq (x : Vec Ideal ⟨3, ![4, 1024, 384]⟩ .f32) (z : IVec ⟨1, ![1]⟩ 32) (k : Fin 2)
    (hk : z (ix1 0) = BitVec.ofNat 32 k.val) (j : (⟨3, ![4, 512, 384]⟩ : Shape).Idx) :
    val_main_v4 (F := Ideal) x z j = x (ix3 (j 0) (rowOf (h := 512) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 512 + (j 1).val; omega
    | 2 => rfl
  | 1 =>
    refine (val_main_v3_apply x j).trans (congrArg x (funext fun (a : Fin 3) => Fin.ext ?_))
    match a with
    | 0 => rfl
    | 1 => show 512 + (j 1).val = 1 * 512 + (j 1).val; omega
    | 2 => rfl

open Cert.AddInRefIdeal.Read in
theorem reference_eq (x : Vec Ideal ⟨3, ![4, 1024, 384]⟩ .f32) (y : Vec Ideal ⟨3, ![4, 512, 384]⟩ .f32)
    (z : IVec ⟨1, ![1]⟩ 32) (k : Fin 2) (hk : z (ix1 0) = BitVec.ofNat 32 k.val) :
    val_main_v6 (F := Ideal) x y z = added (h := 512) k x y := by
  funext j
  have s : val_main_v6 (F := Ideal) x y z j = (show EReal from val_main_v4 (F := Ideal) x z j) + (show EReal from y j) := rfl
  rw [s, half_eq x z k hk j]
  rfl

theorem frame_kernel : Cert.quiescent_AddIn := fun m ρ h =>
  have ⟨k, hk⟩ := Cert.AddInPre.core _ _ _ (h 0)
  Cert.AddIn.Gen.frame m ρ (Cert.AddIn.Fwd.ok m k ((Cert.AddIn.Fwd.word_eq m).trans hk))

theorem frame_ideal : Cert.quiescent_AddInIdeal := fun m ρ h =>
  have ⟨k, hk⟩ := Cert.AddInPre.core _ _ _ (h 0)
  Cert.AddInIdeal.Gen.frame m ρ (ok m k ((word_eq m).trans hk))

theorem frame_reference : Cert.quiescent_AddInRefIdeal := fun m ρ _ =>
  (θ_run Cert.AddInRefIdeal.defs _ _).mono
    (fun r h => ⟨fun c => (h c).2, Idealize.ShloMosaic.sem_eq_zero_of_no_sems (by decide) r.2⟩)
    (Cert.AddInRefIdeal.Value.run (F := Ideal) m ρ)

theorem frame_reference_pre : Cert.quiescent_AddInRefIdeal_pre_core_number_in := fun m ρ _ => frame_reference m ρ trivial

open Cert.AddInIdeal Cert.AddInIdeal.Gen in
theorem algebraic : Cert.algebraic_AddInIdeal_AddInRefIdeal := by
  intro m ρ m' ρ' hpre hag
  obtain ⟨k, hk⟩ := Cert.AddInPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddInRefIdeal.Value.run (F := Ideal) m' ρ')
    obtain ⟨h0, h1⟩ := h c
    obtain rfl : c = 0 := Subsingleton.elim _ _
    obtain ⟨g0, g1, g2⟩ := hag 0
    rw [Cert.AddInRefIdeal.Read.val_main_v6_eq, g0, g1, g2, reference_eq _ _ _ k hk] at h0
    exact ⟨h0, h1⟩

end Cert.Proof.AddIn

end
-- ==== Proof.AddKvPre.lean ====
/-
  The core's number in the addition of the halves of the gradient of the keys and values: the precondition says that it is 0 or 1, and
  then every block that is read lies inside its array.
-/
module

public import proofs.«01_k».proof.Pre_core_number_kv
public import proofs.«01_k».proof.Proof.Gen.AddKv.Frame
public import proofs.«01_k».proof.Proof.AddHalves

@[expose] public section

noncomputable section

namespace Cert.AddKvPre

open Cert.AddHalves Idealize.ShloMosaic

theorem facts : Cert.Pre_core_number_kv.Facts where
  bcast_S_S1 := by decide

instance : Cert.Pre_core_number_kv.Facts := facts

theorem core {F : FTy → Type} [FloatOps F] (x : FVec F ⟨3, ![4, 256, 512]⟩ .f32) (y : FVec F ⟨3, ![4, 128, 512]⟩ .f32)
    (z : IVec ⟨1, ![1]⟩ 32) (h : Cert.Pre_core_number_kv.fn x y z = fun _ => 1#1) :
    ∃ k : Fin 2, z (ix1 0) = BitVec.ofNat 32 k.val :=
  core_of_bounds _ (congrFun h (ix1 0))

end Cert.AddKvPre

namespace Cert.AddKv.Fwd

open Cert.AddKv Cert.AddKv.Gen Cert.AddHalves Idealize.ShloMosaic Idealize.ShloMosaic.TcCoe

theorem place_inside : ∀ (k : Fin 2) (a : Fin 4) (b : Fin 1) (d : Fin 3),
    (place 1#32 (BitVec.ofNat 32 k.val) a.val b.val d + 1) * S1x128x512.size d ≤ S4x256x512.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddKv.Fwd

end
-- ==== Proof.AddKvRun.lean ====
/-
  The addition of the halves of the gradient of the keys and values over its whole grid, over extended reals.
-/
module

public import proofs.«01_k».proof.Proof.Gen.AddKvIdeal.Frame
public import proofs.«01_k».proof.Proof.AddHalves
public import Idealize.ShloMosaic.Lib.Pointwise
public import Idealize.ShloMosaic.Lib.Pipeline.ValueKit

@[expose] public section

noncomputable section

namespace Cert.AddKvIdeal.Fwd

open Cert.AddKvIdeal Cert.AddKvIdeal.Gen Cert.AddHalves Idealize.ShloMosaic Idealize.ShloMosaic.TcCoe Idealize.ShloMosaic.Tactic
open Idealize.SL.Sem

theorem place_inside : ∀ (k : Fin 2) (a : Fin 4) (b : Fin 1) (d : Fin 3),
    (place 1#32 (BitVec.ofNat 32 k.val) a.val b.val d + 1) * S1x128x512.size d ≤ S4x256x512.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 1#32 (BitVec.ofNat 32 k.val) (grid0.coords t 0).val (grid0.coords t 1).val
      = ![t.val / 1, k.val * 1 + t.val % 1, 0] := by
  decide +kernel

theorem idx1 : ∀ t : Fin grid0.N, cc0_transform_1 (grid0.coords t) = ![t.val / 1, t.val % 1, 0] := by decide +kernel
theorem idx2 : ∀ t : Fin grid0.N, cc0_transform_2 (grid0.coords t) = ![t.val / 1, t.val % 1, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 1, by have : t.val < 4 := lt_of_lt_of_eq t.isLt N_0; omega⟩

/-- Row `r` of block `t` in the half. -/
def rowAt (t : Fin grid0.N) (r : Fin 128) : Fin 128 := ⟨t.val % 1 * 128 + r.val, by omega⟩

include hk in
theorem idx0 (t : Fin (cfgM m hO).N) :
    ((cfgM m hO).win 0).index t = ![t.val / 1, k.val * 1 + t.val % 1, 0] := by
  refine (transform m _).trans ?_
  rw [hk]
  exact place_core k t

theorem covers : ((cfgM m hO).win 2).Covers := by
  refine ⟨(by decide : ∀ a : Fin 3, 0 < S1x128x512.size a), fun β => ?_⟩
  have h : ∀ (a : Fin 4) (b : Fin 1), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 1 := by
    show (128 + 128 - 1) / 128 = 1
    decide
  have n2 : ((cfgM m hO).win 2).nblk (2 : Fin 3) = 1 := by
    show (512 + 512 - 1) / 512 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x128x512.Idx) :
    (((cfgM m hO).win 0).blk t).view.emb y = (ix3 (chipAt t) (rowOf k (rowAt t (y 1))) (y 2) : S4x256x512.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 1 * 1 + (y 0).val = t.val / 1
    have : (y 0).val < 1 := (y 0).isLt
    omega
  | 1 =>
    show (k.val * 1 + t.val % 1) * 128 + (y 1).val = k.val * 128 + (t.val % 1 * 128 + (y 1).val)
    omega
  | 2 =>
    show 0 * 512 + (y 2).val = (y 2).val
    omega

/-- An index of a block of the received half, in the array. -/
theorem emb1 (t : Fin (cfgM m hO).N) (y : S1x128x512.Idx) :
    (((cfgM m hO).win 1).blk t).view.emb y = (ix3 (chipAt t) (rowAt t (y 1)) (y 2) : S4x128x512.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 1 * 1 + (y 0).val = t.val / 1
    have : (y 0).val < 1 := (y 0).isLt
    omega
  | 1 => rfl
  | 2 =>
    show 0 * 512 + (y 2).val = (y 2).val
    omega

/-- An index of a block of the sum, in the array. -/
theorem emb2 (t : Fin (cfgM m hO).N) (y : S1x128x512.Idx) :
    (((cfgM m hO).win 2).blk t).view.emb y = (ix3 (chipAt t) (rowAt t (y 1)) (y 2) : S4x128x512.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 1 * 1 + (y 0).val = t.val / 1
    have : (y 0).val < 1 := (y 0).isLt
    omega
  | 1 => rfl
  | 2 =>
    show 0 * 512 + (y 2).val = (y 2).val
    omega

theorem pay_at (u v : FVec Ideal S1x128x512 .f32) (y : S1x128x512.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x128x512.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddKvIdeal.Fwd

end
-- ==== Proof.AddKvClaims.lean ====
/-
  The claims of the addition of the halves of the gradient of the keys and values.
-/
module

public import proofs.«01_k».proof.Defs
public import proofs.«01_k».proof.Proof.Gen.AddKvRefIdeal.Read
public import proofs.«01_k».proof.Proof.AddKvPre
public import proofs.«01_k».proof.Proof.AddKvRun
public import Idealize.ShloMosaic.Lib.Claim
public import Idealize.ShloMosaic.Lib.Quiescent

@[expose] public section

noncomputable section

namespace Cert.Proof.AddKv

open Idealize.ShloMosaic Idealize.ShloMosaic.TcCoe Idealize.ShloMosaic.Tactic Idealize.SL.Sem Cert.AddKvIdeal.Fwd Cert.AddHalves

open Cert.AddKvRefIdeal.Read in
/-- The half that the core's number selects. -/
theorem half_eq (x : Vec Ideal ⟨3, ![4, 256, 512]⟩ .f32) (z : IVec ⟨1, ![1]⟩ 32) (k : Fin 2)
    (hk : z (ix1 0) = BitVec.ofNat 32 k.val) (j : (⟨3, ![4, 128, 512]⟩ : Shape).Idx) :
    val_main_v4 (F := Ideal) x z j = x (ix3 (j 0) (rowOf (h := 128) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 128 + (j 1).val; omega
    | 2 => rfl
  | 1 =>
    refine (val_main_v3_apply x j).trans (congrArg x (funext fun (a : Fin 3) => Fin.ext ?_))
    match a with
    | 0 => rfl
    | 1 => show 128 + (j 1).val = 1 * 128 + (j 1).val; omega
    | 2 => rfl

open Cert.AddKvRefIdeal.Read in
theorem reference_eq (x : Vec Ideal ⟨3, ![4, 256, 512]⟩ .f32) (y : Vec Ideal ⟨3, ![4, 128, 512]⟩ .f32)
    (z : IVec ⟨1, ![1]⟩ 32) (k : Fin 2) (hk : z (ix1 0) = BitVec.ofNat 32 k.val) :
    val_main_v6 (F := Ideal) x y z = added (h := 128) k x y := by
  funext j
  have s : val_main_v6 (F := Ideal) x y z j = (show EReal from val_main_v4 (F := Ideal) x z j) + (show EReal from y j) := rfl
  rw [s, half_eq x z k hk j]
  rfl

theorem frame_kernel : Cert.quiescent_AddKv := fun m ρ h =>
  have ⟨k, hk⟩ := Cert.AddKvPre.core _ _ _ (h 0)
  Cert.AddKv.Gen.frame m ρ (Cert.AddKv.Fwd.ok m k ((Cert.AddKv.Fwd.word_eq m).trans hk))

theorem frame_ideal : Cert.quiescent_AddKvIdeal := fun m ρ h =>
  have ⟨k, hk⟩ := Cert.AddKvPre.core _ _ _ (h 0)
  Cert.AddKvIdeal.Gen.frame m ρ (ok m k ((word_eq m).trans hk))

theorem frame_reference : Cert.quiescent_AddKvRefIdeal := fun m ρ _ =>
  (θ_run Cert.AddKvRefIdeal.defs _ _).mono
    (fun r h => ⟨fun c => (h c).2, Idealize.ShloMosaic.sem_eq_zero_of_no_sems (by decide) r.2⟩)
    (Cert.AddKvRefIdeal.Value.run (F := Ideal) m ρ)

theorem frame_reference_pre : Cert.quiescent_AddKvRefIdeal_pre_core_number_kv := fun m ρ _ => frame_reference m ρ trivial

open Cert.AddKvIdeal Cert.AddKvIdeal.Gen in
theorem algebraic : Cert.algebraic_AddKvIdeal_AddKvRefIdeal := by
  intro m ρ m' ρ' hpre hag
  obtain ⟨k, hk⟩ := Cert.AddKvPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddKvRefIdeal.Value.run (F := Ideal) m' ρ')
    obtain ⟨h0, h1⟩ := h c
    obtain rfl : c = 0 := Subsingleton.elim _ _
    obtain ⟨g0, g1, g2⟩ := hag 0
    rw [Cert.AddKvRefIdeal.Read.val_main_v6_eq, g0, g1, g2, reference_eq _ _ _ k hk] at h0
    exact ⟨h0, h1⟩

end Cert.Proof.AddKv

end
-- ==== Proof.AddOutPre.lean ====
/-
  The core's number in the addition of the halves of the gradient of the output projection: the precondition says that it is 0 or 1, and
  then every block that is read lies inside its array.
-/
module

public import proofs.«01_k».proof.Pre_core_number_out
public import proofs.«01_k».proof.Proof.Gen.AddOut.Frame
public import proofs.«01_k».proof.Proof.AddHalves

@[expose] public section

noncomputable section

namespace Cert.AddOutPre

open Cert.AddHalves Idealize.ShloMosaic

theorem facts : Cert.Pre_core_number_out.Facts where
  bcast_S_S1 := by decide

instance : Cert.Pre_core_number_out.Facts := facts

theorem core {F : FTy → Type} [FloatOps F] (x : FVec F ⟨3, ![4, 256, 1024]⟩ .f32) (y : FVec F ⟨3, ![4, 128, 1024]⟩ .f32)
    (z : IVec ⟨1, ![1]⟩ 32) (h : Cert.Pre_core_number_out.fn x y z = fun _ => 1#1) :
    ∃ k : Fin 2, z (ix1 0) = BitVec.ofNat 32 k.val :=
  core_of_bounds _ (congrFun h (ix1 0))

end Cert.AddOutPre

namespace Cert.AddOut.Fwd

open Cert.AddOut Cert.AddOut.Gen Cert.AddHalves Idealize.ShloMosaic Idealize.ShloMosaic.TcCoe

theorem place_inside : ∀ (k : Fin 2) (a : Fin 4) (b : Fin 1) (d : Fin 3),
    (place 1#32 (BitVec.ofNat 32 k.val) a.val b.val d + 1) * S1x128x1024.size d ≤ S4x256x1024.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddOut.Fwd

end
-- ==== Proof.AddOutRun.lean ====
/-
  The addition of the halves of the gradient of the output projection over its whole grid, over extended reals.
-/
module

public import proofs.«01_k».proof.Proof.Gen.AddOutIdeal.Frame
public import proofs.«01_k».proof.Proof.AddHalves
public import Idealize.ShloMosaic.Lib.Pointwise
public import Idealize.ShloMosaic.Lib.Pipeline.ValueKit

@[expose] public section

noncomputable section

namespace Cert.AddOutIdeal.Fwd

open Cert.AddOutIdeal Cert.AddOutIdeal.Gen Cert.AddHalves Idealize.ShloMosaic Idealize.ShloMosaic.TcCoe Idealize.ShloMosaic.Tactic
open Idealize.SL.Sem

theorem place_inside : ∀ (k : Fin 2) (a : Fin 4) (b : Fin 1) (d : Fin 3),
    (place 1#32 (BitVec.ofNat 32 k.val) a.val b.val d + 1) * S1x128x1024.size d ≤ S4x256x1024.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 1#32 (BitVec.ofNat 32 k.val) (grid0.coords t 0).val (grid0.coords t 1).val
      = ![t.val / 1, k.val * 1 + t.val % 1, 0] := by
  decide +kernel

theorem idx1 : ∀ t : Fin grid0.N, cc0_transform_1 (grid0.coords t) = ![t.val / 1, t.val % 1, 0] := by decide +kernel
theorem idx2 : ∀ t : Fin grid0.N, cc0_transform_2 (grid0.coords t) = ![t.val / 1, t.val % 1, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 1, by have : t.val < 4 := lt_of_lt_of_eq t.isLt N_0; omega⟩

/-- Row `r` of block `t` in the half. -/
def rowAt (t : Fin grid0.N) (r : Fin 128) : Fin 128 := ⟨t.val % 1 * 128 + r.val, by omega⟩

include hk in
theorem idx0 (t : Fin (cfgM m hO).N) :
    ((cfgM m hO).win 0).index t = ![t.val / 1, k.val * 1 + t.val % 1, 0] := by
  refine (transform m _).trans ?_
  rw [hk]
  exact place_core k t

theorem covers : ((cfgM m hO).win 2).Covers := by
  refine ⟨(by decide : ∀ a : Fin 3, 0 < S1x128x1024.size a), fun β => ?_⟩
  have h : ∀ (a : Fin 4) (b : Fin 1), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 1 := by
    show (128 + 128 - 1) / 128 = 1
    decide
  have n2 : ((cfgM m hO).win 2).nblk (2 : Fin 3) = 1 := by
    show (1024 + 1024 - 1) / 1024 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x128x1024.Idx) :
    (((cfgM m hO).win 0).blk t).view.emb y = (ix3 (chipAt t) (rowOf k (rowAt t (y 1))) (y 2) : S4x256x1024.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 1 * 1 + (y 0).val = t.val / 1
    have : (y 0).val < 1 := (y 0).isLt
    omega
  | 1 =>
    show (k.val * 1 + t.val % 1) * 128 + (y 1).val = k.val * 128 + (t.val % 1 * 128 + (y 1).val)
    omega
  | 2 =>
    show 0 * 1024 + (y 2).val = (y 2).val
    omega

/-- An index of a block of the received half, in the array. -/
theorem emb1 (t : Fin (cfgM m hO).N) (y : S1x128x1024.Idx) :
    (((cfgM m hO).win 1).blk t).view.emb y = (ix3 (chipAt t) (rowAt t (y 1)) (y 2) : S4x128x1024.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 1 * 1 + (y 0).val = t.val / 1
    have : (y 0).val < 1 := (y 0).isLt
    omega
  | 1 => rfl
  | 2 =>
    show 0 * 1024 + (y 2).val = (y 2).val
    omega

/-- An index of a block of the sum, in the array. -/
theorem emb2 (t : Fin (cfgM m hO).N) (y : S1x128x1024.Idx) :
    (((cfgM m hO).win 2).blk t).view.emb y = (ix3 (chipAt t) (rowAt t (y 1)) (y 2) : S4x128x1024.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 1 * 1 + (y 0).val = t.val / 1
    have : (y 0).val < 1 := (y 0).isLt
    omega
  | 1 => rfl
  | 2 =>
    show 0 * 1024 + (y 2).val = (y 2).val
    omega

theorem pay_at (u v : FVec Ideal S1x128x1024 .f32) (y : S1x128x1024.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x128x1024.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddOutIdeal.Fwd

end
-- ==== Proof.AddOutClaims.lean ====
/-
  The claims of the addition of the halves of the gradient of the output projection.
-/
module

public import proofs.«01_k».proof.Defs
public import proofs.«01_k».proof.Proof.Gen.AddOutRefIdeal.Read
public import proofs.«01_k».proof.Proof.AddOutPre
public import proofs.«01_k».proof.Proof.AddOutRun
public import Idealize.ShloMosaic.Lib.Claim
public import Idealize.ShloMosaic.Lib.Quiescent

@[expose] public section

noncomputable section

namespace Cert.Proof.AddOut

open Idealize.ShloMosaic Idealize.ShloMosaic.TcCoe Idealize.ShloMosaic.Tactic Idealize.SL.Sem Cert.AddOutIdeal.Fwd Cert.AddHalves

open Cert.AddOutRefIdeal.Read in
/-- The half that the core's number selects. -/
theorem half_eq (x : Vec Ideal ⟨3, ![4, 256, 1024]⟩ .f32) (z : IVec ⟨1, ![1]⟩ 32) (k : Fin 2)
    (hk : z (ix1 0) = BitVec.ofNat 32 k.val) (j : (⟨3, ![4, 128, 1024]⟩ : Shape).Idx) :
    val_main_v4 (F := Ideal) x z j = x (ix3 (j 0) (rowOf (h := 128) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 128 + (j 1).val; omega
    | 2 => rfl
  | 1 =>
    refine (val_main_v3_apply x j).trans (congrArg x (funext fun (a : Fin 3) => Fin.ext ?_))
    match a with
    | 0 => rfl
    | 1 => show 128 + (j 1).val = 1 * 128 + (j 1).val; omega
    | 2 => rfl

open Cert.AddOutRefIdeal.Read in
theorem reference_eq (x : Vec Ideal ⟨3, ![4, 256, 1024]⟩ .f32) (y : Vec Ideal ⟨3, ![4, 128, 1024]⟩ .f32)
    (z : IVec ⟨1, ![1]⟩ 32) (k : Fin 2) (hk : z (ix1 0) = BitVec.ofNat 32 k.val) :
    val_main_v6 (F := Ideal) x y z = added (h := 128) k x y := by
  funext j
  have s : val_main_v6 (F := Ideal) x y z j = (show EReal from val_main_v4 (F := Ideal) x z j) + (show EReal from y j) := rfl
  rw [s, half_eq x z k hk j]
  rfl

theorem frame_kernel : Cert.quiescent_AddOut := fun m ρ h =>
  have ⟨k, hk⟩ := Cert.AddOutPre.core _ _ _ (h 0)
  Cert.AddOut.Gen.frame m ρ (Cert.AddOut.Fwd.ok m k ((Cert.AddOut.Fwd.word_eq m).trans hk))

theorem frame_ideal : Cert.quiescent_AddOutIdeal := fun m ρ h =>
  have ⟨k, hk⟩ := Cert.AddOutPre.core _ _ _ (h 0)
  Cert.AddOutIdeal.Gen.frame m ρ (ok m k ((word_eq m).trans hk))

theorem frame_reference : Cert.quiescent_AddOutRefIdeal := fun m ρ _ =>
  (θ_run Cert.AddOutRefIdeal.defs _ _).mono
    (fun r h => ⟨fun c => (h c).2, Idealize.ShloMosaic.sem_eq_zero_of_no_sems (by decide) r.2⟩)
    (Cert.AddOutRefIdeal.Value.run (F := Ideal) m ρ)

theorem frame_reference_pre : Cert.quiescent_AddOutRefIdeal_pre_core_number_out := fun m ρ _ => frame_reference m ρ trivial

open Cert.AddOutIdeal Cert.AddOutIdeal.Gen in
theorem algebraic : Cert.algebraic_AddOutIdeal_AddOutRefIdeal := by
  intro m ρ m' ρ' hpre hag
  obtain ⟨k, hk⟩ := Cert.AddOutPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddOutRefIdeal.Value.run (F := Ideal) m' ρ')
    obtain ⟨h0, h1⟩ := h c
    obtain rfl : c = 0 := Subsingleton.elim _ _
    obtain ⟨g0, g1, g2⟩ := hag 0
    rw [Cert.AddOutRefIdeal.Read.val_main_v6_eq, g0, g1, g2, reference_eq _ _ _ k hk] at h0
    exact ⟨h0, h1⟩

end Cert.Proof.AddOut

end
-- ==== Proof.AddUpPre.lean ====
/-
  The core's number in the addition of the halves of the gradient of the first feed-forward layer: the precondition says that it is 0 or 1, and
  then every block that is read lies inside its array.
-/
module

public import proofs.«01_k».proof.Pre_core_number_up
public import proofs.«01_k».proof.Proof.Gen.AddUp.Frame
public import proofs.«01_k».proof.Proof.AddHalves

@[expose] public section

noncomputable section

namespace Cert.AddUpPre

open Cert.AddHalves Idealize.ShloMosaic

theorem facts : Cert.Pre_core_number_up.Facts where
  bcast_S_S1 := by decide

instance : Cert.Pre_core_number_up.Facts := facts

theorem core {F : FTy → Type} [FloatOps F] (x : FVec F ⟨3, ![4, 1024, 1408]⟩ .f32) (y : FVec F ⟨3, ![4, 512, 1408]⟩ .f32)
    (z : IVec ⟨1, ![1]⟩ 32) (h : Cert.Pre_core_number_up.fn x y z = fun _ => 1#1) :
    ∃ k : Fin 2, z (ix1 0) = BitVec.ofNat 32 k.val :=
  core_of_bounds _ (congrFun h (ix1 0))

end Cert.AddUpPre

namespace Cert.AddUp.Fwd

open Cert.AddUp Cert.AddUp.Gen Cert.AddHalves Idealize.ShloMosaic Idealize.ShloMosaic.TcCoe

theorem place_inside : ∀ (k : Fin 2) (a : Fin 4) (b : Fin 4) (d : Fin 3),
    (place 4#32 (BitVec.ofNat 32 k.val) a.val b.val d + 1) * S1x128x1408.size d ≤ S4x1024x1408.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 4#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddUp.Fwd

end
-- ==== Proof.AddUpRun.lean ====
/-
  The addition of the halves of the gradient of the first feed-forward layer over its whole grid, over extended reals.
-/
module

public import proofs.«01_k».proof.Proof.Gen.AddUpIdeal.Frame
public import proofs.«01_k».proof.Proof.AddHalves
public import Idealize.ShloMosaic.Lib.Pointwise
public import Idealize.ShloMosaic.Lib.Pipeline.ValueKit

@[expose] public section

noncomputable section

namespace Cert.AddUpIdeal.Fwd

open Cert.AddUpIdeal Cert.AddUpIdeal.Gen Cert.AddHalves Idealize.ShloMosaic Idealize.ShloMosaic.TcCoe Idealize.ShloMosaic.Tactic
open Idealize.SL.Sem

theorem place_inside : ∀ (k : Fin 2) (a : Fin 4) (b : Fin 4) (d : Fin 3),
    (place 4#32 (BitVec.ofNat 32 k.val) a.val b.val d + 1) * S1x128x1408.size d ≤ S4x1024x1408.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 4#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 4#32 (BitVec.ofNat 32 k.val) (grid0.coords t 0).val (grid0.coords t 1).val
      = ![t.val / 4, k.val * 4 + t.val % 4, 0] := by
  decide +kernel

theorem idx1 : ∀ t : Fin grid0.N, cc0_transform_1 (grid0.coords t) = ![t.val / 4, t.val % 4, 0] := by decide +kernel
theorem idx2 : ∀ t : Fin grid0.N, cc0_transform_2 (grid0.coords t) = ![t.val / 4, t.val % 4, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 4, by have : t.val < 16 := lt_of_lt_of_eq t.isLt N_0; omega⟩

/-- Row `r` of block `t` in the half. -/
def rowAt (t : Fin grid0.N) (r : Fin 128) : Fin 512 := ⟨t.val % 4 * 128 + r.val, by omega⟩

include hk in
theorem idx0 (t : Fin (cfgM m hO).N) :
    ((cfgM m hO).win 0).index t = ![t.val / 4, k.val * 4 + t.val % 4, 0] := by
  refine (transform m _).trans ?_
  rw [hk]
  exact place_core k t

theorem covers : ((cfgM m hO).win 2).Covers := by
  refine ⟨(by decide : ∀ a : Fin 3, 0 < S1x128x1408.size a), fun β => ?_⟩
  have h : ∀ (a : Fin 4) (b : Fin 4), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 4 := by
    show (512 + 128 - 1) / 128 = 4
    decide
  have n2 : ((cfgM m hO).win 2).nblk (2 : Fin 3) = 1 := by
    show (1408 + 1408 - 1) / 1408 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x128x1408.Idx) :
    (((cfgM m hO).win 0).blk t).view.emb y = (ix3 (chipAt t) (rowOf k (rowAt t (y 1))) (y 2) : S4x1024x1408.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 4 * 1 + (y 0).val = t.val / 4
    have : (y 0).val < 1 := (y 0).isLt
    omega
  | 1 =>
    show (k.val * 4 + t.val % 4) * 128 + (y 1).val = k.val * 512 + (t.val % 4 * 128 + (y 1).val)
    omega
  | 2 =>
    show 0 * 1408 + (y 2).val = (y 2).val
    omega

/-- An index of a block of the received half, in the array. -/
theorem emb1 (t : Fin (cfgM m hO).N) (y : S1x128x1408.Idx) :
    (((cfgM m hO).win 1).blk t).view.emb y = (ix3 (chipAt t) (rowAt t (y 1)) (y 2) : S4x512x1408.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 4 * 1 + (y 0).val = t.val / 4
    have : (y 0).val < 1 := (y 0).isLt
    omega
  | 1 => rfl
  | 2 =>
    show 0 * 1408 + (y 2).val = (y 2).val
    omega

/-- An index of a block of the sum, in the array. -/
theorem emb2 (t : Fin (cfgM m hO).N) (y : S1x128x1408.Idx) :
    (((cfgM m hO).win 2).blk t).view.emb y = (ix3 (chipAt t) (rowAt t (y 1)) (y 2) : S4x512x1408.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 4 * 1 + (y 0).val = t.val / 4
    have : (y 0).val < 1 := (y 0).isLt
    omega
  | 1 => rfl
  | 2 =>
    show 0 * 1408 + (y 2).val = (y 2).val
    omega

theorem pay_at (u v : FVec Ideal S1x128x1408 .f32) (y : S1x128x1408.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x128x1408.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddUpIdeal.Fwd

end
-- ==== Proof.AddUpClaims.lean ====
/-
  The claims of the addition of the halves of the gradient of the first feed-forward layer.
-/
module

public import proofs.«01_k».proof.Defs
public import proofs.«01_k».proof.Proof.Gen.AddUpRefIdeal.Read
public import proofs.«01_k».proof.Proof.AddUpPre
public import proofs.«01_k».proof.Proof.AddUpRun
public import Idealize.ShloMosaic.Lib.Claim
public import Idealize.ShloMosaic.Lib.Quiescent

@[expose] public section

noncomputable section

namespace Cert.Proof.AddUp

open Idealize.ShloMosaic Idealize.ShloMosaic.TcCoe Idealize.ShloMosaic.Tactic Idealize.SL.Sem Cert.AddUpIdeal.Fwd Cert.AddHalves

open Cert.AddUpRefIdeal.Read in
/-- The half that the core's number selects. -/
theorem half_eq (x : Vec Ideal ⟨3, ![4, 1024, 1408]⟩ .f32) (z : IVec ⟨1, ![1]⟩ 32) (k : Fin 2)
    (hk : z (ix1 0) = BitVec.ofNat 32 k.val) (j : (⟨3, ![4, 512, 1408]⟩ : Shape).Idx) :
    val_main_v4 (F := Ideal) x z j = x (ix3 (j 0) (rowOf (h := 512) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 512 + (j 1).val; omega
    | 2 => rfl
  | 1 =>
    refine (val_main_v3_apply x j).trans (congrArg x (funext fun (a : Fin 3) => Fin.ext ?_))
    match a with
    | 0 => rfl
    | 1 => show 512 + (j 1).val = 1 * 512 + (j 1).val; omega
    | 2 => rfl

open Cert.AddUpRefIdeal.Read in
theorem reference_eq (x : Vec Ideal ⟨3, ![4, 1024, 1408]⟩ .f32) (y : Vec Ideal ⟨3, ![4, 512, 1408]⟩ .f32)
    (z : IVec ⟨1, ![1]⟩ 32) (k : Fin 2) (hk : z (ix1 0) = BitVec.ofNat 32 k.val) :
    val_main_v6 (F := Ideal) x y z = added (h := 512) k x y := by
  funext j
  have s : val_main_v6 (F := Ideal) x y z j = (show EReal from val_main_v4 (F := Ideal) x z j) + (show EReal from y j) := rfl
  rw [s, half_eq x z k hk j]
  rfl

theorem frame_kernel : Cert.quiescent_AddUp := fun m ρ h =>
  have ⟨k, hk⟩ := Cert.AddUpPre.core _ _ _ (h 0)
  Cert.AddUp.Gen.frame m ρ (Cert.AddUp.Fwd.ok m k ((Cert.AddUp.Fwd.word_eq m).trans hk))

theorem frame_ideal : Cert.quiescent_AddUpIdeal := fun m ρ h =>
  have ⟨k, hk⟩ := Cert.AddUpPre.core _ _ _ (h 0)
  Cert.AddUpIdeal.Gen.frame m ρ (ok m k ((word_eq m).trans hk))

theorem frame_reference : Cert.quiescent_AddUpRefIdeal := fun m ρ _ =>
  (θ_run Cert.AddUpRefIdeal.defs _ _).mono
    (fun r h => ⟨fun c => (h c).2, Idealize.ShloMosaic.sem_eq_zero_of_no_sems (by decide) r.2⟩)
    (Cert.AddUpRefIdeal.Value.run (F := Ideal) m ρ)

theorem frame_reference_pre : Cert.quiescent_AddUpRefIdeal_pre_core_number_up := fun m ρ _ => frame_reference m ρ trivial

open Cert.AddUpIdeal Cert.AddUpIdeal.Gen in
theorem algebraic : Cert.algebraic_AddUpIdeal_AddUpRefIdeal := by
  intro m ρ m' ρ' hpre hag
  obtain ⟨k, hk⟩ := Cert.AddUpPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddUpRefIdeal.Value.run (F := Ideal) m' ρ')
    obtain ⟨h0, h1⟩ := h c
    obtain rfl : c = 0 := Subsingleton.elim _ _
    obtain ⟨g0, g1, g2⟩ := hag 0
    rw [Cert.AddUpRefIdeal.Read.val_main_v6_eq, g0, g1, g2, reference_eq _ _ _ k hk] at h0
    exact ⟨h0, h1⟩

end Cert.Proof.AddUp

end
-- ==== Proof.AddDownPre.lean ====
/-
  The core's number in the addition of the halves of the gradient of the second feed-forward layer: the precondition says that it is 0 or 1, and
  then every block that is read lies inside its array.
-/
module

public import proofs.«01_k».proof.Pre_core_number_down
public import proofs.«01_k».proof.Proof.Gen.AddDown.Frame
public import proofs.«01_k».proof.Proof.AddHalves

@[expose] public section

noncomputable section

namespace Cert.AddDownPre

open Cert.AddHalves Idealize.ShloMosaic

theorem facts : Cert.Pre_core_number_down.Facts where
  bcast_S_S1 := by decide

instance : Cert.Pre_core_number_down.Facts := facts

theorem core {F : FTy → Type} [FloatOps F] (x : FVec F ⟨3, ![4, 704, 1024]⟩ .f32) (y : FVec F ⟨3, ![4, 352, 1024]⟩ .f32)
    (z : IVec ⟨1, ![1]⟩ 32) (h : Cert.Pre_core_number_down.fn x y z = fun _ => 1#1) :
    ∃ k : Fin 2, z (ix1 0) = BitVec.ofNat 32 k.val :=
  core_of_bounds _ (congrFun h (ix1 0))

end Cert.AddDownPre

namespace Cert.AddDown.Fwd

open Cert.AddDown Cert.AddDown.Gen Cert.AddHalves Idealize.ShloMosaic Idealize.ShloMosaic.TcCoe

theorem place_inside : ∀ (k : Fin 2) (a : Fin 4) (b : Fin 2) (d : Fin 3),
    (place 2#32 (BitVec.ofNat 32 k.val) a.val b.val d + 1) * S1x176x1024.size d ≤ S4x704x1024.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 2#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddDown.Fwd

end
-- ==== Proof.AddDownRun.lean ====
/-
  The addition of the halves of the gradient of the second feed-forward layer over its whole grid, over extended reals.
-/
module

public import proofs.«01_k».proof.Proof.Gen.AddDownIdeal.Frame
public import proofs.«01_k».proof.Proof.AddHalves
public import Idealize.ShloMosaic.Lib.Pointwise
public import Idealize.ShloMosaic.Lib.Pipeline.ValueKit

@[expose] public section

noncomputable section

namespace Cert.AddDownIdeal.Fwd

open Cert.AddDownIdeal Cert.AddDownIdeal.Gen Cert.AddHalves Idealize.ShloMosaic Idealize.ShloMosaic.TcCoe Idealize.ShloMosaic.Tactic
open Idealize.SL.Sem

theorem place_inside : ∀ (k : Fin 2) (a : Fin 4) (b : Fin 2) (d : Fin 3),
    (place 2#32 (BitVec.ofNat 32 k.val) a.val b.val d + 1) * S1x176x1024.size d ≤ S4x704x1024.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 2#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 2#32 (BitVec.ofNat 32 k.val) (grid0.coords t 0).val (grid0.coords t 1).val
      = ![t.val / 2, k.val * 2 + t.val % 2, 0] := by
  decide +kernel

theorem idx1 : ∀ t : Fin grid0.N, cc0_transform_1 (grid0.coords t) = ![t.val / 2, t.val % 2, 0] := by decide +kernel
theorem idx2 : ∀ t : Fin grid0.N, cc0_transform_2 (grid0.coords t) = ![t.val / 2, t.val % 2, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 2, by have : t.val < 8 := lt_of_lt_of_eq t.isLt N_0; omega⟩

/-- Row `r` of block `t` in the half. -/
def rowAt (t : Fin grid0.N) (r : Fin 176) : Fin 352 := ⟨t.val % 2 * 176 + r.val, by omega⟩

include hk in
theorem idx0 (t : Fin (cfgM m hO).N) :
    ((cfgM m hO).win 0).index t = ![t.val / 2, k.val * 2 + t.val % 2, 0] := by
  refine (transform m _).trans ?_
  rw [hk]
  exact place_core k t

theorem covers : ((cfgM m hO).win 2).Covers := by
  refine ⟨(by decide : ∀ a : Fin 3, 0 < S1x176x1024.size a), fun β => ?_⟩
  have h : ∀ (a : Fin 4) (b : Fin 2), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 2 := by
    show (352 + 176 - 1) / 176 = 2
    decide
  have n2 : ((cfgM m hO).win 2).nblk (2 : Fin 3) = 1 := by
    show (1024 + 1024 - 1) / 1024 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x176x1024.Idx) :
    (((cfgM m hO).win 0).blk t).view.emb y = (ix3 (chipAt t) (rowOf k (rowAt t (y 1))) (y 2) : S4x704x1024.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 2 * 1 + (y 0).val = t.val / 2
    have : (y 0).val < 1 := (y 0).isLt
    omega
  | 1 =>
    show (k.val * 2 + t.val % 2) * 176 + (y 1).val = k.val * 352 + (t.val % 2 * 176 + (y 1).val)
    omega
  | 2 =>
    show 0 * 1024 + (y 2).val = (y 2).val
    omega

/-- An index of a block of the received half, in the array. -/
theorem emb1 (t : Fin (cfgM m hO).N) (y : S1x176x1024.Idx) :
    (((cfgM m hO).win 1).blk t).view.emb y = (ix3 (chipAt t) (rowAt t (y 1)) (y 2) : S4x352x1024.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 2 * 1 + (y 0).val = t.val / 2
    have : (y 0).val < 1 := (y 0).isLt
    omega
  | 1 => rfl
  | 2 =>
    show 0 * 1024 + (y 2).val = (y 2).val
    omega

/-- An index of a block of the sum, in the array. -/
theorem emb2 (t : Fin (cfgM m hO).N) (y : S1x176x1024.Idx) :
    (((cfgM m hO).win 2).blk t).view.emb y = (ix3 (chipAt t) (rowAt t (y 1)) (y 2) : S4x352x1024.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 2 * 1 + (y 0).val = t.val / 2
    have : (y 0).val < 1 := (y 0).isLt
    omega
  | 1 => rfl
  | 2 =>
    show 0 * 1024 + (y 2).val = (y 2).val
    omega

theorem pay_at (u v : FVec Ideal S1x176x1024 .f32) (y : S1x176x1024.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x176x1024.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddDownIdeal.Fwd

end
-- ==== Proof.AddDownClaims.lean ====
/-
  The claims of the addition of the halves of the gradient of the second feed-forward layer.
-/
module

public import proofs.«01_k».proof.Defs
public import proofs.«01_k».proof.Proof.Gen.AddDownRefIdeal.Read
public import proofs.«01_k».proof.Proof.AddDownPre
public import proofs.«01_k».proof.Proof.AddDownRun
public import Idealize.ShloMosaic.Lib.Claim
public import Idealize.ShloMosaic.Lib.Quiescent

@[expose] public section

noncomputable section

namespace Cert.Proof.AddDown

open Idealize.ShloMosaic Idealize.ShloMosaic.TcCoe Idealize.ShloMosaic.Tactic Idealize.SL.Sem Cert.AddDownIdeal.Fwd Cert.AddHalves

open Cert.AddDownRefIdeal.Read in
/-- The half that the core's number selects. -/
theorem half_eq (x : Vec Ideal ⟨3, ![4, 704, 1024]⟩ .f32) (z : IVec ⟨1, ![1]⟩ 32) (k : Fin 2)
    (hk : z (ix1 0) = BitVec.ofNat 32 k.val) (j : (⟨3, ![4, 352, 1024]⟩ : Shape).Idx) :
    val_main_v4 (F := Ideal) x z j = x (ix3 (j 0) (rowOf (h := 352) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 352 + (j 1).val; omega
    | 2 => rfl
  | 1 =>
    refine (val_main_v3_apply x j).trans (congrArg x (funext fun (a : Fin 3) => Fin.ext ?_))
    match a with
    | 0 => rfl
    | 1 => show 352 + (j 1).val = 1 * 352 + (j 1).val; omega
    | 2 => rfl

open Cert.AddDownRefIdeal.Read in
theorem reference_eq (x : Vec Ideal ⟨3, ![4, 704, 1024]⟩ .f32) (y : Vec Ideal ⟨3, ![4, 352, 1024]⟩ .f32)
    (z : IVec ⟨1, ![1]⟩ 32) (k : Fin 2) (hk : z (ix1 0) = BitVec.ofNat 32 k.val) :
    val_main_v6 (F := Ideal) x y z = added (h := 352) k x y := by
  funext j
  have s : val_main_v6 (F := Ideal) x y z j = (show EReal from val_main_v4 (F := Ideal) x z j) + (show EReal from y j) := rfl
  rw [s, half_eq x z k hk j]
  rfl

theorem frame_kernel : Cert.quiescent_AddDown := fun m ρ h =>
  have ⟨k, hk⟩ := Cert.AddDownPre.core _ _ _ (h 0)
  Cert.AddDown.Gen.frame m ρ (Cert.AddDown.Fwd.ok m k ((Cert.AddDown.Fwd.word_eq m).trans hk))

theorem frame_ideal : Cert.quiescent_AddDownIdeal := fun m ρ h =>
  have ⟨k, hk⟩ := Cert.AddDownPre.core _ _ _ (h 0)
  Cert.AddDownIdeal.Gen.frame m ρ (ok m k ((word_eq m).trans hk))

theorem frame_reference : Cert.quiescent_AddDownRefIdeal := fun m ρ _ =>
  (θ_run Cert.AddDownRefIdeal.defs _ _).mono
    (fun r h => ⟨fun c => (h c).2, Idealize.ShloMosaic.sem_eq_zero_of_no_sems (by decide) r.2⟩)
    (Cert.AddDownRefIdeal.Value.run (F := Ideal) m ρ)

theorem frame_reference_pre : Cert.quiescent_AddDownRefIdeal_pre_core_number_down := fun m ρ _ => frame_reference m ρ trivial

open Cert.AddDownIdeal Cert.AddDownIdeal.Gen in
theorem algebraic : Cert.algebraic_AddDownIdeal_AddDownRefIdeal := by
  intro m ρ m' ρ' hpre hag
  obtain ⟨k, hk⟩ := Cert.AddDownPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddDownRefIdeal.Value.run (F := Ideal) m' ρ')
    obtain ⟨h0, h1⟩ := h c
    obtain rfl : c = 0 := Subsingleton.elim _ _
    obtain ⟨g0, g1, g2⟩ := hag 0
    rw [Cert.AddDownRefIdeal.Read.val_main_v6_eq, g0, g1, g2, reference_eq _ _ _ k hk] at h0
    exact ⟨h0, h1⟩

end Cert.Proof.AddDown

end
-- ==== Proof.AddGroupPre.lean ====
/-
  The core's number in the addition of the halves of the gradient of a square weight matrix of the two small groups: the precondition says that it is 0 or 1, and
  then every block that is read lies inside its array.
-/
module

public import proofs.«01_k».proof.Pre_core_number_group
public import proofs.«01_k».proof.Proof.Gen.AddGroup.Frame
public import proofs.«01_k».proof.Proof.AddHalves

@[expose] public section

noncomputable section

namespace Cert.AddGroupPre

open Cert.AddHalves Idealize.ShloMosaic

theorem facts : Cert.Pre_core_number_group.Facts where
  bcast_S_S1 := by decide

instance : Cert.Pre_core_number_group.Facts := facts

theorem core {F : FTy → Type} [FloatOps F] (x : FVec F ⟨3, ![4, 64, 256]⟩ .f32) (y : FVec F ⟨3, ![4, 32, 256]⟩ .f32)
    (z : IVec ⟨1, ![1]⟩ 32) (h : Cert.Pre_core_number_group.fn x y z = fun _ => 1#1) :
    ∃ k : Fin 2, z (ix1 0) = BitVec.ofNat 32 k.val :=
  core_of_bounds _ (congrFun h (ix1 0))

end Cert.AddGroupPre

namespace Cert.AddGroup.Fwd

open Cert.AddGroup Cert.AddGroup.Gen Cert.AddHalves Idealize.ShloMosaic Idealize.ShloMosaic.TcCoe

theorem place_inside : ∀ (k : Fin 2) (a : Fin 4) (b : Fin 1) (d : Fin 3),
    (place 1#32 (BitVec.ofNat 32 k.val) a.val b.val d + 1) * S1x32x256.size d ≤ S4x64x256.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

end Cert.AddGroup.Fwd

end
-- ==== Proof.AddGroupRun.lean ====
/-
  The addition of the halves of the gradient of a square weight matrix of the two small groups over its whole grid, over extended reals.
-/
module

public import proofs.«01_k».proof.Proof.Gen.AddGroupIdeal.Frame
public import proofs.«01_k».proof.Proof.AddHalves
public import Idealize.ShloMosaic.Lib.Pointwise
public import Idealize.ShloMosaic.Lib.Pipeline.ValueKit

@[expose] public section

noncomputable section

namespace Cert.AddGroupIdeal.Fwd

open Cert.AddGroupIdeal Cert.AddGroupIdeal.Gen Cert.AddHalves Idealize.ShloMosaic Idealize.ShloMosaic.TcCoe Idealize.ShloMosaic.Tactic
open Idealize.SL.Sem

theorem place_inside : ∀ (k : Fin 2) (a : Fin 4) (b : Fin 1) (d : Fin 3),
    (place 1#32 (BitVec.ofNat 32 k.val) a.val b.val d + 1) * S1x32x256.size d ≤ S4x64x256.size d := by decide +kernel

section
variable {F : FTy → Type} [FloatOps F] (m : (ℓ : Loc nD τ sig) → Buf (Elt F) ℓ)

/-- The core's number as the index map reads it. -/
def word : BitVec 32 := (tbl m).at 0 (Rect.unit (s := S1) ![0] S1.size inb_S1_S1_0) numel1_S1

theorem at_one (i j : S1.Idx) : i = j := funext fun a => match a with | 0 => Subsingleton.elim (α := Fin 1) _ _

theorem word_eq : word m = m (((0 : Dev nD) : Thread nD τ).loc main_arg2) (ix1 0) := by
  show m (((0 : Dev nD) : Thread nD τ).loc main_arg2) ?w = _
  exact congrArg (m (((0 : Dev nD) : Thread nD τ).loc main_arg2)) (at_one _ _)

theorem transform (i : grid0.Coords) :
    cc0_transform_0 inb_S1_S1_0 numel1_S1 (tbl m) i = place 1#32 (word m) (i 0).val (i 1).val := rfl

/-- With a core's number in the table every block lies inside its array. -/
theorem ok (k : Fin 2) (hk : word m = BitVec.ofNat 32 k.val) : Ok m := by
  intro i
  refine ⟨fun d => ?_, Or.inl rfl⟩
  rw [transform, hk]
  exact place_inside k (i 0) (i 1) d
end

theorem place_core : ∀ (k : Fin 2) (t : Fin grid0.N),
    place 1#32 (BitVec.ofNat 32 k.val) (grid0.coords t 0).val (grid0.coords t 1).val
      = ![t.val / 1, k.val * 1 + t.val % 1, 0] := by
  decide +kernel

theorem idx1 : ∀ t : Fin grid0.N, cc0_transform_1 (grid0.coords t) = ![t.val / 1, t.val % 1, 0] := by decide +kernel
theorem idx2 : ∀ t : Fin grid0.N, cc0_transform_2 (grid0.coords t) = ![t.val / 1, t.val % 1, 0] := by decide +kernel

variable (m : (ℓ : Loc nD τ sig) → Buf (Elt Ideal) ℓ) (c : Dev nD)

abbrev A0 := m ((c : Thread nD τ).loc main_arg0)
abbrev A1 := m ((c : Thread nD τ).loc main_arg1)

variable (hO : Ok m) (k : Fin 2) (hk : word m = BitVec.ofNat 32 k.val)

/-- The chip of block `t`. -/
def chipAt (t : Fin grid0.N) : Fin 4 :=
  ⟨t.val / 1, by have : t.val < 4 := lt_of_lt_of_eq t.isLt N_0; omega⟩

/-- Row `r` of block `t` in the half. -/
def rowAt (t : Fin grid0.N) (r : Fin 32) : Fin 32 := ⟨t.val % 1 * 32 + r.val, by omega⟩

include hk in
theorem idx0 (t : Fin (cfgM m hO).N) :
    ((cfgM m hO).win 0).index t = ![t.val / 1, k.val * 1 + t.val % 1, 0] := by
  refine (transform m _).trans ?_
  rw [hk]
  exact place_core k t

theorem covers : ((cfgM m hO).win 2).Covers := by
  refine ⟨(by decide : ∀ a : Fin 3, 0 < S1x32x256.size a), fun β => ?_⟩
  have h : ∀ (a : Fin 4) (b : Fin 1), ∃ t : Fin grid0.N, cc0_transform_2 (grid0.coords t) = ![a.val, b.val, 0] := by decide +kernel
  have n0 : ((cfgM m hO).win 2).nblk (0 : Fin 3) = 4 := by
    show (4 + 1 - 1) / 1 = 4
    decide
  have n1 : ((cfgM m hO).win 2).nblk (1 : Fin 3) = 1 := by
    show (32 + 32 - 1) / 32 = 1
    decide
  have n2 : ((cfgM m hO).win 2).nblk (2 : Fin 3) = 1 := by
    show (256 + 256 - 1) / 256 = 1
    decide
  obtain ⟨t, ht⟩ := h ⟨_, lt_of_lt_of_eq (β (0 : Fin 3)).isLt n0⟩ ⟨_, lt_of_lt_of_eq (β (1 : Fin 3)).isLt n1⟩
  exact ⟨t, flush0_2 _ t, fun (a : Fin 3) => ⟨(congrFun ht a).trans (match a with
    | 0 => rfl
    | 1 => rfl
    | 2 => (Nat.lt_one_iff.1 (lt_of_lt_of_eq (β (2 : Fin 3)).isLt n2)).symm), Or.inl rfl⟩⟩

include hk in
/-- An index of a block of the gradient, in the array. -/
theorem emb0 (t : Fin (cfgM m hO).N) (y : S1x32x256.Idx) :
    (((cfgM m hO).win 0).blk t).view.emb y = (ix3 (chipAt t) (rowOf k (rowAt t (y 1))) (y 2) : S4x64x256.Idx) := by
  refine funext fun (a : Fin 3) => Fin.ext ?_
  refine (Pipeline.Window.rect_emb_val ((cfgM m hO).win 0) t y a rfl).trans
    ((congrArg (fun z => z * _ + _) (congrFun (idx0 m hO k hk t) a)).trans ?_)
  match a with
  | 0 =>
    show t.val / 1 * 1 + (y 0).val = t.val / 1
    have : (y 0).val < 1 := (y 0).isLt
    omega
  | 1 =>
    show (k.val * 1 + t.val % 1) * 32 + (y 1).val = k.val * 32 + (t.val % 1 * 32 + (y 1).val)
    omega
  | 2 =>
    show 0 * 256 + (y 2).val = (y 2).val
    omega

/-- An index of a block of the received half, in the array. -/
theorem emb1 (t : Fin (cfgM m hO).N) (y : S1x32x256.Idx) :
    (((cfgM m hO).win 1).blk t).view.emb y = (ix3 (chipAt t) (rowAt t (y 1)) (y 2) : S4x32x256.Idx) := by
  refine funext fun (a : Fin 3) => Fin.ext ?_
  refine (Pipeline.Window.rect_emb_val ((cfgM m hO).win 1) t y a rfl).trans
    ((congrArg (fun z => z * _ + _) (congrFun (idx1 t) a)).trans ?_)
  match a with
  | 0 =>
    show t.val / 1 * 1 + (y 0).val = t.val / 1
    have : (y 0).val < 1 := (y 0).isLt
    omega
  | 1 => rfl
  | 2 =>
    show 0 * 256 + (y 2).val = (y 2).val
    omega

/-- An index of a block of the sum, in the array. -/
theorem emb2 (t : Fin (cfgM m hO).N) (y : S1x32x256.Idx) :
    (((cfgM m hO).win 2).blk t).view.emb y = (ix3 (chipAt t) (rowAt t (y 1)) (y 2) : S4x32x256.Idx) := by
  refine funext fun (a : Fin 3) => Fin.ext ?_
  refine (Pipeline.Window.rect_emb_val ((cfgM m hO).win 2) t y a rfl).trans
    ((congrArg (fun z => z * _ + _) (congrFun (idx2 t) a)).trans ?_)
  match a with
  | 0 =>
    show t.val / 1 * 1 + (y 0).val = t.val / 1
    have : (y 0).val < 1 := (y 0).isLt
    omega
  | 1 => rfl
  | 2 =>
    show 0 * 256 + (y 2).val = (y 2).val
    omega

theorem pay_at (u v : FVec Ideal S1x32x256 .f32) (y : S1x32x256.Idx) :
    k0_pay1 (F := Ideal) u v y = (show EReal from u y) + (show EReal from v y) := by
  have ey : y = ix3 0 (y 1) (y 2) :=
    funext fun (a : Fin 3) => match a with | 0 => Subsingleton.elim (α := Fin 1) _ _ | 1 => rfl | 2 => rfl
  rw [ey]
  pointwise [k0_pay1]
  exact congrArg₂ (fun p q : EReal => p + q) (congrArg u ey) (congrArg v ey)

include hk in
theorem added_at (t : Fin (cfgM m hO).N) (y : S1x32x256.Idx) :
    k0_pay1 (iblk m hO c 0 t) (iblk m hO c 1 t) y
      = added k (A0 m c) (A1 m c) (ix3 (chipAt t) (rowAt t (y 1)) (y 2)) := by
  have f0 : iblk m hO c 0 t y = A0 m c ((((cfgM m hO).win 0).blk t).view.emb y) := rfl
  have f1 : iblk m hO c 1 t y = A1 m c ((((cfgM m hO).win 1).blk t).view.emb y) := rfl
  refine (pay_at _ _ y).trans ?_
  rw [f0, f1, emb0 m hO k hk t y, emb1 m hO t y]
  rfl

include hk in
theorem final2 : (dats m hO 0 c).arrAt 2 (cfgM m hO).N = added k (A0 m c) (A1 m c) := by
  refine (dats m hO 0 c).arrAt_eq_of_covers 2 _ (covers m hO) fun t hf y => ?_
  have e2 := emb2 m hO t y
  blk_simp
  rw [after0_2]
  unfold outsAt0
  frame_out
  refine Eq.trans ?_ ((added_at m c hO k hk t y).trans (congrArg _ e2.symm))
  exact congrFun (congrArg₂ k0_pay1 (Memref.IsWhole.read_unread _ _) (Memref.IsWhole.read_unread _ _)) y

end Cert.AddGroupIdeal.Fwd

end
-- ==== Proof.AddGroupClaims.lean ====
/-
  The claims of the addition of the halves of the gradient of a square weight matrix of the two small groups.
-/
module

public import proofs.«01_k».proof.Defs
public import proofs.«01_k».proof.Proof.Gen.AddGroupRefIdeal.Read
public import proofs.«01_k».proof.Proof.AddGroupPre
public import proofs.«01_k».proof.Proof.AddGroupRun
public import Idealize.ShloMosaic.Lib.Claim
public import Idealize.ShloMosaic.Lib.Quiescent

@[expose] public section

noncomputable section

namespace Cert.Proof.AddGroup

open Idealize.ShloMosaic Idealize.ShloMosaic.TcCoe Idealize.ShloMosaic.Tactic Idealize.SL.Sem Cert.AddGroupIdeal.Fwd Cert.AddHalves

open Cert.AddGroupRefIdeal.Read in
/-- The half that the core's number selects. -/
theorem half_eq (x : Vec Ideal ⟨3, ![4, 64, 256]⟩ .f32) (z : IVec ⟨1, ![1]⟩ 32) (k : Fin 2)
    (hk : z (ix1 0) = BitVec.ofNat 32 k.val) (j : (⟨3, ![4, 32, 256]⟩ : Shape).Idx) :
    val_main_v4 (F := Ideal) x z j = x (ix3 (j 0) (rowOf (h := 32) k (j 1)) (j 2)) := by
  have e : ∀ i, val_main_v1 (F := Ideal) z i = IntOp.cmpi .eq (z (ix1 0)) 0#32 := fun i => by
    have e1 : ∀ w, IntOp.cmpi .eq (z w) 0#32 = IntOp.cmpi .eq (z (ix1 0)) 0#32 := fun w => by rw [at_one w (ix1 0)]
    exact e1 _
  have t : val_main_v4 (F := Ideal) x z j
      = Scalar.select (IntOp.cmpi .eq (z (ix1 0)) 0#32) (val_main_v2 (F := Ideal) x j) (val_main_v3 (F := Ideal) x j) :=
    congrArg (fun b => Scalar.select b (val_main_v2 (F := Ideal) x j) (val_main_v3 (F := Ideal) x j)) (e _)
  rw [t, hk]
  match k with
  | 0 =>
    refine (val_main_v2_apply x j).trans (congrArg x (funext fun (a : Fin 3) => Fin.ext ?_))
    match a with
    | 0 => rfl
    | 1 => show (j 1).val = 0 * 32 + (j 1).val; omega
    | 2 => rfl
  | 1 =>
    refine (val_main_v3_apply x j).trans (congrArg x (funext fun (a : Fin 3) => Fin.ext ?_))
    match a with
    | 0 => rfl
    | 1 => show 32 + (j 1).val = 1 * 32 + (j 1).val; omega
    | 2 => rfl

open Cert.AddGroupRefIdeal.Read in
theorem reference_eq (x : Vec Ideal ⟨3, ![4, 64, 256]⟩ .f32) (y : Vec Ideal ⟨3, ![4, 32, 256]⟩ .f32)
    (z : IVec ⟨1, ![1]⟩ 32) (k : Fin 2) (hk : z (ix1 0) = BitVec.ofNat 32 k.val) :
    val_main_v6 (F := Ideal) x y z = added (h := 32) k x y := by
  funext j
  have s : val_main_v6 (F := Ideal) x y z j = (show EReal from val_main_v4 (F := Ideal) x z j) + (show EReal from y j) := rfl
  rw [s, half_eq x z k hk j]
  rfl

theorem frame_kernel : Cert.quiescent_AddGroup := fun m ρ h =>
  have ⟨k, hk⟩ := Cert.AddGroupPre.core _ _ _ (h 0)
  Cert.AddGroup.Gen.frame m ρ (Cert.AddGroup.Fwd.ok m k ((Cert.AddGroup.Fwd.word_eq m).trans hk))

theorem frame_ideal : Cert.quiescent_AddGroupIdeal := fun m ρ h =>
  have ⟨k, hk⟩ := Cert.AddGroupPre.core _ _ _ (h 0)
  Cert.AddGroupIdeal.Gen.frame m ρ (ok m k ((word_eq m).trans hk))

theorem frame_reference : Cert.quiescent_AddGroupRefIdeal := fun m ρ _ =>
  (θ_run Cert.AddGroupRefIdeal.defs _ _).mono
    (fun r h => ⟨fun c => (h c).2, Idealize.ShloMosaic.sem_eq_zero_of_no_sems (by decide) r.2⟩)
    (Cert.AddGroupRefIdeal.Value.run (F := Ideal) m ρ)

theorem frame_reference_pre : Cert.quiescent_AddGroupRefIdeal_pre_core_number_group := fun m ρ _ => frame_reference m ρ trivial

open Cert.AddGroupIdeal Cert.AddGroupIdeal.Gen in
theorem algebraic : Cert.algebraic_AddGroupIdeal_AddGroupRefIdeal := by
  intro m ρ m' ρ' hpre hag
  obtain ⟨k, hk⟩ := Cert.AddGroupPre.core _ _ _ (hpre 0)
  have hw : word m = BitVec.ofNat 32 k.val := (word_eq m).trans hk
  have hO : Ok m := ok m k hw
  refine ⟨fun c => added k (A0 m c) (A1 m c), ?_, ?_⟩
  · refine (θ_run _ _ _).mono (fun r h c => ?_) (run_main (F := Ideal) m ρ hO)
    exact ⟨((h c).1 2).trans (final2 m c hO k hw),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.AddGroupRefIdeal.Value.run (F := Ideal) m' ρ')
    obtain ⟨h0, h1⟩ := h c
    obtain rfl : c = 0 := Subsingleton.elim _ _
    obtain ⟨g0, g1, g2⟩ := hag 0
    rw [Cert.AddGroupRefIdeal.Read.val_main_v6_eq, g0, g1, g2, reference_eq _ _ _ k hk] at h0
    exact ⟨h0, h1⟩

end Cert.Proof.AddGroup

end
-- ==== Proof.lean ====
module

public import proofs.«01_k».proof.Proof.Gen.AddIn
public import proofs.«01_k».proof.Proof.Gen.AddIn.Skeleton
public import proofs.«01_k».proof.Proof.Gen.AddIn.Launch
public import proofs.«01_k».proof.Proof.Gen.AddIn.Points
public import proofs.«01_k».proof.Proof.Gen.AddIn.Frame
public import proofs.«01_k».proof.Proof.Gen.AddInIdeal
public import proofs.«01_k».proof.Proof.Gen.AddInIdeal.Skeleton
public import proofs.«01_k».proof.Proof.Gen.AddInIdeal.Launch
public import proofs.«01_k».proof.Proof.Gen.AddInIdeal.Points
public import proofs.«01_k».proof.Proof.Gen.AddInIdeal.Frame
public import proofs.«01_k».proof.Proof.Gen.AddInRefIdeal
public import proofs.«01_k».proof.Proof.Gen.AddInRefIdeal.Run
public import proofs.«01_k».proof.Proof.Gen.AddInRefIdeal.Read
public import proofs.«01_k».proof.Proof.Gen.AddKv
public import proofs.«01_k».proof.Proof.Gen.AddKv.Skeleton
public import proofs.«01_k».proof.Proof.Gen.AddKv.Launch
public import proofs.«01_k».proof.Proof.Gen.AddKv.Points
public import proofs.«01_k».proof.Proof.Gen.AddKv.Frame
public import proofs.«01_k».proof.Proof.Gen.AddKvIdeal
public import proofs.«01_k».proof.Proof.Gen.AddKvIdeal.Skeleton
public import proofs.«01_k».proof.Proof.Gen.AddKvIdeal.Launch
public import proofs.«01_k».proof.Proof.Gen.AddKvIdeal.Points
public import proofs.«01_k».proof.Proof.Gen.AddKvIdeal.Frame
public import proofs.«01_k».proof.Proof.Gen.AddKvRefIdeal
public import proofs.«01_k».proof.Proof.Gen.AddKvRefIdeal.Run
public import proofs.«01_k».proof.Proof.Gen.AddKvRefIdeal.Read
public import proofs.«01_k».proof.Proof.Gen.AddOut
public import proofs.«01_k».proof.Proof.Gen.AddOut.Skeleton
public import proofs.«01_k».proof.Proof.Gen.AddOut.Launch
public import proofs.«01_k».proof.Proof.Gen.AddOut.Points
public import proofs.«01_k».proof.Proof.Gen.AddOut.Frame
public import proofs.«01_k».proof.Proof.Gen.AddOutIdeal
public import proofs.«01_k».proof.Proof.Gen.AddOutIdeal.Skeleton
public import proofs.«01_k».proof.Proof.Gen.AddOutIdeal.Launch
public import proofs.«01_k».proof.Proof.Gen.AddOutIdeal.Points
public import proofs.«01_k».proof.Proof.Gen.AddOutIdeal.Frame
public import proofs.«01_k».proof.Proof.Gen.AddOutRefIdeal
public import proofs.«01_k».proof.Proof.Gen.AddOutRefIdeal.Run
public import proofs.«01_k».proof.Proof.Gen.AddOutRefIdeal.Read
public import proofs.«01_k».proof.Proof.Gen.AddUp
public import proofs.«01_k».proof.Proof.Gen.AddUp.Skeleton
public import proofs.«01_k».proof.Proof.Gen.AddUp.Launch
public import proofs.«01_k».proof.Proof.Gen.AddUp.Points
public import proofs.«01_k».proof.Proof.Gen.AddUp.Frame
public import proofs.«01_k».proof.Proof.Gen.AddUpIdeal
public import proofs.«01_k».proof.Proof.Gen.AddUpIdeal.Skeleton
public import proofs.«01_k».proof.Proof.Gen.AddUpIdeal.Launch
public import proofs.«01_k».proof.Proof.Gen.AddUpIdeal.Points
public import proofs.«01_k».proof.Proof.Gen.AddUpIdeal.Frame
public import proofs.«01_k».proof.Proof.Gen.AddUpRefIdeal
public import proofs.«01_k».proof.Proof.Gen.AddUpRefIdeal.Run
public import proofs.«01_k».proof.Proof.Gen.AddUpRefIdeal.Read
public import proofs.«01_k».proof.Proof.Gen.AddDown
public import proofs.«01_k».proof.Proof.Gen.AddDown.Skeleton
public import proofs.«01_k».proof.Proof.Gen.AddDown.Launch
public import proofs.«01_k».proof.Proof.Gen.AddDown.Points
public import proofs.«01_k».proof.Proof.Gen.AddDown.Frame
public import proofs.«01_k».proof.Proof.Gen.AddDownIdeal
public import proofs.«01_k».proof.Proof.Gen.AddDownIdeal.Skeleton
public import proofs.«01_k».proof.Proof.Gen.AddDownIdeal.Launch
public import proofs.«01_k».proof.Proof.Gen.AddDownIdeal.Points
public import proofs.«01_k».proof.Proof.Gen.AddDownIdeal.Frame
public import proofs.«01_k».proof.Proof.Gen.AddDownRefIdeal
public import proofs.«01_k».proof.Proof.Gen.AddDownRefIdeal.Run
public import proofs.«01_k».proof.Proof.Gen.AddDownRefIdeal.Read
public import proofs.«01_k».proof.Proof.Gen.AddGroup
public import proofs.«01_k».proof.Proof.Gen.AddGroup.Skeleton
public import proofs.«01_k».proof.Proof.Gen.AddGroup.Launch
public import proofs.«01_k».proof.Proof.Gen.AddGroup.Points
public import proofs.«01_k».proof.Proof.Gen.AddGroup.Frame
public import proofs.«01_k».proof.Proof.Gen.AddGroupIdeal
public import proofs.«01_k».proof.Proof.Gen.AddGroupIdeal.Skeleton
public import proofs.«01_k».proof.Proof.Gen.AddGroupIdeal.Launch
public import proofs.«01_k».proof.Proof.Gen.AddGroupIdeal.Points
public import proofs.«01_k».proof.Proof.Gen.AddGroupIdeal.Frame
public import proofs.«01_k».proof.Proof.Gen.AddGroupRefIdeal
public import proofs.«01_k».proof.Proof.Gen.AddGroupRefIdeal.Run
public import proofs.«01_k».proof.Proof.Gen.AddGroupRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamGroup
public import proofs.«01_k».proof.Proof.Gen.AdamGroup.Skeleton
public import proofs.«01_k».proof.Proof.Gen.AdamGroup.Launch
public import proofs.«01_k».proof.Proof.Gen.AdamGroup.Points
public import proofs.«01_k».proof.Proof.Gen.AdamGroup.Frame
public import proofs.«01_k».proof.Proof.Gen.AdamGroupIdeal
public import proofs.«01_k».proof.Proof.Gen.AdamGroupIdeal.Skeleton
public import proofs.«01_k».proof.Proof.Gen.AdamGroupIdeal.Launch
public import proofs.«01_k».proof.Proof.Gen.AdamGroupIdeal.Points
public import proofs.«01_k».proof.Proof.Gen.AdamGroupIdeal.Frame
public import proofs.«01_k».proof.Proof.Gen.AdamGroupIdeal.Value
public import proofs.«01_k».proof.Proof.Gen.AdamGroupRefIdeal
public import proofs.«01_k».proof.Proof.Gen.AdamGroupRefIdeal.Run
public import proofs.«01_k».proof.Proof.Gen.AdamGroupRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.SumDevices
public import proofs.«01_k».proof.Proof.Gen.SumDevices.Skeleton
public import proofs.«01_k».proof.Proof.Gen.SumDevices.Launch
public import proofs.«01_k».proof.Proof.Gen.SumDevices.Points
public import proofs.«01_k».proof.Proof.Gen.SumDevices.Frame
public import proofs.«01_k».proof.Proof.Gen.SumDevicesIdeal
public import proofs.«01_k».proof.Proof.Gen.SumDevicesIdeal.Skeleton
public import proofs.«01_k».proof.Proof.Gen.SumDevicesIdeal.Launch
public import proofs.«01_k».proof.Proof.Gen.SumDevicesIdeal.Points
public import proofs.«01_k».proof.Proof.Gen.SumDevicesIdeal.Frame
public import proofs.«01_k».proof.Proof.Gen.SumDevicesIdeal.Value
public import proofs.«01_k».proof.Proof.Gen.SumDevicesRefIdeal
public import proofs.«01_k».proof.Proof.Gen.SumDevicesRefIdeal.Run
public import proofs.«01_k».proof.Proof.Gen.SumDevicesRefIdeal.Read
public import proofs.«01_k».proof.Proof.Gen.CvFwd
public import proofs.«01_k».proof.Proof.Gen.CvFwd.Skeleton
public import proofs.«01_k».proof.Proof.Gen.CvFwd.Launch
public import proofs.«01_k».proof.Proof.Gen.CvFwd.Points
public import proofs.«01_k».proof.Proof.Gen.CvFwd.Frame
public import proofs.«01_k».proof.Proof.Gen.CvFwdIdeal
public import proofs.«01_k».proof.Proof.Gen.CvFwdIdeal.Skeleton
public import proofs.«01_k».proof.Proof.Gen.CvFwdIdeal.Launch
public import proofs.«01_k».proof.Proof.Gen.CvFwdIdeal.Points
public import proofs.«01_k».proof.Proof.Gen.CvFwdIdeal.Frame
public import proofs.«01_k».proof.Proof.Gen.CvFwdIdeal.Value
public import proofs.«01_k».proof.Proof.Gen.CvFwdRefIdeal
public import proofs.«01_k».proof.Proof.Gen.CvFwdRefIdeal.Run
public import proofs.«01_k».proof.Proof.Gen.CvFwdRefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.LnRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.AttnClaims
public import proofs.«01_k».proof.Proof.UpDxClaims
public import proofs.«01_k».proof.Proof.InDxClaims
public import proofs.«01_k».proof.Proof.LossClaims
public import proofs.«01_k».proof.Proof.UpDwClaims
public import proofs.«01_k».proof.Proof.InDwClaims
public import proofs.«01_k».proof.Proof.DownDwClaims
public import proofs.«01_k».proof.Proof.OutDwClaims
public import proofs.«01_k».proof.Proof.DownDxClaims
public import proofs.«01_k».proof.Proof.OutDxClaims
public import proofs.«01_k».proof.Proof.InClaims
public import proofs.«01_k».proof.Proof.UpClaims
public import proofs.«01_k».proof.Proof.DownClaims
public import proofs.«01_k».proof.Proof.LnClaims
public import proofs.«01_k».proof.Proof.OutClaims
public import proofs.«01_k».proof.Proof.AttnFwdClaims
public import proofs.«01_k».proof.Proof.KvClaims
public import proofs.«01_k».proof.Proof.KvDwClaims
public import proofs.«01_k».proof.Proof.CvFwdClaims
public import proofs.«01_k».proof.Proof.AdamInClaims
public import proofs.«01_k».proof.Proof.AdamKvClaims
public import proofs.«01_k».proof.Proof.AdamOutClaims
public import proofs.«01_k».proof.Proof.AdamUpClaims
public import proofs.«01_k».proof.Proof.AdamDownClaims
public import proofs.«01_k».proof.Proof.AdamGroupClaims
public import proofs.«01_k».proof.Proof.AdamSmallClaims
public import proofs.«01_k».proof.Proof.SumDevicesClaims
public import proofs.«01_k».proof.Proof.AddInClaims
public import proofs.«01_k».proof.Proof.AddKvClaims
public import proofs.«01_k».proof.Proof.AddOutClaims
public import proofs.«01_k».proof.Proof.AddUpClaims
public import proofs.«01_k».proof.Proof.AddDownClaims
public import proofs.«01_k».proof.Proof.AddGroupClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.UpDx.Gen.facts,
    Cert.UpDxIdeal.Gen.facts, Cert.UpDxRefIdeal.Gen.facts, Cert.InDx.Gen.facts, Cert.InDxIdeal.Gen.facts,
    Cert.InDxRefIdeal.Gen.facts, Cert.Loss.Gen.facts, Cert.LossIdeal.Gen.facts, Cert.LossRefIdeal.Gen.facts,
    Cert.UpDw.Gen.facts, Cert.UpDwIdeal.Gen.facts, Cert.UpDwRefIdeal.Gen.facts, Cert.InDw.Gen.facts,
    Cert.InDwIdeal.Gen.facts, Cert.InDwRefIdeal.Gen.facts, Cert.DownDw.Gen.facts, Cert.DownDwIdeal.Gen.facts,
    Cert.DownDwRefIdeal.Gen.facts, Cert.OutDw.Gen.facts, Cert.OutDwIdeal.Gen.facts, Cert.OutDwRefIdeal.Gen.facts,
    Cert.DownDx.Gen.facts, Cert.DownDxIdeal.Gen.facts, Cert.DownDxRefIdeal.Gen.facts, Cert.OutDx.Gen.facts,
    Cert.OutDxIdeal.Gen.facts, Cert.OutDxRefIdeal.Gen.facts, Cert.In.Gen.facts, Cert.InIdeal.Gen.facts,
    Cert.InRefIdeal.Gen.facts, Cert.Up.Gen.facts, Cert.UpIdeal.Gen.facts, Cert.UpRefIdeal.Gen.facts, Cert.Down.Gen.facts,
    Cert.DownIdeal.Gen.facts, Cert.DownRefIdeal.Gen.facts, Cert.Ln.Gen.facts, Cert.LnIdeal.Gen.facts,
    Cert.LnRefIdeal.Gen.facts, Cert.Out.Gen.facts, Cert.OutIdeal.Gen.facts, Cert.OutRefIdeal.Gen.facts,
    Cert.AttnFwd.Gen.facts, Cert.AttnFwdIdeal.Gen.facts, Cert.AttnFwdRefIdeal.Gen.facts, Cert.Kv.Gen.facts,
    Cert.KvIdeal.Gen.facts, Cert.KvRefIdeal.Gen.facts, Cert.KvDw.Gen.facts, Cert.KvDwIdeal.Gen.facts,
    Cert.KvDwRefIdeal.Gen.facts, Cert.CvFwd.Gen.facts, Cert.CvFwdIdeal.Gen.facts, Cert.CvFwdRefIdeal.Gen.facts,
    Cert.AdamIn.Gen.facts, Cert.AdamInIdeal.Gen.facts, Cert.AdamInRefIdeal.Gen.facts, Cert.AdamKv.Gen.facts,
    Cert.AdamKvIdeal.Gen.facts, Cert.AdamKvRefIdeal.Gen.facts, Cert.AdamOut.Gen.facts, Cert.AdamOutIdeal.Gen.facts,
    Cert.AdamOutRefIdeal.Gen.facts, Cert.AdamUp.Gen.facts, Cert.AdamUpIdeal.Gen.facts, Cert.AdamUpRefIdeal.Gen.facts,
    Cert.AdamDown.Gen.facts, Cert.AdamDownIdeal.Gen.facts, Cert.AdamDownRefIdeal.Gen.facts, Cert.AdamGroup.Gen.facts,
    Cert.AdamGroupIdeal.Gen.facts, Cert.AdamGroupRefIdeal.Gen.facts, Cert.AdamSmall.Gen.facts, Cert.AdamSmallIdeal.Gen.facts,
    Cert.AdamSmallRefIdeal.Gen.facts, Cert.SumDevices.Gen.facts, Cert.SumDevicesIdeal.Gen.facts,
    Cert.SumDevicesRefIdeal.Gen.facts, Cert.AddIn.Gen.facts, Cert.AddInIdeal.Gen.facts, Cert.AddInRefIdeal.Gen.facts,
    Cert.AddKv.Gen.facts, Cert.AddKvIdeal.Gen.facts, Cert.AddKvRefIdeal.Gen.facts, Cert.AddOut.Gen.facts,
    Cert.AddOutIdeal.Gen.facts, Cert.AddOutRefIdeal.Gen.facts, Cert.AddUp.Gen.facts, Cert.AddUpIdeal.Gen.facts,
    Cert.AddUpRefIdeal.Gen.facts, Cert.AddDown.Gen.facts, Cert.AddDownIdeal.Gen.facts, Cert.AddDownRefIdeal.Gen.facts,
    Cert.AddGroup.Gen.facts, Cert.AddGroupIdeal.Gen.facts, Cert.AddGroupRefIdeal.Gen.facts, Cert.AttnPre.facts,
    Cert.UpDxPre.facts, Cert.InDxPre.facts, Cert.LossPre.facts, Cert.CvFwdPre.facts, Cert.AddInPre.facts,
    Cert.AddKvPre.facts, Cert.AddOutPre.facts, Cert.AddUpPre.facts, Cert.AddDownPre.facts, Cert.AddGroupPre.facts,
    Attn.frame_kernel, Attn.frame_ideal, Attn.frame_ideal_pre, Attn.frame_reference, Attn.frame_reference_pre,
    UpDx.frame_kernel, UpDx.frame_ideal, UpDx.frame_ideal_pre, UpDx.frame_reference, UpDx.frame_reference_pre,
    InDx.frame_kernel, InDx.frame_ideal, InDx.frame_ideal_pre, InDx.frame_reference, InDx.frame_reference_pre,
    Loss.frame_kernel, Loss.frame_ideal, Loss.frame_ideal_pre, Loss.frame_reference, Loss.frame_reference_pre,
    UpDw.frame_kernel, UpDw.frame_ideal, UpDw.frame_reference, InDw.frame_kernel, InDw.frame_ideal, InDw.frame_reference,
    DownDw.frame_kernel, DownDw.frame_ideal, DownDw.frame_reference, OutDw.frame_kernel, OutDw.frame_ideal,
    OutDw.frame_reference, DownDx.frame_kernel, DownDx.frame_ideal, DownDx.frame_reference, OutDx.frame_kernel,
    OutDx.frame_ideal, OutDx.frame_reference, In.frame_kernel, In.frame_ideal, In.frame_reference, Up.frame_kernel,
    Up.frame_ideal, Up.frame_reference, Down.frame_kernel, Down.frame_ideal, Down.frame_reference, Ln.frame_kernel,
    Ln.frame_ideal, Ln.frame_reference, Out.frame_kernel, Out.frame_ideal, Out.frame_reference, AttnFwd.frame_kernel,
    AttnFwd.frame_ideal, AttnFwd.frame_reference, Kv.frame_kernel, Kv.frame_ideal, Kv.frame_reference, KvDw.frame_kernel,
    KvDw.frame_ideal, KvDw.frame_reference, CvFwd.frame_kernel, CvFwd.frame_ideal, CvFwd.frame_ideal_pre,
    CvFwd.frame_reference, CvFwd.frame_reference_pre, AdamIn.frame_kernel, AdamIn.frame_ideal, AdamIn.frame_reference,
    AdamKv.frame_kernel, AdamKv.frame_ideal, AdamKv.frame_reference, AdamOut.frame_kernel, AdamOut.frame_ideal,
    AdamOut.frame_reference, AdamUp.frame_kernel, AdamUp.frame_ideal, AdamUp.frame_reference, AdamDown.frame_kernel,
    AdamDown.frame_ideal, AdamDown.frame_reference, AdamGroup.frame_kernel, AdamGroup.frame_ideal, AdamGroup.frame_reference,
    AdamSmall.frame_kernel, AdamSmall.frame_ideal, AdamSmall.frame_reference, SumDevices.frame_kernel,
    SumDevices.frame_ideal, SumDevices.frame_reference, AddIn.frame_kernel, AddIn.frame_ideal, AddIn.frame_reference,
    AddIn.frame_reference_pre, AddKv.frame_kernel, AddKv.frame_ideal, AddKv.frame_reference, AddKv.frame_reference_pre,
    AddOut.frame_kernel, AddOut.frame_ideal, AddOut.frame_reference, AddOut.frame_reference_pre, AddUp.frame_kernel,
    AddUp.frame_ideal, AddUp.frame_reference, AddUp.frame_reference_pre, AddDown.frame_kernel, AddDown.frame_ideal,
    AddDown.frame_reference, AddDown.frame_reference_pre, AddGroup.frame_kernel, AddGroup.frame_ideal,
    AddGroup.frame_reference, AddGroup.frame_reference_pre,
    trivial, Attn.algebraic, trivial, UpDx.algebraic, trivial, InDx.algebraic, trivial, Loss.algebraic, trivial,
    UpDw.algebraic, trivial, InDw.algebraic, trivial, DownDw.algebraic, trivial, OutDw.algebraic, trivial, DownDx.algebraic,
    trivial, OutDx.algebraic, trivial, In.algebraic, trivial, Up.algebraic, trivial, Down.algebraic, trivial, Ln.algebraic,
    trivial, Out.algebraic, trivial, AttnFwd.algebraic, trivial, Kv.algebraic, trivial, KvDw.algebraic, trivial,
    CvFwd.algebraic, trivial, AdamIn.algebraic, trivial, AdamKv.algebraic, trivial, AdamOut.algebraic, trivial,
    AdamUp.algebraic, trivial, AdamDown.algebraic, trivial, AdamGroup.algebraic, trivial, AdamSmall.algebraic, trivial,
    SumDevices.algebraic, trivial, AddIn.algebraic, trivial, AddKv.algebraic, trivial, AddOut.algebraic, trivial,
    AddUp.algebraic, trivial, AddDown.algebraic, trivial, AddGroup.algebraic⟩

end Cert.Proof

end
